-- ==== Defs.lean ====
def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_head_finite [hPre_head_finite : Cert.Pre_head_finite.Facts] (m : (ℓ : Loc Cert.HeadIdeal.nD Cert.HeadIdeal.τ Cert.HeadIdeal.sig) → Buf (Elt Ideal) ℓ) : Prop :=
  ∀ c : Dev Cert.HeadIdeal.nD,
    (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.2.2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.2.2.2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.2.2.2.2.2.2.2 = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_head_finite [hPre_head_finite : Cert.Pre_head_finite.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.2.2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.2.2.2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.2.2.2.2.2.2.2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mixers_finite [hPre_mixers_finite : Cert.Pre_mixers_finite.Facts] (m : (ℓ : Loc Cert.MixIdeal.nD Cert.MixIdeal.τ Cert.MixIdeal.sig) → Buf (Elt Ideal) ℓ) : Prop :=
  ∀ c : Dev Cert.MixIdeal.nD,
    (Cert.Pre_mixers_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).1 = (fun _ => 1#1)
    ∧ (Cert.Pre_mixers_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.1 = (fun _ => 1#1)
    ∧ (Cert.Pre_mixers_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.1 = (fun _ => 1#1)
    ∧ (Cert.Pre_mixers_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.2.1 = (fun _ => 1#1)
    ∧ (Cert.Pre_mixers_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.2.2.1 = (fun _ => 1#1)
    ∧ (Cert.Pre_mixers_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.2.2.2.1 = (fun _ => 1#1)
    ∧ (Cert.Pre_mixers_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.2.2.2.2.1 = (fun _ => 1#1)
    ∧ (Cert.Pre_mixers_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.2.2.2.2.2.1 = (fun _ => 1#1)
    ∧ (Cert.Pre_mixers_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.2.2.2.2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mixers_finite [hPre_mixers_finite : Cert.Pre_mixers_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mixers_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).1 = (fun _ => 1#1)
    ∧ (Cert.Pre_mixers_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.1 = (fun _ => 1#1)
    ∧ (Cert.Pre_mixers_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.2.1 = (fun _ => 1#1)
    ∧ (Cert.Pre_mixers_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.2.2.1 = (fun _ => 1#1)
    ∧ (Cert.Pre_mixers_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.2.2.2.1 = (fun _ => 1#1)
    ∧ (Cert.Pre_mixers_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.2.2.2.2.1 = (fun _ => 1#1)
    ∧ (Cert.Pre_mixers_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.2.2.2.2.2.1 = (fun _ => 1#1)
    ∧ (Cert.Pre_mixers_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.2.2.2.2.2.2.1 = (fun _ => 1#1)
    ∧ (Cert.Pre_mixers_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.2.2.2.2.2.2.2 = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_forward_finite [hPre_forward_finite : Cert.Pre_forward_finite.Facts] (m : (ℓ : Loc Cert.FwdIdeal.nD Cert.FwdIdeal.τ Cert.FwdIdeal.sig) → Buf (Elt Ideal) ℓ) : Prop :=
  ∀ c : Dev Cert.FwdIdeal.nD,
    (Cert.Pre_forward_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6)) (m ((c.tc : Thread Cert.FwdIdeal.nD Cert.FwdIdeal.τ).loc Cert.FwdIdeal.main_arg7))).1 = (fun _ => 1#1)
    ∧ (Cert.Pre_forward_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6)) (m ((c.tc : Thread Cert.FwdIdeal.nD Cert.FwdIdeal.τ).loc Cert.FwdIdeal.main_arg7))).2 = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_forward_finite [hPre_forward_finite : Cert.Pre_forward_finite.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_forward_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4)) (m ((c.tc : Thread Cert.FwdRefIdeal.nD Cert.FwdRefIdeal.τ).loc Cert.FwdRefIdeal.main_arg5)) (m ((c.tc : Thread Cert.FwdRefIdeal.nD Cert.FwdRefIdeal.τ).loc Cert.FwdRefIdeal.main_arg6)) (m ((c.tc : Thread Cert.FwdRefIdeal.nD Cert.FwdRefIdeal.τ).loc Cert.FwdRefIdeal.main_arg7))).1 = (fun _ => 1#1)
    ∧ (Cert.Pre_forward_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4)) (m ((c.tc : Thread Cert.FwdRefIdeal.nD Cert.FwdRefIdeal.τ).loc Cert.FwdRefIdeal.main_arg5)) (m ((c.tc : Thread Cert.FwdRefIdeal.nD Cert.FwdRefIdeal.τ).loc Cert.FwdRefIdeal.main_arg6)) (m ((c.tc : Thread Cert.FwdRefIdeal.nD Cert.FwdRefIdeal.τ).loc Cert.FwdRefIdeal.main_arg7))).2 = (fun _ => 1#1)

def Pre_Grad (m : (ℓ : Loc Cert.Grad.nD Cert.Grad.τ Cert.Grad.sig) → Buf (Elt Bits) ℓ) : Prop :=
  True

def Pre_GradIdeal (m : (ℓ : Loc Cert.GradIdeal.nD Cert.GradIdeal.τ Cert.GradIdeal.sig) → Buf (Elt Ideal) ℓ) : Prop :=
  True

def Pre_GradRefIdeal (m : (ℓ : Loc Cert.GradRefIdeal.nD Cert.GradRefIdeal.τ Cert.GradRefIdeal.sig) → Buf (Elt Ideal) ℓ) : Prop :=
  True

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8)
      ∧ r.2.mem ((c.tc : Thread Cert.Head.nD Cert.Head.τ).loc Cert.Head.main_arg9) = m ((c.tc : Thread Cert.Head.nD Cert.Head.τ).loc Cert.Head.main_arg9))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9))
      ∧ r.2.sem = fun _ => 0)

def quiescent_HeadIdeal_pre_head_finite [hHeadIdeal : Cert.HeadIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_head_finite m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8)
      ∧ r.2.mem ((c.tc : Thread Cert.HeadRefIdeal.nD Cert.HeadRefIdeal.τ).loc Cert.HeadRefIdeal.main_arg9) = m ((c.tc : Thread Cert.HeadRefIdeal.nD Cert.HeadRefIdeal.τ).loc Cert.HeadRefIdeal.main_arg9))
      ∧ r.2.sem = fun _ => 0)

def quiescent_HeadRefIdeal_pre_head_finite [hHeadRefIdeal : Cert.HeadRefIdeal.Facts] [hPre_head_finite : Cert.Pre_head_finite.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_head_finite m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8)
      ∧ r.2.mem ((c.tc : Thread Cert.HeadRefIdeal.nD Cert.HeadRefIdeal.τ).loc Cert.HeadRefIdeal.main_arg9) = m ((c.tc : Thread Cert.HeadRefIdeal.nD Cert.HeadRefIdeal.τ).loc Cert.HeadRefIdeal.main_arg9))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixIdeal_pre_mixers_finite [hMixIdeal : Cert.MixIdeal.Facts] [hPre_mixers_finite : Cert.Pre_mixers_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mixers_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_MixRefIdeal_pre_mixers_finite [hMixRefIdeal : Cert.MixRefIdeal.Facts] [hPre_mixers_finite : Cert.Pre_mixers_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mixers_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6)
      ∧ r.2.mem ((c.tc : Thread Cert.Fwd.nD Cert.Fwd.τ).loc Cert.Fwd.main_arg7) = m ((c.tc : Thread Cert.Fwd.nD Cert.Fwd.τ).loc Cert.Fwd.main_arg7))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7))
      ∧ r.2.sem = fun _ => 0)

def quiescent_FwdIdeal_pre_forward_finite [hFwdIdeal : Cert.FwdIdeal.Facts] [hPre_forward_finite : Cert.Pre_forward_finite.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_forward_finite m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6)
      ∧ r.2.mem ((c.tc : Thread Cert.FwdRefIdeal.nD Cert.FwdRefIdeal.τ).loc Cert.FwdRefIdeal.main_arg7) = m ((c.tc : Thread Cert.FwdRefIdeal.nD Cert.FwdRefIdeal.τ).loc Cert.FwdRefIdeal.main_arg7))
      ∧ r.2.sem = fun _ => 0)

def quiescent_FwdRefIdeal_pre_forward_finite [hFwdRefIdeal : Cert.FwdRefIdeal.Facts] [hPre_forward_finite : Cert.Pre_forward_finite.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_forward_finite m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6)
      ∧ r.2.mem ((c.tc : Thread Cert.FwdRefIdeal.nD Cert.FwdRefIdeal.τ).loc Cert.FwdRefIdeal.main_arg7) = m ((c.tc : Thread Cert.FwdRefIdeal.nD Cert.FwdRefIdeal.τ).loc Cert.FwdRefIdeal.main_arg7))
      ∧ r.2.sem = fun _ => 0)

def quiescent_Grad [hGrad : Cert.Grad.Facts] : Prop :=
  ∀ (m : (ℓ : Loc Cert.Grad.nD Cert.Grad.τ Cert.Grad.sig) → Buf (Elt Bits) ℓ) (g : Dev Cert.Grad.nD → PrngReg), Pre_Grad m →
    θ_run (Cert.Grad.defs (F := Bits)) (onTc (τ := Cert.Grad.τ) (Cert.Grad.main (F := Bits))) ⟨m, fun _ => 0, g⟩ (fun r => (∀ c : Dev Cert.Grad.nD,
      r.2.mem ((c.tc : Thread Cert.Grad.nD Cert.Grad.τ).loc Cert.Grad.main_arg0) = m ((c.tc : Thread Cert.Grad.nD Cert.Grad.τ).loc Cert.Grad.main_arg0)
      ∧ r.2.mem ((c.tc : Thread Cert.Grad.nD Cert.Grad.τ).loc Cert.Grad.main_arg1) = m ((c.tc : Thread Cert.Grad.nD Cert.Grad.τ).loc Cert.Grad.main_arg1))
      ∧ r.2.sem = fun _ => 0)

def quiescent_GradIdeal [hGradIdeal : Cert.GradIdeal.Facts] : Prop :=
  ∀ (m : (ℓ : Loc Cert.GradIdeal.nD Cert.GradIdeal.τ Cert.GradIdeal.sig) → Buf (Elt Ideal) ℓ) (g : Dev Cert.GradIdeal.nD → PrngReg), Pre_GradIdeal m →
    θ_run (Cert.GradIdeal.defs (F := Ideal)) (onTc (τ := Cert.GradIdeal.τ) (Cert.GradIdeal.main (F := Ideal))) ⟨m, fun _ => 0, g⟩ (fun r => (∀ c : Dev Cert.GradIdeal.nD,
      r.2.mem ((c.tc : Thread Cert.GradIdeal.nD Cert.GradIdeal.τ).loc Cert.GradIdeal.main_arg0) = m ((c.tc : Thread Cert.GradIdeal.nD Cert.GradIdeal.τ).loc Cert.GradIdeal.main_arg0)
      ∧ r.2.mem ((c.tc : Thread Cert.GradIdeal.nD Cert.GradIdeal.τ).loc Cert.GradIdeal.main_arg1) = m ((c.tc : Thread Cert.GradIdeal.nD Cert.GradIdeal.τ).loc Cert.GradIdeal.main_arg1))
      ∧ r.2.sem = fun _ => 0)

def quiescent_GradRefIdeal [hGradRefIdeal : Cert.GradRefIdeal.Facts] : Prop :=
  ∀ (m : (ℓ : Loc Cert.GradRefIdeal.nD Cert.GradRefIdeal.τ Cert.GradRefIdeal.sig) → Buf (Elt Ideal) ℓ) (g : Dev Cert.GradRefIdeal.nD → PrngReg), Pre_GradRefIdeal m →
    θ_run (Cert.GradRefIdeal.defs (F := Ideal)) (onTc (τ := Cert.GradRefIdeal.τ) (Cert.GradRefIdeal.main (F := Ideal))) ⟨m, fun _ => 0, g⟩ (fun r => (∀ c : Dev Cert.GradRefIdeal.nD,
      r.2.mem ((c.tc : Thread Cert.GradRefIdeal.nD Cert.GradRefIdeal.τ).loc Cert.GradRefIdeal.main_arg0) = m ((c.tc : Thread Cert.GradRefIdeal.nD Cert.GradRefIdeal.τ).loc Cert.GradRefIdeal.main_arg0)
      ∧ r.2.mem ((c.tc : Thread Cert.GradRefIdeal.nD Cert.GradRefIdeal.τ).loc Cert.GradRefIdeal.main_arg1) = m ((c.tc : Thread Cert.GradRefIdeal.nD Cert.GradRefIdeal.τ).loc Cert.GradRefIdeal.main_arg1))
      ∧ r.2.sem = fun _ => 0)

def preserves_Head_HeadIdeal : Prop :=
  True

def algebraic_HeadIdeal_HeadRefIdeal_pre_head_finite [hHeadIdeal : Cert.HeadIdeal.Facts] [hHeadRefIdeal : Cert.HeadRefIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_head_finite m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)
      ∧ m' ((c.tc : Thread Cert.HeadRefIdeal.nD Cert.HeadRefIdeal.τ).loc Cert.HeadRefIdeal.main_arg7) = m ((c.tc : Thread Cert.HeadIdeal.nD Cert.HeadIdeal.τ).loc Cert.HeadIdeal.main_arg7)
      ∧ m' ((c.tc : Thread Cert.HeadRefIdeal.nD Cert.HeadRefIdeal.τ).loc Cert.HeadRefIdeal.main_arg8) = m ((c.tc : Thread Cert.HeadIdeal.nD Cert.HeadIdeal.τ).loc Cert.HeadIdeal.main_arg8)
      ∧ m' ((c.tc : Thread Cert.HeadRefIdeal.nD Cert.HeadRefIdeal.τ).loc Cert.HeadRefIdeal.main_arg9) = m ((c.tc : Thread Cert.HeadIdeal.nD Cert.HeadIdeal.τ).loc Cert.HeadIdeal.main_arg9)) →
    ∃ (v0 : (c : Dev Cert.HeadIdeal.nD) → Buf (Elt Ideal) ((c.tc : Thread Cert.HeadIdeal.nD Cert.HeadIdeal.τ).loc Cert.HeadIdeal.main_v10_0)) (v1 : (c : Dev Cert.HeadIdeal.nD) → Buf (Elt Ideal) ((c.tc : Thread Cert.HeadIdeal.nD Cert.HeadIdeal.τ).loc Cert.HeadIdeal.main_v10_1)) (v2 : (c : Dev Cert.HeadIdeal.nD) → Buf (Elt Ideal) ((c.tc : Thread Cert.HeadIdeal.nD Cert.HeadIdeal.τ).loc Cert.HeadIdeal.main_v10_2)) (v3 : (c : Dev Cert.HeadIdeal.nD) → Buf (Elt Ideal) ((c.tc : Thread Cert.HeadIdeal.nD Cert.HeadIdeal.τ).loc Cert.HeadIdeal.main_v10_3)) (v4 : (c : Dev Cert.HeadIdeal.nD) → Buf (Elt Ideal) ((c.tc : Thread Cert.HeadIdeal.nD Cert.HeadIdeal.τ).loc Cert.HeadIdeal.main_v10_4)) (v5 : (c : Dev Cert.HeadIdeal.nD) → Buf (Elt Ideal) ((c.tc : Thread Cert.HeadIdeal.nD Cert.HeadIdeal.τ).loc Cert.HeadIdeal.main_v10_5)) (v6 : (c : Dev Cert.HeadIdeal.nD) → Buf (Elt Ideal) ((c.tc : Thread Cert.HeadIdeal.nD Cert.HeadIdeal.τ).loc Cert.HeadIdeal.main_v10_6)) (v7 : (c : Dev Cert.HeadIdeal.nD) → Buf (Elt Ideal) ((c.tc : Thread Cert.HeadIdeal.nD Cert.HeadIdeal.τ).loc Cert.HeadIdeal.main_v10_7)) (v8 : (c : Dev Cert.HeadIdeal.nD) → Buf (Elt Ideal) ((c.tc : Thread Cert.HeadIdeal.nD Cert.HeadIdeal.τ).loc Cert.HeadIdeal.main_v10_8)) (v9 : (c : Dev Cert.HeadIdeal.nD) → Buf (Elt Ideal) ((c.tc : Thread Cert.HeadIdeal.nD Cert.HeadIdeal.τ).loc Cert.HeadIdeal.main_v10_9)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v10_0) = v0 c
          ∧ r.2.mem ((c.tc : Thread Cert.HeadIdeal.nD Cert.HeadIdeal.τ).loc Cert.HeadIdeal.main_v10_1) = v1 c
          ∧ r.2.mem ((c.tc : Thread Cert.HeadIdeal.nD Cert.HeadIdeal.τ).loc Cert.HeadIdeal.main_v10_2) = v2 c
          ∧ r.2.mem ((c.tc : Thread Cert.HeadIdeal.nD Cert.HeadIdeal.τ).loc Cert.HeadIdeal.main_v10_3) = v3 c
          ∧ r.2.mem ((c.tc : Thread Cert.HeadIdeal.nD Cert.HeadIdeal.τ).loc Cert.HeadIdeal.main_v10_4) = v4 c
          ∧ r.2.mem ((c.tc : Thread Cert.HeadIdeal.nD Cert.HeadIdeal.τ).loc Cert.HeadIdeal.main_v10_5) = v5 c
          ∧ r.2.mem ((c.tc : Thread Cert.HeadIdeal.nD Cert.HeadIdeal.τ).loc Cert.HeadIdeal.main_v10_6) = v6 c
          ∧ r.2.mem ((c.tc : Thread Cert.HeadIdeal.nD Cert.HeadIdeal.τ).loc Cert.HeadIdeal.main_v10_7) = v7 c
          ∧ r.2.mem ((c.tc : Thread Cert.HeadIdeal.nD Cert.HeadIdeal.τ).loc Cert.HeadIdeal.main_v10_8) = v8 c
          ∧ r.2.mem ((c.tc : Thread Cert.HeadIdeal.nD Cert.HeadIdeal.τ).loc Cert.HeadIdeal.main_v10_9) = v9 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
          ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v125) = v0 c
          ∧ r.2.mem ((c.tc : Thread Cert.HeadRefIdeal.nD Cert.HeadRefIdeal.τ).loc Cert.HeadRefIdeal.main_v126) = v1 c
          ∧ r.2.mem ((c.tc : Thread Cert.HeadRefIdeal.nD Cert.HeadRefIdeal.τ).loc Cert.HeadRefIdeal.main_v128) = v2 c
          ∧ r.2.mem ((c.tc : Thread Cert.HeadRefIdeal.nD Cert.HeadRefIdeal.τ).loc Cert.HeadRefIdeal.main_v130) = v3 c
          ∧ r.2.mem ((c.tc : Thread Cert.HeadRefIdeal.nD Cert.HeadRefIdeal.τ).loc Cert.HeadRefIdeal.main_v132) = v4 c
          ∧ r.2.mem ((c.tc : Thread Cert.HeadRefIdeal.nD Cert.HeadRefIdeal.τ).loc Cert.HeadRefIdeal.main_v134) = v5 c
          ∧ r.2.mem ((c.tc : Thread Cert.HeadRefIdeal.nD Cert.HeadRefIdeal.τ).loc Cert.HeadRefIdeal.main_v135) = v6 c
          ∧ r.2.mem ((c.tc : Thread Cert.HeadRefIdeal.nD Cert.HeadRefIdeal.τ).loc Cert.HeadRefIdeal.main_v121) = v7 c
          ∧ r.2.mem ((c.tc : Thread Cert.HeadRefIdeal.nD Cert.HeadRefIdeal.τ).loc Cert.HeadRefIdeal.main_v120) = v8 c
          ∧ r.2.mem ((c.tc : Thread Cert.HeadRefIdeal.nD Cert.HeadRefIdeal.τ).loc Cert.HeadRefIdeal.main_v82) = v9 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7)
          ∧ r.2.mem ((c.tc : Thread Cert.HeadRefIdeal.nD Cert.HeadRefIdeal.τ).loc Cert.HeadRefIdeal.main_arg8) = m' ((c.tc : Thread Cert.HeadRefIdeal.nD Cert.HeadRefIdeal.τ).loc Cert.HeadRefIdeal.main_arg8)
          ∧ r.2.mem ((c.tc : Thread Cert.HeadRefIdeal.nD Cert.HeadRefIdeal.τ).loc Cert.HeadRefIdeal.main_arg9) = m' ((c.tc : Thread Cert.HeadRefIdeal.nD Cert.HeadRefIdeal.τ).loc Cert.HeadRefIdeal.main_arg9))

def preserves_Mix_MixIdeal : Prop :=
  IdealRules.named_const.Statement Cert.MixIdeal.κ "cubic" .f32 0xBD922279#32 ((-80338380498831 / 1125899906842624 : ℝ) : EReal)
  ∧ IdealRules.named_const.Statement Cert.MixIdeal.κ "slope" .f32 0x3E5B33B6#32 ((241015141496493 / 1125899906842624 : ℝ) : EReal)

def algebraic_MixIdeal_MixRefIdeal_pre_mixers_finite [hMixIdeal : Cert.MixIdeal.Facts] [hMixRefIdeal : Cert.MixRefIdeal.Facts] [hPre_mixers_finite : Cert.Pre_mixers_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mixers_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v61_0)) (v1 : (c : Dev Cert.MixIdeal.nD) → Buf (Elt Ideal) ((c.tc : Thread Cert.MixIdeal.nD Cert.MixIdeal.τ).loc Cert.MixIdeal.main_v61_1)) (v2 : (c : Dev Cert.MixIdeal.nD) → Buf (Elt Ideal) ((c.tc : Thread Cert.MixIdeal.nD Cert.MixIdeal.τ).loc Cert.MixIdeal.main_v61_2)) (v3 : (c : Dev Cert.MixIdeal.nD) → Buf (Elt Ideal) ((c.tc : Thread Cert.MixIdeal.nD Cert.MixIdeal.τ).loc Cert.MixIdeal.main_v61_3)) (v4 : (c : Dev Cert.MixIdeal.nD) → Buf (Elt Ideal) ((c.tc : Thread Cert.MixIdeal.nD Cert.MixIdeal.τ).loc Cert.MixIdeal.main_v61_4)) (v5 : (c : Dev Cert.MixIdeal.nD) → Buf (Elt Ideal) ((c.tc : Thread Cert.MixIdeal.nD Cert.MixIdeal.τ).loc Cert.MixIdeal.main_v61_5)) (v6 : (c : Dev Cert.MixIdeal.nD) → Buf (Elt Ideal) ((c.tc : Thread Cert.MixIdeal.nD Cert.MixIdeal.τ).loc Cert.MixIdeal.main_v61_6)) (v7 : (c : Dev Cert.MixIdeal.nD) → Buf (Elt Ideal) ((c.tc : Thread Cert.MixIdeal.nD Cert.MixIdeal.τ).loc Cert.MixIdeal.main_v61_7)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v61_0) = v0 c
          ∧ r.2.mem ((c.tc : Thread Cert.MixIdeal.nD Cert.MixIdeal.τ).loc Cert.MixIdeal.main_v61_1) = v1 c
          ∧ r.2.mem ((c.tc : Thread Cert.MixIdeal.nD Cert.MixIdeal.τ).loc Cert.MixIdeal.main_v61_2) = v2 c
          ∧ r.2.mem ((c.tc : Thread Cert.MixIdeal.nD Cert.MixIdeal.τ).loc Cert.MixIdeal.main_v61_3) = v3 c
          ∧ r.2.mem ((c.tc : Thread Cert.MixIdeal.nD Cert.MixIdeal.τ).loc Cert.MixIdeal.main_v61_4) = v4 c
          ∧ r.2.mem ((c.tc : Thread Cert.MixIdeal.nD Cert.MixIdeal.τ).loc Cert.MixIdeal.main_v61_5) = v5 c
          ∧ r.2.mem ((c.tc : Thread Cert.MixIdeal.nD Cert.MixIdeal.τ).loc Cert.MixIdeal.main_v61_6) = v6 c
          ∧ r.2.mem ((c.tc : Thread Cert.MixIdeal.nD Cert.MixIdeal.τ).loc Cert.MixIdeal.main_v61_7) = v7 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v277) = v0 c
          ∧ r.2.mem ((c.tc : Thread Cert.MixRefIdeal.nD Cert.MixRefIdeal.τ).loc Cert.MixRefIdeal.main_v279) = v1 c
          ∧ r.2.mem ((c.tc : Thread Cert.MixRefIdeal.nD Cert.MixRefIdeal.τ).loc Cert.MixRefIdeal.main_v281) = v2 c
          ∧ r.2.mem ((c.tc : Thread Cert.MixRefIdeal.nD Cert.MixRefIdeal.τ).loc Cert.MixRefIdeal.main_v269) = v3 c
          ∧ r.2.mem ((c.tc : Thread Cert.MixRefIdeal.nD Cert.MixRefIdeal.τ).loc Cert.MixRefIdeal.main_v229) = v4 c
          ∧ r.2.mem ((c.tc : Thread Cert.MixRefIdeal.nD Cert.MixRefIdeal.τ).loc Cert.MixRefIdeal.main_v228) = v5 c
          ∧ r.2.mem ((c.tc : Thread Cert.MixRefIdeal.nD Cert.MixRefIdeal.τ).loc Cert.MixRefIdeal.main_v282) = v6 c
          ∧ r.2.mem ((c.tc : Thread Cert.MixRefIdeal.nD Cert.MixRefIdeal.τ).loc Cert.MixRefIdeal.main_v283) = v7 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Fwd_FwdIdeal : Prop :=
  True

def algebraic_FwdIdeal_FwdRefIdeal_pre_forward_finite [hFwdIdeal : Cert.FwdIdeal.Facts] [hFwdRefIdeal : Cert.FwdRefIdeal.Facts] [hPre_forward_finite : Cert.Pre_forward_finite.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_forward_finite m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)
      ∧ m' ((c.tc : Thread Cert.FwdRefIdeal.nD Cert.FwdRefIdeal.τ).loc Cert.FwdRefIdeal.main_arg5) = m ((c.tc : Thread Cert.FwdIdeal.nD Cert.FwdIdeal.τ).loc Cert.FwdIdeal.main_arg5)
      ∧ m' ((c.tc : Thread Cert.FwdRefIdeal.nD Cert.FwdRefIdeal.τ).loc Cert.FwdRefIdeal.main_arg6) = m ((c.tc : Thread Cert.FwdIdeal.nD Cert.FwdIdeal.τ).loc Cert.FwdIdeal.main_arg6)
      ∧ m' ((c.tc : Thread Cert.FwdRefIdeal.nD Cert.FwdRefIdeal.τ).loc Cert.FwdRefIdeal.main_arg7) = m ((c.tc : Thread Cert.FwdIdeal.nD Cert.FwdIdeal.τ).loc Cert.FwdIdeal.main_arg7)) →
    ∃ (v0 : (c : Dev Cert.FwdIdeal.nD) → Buf (Elt Ideal) ((c.tc : Thread Cert.FwdIdeal.nD Cert.FwdIdeal.τ).loc Cert.FwdIdeal.main_v10_0)) (v1 : (c : Dev Cert.FwdIdeal.nD) → Buf (Elt Ideal) ((c.tc : Thread Cert.FwdIdeal.nD Cert.FwdIdeal.τ).loc Cert.FwdIdeal.main_v10_1)) (v2 : (c : Dev Cert.FwdIdeal.nD) → Buf (Elt Ideal) ((c.tc : Thread Cert.FwdIdeal.nD Cert.FwdIdeal.τ).loc Cert.FwdIdeal.main_v10_2)) (v3 : (c : Dev Cert.FwdIdeal.nD) → Buf (Elt Ideal) ((c.tc : Thread Cert.FwdIdeal.nD Cert.FwdIdeal.τ).loc Cert.FwdIdeal.main_v10_3)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v10_0) = v0 c
          ∧ r.2.mem ((c.tc : Thread Cert.FwdIdeal.nD Cert.FwdIdeal.τ).loc Cert.FwdIdeal.main_v10_1) = v1 c
          ∧ r.2.mem ((c.tc : Thread Cert.FwdIdeal.nD Cert.FwdIdeal.τ).loc Cert.FwdIdeal.main_v10_2) = v2 c
          ∧ r.2.mem ((c.tc : Thread Cert.FwdIdeal.nD Cert.FwdIdeal.τ).loc Cert.FwdIdeal.main_v10_3) = v3 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
          ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v122) = v0 c
          ∧ r.2.mem ((c.tc : Thread Cert.FwdRefIdeal.nD Cert.FwdRefIdeal.τ).loc Cert.FwdRefIdeal.main_v124) = v1 c
          ∧ r.2.mem ((c.tc : Thread Cert.FwdRefIdeal.nD Cert.FwdRefIdeal.τ).loc Cert.FwdRefIdeal.main_v158) = v2 c
          ∧ r.2.mem ((c.tc : Thread Cert.FwdRefIdeal.nD Cert.FwdRefIdeal.τ).loc Cert.FwdRefIdeal.main_v160) = v3 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4)
          ∧ r.2.mem ((c.tc : Thread Cert.FwdRefIdeal.nD Cert.FwdRefIdeal.τ).loc Cert.FwdRefIdeal.main_arg5) = m' ((c.tc : Thread Cert.FwdRefIdeal.nD Cert.FwdRefIdeal.τ).loc Cert.FwdRefIdeal.main_arg5)
          ∧ r.2.mem ((c.tc : Thread Cert.FwdRefIdeal.nD Cert.FwdRefIdeal.τ).loc Cert.FwdRefIdeal.main_arg6) = m' ((c.tc : Thread Cert.FwdRefIdeal.nD Cert.FwdRefIdeal.τ).loc Cert.FwdRefIdeal.main_arg6)
          ∧ r.2.mem ((c.tc : Thread Cert.FwdRefIdeal.nD Cert.FwdRefIdeal.τ).loc Cert.FwdRefIdeal.main_arg7) = m' ((c.tc : Thread Cert.FwdRefIdeal.nD Cert.FwdRefIdeal.τ).loc Cert.FwdRefIdeal.main_arg7))

def preserves_Grad_GradIdeal : Prop :=
  True

def algebraic_GradIdeal_GradRefIdeal [hGradIdeal : Cert.GradIdeal.Facts] [hGradRefIdeal : Cert.GradRefIdeal.Facts] : Prop :=
  ∀ (m : (ℓ : Loc Cert.GradIdeal.nD Cert.GradIdeal.τ Cert.GradIdeal.sig) → Buf (Elt Ideal) ℓ) (g : Dev Cert.GradIdeal.nD → PrngReg)
    (m' : (ℓ : Loc Cert.GradRefIdeal.nD Cert.GradRefIdeal.τ Cert.GradRefIdeal.sig) → Buf (Elt Ideal) ℓ) (g' : Dev Cert.GradRefIdeal.nD → PrngReg), Pre_GradIdeal m →
    (∀ c : Dev Cert.GradIdeal.nD,
      m' ((c.tc : Thread Cert.GradRefIdeal.nD Cert.GradRefIdeal.τ).loc Cert.GradRefIdeal.main_arg0) = m ((c.tc : Thread Cert.GradIdeal.nD Cert.GradIdeal.τ).loc Cert.GradIdeal.main_arg0)
      ∧ m' ((c.tc : Thread Cert.GradRefIdeal.nD Cert.GradRefIdeal.τ).loc Cert.GradRefIdeal.main_arg1) = m ((c.tc : Thread Cert.GradIdeal.nD Cert.GradIdeal.τ).loc Cert.GradIdeal.main_arg1)) →
    ∃ (v0 : (c : Dev Cert.GradIdeal.nD) → Buf (Elt Ideal) ((c.tc : Thread Cert.GradIdeal.nD Cert.GradIdeal.τ).loc Cert.GradIdeal.main_v2)),
      θ_run (Cert.GradIdeal.defs (F := Ideal)) (onTc (τ := Cert.GradIdeal.τ) (Cert.GradIdeal.main (F := Ideal))) ⟨m, fun _ => 0, g⟩ (fun r => ∀ c : Dev Cert.GradIdeal.nD,
          r.2.mem ((c.tc : Thread Cert.GradIdeal.nD Cert.GradIdeal.τ).loc Cert.GradIdeal.main_v2) = v0 c
          ∧ r.2.mem ((c.tc : Thread Cert.GradIdeal.nD Cert.GradIdeal.τ).loc Cert.GradIdeal.main_arg0) = m ((c.tc : Thread Cert.GradIdeal.nD Cert.GradIdeal.τ).loc Cert.GradIdeal.main_arg0)
          ∧ r.2.mem ((c.tc : Thread Cert.GradIdeal.nD Cert.GradIdeal.τ).loc Cert.GradIdeal.main_arg1) = m ((c.tc : Thread Cert.GradIdeal.nD Cert.GradIdeal.τ).loc Cert.GradIdeal.main_arg1))
      ∧ θ_run (Cert.GradRefIdeal.defs (F := Ideal)) (onTc (τ := Cert.GradRefIdeal.τ) (Cert.GradRefIdeal.main (F := Ideal))) ⟨m', fun _ => 0, g'⟩ (fun r => ∀ c : Dev Cert.GradRefIdeal.nD,
          r.2.mem ((c.tc : Thread Cert.GradRefIdeal.nD Cert.GradRefIdeal.τ).loc Cert.GradRefIdeal.main_v7) = v0 c
          ∧ r.2.mem ((c.tc : Thread Cert.GradRefIdeal.nD Cert.GradRefIdeal.τ).loc Cert.GradRefIdeal.main_arg0) = m' ((c.tc : Thread Cert.GradRefIdeal.nD Cert.GradRefIdeal.τ).loc Cert.GradRefIdeal.main_arg0)
          ∧ r.2.mem ((c.tc : Thread Cert.GradRefIdeal.nD Cert.GradRefIdeal.τ).loc Cert.GradRefIdeal.main_arg1) = m' ((c.tc : Thread Cert.GradRefIdeal.nD Cert.GradRefIdeal.τ).loc Cert.GradRefIdeal.main_arg1))

def Claim : Prop :=
  ∃ (hHead : Cert.Head.Facts) (hHeadIdeal : Cert.HeadIdeal.Facts) (hHeadRefIdeal : Cert.HeadRefIdeal.Facts) (hMix : Cert.Mix.Facts) (hMixIdeal : Cert.MixIdeal.Facts) (hMixRefIdeal : Cert.MixRefIdeal.Facts) (hFwd : Cert.Fwd.Facts) (hFwdIdeal : Cert.FwdIdeal.Facts) (hFwdRefIdeal : Cert.FwdRefIdeal.Facts) (hGrad : Cert.Grad.Facts) (hGradIdeal : Cert.GradIdeal.Facts) (hGradRefIdeal : Cert.GradRefIdeal.Facts) (hPre_head_finite : Cert.Pre_head_finite.Facts) (hPre_mixers_finite : Cert.Pre_mixers_finite.Facts) (hPre_forward_finite : Cert.Pre_forward_finite.Facts),
    quiescent_Head (hHead := hHead)
    ∧ quiescent_HeadIdeal (hHeadIdeal := hHeadIdeal)
    ∧ quiescent_HeadIdeal_pre_head_finite (hHeadIdeal := hHeadIdeal) (hPre_head_finite := hPre_head_finite)
    ∧ quiescent_HeadRefIdeal (hHeadRefIdeal := hHeadRefIdeal)
    ∧ quiescent_HeadRefIdeal_pre_head_finite (hHeadRefIdeal := hHeadRefIdeal) (hPre_head_finite := hPre_head_finite)
    ∧ quiescent_Mix (hMix := hMix)
    ∧ quiescent_MixIdeal (hMixIdeal := hMixIdeal)
    ∧ quiescent_MixIdeal_pre_mixers_finite (hMixIdeal := hMixIdeal) (hPre_mixers_finite := hPre_mixers_finite)
    ∧ quiescent_MixRefIdeal (hMixRefIdeal := hMixRefIdeal)
    ∧ quiescent_MixRefIdeal_pre_mixers_finite (hMixRefIdeal := hMixRefIdeal) (hPre_mixers_finite := hPre_mixers_finite)
    ∧ quiescent_Fwd (hFwd := hFwd)
    ∧ quiescent_FwdIdeal (hFwdIdeal := hFwdIdeal)
    ∧ quiescent_FwdIdeal_pre_forward_finite (hFwdIdeal := hFwdIdeal) (hPre_forward_finite := hPre_forward_finite)
    ∧ quiescent_FwdRefIdeal (hFwdRefIdeal := hFwdRefIdeal)
    ∧ quiescent_FwdRefIdeal_pre_forward_finite (hFwdRefIdeal := hFwdRefIdeal) (hPre_forward_finite := hPre_forward_finite)
    ∧ quiescent_Grad (hGrad := hGrad)
    ∧ quiescent_GradIdeal (hGradIdeal := hGradIdeal)
    ∧ quiescent_GradRefIdeal (hGradRefIdeal := hGradRefIdeal)
    ∧ preserves_Head_HeadIdeal
    ∧ algebraic_HeadIdeal_HeadRefIdeal_pre_head_finite (hHeadIdeal := hHeadIdeal) (hHeadRefIdeal := hHeadRefIdeal) (hPre_head_finite := hPre_head_finite)
    ∧ preserves_Mix_MixIdeal
    ∧ algebraic_MixIdeal_MixRefIdeal_pre_mixers_finite (hMixIdeal := hMixIdeal) (hMixRefIdeal := hMixRefIdeal) (hPre_mixers_finite := hPre_mixers_finite)
    ∧ preserves_Fwd_FwdIdeal
    ∧ algebraic_FwdIdeal_FwdRefIdeal_pre_forward_finite (hFwdIdeal := hFwdIdeal) (hFwdRefIdeal := hFwdRefIdeal) (hPre_forward_finite := hPre_forward_finite)
    ∧ preserves_Grad_GradIdeal
    ∧ algebraic_GradIdeal_GradRefIdeal (hGradIdeal := hGradIdeal) (hGradRefIdeal := hGradRefIdeal)
-- ==== Pre_forward_finite.lean ====
abbrev S1x8192x1024 : Shape := ⟨3, ![1, 8192, 1024]⟩
abbrev S1x1024x5120 : Shape := ⟨3, ![1, 1024, 5120]⟩
abbrev S1x4x256x256 : Shape := ⟨4, ![1, 4, 256, 256]⟩
abbrev S1x1024 : Shape := ⟨2, ![1, 1024]⟩
abbrev S1x4x128x128 : Shape := ⟨4, ![1, 4, 128, 128]⟩
abbrev S1x4x128 : Shape := ⟨3, ![1, 4, 128]⟩
abbrev S_ : Shape := ⟨0, ![]⟩

class Facts : Prop where
  bcast_S_S1x8192x1024 : S_.BroadcastsInDim S1x8192x1024 (![] : Fin 0 → Fin S1x8192x1024.rank)
  bcast_S_S1x1024x5120 : S_.BroadcastsInDim S1x1024x5120 (![] : Fin 0 → Fin S1x1024x5120.rank)

variable [Facts]

def fn {F : FTy → Type} [FloatOps F] (main_arg0 : FVec F S1x8192x1024 .f32) (main_arg1 : FVec F S1x1024x5120 .f32) (main_arg2 : FVec F S1x4x256x256 .f32) (main_arg3 : FVec F S1x1024 .f32) (main_arg4 : FVec F S1x1024 .f32) (main_arg5 : FVec F S1x1024 .f32) (main_arg6 : FVec F S1x4x128x128 .f32) (main_arg7 : FVec F S1x4x128 .f32) : IVec S1x8192x1024 1 × IVec S1x1024x5120 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x1024x5120 .f32 := Host.absf main_arg1
  let main_cst_0 : FVec F S_ .f32 := constant S_ .f32 0x7F800000#32
  let main_v4 : FVec F S1x1024x5120 .f32 := broadcastInDim S1x1024x5120 ![] bcast_S_S1x1024x5120 main_cst_0
  let main_v5 : IVec S1x1024x5120 1 := cmpf .olt main_v3 main_v4
  (main_v2, main_v5)
-- ==== Pre_head_finite.lean ====
abbrev S1x8192x1024 : Shape := ⟨3, ![1, 8192, 1024]⟩
abbrev S8192x2048 : Shape := ⟨2, ![8192, 2048]⟩
abbrev S1x1x8192x256 : Shape := ⟨4, ![1, 1, 8192, 256]⟩
abbrev S1x2048x1024 : Shape := ⟨3, ![1, 2048, 1024]⟩
abbrev S1x1024 : Shape := ⟨2, ![1, 1024]⟩
abbrev S1x256x1024 : Shape := ⟨3, ![1, 256, 1024]⟩
abbrev S1x1024x1024 : Shape := ⟨3, ![1, 1024, 1024]⟩
abbrev S_ : Shape := ⟨0, ![]⟩

class Facts : Prop where
  bcast_S_S1x8192x1024 : S_.BroadcastsInDim S1x8192x1024 (![] : Fin 0 → Fin S1x8192x1024.rank)
  bcast_S_S8192x2048 : S_.BroadcastsInDim S8192x2048 (![] : Fin 0 → Fin S8192x2048.rank)
  bcast_S_S1x1x8192x256 : S_.BroadcastsInDim S1x1x8192x256 (![] : Fin 0 → Fin S1x1x8192x256.rank)
  bcast_S_S1x2048x1024 : S_.BroadcastsInDim S1x2048x1024 (![] : Fin 0 → Fin S1x2048x1024.rank)
  bcast_S_S1x1024 : S_.BroadcastsInDim S1x1024 (![] : Fin 0 → Fin S1x1024.rank)
  bcast_S_S1x256x1024 : S_.BroadcastsInDim S1x256x1024 (![] : Fin 0 → Fin S1x256x1024.rank)
  bcast_S_S1x1024x1024 : S_.BroadcastsInDim S1x1024x1024 (![] : Fin 0 → Fin S1x1024x1024.rank)

variable [Facts]

def fn_part1 {F : FTy → Type} [FloatOps F] (main_arg6 : FVec F S1x1024 .f32) (main_arg7 : FVec F S1x256x1024 .f32) (main_arg8 : FVec F S1x1024x1024 .f32) (main_v2 : IVec S1x8192x1024 1) (main_v5 : IVec S8192x2048 1) (main_v8 : IVec S1x1x8192x256 1) (main_v11 : IVec S1x8192x1024 1) (main_v14 : IVec S1x2048x1024 1) (main_v17 : IVec S1x1024 1) : IVec S1x8192x1024 1 × IVec S8192x2048 1 × IVec S1x1x8192x256 1 × IVec S1x8192x1024 1 × IVec S1x2048x1024 1 × IVec S1x1024 1 × IVec S1x1024 1 × IVec S1x256x1024 1 × IVec S1x1024x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x256x1024 .f32 := Host.absf main_arg7
  let main_cst_6 : FVec F S_ .f32 := constant S_ .f32 0x7F800000#32
  let main_v22 : FVec F S1x256x1024 .f32 := broadcastInDim S1x256x1024 ![] bcast_S_S1x256x1024 main_cst_6
  let main_v23 : IVec S1x256x1024 1 := cmpf .olt main_v21 main_v22
  let main_v24 : FVec F S1x1024x1024 .f32 := Host.absf main_arg8
  let main_cst_7 : FVec F S_ .f32 := constant S_ .f32 0x7F800000#32
  let main_v25 : FVec F S1x1024x1024 .f32 := broadcastInDim S1x1024x1024 ![] bcast_S_S1x1024x1024 main_cst_7
  let main_v26 : IVec S1x1024x1024 1 := cmpf .olt main_v24 main_v25
  (main_v2, main_v5, main_v8, main_v11, main_v14, main_v17, main_v20, main_v23, main_v26)

def fn {F : FTy → Type} [FloatOps F] (main_arg0 : FVec F S1x8192x1024 .f32) (main_arg1 : FVec F S8192x2048 .f32) (main_arg2 : FVec F S1x1x8192x256 .f32) (main_arg3 : FVec F S1x8192x1024 .f32) (main_arg4 : FVec F S1x2048x1024 .f32) (main_arg5 : FVec F S1x1024 .f32) (main_arg6 : FVec F S1x1024 .f32) (main_arg7 : FVec F S1x256x1024 .f32) (main_arg8 : FVec F S1x1024x1024 .f32) (main_arg9 : FVec F S1x1024 .f32) : IVec S1x8192x1024 1 × IVec S8192x2048 1 × IVec S1x1x8192x256 1 × IVec S1x8192x1024 1 × IVec S1x2048x1024 1 × IVec S1x1024 1 × IVec S1x1024 1 × IVec S1x256x1024 1 × IVec S1x1024x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S1x1x8192x256 .f32 := Host.absf main_arg2
  let main_cst_1 : FVec F S_ .f32 := constant S_ .f32 0x7F800000#32
  let main_v7 : FVec F S1x1x8192x256 .f32 := broadcastInDim S1x1x8192x256 ![] bcast_S_S1x1x8192x256 main_cst_1
  let main_v8 : IVec S1x1x8192x256 1 := cmpf .olt main_v6 main_v7
  let main_v9 : FVec F S1x8192x1024 .f32 := Host.absf main_arg3
  let main_cst_2 : FVec F S_ .f32 := constant S_ .f32 0x7F800000#32
  let main_v10 : FVec F S1x8192x1024 .f32 := broadcastInDim S1x8192x1024 ![] bcast_S_S1x8192x1024 main_cst_2
  let main_v11 : IVec S1x8192x1024 1 := cmpf .olt main_v9 main_v10
  let main_v12 : FVec F S1x2048x1024 .f32 := Host.absf main_arg4
  let main_cst_3 : FVec F S_ .f32 := constant S_ .f32 0x7F800000#32
  let main_v13 : FVec F S1x2048x1024 .f32 := broadcastInDim S1x2048x1024 ![] bcast_S_S1x2048x1024 main_cst_3
  let main_v14 : IVec S1x2048x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_arg8 main_v2 main_v5 main_v8 main_v11 main_v14 main_v17
-- ==== Pre_mixers_finite.lean ====
abbrev S1x8192x1024 : Shape := ⟨3, ![1, 8192, 1024]⟩
abbrev S8192x1024 : Shape := ⟨2, ![8192, 1024]⟩
abbrev S8192x2048 : Shape := ⟨2, ![8192, 2048]⟩
abbrev S1x1024x5120 : Shape := ⟨3, ![1, 1024, 5120]⟩
abbrev S1x4x256x256 : Shape := ⟨4, ![1, 4, 256, 256]⟩
abbrev S1x1024 : Shape := ⟨2, ![1, 1024]⟩
abbrev S1x4x128x128 : Shape := ⟨4, ![1, 4, 128, 128]⟩
abbrev S1x4x128 : Shape := ⟨3, ![1, 4, 128]⟩
abbrev S_ : Shape := ⟨0, ![]⟩

class Facts : Prop where
  bcast_S_S1x8192x1024 : S_.BroadcastsInDim S1x8192x1024 (![] : Fin 0 → Fin S1x8192x1024.rank)
  bcast_S_S8192x2048 : S_.BroadcastsInDim S8192x2048 (![] : Fin 0 → Fin S8192x2048.rank)
  bcast_S_S1x1024x5120 : S_.BroadcastsInDim S1x1024x5120 (![] : Fin 0 → Fin S1x1024x5120.rank)
  bcast_S_S1x4x256x256 : S_.BroadcastsInDim S1x4x256x256 (![] : Fin 0 → Fin S1x4x256x256.rank)
  bcast_S_S1x1024 : S_.BroadcastsInDim S1x1024 (![] : Fin 0 → Fin S1x1024.rank)
  bcast_S_S1x4x128x128 : S_.BroadcastsInDim S1x4x128x128 (![] : Fin 0 → Fin S1x4x128x128.rank)
  bcast_S_S1x4x128 : S_.BroadcastsInDim S1x4x128 (![] : Fin 0 → Fin S1x4x128.rank)

variable [Facts]

def fn_part1 {F : FTy → Type} [FloatOps F] (main_arg7 : FVec F S1x1024 .f32) (main_arg8 : FVec F S1x4x128x128 .f32) (main_arg9 : FVec F S1x4x128 .f32) (main_v2 : IVec S1x8192x1024 1) (main_v5 : IVec S8192x2048 1) (main_v8 : IVec S1x1024x5120 1) (main_v11 : IVec S1x4x256x256 1) (main_v14 : IVec S1x1024 1) (main_v17 : IVec S1x1024 1) : IVec S1x8192x1024 1 × IVec S8192x2048 1 × IVec S1x1024x5120 1 × IVec S1x4x256x256 1 × IVec S1x1024 1 × IVec S1x1024 1 × IVec S1x1024 1 × IVec S1x4x128x128 1 × IVec S1x4x128 1 :=
  let main_v18 : FVec F S1x1024 .f32 := Host.absf main_arg7
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x4x128x128 .f32 := Host.absf main_arg8
  let main_cst_6 : FVec F S_ .f32 := constant S_ .f32 0x7F800000#32
  let main_v22 : FVec F S1x4x128x128 .f32 := broadcastInDim S1x4x128x128 ![] bcast_S_S1x4x128x128 main_cst_6
  let main_v23 : IVec S1x4x128x128 1 := cmpf .olt main_v21 main_v22
  let main_v24 : FVec F S1x4x128 .f32 := Host.absf main_arg9
  let main_cst_7 : FVec F S_ .f32 := constant S_ .f32 0x7F800000#32
  let main_v25 : FVec F S1x4x128 .f32 := broadcastInDim S1x4x128 ![] bcast_S_S1x4x128 main_cst_7
  let main_v26 : IVec S1x4x128 1 := cmpf .olt main_v24 main_v25
  (main_v2, main_v5, main_v8, main_v11, main_v14, main_v17, main_v20, main_v23, main_v26)

def fn {F : FTy → Type} [FloatOps F] (main_arg0 : FVec F S1x8192x1024 .f32) (main_arg1 : FVec F S8192x1024 .f32) (main_arg2 : FVec F S8192x2048 .f32) (main_arg3 : FVec F S1x1024x5120 .f32) (main_arg4 : FVec F S1x4x256x256 .f32) (main_arg5 : FVec F S1x1024 .f32) (main_arg6 : FVec F S1x1024 .f32) (main_arg7 : FVec F S1x1024 .f32) (main_arg8 : FVec F S1x4x128x128 .f32) (main_arg9 : FVec F S1x4x128 .f32) : IVec S1x8192x1024 1 × IVec S8192x2048 1 × IVec S1x1024x5120 1 × IVec S1x4x256x256 1 × IVec S1x1024 1 × IVec S1x1024 1 × IVec S1x1024 1 × IVec S1x4x128x128 1 × IVec S1x4x128 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S8192x2048 .f32 := Host.absf main_arg2
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S1x1024x5120 .f32 := Host.absf main_arg3
  let main_cst_1 : FVec F S_ .f32 := constant S_ .f32 0x7F800000#32
  let main_v7 : FVec F S1x1024x5120 .f32 := broadcastInDim S1x1024x5120 ![] bcast_S_S1x1024x5120 main_cst_1
  let main_v8 : IVec S1x1024x5120 1 := cmpf .olt main_v6 main_v7
  let main_v9 : FVec F S1x4x256x256 .f32 := Host.absf main_arg4
  let main_cst_2 : FVec F S_ .f32 := constant S_ .f32 0x7F800000#32
  let main_v10 : FVec F S1x4x256x256 .f32 := broadcastInDim S1x4x256x256 ![] bcast_S_S1x4x256x256 main_cst_2
  let main_v11 : IVec S1x4x256x256 1 := cmpf .olt main_v9 main_v10
  let main_v12 : FVec F S1x1024 .f32 := Host.absf main_arg5
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg6
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg7 main_arg8 main_arg9 main_v2 main_v5 main_v8 main_v11 main_v14 main_v17
-- ==== Head.lean ====
abbrev S1x8192x1024 : Shape := ⟨3, ![1, 8192, 1024]⟩
abbrev S8192x2048 : Shape := ⟨2, ![8192, 2048]⟩
abbrev S1x1x8192x256 : Shape := ⟨4, ![1, 1, 8192, 256]⟩
abbrev S1x2048x1024 : Shape := ⟨3, ![1, 2048, 1024]⟩
abbrev S1x1024 : Shape := ⟨2, ![1, 1024]⟩
abbrev S1x256x1024 : Shape := ⟨3, ![1, 256, 1024]⟩
abbrev S1x1024x1024 : Shape := ⟨3, ![1, 1024, 1024]⟩
abbrev S8192x1024 : Shape := ⟨2, ![8192, 1024]⟩
abbrev S8192x256 : Shape := ⟨2, ![8192, 256]⟩
abbrev S2048x1024 : Shape := ⟨2, ![2048, 1024]⟩
abbrev S1024x1024 : Shape := ⟨2, ![1024, 1024]⟩
abbrev S256x1024 : Shape := ⟨2, ![256, 1024]⟩
abbrev S1x128 : Shape := ⟨2, ![1, 128]⟩
abbrev S512x1024 : Shape := ⟨2, ![512, 1024]⟩
abbrev S512x2048 : Shape := ⟨2, ![512, 2048]⟩
abbrev S512x256 : Shape := ⟨2, ![512, 256]⟩
abbrev S256x2048 : Shape := ⟨2, ![256, 2048]⟩
abbrev S256 : Shape := ⟨1, ![256]⟩
abbrev S256x1 : Shape := ⟨2, ![256, 1]⟩
abbrev S1x1 : Shape := ⟨2, ![1, 1]⟩
abbrev S256x256 : Shape := ⟨2, ![256, 256]⟩
abbrev S1 : Shape := ⟨1, ![1]⟩
abbrev S1x1x1 : Shape := ⟨3, ![1, 1, 1]⟩
abbrev S1024 : Shape := ⟨1, ![1024]⟩

abbrev nBuf : Space → Nat
  | .hbm => 30
  | .vmem => 30
  | .smem => 0
  | _ => 0

abbrev bufTy : (tb : Table) → Fin (tcTables nBuf tb) → BufTy
  | .hbm, ⟨0, _⟩ => ⟨S1x8192x1024, .f32⟩
  | .hbm, ⟨1, _⟩ => ⟨S8192x2048, .f32⟩
  | .hbm, ⟨2, _⟩ => ⟨S1x1x8192x256, .f32⟩
  | .hbm, ⟨3, _⟩ => ⟨S1x8192x1024, .f32⟩
  | .hbm, ⟨4, _⟩ => ⟨S1x2048x1024, .f32⟩
  | .hbm, ⟨5, _⟩ => ⟨S1x1024, .f32⟩
  | .hbm, ⟨6, _⟩ => ⟨S1x1024, .f32⟩
  | .hbm, ⟨7, _⟩ => ⟨S1x256x1024, .f32⟩
  | .hbm, ⟨8, _⟩ => ⟨S1x1024x1024, .f32⟩
  | .hbm, ⟨9, _⟩ => ⟨S1x1024, .f32⟩
  | .hbm, ⟨10, _⟩ => ⟨S8192x1024, .f32⟩
  | .hbm, ⟨11, _⟩ => ⟨S8192x2048, .bf16⟩
  | .hbm, ⟨12, _⟩ => ⟨S8192x256, .f32⟩
  | .hbm, ⟨13, _⟩ => ⟨S8192x1024, .f32⟩
  | .hbm, ⟨14, _⟩ => ⟨S2048x1024, .f32⟩
  | .hbm, ⟨15, _⟩ => ⟨S2048x1024, .bf16⟩
  | .hbm, ⟨16, _⟩ => ⟨S1024x1024, .f32⟩
  | .hbm, ⟨17, _⟩ => ⟨S1024x1024, .bf16⟩
  | .hbm, ⟨18, _⟩ => ⟨S256x1024, .f32⟩
  | .hbm, ⟨19, _⟩ => ⟨S256x1024, .bf16⟩
  | .hbm, ⟨20, _⟩ => ⟨S8192x2048, .f32⟩
  | .hbm, ⟨21, _⟩ => ⟨S8192x1024, .f32⟩
  | .hbm, ⟨22, _⟩ => ⟨S8192x1024, .bf16⟩
  | .hbm, ⟨23, _⟩ => ⟨S8192x1024, .bf16⟩
  | .hbm, ⟨24, _⟩ => ⟨S8192x1024, .bf16⟩
  | .hbm, ⟨25, _⟩ => ⟨S8192x1024, .bf16⟩
  | .hbm, ⟨26, _⟩ => ⟨S1x128, .f32⟩
  | .hbm, ⟨27, _⟩ => ⟨S1x1024, .f32⟩
  | .hbm, ⟨28, _⟩ => ⟨S1x1024, .f32⟩
  | .hbm, ⟨29, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S2048x1024, .bf16⟩
  | .local _ .vmem, ⟨9, _⟩ => ⟨S1024x1024, .bf16⟩
  | .local _ .vmem, ⟨10, _⟩ => ⟨S256x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x2048, .f32⟩
  | .local _ .vmem, ⟨15, _⟩ => ⟨S512x2048, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S1x128, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev main_v10_6 : Ref sig .tc := ⟨.hbm, 26, rfl⟩
abbrev main_v10_7 : Ref sig .tc := ⟨.hbm, 27, rfl⟩
abbrev main_v10_8 : Ref sig .tc := ⟨.hbm, 28, rfl⟩
abbrev main_v10_9 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem17_0 : DmaSem sig := 27
abbrev cc0_sem18_0 : DmaSem sig := 28
abbrev cc0_sem19_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== HeadRefIdeal.lean ====
abbrev S1x8192x1024 : Shape := ⟨3, ![1, 8192, 1024]⟩
abbrev S8192x2048 : Shape := ⟨2, ![8192, 2048]⟩
abbrev S1x1x8192x256 : Shape := ⟨4, ![1, 1, 8192, 256]⟩
abbrev S1x2048x1024 : Shape := ⟨3, ![1, 2048, 1024]⟩
abbrev S1x1024 : Shape := ⟨2, ![1, 1024]⟩
abbrev S1x256x1024 : Shape := ⟨3, ![1, 256, 1024]⟩
abbrev S1x1024x1024 : Shape := ⟨3, ![1, 1024, 1024]⟩
abbrev S_ : Shape := ⟨0, ![]⟩
abbrev S1x8192x2048 : Shape := ⟨3, ![1, 8192, 2048]⟩
abbrev S2048x1024 : Shape := ⟨2, ![2048, 1024]⟩
abbrev S1024 : Shape := ⟨1, ![1024]⟩
abbrev S1x8192 : Shape := ⟨2, ![1, 8192]⟩
abbrev S1x8192x1 : Shape := ⟨3, ![1, 8192, 1]⟩
abbrev S1x1x1024 : Shape := ⟨3, ![1, 1, 1024]⟩
abbrev S1024x1024 : Shape := ⟨2, ![1024, 1024]⟩
abbrev S1x8192x256 : Shape := ⟨3, ![1, 8192, 256]⟩
abbrev S256x1024 : Shape := ⟨2, ![256, 1024]⟩
abbrev S8192 : Shape := ⟨1, ![8192]⟩
abbrev S8192x1024 : Shape := ⟨2, ![8192, 1024]⟩
abbrev S1x128 : Shape := ⟨2, ![1, 128]⟩

abbrev nBuf : Space → Nat
  | .hbm => 181
  | .vmem => 0
  | .smem => 0
  | _ => 0

abbrev hbmTy0_0 (i : Nat) : BufTy := match i % 128 with
  | 0 => ⟨S1x8192x1024, .f32⟩
  | 1 => ⟨S8192x2048, .f32⟩
  | 2 => ⟨S1x1x8192x256, .f32⟩
  | 3 => ⟨S1x8192x1024, .f32⟩
  | 4 => ⟨S1x2048x1024, .f32⟩
  | 5 => ⟨S1x1024, .f32⟩
  | 6 => ⟨S1x1024, .f32⟩
  | 7 => ⟨S1x256x1024, .f32⟩
  | 8 => ⟨S1x1024x1024, .f32⟩
  | 9 => ⟨S1x1024, .f32⟩
  | 10 => ⟨S_, .f32⟩
  | 11 => ⟨S1x8192x1024, .f32⟩
  | 12 => ⟨S1x8192x2048, .f32⟩
  | 13 => ⟨S2048x1024, .f32⟩
  | 14 => ⟨S1x8192x1024, .f32⟩
  | 15 => ⟨S1x8192x1024, .f32⟩
  | 16 => ⟨S_, .f32⟩
  | 17 => ⟨S1x8192x1024, .f32⟩
  | 18 => ⟨S1x8192x1024, .f32⟩
  | 19 => ⟨S1x8192x1024, .f32⟩
  | 20 => ⟨S1024, .f32⟩
  | 21 => ⟨S1024, .f32⟩
  | 22 => ⟨S_, .f32⟩
  | 23 => ⟨S1x8192, .f32⟩
  | 24 => ⟨S1x8192x1, .f32⟩
  | 25 => ⟨S_, .f32⟩
  | 26 => ⟨S1x8192x1, .f32⟩
  | 27 => ⟨S1x8192x1, .f32⟩
  | 28 => ⟨S1x8192x1024, .f32⟩
  | 29 => ⟨S1x8192x1024, .f32⟩
  | 30 => ⟨S1x8192x1024, .f32⟩
  | 31 => ⟨S_, .f32⟩
  | 32 => ⟨S1x8192x1024, .f32⟩
  | 33 => ⟨S1x8192x1024, .f32⟩
  | 34 => ⟨S_, .f32⟩
  | 35 => ⟨S1x8192, .f32⟩
  | 36 => ⟨S1x8192x1, .f32⟩
  | 37 => ⟨S_, .f32⟩
  | 38 => ⟨S1x8192x1, .f32⟩
  | 39 => ⟨S1x8192x1, .f32⟩
  | 40 => ⟨S1x8192x1024, .f32⟩
  | 41 => ⟨S1x8192x1024, .f32⟩
  | 42 => ⟨S_, .f32⟩
  | 43 => ⟨S1x8192x1, .f32⟩
  | 44 => ⟨S1x8192x1, .f32⟩
  | 45 => ⟨S1x8192x1, .f32⟩
  | 46 => ⟨S1x8192x1, .f32⟩
  | 47 => ⟨S_, .f32⟩
  | 48 => ⟨S1x8192x1, .f32⟩
  | 49 => ⟨S1x8192x1, .f32⟩
  | 50 => ⟨S1x8192x1024, .f32⟩
  | 51 => ⟨S1x8192x1024, .f32⟩
  | 52 => ⟨S1x1x1024, .f32⟩
  | 53 => ⟨S1x8192x1024, .f32⟩
  | 54 => ⟨S1x8192x1024, .f32⟩
  | 55 => ⟨S1x1x1024, .f32⟩
  | 56 => ⟨S1x8192x1024, .f32⟩
  | 57 => ⟨S1x8192x1024, .f32⟩
  | 58 => ⟨S1024x1024, .f32⟩
  | 59 => ⟨S1x8192x1024, .f32⟩
  | 60 => ⟨S1024, .f32⟩
  | 61 => ⟨S1x1x1024, .f32⟩
  | 62 => ⟨S1x8192x1024, .f32⟩
  | 63 => ⟨S1x8192x1024, .f32⟩
  | 64 => ⟨S1x8192x1024, .f32⟩
  | 65 => ⟨S1x8192x1024, .f32⟩
  | 66 => ⟨S1x8192x1024, .f32⟩
  | 67 => ⟨S_, .f32⟩
  | 68 => ⟨S1x8192x1024, .f32⟩
  | 69 => ⟨S1x8192x1024, .f32⟩
  | 70 => ⟨S_, .f32⟩
  | 71 => ⟨S1x8192x1024, .f32⟩
  | 72 => ⟨S1x8192x1024, .f32⟩
  | 73 => ⟨S_, .f32⟩
  | 74 => ⟨S1x8192x1024, .f32⟩
  | 75 => ⟨S1x8192x1024, .f32⟩
  | 76 => ⟨S1x8192x1024, .f32⟩
  | 77 => ⟨S1x8192x256, .f32⟩
  | 78 => ⟨S256x1024, .f32⟩
  | 79 => ⟨S1x8192x1024, .f32⟩
  | 80 => ⟨S1x8192x1024, .f32⟩
  | 81 => ⟨S1x8192x1024, .f32⟩
  | 82 => ⟨S1x8192x1024, .f32⟩
  | 83 => ⟨S1x8192x1024, .f32⟩
  | 84 => ⟨S1x8192x1024, .f32⟩
  | 85 => ⟨S_, .f32⟩
  | 86 => ⟨S1x8192x1024, .f32⟩
  | 87 => ⟨S1x8192x1024, .f32⟩
  | 88 => ⟨S_, .f32⟩
  | 89 => ⟨S1x8192, .f32⟩
  | 90 => ⟨S_, .f32⟩
  | 91 => ⟨S1x8192, .f32⟩
  | 92 => ⟨S1x8192, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S1x8192, .f32⟩
  | 101 => ⟨S_, .f32⟩
  | 102 => ⟨S1x8192, .f32⟩
  | 103 => ⟨S1x8192, .f32⟩
  | 104 => ⟨S1x8192x1024, .f32⟩
  | 105 => ⟨S1x8192x1024, .f32⟩
  | 106 => ⟨S1x8192x1024, .f32⟩
  | 107 => ⟨S1x8192x1024, .f32⟩
  | 108 => ⟨S1x8192x1024, .f32⟩
  | 109 => ⟨S_, .f32⟩
  | 110 => ⟨S1x1024, .f32⟩
  | 111 => ⟨S1x1x1024, .f32⟩
  | 112 => ⟨S_, .f32⟩
  | 113 => ⟨S1024, .f32⟩
  | 114 => ⟨S1x1024, .f32⟩
  | 115 => ⟨S1x8192x1024, .f32⟩
  | 116 => ⟨S1x8192x1024, .f32⟩
  | 117 => ⟨S_, .f32⟩
  | 118 => ⟨S1x1024, .f32⟩
  | 119 => ⟨S1x1x1024, .f32⟩
  | 120 => ⟨S_, .f32⟩
  | 121 => ⟨S1024, .f32⟩
  | 122 => ⟨S1x8192x1024, .f32⟩
  | 123 => ⟨S_, .f32⟩
  | 124 => ⟨S1x1024, .f32⟩
  | 125 => ⟨S1x1x1024, .f32⟩
  | 126 => ⟨S1x8192x1024, .f32⟩
  | 127 => ⟨S1x8192x1024, .f32⟩
  | _ => ⟨S1x8192x1024, .f32⟩

abbrev hbmTy0_1 (i : Nat) : BufTy := match i % 128 with
  | 0 => ⟨S_, .f32⟩
  | 1 => ⟨S1024, .f32⟩
  | 2 => ⟨S1x8192x1024, .f32⟩
  | 3 => ⟨S_, .f32⟩
  | 4 => ⟨S1x8192, .f32⟩
  | 5 => ⟨S1x8192x1, .f32⟩
  | 6 => ⟨S1x8192x1024, .f32⟩
  | 7 => ⟨S1x8192x1024, .f32⟩
  | 8 => ⟨S1x8192x1, .f32⟩
  | 9 => ⟨S1x8192x1024, .f32⟩
  | 10 => ⟨S_, .f32⟩
  | 11 => ⟨S1x8192, .f32⟩
  | 12 => ⟨S1x8192x1, .f32⟩
  | 13 => ⟨S_, .f32⟩
  | 14 => ⟨S1x8192x1, .f32⟩
  | 15 => ⟨S1x8192x1, .f32⟩
  | 16 => ⟨S_, .f32⟩
  | 17 => ⟨S8192, .f32⟩
  | 18 => ⟨S1x8192, .f32⟩
  | 19 => ⟨S1x8192x1024, .f32⟩
  | 20 => ⟨S1x8192x1024, .f32⟩
  | 21 => ⟨S1x8192x1024, .f32⟩
  | 22 => ⟨S_, .f32⟩
  | 23 => ⟨S1x8192, .f32⟩
  | 24 => ⟨S1x8192x1, .f32⟩
  | 25 => ⟨S1x8192x1024, .f32⟩
  | 26 => ⟨S1x8192x1, .f32⟩
  | 27 => ⟨S_, .f32⟩
  | 28 => ⟨S1x8192x1, .f32⟩
  | 29 => ⟨S1x8192x1, .f32⟩
  | 30 => ⟨S_, .f32⟩
  | 31 => ⟨S8192, .f32⟩
  | 32 => ⟨S1x8192, .f32⟩
  | 33 => ⟨S1x8192x1024, .f32⟩
  | 34 => ⟨S1x8192x1024, .f32⟩
  | 35 => ⟨S1x1024, .f32⟩
  | 36 => ⟨S1x1024, .f32⟩
  | 37 => ⟨S_, .f32⟩
  | 38 => ⟨S1x8192x1024, .f32⟩
  | 39 => ⟨S1x8192x1024, .f32⟩
  | 40 => ⟨S1x8192x2048, .f32⟩
  | 41 => ⟨S_, .f32⟩
  | 42 => ⟨S8192x2048, .f32⟩
  | 43 => ⟨S8192x1024, .f32⟩
  | 44 => ⟨S8192x1024, .f32⟩
  | 45 => ⟨S8192x1024, .bf16⟩
  | 46 => ⟨S8192x1024, .f32⟩
  | 47 => ⟨S8192x1024, .bf16⟩
  | 48 => ⟨S8192x1024, .f32⟩
  | 49 => ⟨S8192x1024, .bf16⟩
  | 50 => ⟨S8192x1024, .f32⟩
  | 51 => ⟨S8192x1024, .bf16⟩
  | 52 => ⟨S1x128, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_cst_13 : Ref sig .tc := ⟨.hbm, 90, rfl⟩
abbrev main_v66 : Ref sig .tc := ⟨.hbm, 91, rfl⟩
abbrev main_v67 : Ref sig .tc := ⟨.hbm, 92, rfl⟩
abbrev main_cst_14 : Ref sig .tc := ⟨.hbm, 93, rfl⟩
abbrev main_v68 : Ref sig .tc := ⟨.hbm, 94, rfl⟩
abbrev main_cst_15 : Ref sig .tc := ⟨.hbm, 95, rfl⟩
abbrev main_v69 : Ref sig .tc := ⟨.hbm, 96, rfl⟩
abbrev main_cst_16 : Ref sig .tc := ⟨.hbm, 97, rfl⟩
abbrev main_cst_17 : Ref sig .tc := ⟨.hbm, 98, rfl⟩
abbrev main_v70 : Ref sig .tc := ⟨.hbm, 99, rfl⟩
abbrev main_v71 : Ref sig .tc := ⟨.hbm, 100, rfl⟩
abbrev main_cst_18 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_19 : Ref sig .tc := ⟨.hbm, 109, rfl⟩
abbrev main_v79 : Ref sig .tc := ⟨.hbm, 110, rfl⟩
abbrev main_v80 : Ref sig .tc := ⟨.hbm, 111, rfl⟩
abbrev main_cst_20 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_21 : Ref sig .tc := ⟨.hbm, 117, rfl⟩
abbrev main_v85 : Ref sig .tc := ⟨.hbm, 118, rfl⟩
abbrev main_v86 : Ref sig .tc := ⟨.hbm, 119, rfl⟩
abbrev main_cst_22 : Ref sig .tc := ⟨.hbm, 120, rfl⟩
abbrev main_v87 : Ref sig .tc := ⟨.hbm, 121, rfl⟩
abbrev main_v88 : Ref sig .tc := ⟨.hbm, 122, rfl⟩
abbrev main_cst_23 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_24 : Ref sig .tc := ⟨.hbm, 128, rfl⟩
abbrev main_v93 : Ref sig .tc := ⟨.hbm, 129, rfl⟩
abbrev main_v94 : Ref sig .tc := ⟨.hbm, 130, rfl⟩
abbrev main_cst_25 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_26 : Ref sig .tc := ⟨.hbm, 138, rfl⟩
abbrev main_v101 : Ref sig .tc := ⟨.hbm, 139, rfl⟩
abbrev main_v102 : Ref sig .tc := ⟨.hbm, 140, rfl⟩
abbrev main_cst_27 : Ref sig .tc := ⟨.hbm, 141, rfl⟩
abbrev main_v103 : Ref sig .tc := ⟨.hbm, 142, rfl⟩
abbrev main_v104 : Ref sig .tc := ⟨.hbm, 143, rfl⟩
abbrev main_cst_28 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_29 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_30 : Ref sig .tc := ⟨.hbm, 155, rfl⟩
abbrev main_v114 : Ref sig .tc := ⟨.hbm, 156, rfl⟩
abbrev main_v115 : Ref sig .tc := ⟨.hbm, 157, rfl⟩
abbrev main_cst_31 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_32 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_33 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩

abbrev nD : Nat := 1
abbrev τ : Topo := Topo.v7x

variable {F : FTy → Type} [FloatOps F]
-- ==== Mix.lean ====
abbrev S1x8192x1024 : Shape := ⟨3, ![1, 8192, 1024]⟩
abbrev S8192x1024 : Shape := ⟨2, ![8192, 1024]⟩
abbrev S8192x2048 : Shape := ⟨2, ![8192, 2048]⟩
abbrev S1x1024x5120 : Shape := ⟨3, ![1, 1024, 5120]⟩
abbrev S1x4x256x256 : Shape := ⟨4, ![1, 4, 256, 256]⟩
abbrev S1x1024 : Shape := ⟨2, ![1, 1024]⟩
abbrev S1x4x128x128 : Shape := ⟨4, ![1, 4, 128, 128]⟩
abbrev S1x4x128 : Shape := ⟨3, ![1, 4, 128]⟩
abbrev S1024x5120 : Shape := ⟨2, ![1024, 5120]⟩
abbrev S1x8192x5120 : Shape := ⟨3, ![1, 8192, 5120]⟩
abbrev S1x8192x4x256 : Shape := ⟨4, ![1, 8192, 4, 256]⟩
abbrev S_ : Shape := ⟨0, ![]⟩
abbrev S1x2x1x256 : Shape := ⟨4, ![1, 2, 1, 256]⟩
abbrev S1x8190x1x256 : Shape := ⟨4, ![1, 8190, 1, 256]⟩
abbrev S1x8192x1x256 : Shape := ⟨4, ![1, 8192, 1, 256]⟩
abbrev S1x4x1x256 : Shape := ⟨4, ![1, 4, 1, 256]⟩
abbrev S1x8188x1x256 : Shape := ⟨4, ![1, 8188, 1, 256]⟩
abbrev S1x8x1x256 : Shape := ⟨4, ![1, 8, 1, 256]⟩
abbrev S1x8184x1x256 : Shape := ⟨4, ![1, 8184, 1, 256]⟩
abbrev S1x16x1x256 : Shape := ⟨4, ![1, 16, 1, 256]⟩
abbrev S1x8176x1x256 : Shape := ⟨4, ![1, 8176, 1, 256]⟩
abbrev S4 : Shape := ⟨1, ![4]⟩
abbrev S8192 : Shape := ⟨1, ![8192]⟩
abbrev S8192x1 : Shape := ⟨2, ![8192, 1]⟩
abbrev S1x4 : Shape := ⟨2, ![1, 4]⟩
abbrev S8192x4 : Shape := ⟨2, ![8192, 4]⟩
abbrev S1x8192x4x1 : Shape := ⟨4, ![1, 8192, 4, 1]⟩
abbrev S4x128 : Shape := ⟨2, ![4, 128]⟩
abbrev S128x4 : Shape := ⟨2, ![128, 4]⟩
abbrev S128x4x256 : Shape := ⟨3, ![128, 4, 256]⟩
abbrev S128x1024 : Shape := ⟨2, ![128, 1024]⟩
abbrev S1x8192x4096 : Shape := ⟨3, ![1, 8192, 4096]⟩
abbrev S8192x4096 : Shape := ⟨2, ![8192, 4096]⟩
abbrev S4x256x256 : Shape := ⟨3, ![4, 256, 256]⟩
abbrev S4x128x128 : Shape := ⟨3, ![4, 128, 128]⟩
abbrev S4x256x384 : Shape := ⟨3, ![4, 256, 384]⟩
abbrev S8192x5120 : Shape := ⟨2, ![8192, 5120]⟩
abbrev S8x4x32x256 : Shape := ⟨4, ![8, 4, 32, 256]⟩
abbrev S256x4096 : Shape := ⟨2, ![256, 4096]⟩
abbrev S256x2048 : Shape := ⟨2, ![256, 2048]⟩
abbrev S256x1024 : Shape := ⟨2, ![256, 1024]⟩
abbrev S256x5120 : Shape := ⟨2, ![256, 5120]⟩
abbrev S384x1024 : Shape := ⟨2, ![384, 1024]⟩
abbrev S16x1024 : Shape := ⟨2, ![16, 1024]⟩
abbrev S256x256 : Shape := ⟨2, ![256, 256]⟩
abbrev S1x256x256 : Shape := ⟨3, ![1, 256, 256]⟩
abbrev S1x256 : Shape := ⟨2, ![1, 256]⟩
abbrev S256 : Shape := ⟨1, ![256]⟩
abbrev S256x1 : Shape := ⟨2, ![256, 1]⟩
abbrev S1x256x384 : Shape := ⟨3, ![1, 256, 384]⟩
abbrev S256x384 : Shape := ⟨2, ![256, 384]⟩
abbrev S384x256 : Shape := ⟨2, ![384, 256]⟩
abbrev S128x128 : Shape := ⟨2, ![128, 128]⟩
abbrev S1x128x128 : Shape := ⟨3, ![1, 128, 128]⟩
abbrev S128x256 : Shape := ⟨2, ![128, 256]⟩
abbrev S128 : Shape := ⟨1, ![128]⟩
abbrev S128x1 : Shape := ⟨2, ![128, 1]⟩
abbrev S1024x256 : Shape := ⟨2, ![1024, 256]⟩
abbrev S1x32x256 : Shape := ⟨3, ![1, 32, 256]⟩
abbrev S32x256 : Shape := ⟨2, ![32, 256]⟩
abbrev S1x1x32x256 : Shape := ⟨4, ![1, 1, 32, 256]⟩
abbrev S1x128 : Shape := ⟨2, ![1, 128]⟩

abbrev nBuf : Space → Nat
  | .hbm => 89
  | .vmem => 30
  | .smem => 0
  | _ => 0

abbrev bufTy : (tb : Table) → Fin (tcTables nBuf tb) → BufTy
  | .hbm, ⟨0, _⟩ => ⟨S1x8192x1024, .f32⟩
  | .hbm, ⟨1, _⟩ => ⟨S8192x1024, .f32⟩
  | .hbm, ⟨2, _⟩ => ⟨S8192x2048, .f32⟩
  | .hbm, ⟨3, _⟩ => ⟨S1x1024x5120, .f32⟩
  | .hbm, ⟨4, _⟩ => ⟨S1x4x256x256, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x4x128x128, .f32⟩
  | .hbm, ⟨9, _⟩ => ⟨S1x4x128, .f32⟩
  | .hbm, ⟨10, _⟩ => ⟨S1024x5120, .f32⟩
  | .hbm, ⟨11, _⟩ => ⟨S1x8192x5120, .f32⟩
  | .hbm, ⟨12, _⟩ => ⟨S1x8192x1024, .f32⟩
  | .hbm, ⟨13, _⟩ => ⟨S1x8192x4x256, .f32⟩
  | .hbm, ⟨14, _⟩ => ⟨S_, .f32⟩
  | .hbm, ⟨15, _⟩ => ⟨S_, .f32⟩
  | .hbm, ⟨16, _⟩ => ⟨S1x8192x4x256, .f32⟩
  | .hbm, ⟨17, _⟩ => ⟨S_, .f32⟩
  | .hbm, ⟨18, _⟩ => ⟨S1x2x1x256, .f32⟩
  | .hbm, ⟨19, _⟩ => ⟨S1x8190x1x256, .f32⟩
  | .hbm, ⟨20, _⟩ => ⟨S1x8192x1x256, .f32⟩
  | .hbm, ⟨21, _⟩ => ⟨S_, .f32⟩
  | .hbm, ⟨22, _⟩ => ⟨S1x4x1x256, .f32⟩
  | .hbm, ⟨23, _⟩ => ⟨S1x8188x1x256, .f32⟩
  | .hbm, ⟨24, _⟩ => ⟨S1x8192x1x256, .f32⟩
  | .hbm, ⟨25, _⟩ => ⟨S_, .f32⟩
  | .hbm, ⟨26, _⟩ => ⟨S1x8x1x256, .f32⟩
  | .hbm, ⟨27, _⟩ => ⟨S1x8184x1x256, .f32⟩
  | .hbm, ⟨28, _⟩ => ⟨S1x8192x1x256, .f32⟩
  | .hbm, ⟨29, _⟩ => ⟨S_, .f32⟩
  | .hbm, ⟨30, _⟩ => ⟨S1x16x1x256, .f32⟩
  | .hbm, ⟨31, _⟩ => ⟨S1x8176x1x256, .f32⟩
  | .hbm, ⟨32, _⟩ => ⟨S1x8192x1x256, .f32⟩
  | .hbm, ⟨33, _⟩ => ⟨S1x8192x4x256, .f32⟩
  | .hbm, ⟨34, _⟩ => ⟨S4, .i32⟩
  | .hbm, ⟨35, _⟩ => ⟨S_, .i32⟩
  | .hbm, ⟨36, _⟩ => ⟨S4, .i32⟩
  | .hbm, ⟨37, _⟩ => ⟨S4, .i32⟩
  | .hbm, ⟨38, _⟩ => ⟨S8192, .i32⟩
  | .hbm, ⟨39, _⟩ => ⟨S8192x1, .i32⟩
  | .hbm, ⟨40, _⟩ => ⟨S_, .i32⟩
  | .hbm, ⟨41, _⟩ => ⟨S8192x1, .i32⟩
  | .hbm, ⟨42, _⟩ => ⟨S8192x1, .i32⟩
  | .hbm, ⟨43, _⟩ => ⟨S1x4, .i32⟩
  | .hbm, ⟨44, _⟩ => ⟨S8192x4, .i32⟩
  | .hbm, ⟨45, _⟩ => ⟨S8192x4, .i32⟩
  | .hbm, ⟨46, _⟩ => ⟨S8192x4, .i32⟩
  | .hbm, ⟨47, _⟩ => ⟨S8192x4, .f32⟩
  | .hbm, ⟨48, _⟩ => ⟨S1x8192x4x1, .f32⟩
  | .hbm, ⟨49, _⟩ => ⟨S1x8192x4x256, .f32⟩
  | .hbm, ⟨50, _⟩ => ⟨S1x8192x4x256, .f32⟩
  | .hbm, ⟨51, _⟩ => ⟨S1x8192x4x256, .f32⟩
  | .hbm, ⟨52, _⟩ => ⟨S1x8192x4x256, .f32⟩
  | .hbm, ⟨53, _⟩ => ⟨S8192x1024, .f32⟩
  | .hbm, ⟨54, _⟩ => ⟨S4x128, .f32⟩
  | .hbm, ⟨55, _⟩ => ⟨S128x4, .f32⟩
  | .hbm, ⟨56, _⟩ => ⟨S128x4x256, .f32⟩
  | .hbm, ⟨57, _⟩ => ⟨S128x1024, .f32⟩
  | .hbm, ⟨58, _⟩ => ⟨S1x8192x4096, .f32⟩
  | .hbm, ⟨59, _⟩ => ⟨S8192x4096, .f32⟩
  | .hbm, ⟨60, _⟩ => ⟨S8192x4096, .bf16⟩
  | .hbm, ⟨61, _⟩ => ⟨S8192x1024, .bf16⟩
  | .hbm, ⟨62, _⟩ => ⟨S1024x5120, .f32⟩
  | .hbm, ⟨63, _⟩ => ⟨S1024x5120, .bf16⟩
  | .hbm, ⟨64, _⟩ => ⟨S4x256x256, .f32⟩
  | .hbm, ⟨65, _⟩ => ⟨S4x256x256, .bf16⟩
  | .hbm, ⟨66, _⟩ => ⟨S4x128x128, .f32⟩
  | .hbm, ⟨67, _⟩ => ⟨S4x256x384, .i32⟩
  | .hbm, ⟨68, _⟩ => ⟨S4x256x384, .i32⟩
  | .hbm, ⟨69, _⟩ => ⟨S4x256x384, .i32⟩
  | .hbm, ⟨70, _⟩ => ⟨S4x256x384, .i32⟩
  | .hbm, ⟨71, _⟩ => ⟨S_, .i32⟩
  | .hbm, ⟨72, _⟩ => ⟨S4x256x384, .i32⟩
  | .hbm, ⟨73, _⟩ => ⟨S4x256x384, .i1⟩
  | .hbm, ⟨74, _⟩ => ⟨S_, .i32⟩
  | .hbm, ⟨75, _⟩ => ⟨S4x256x384, .i32⟩
  | .hbm, ⟨76, _⟩ => ⟨S4x256x384, .i32⟩
  | .hbm, ⟨77, _⟩ => ⟨S4x256x384, .i1⟩
  | .hbm, ⟨78, _⟩ => ⟨S4x256x384, .i1⟩
  | .hbm, ⟨79, _⟩ => ⟨S4x256x384, .f32⟩
  | .hbm, ⟨80, _⟩ => ⟨S4x256x384, .bf16⟩
  | .hbm, ⟨81, _⟩ => ⟨S8192x5120, .bf16⟩
  | .hbm, ⟨82, _⟩ => ⟨S8192x1024, .f32⟩
  | .hbm, ⟨83, _⟩ => ⟨S8x4x32x256, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S4x128x128, .f32⟩
  | .hbm, ⟨88, _⟩ => ⟨S4x128, .f32⟩
  | .local _ .vmem, ⟨0, _⟩ => ⟨S256x4096, .bf16⟩
  | .local _ .vmem, ⟨1, _⟩ => ⟨S256x4096, .bf16⟩
  | .local _ .vmem, ⟨2, _⟩ => ⟨S256x2048, .f32⟩
  | .local _ .vmem, ⟨3, _⟩ => ⟨S256x2048, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S1024x5120, .bf16⟩
  | .local _ .vmem, ⟨9, _⟩ => ⟨S4x256x256, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S4x128x128, .f32⟩
  | .local _ .vmem, ⟨14, _⟩ => ⟨S128x1024, .f32⟩
  | .local _ .vmem, ⟨15, _⟩ => ⟨S4x256x384, .bf16⟩
  | .local _ .vmem, ⟨16, _⟩ => ⟨S256x5120, .bf16⟩
  | .local _ .vmem, ⟨17, _⟩ => ⟨S256x5120, .bf16⟩
  | .local _ .vmem, ⟨18, _⟩ => ⟨S256x1024, .f32⟩
  | .local _ .vmem, ⟨19, _⟩ => ⟨S256x1024, .f32⟩
  | .local _ .vmem, ⟨20, _⟩ => ⟨S8x4x32x256, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S4x128x128, .f32⟩
  | .local _ .vmem, ⟨25, _⟩ => ⟨S4x128, .f32⟩
  | .local _ .vmem, ⟨26, _⟩ => ⟨S384x1024, .bf16⟩
  | .local _ .vmem, ⟨27, _⟩ => ⟨S384x1024, .bf16⟩
  | .local _ .vmem, ⟨28, _⟩ => ⟨S4x256x256, .f32⟩
  | .local _ .vmem, ⟨29, _⟩ => ⟨S128x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_call0_cst : Ref sig .tc := ⟨.hbm, 14, rfl⟩
abbrev main_call0_call0_v0 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_4 : Ref sig .tc := ⟨.hbm, 71, rfl⟩
abbrev main_v53 : Ref sig .tc := ⟨.hbm, 72, rfl⟩
abbrev main_v54 : Ref sig .tc := ⟨.hbm, 73, rfl⟩
abbrev main_c_5 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61_0 : Ref sig .tc := ⟨.hbm, 81, rfl⟩
abbrev main_v61_1 : Ref sig .tc := ⟨.hbm, 82, rfl⟩
abbrev main_v61_2 : Ref sig .tc := ⟨.hbm, 83, rfl⟩
abbrev main_v61_3 : Ref sig .tc := ⟨.hbm, 84, rfl⟩
abbrev main_v61_4 : Ref sig .tc := ⟨.hbm, 85, rfl⟩
abbrev main_v61_5 : Ref sig .tc := ⟨.hbm, 86, rfl⟩
abbrev main_v61_6 : Ref sig .tc := ⟨.hbm, 87, rfl⟩
abbrev main_v61_7 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32_930 : BitVec 32 := 31#32
  let v1755 : BitVec 1 := Scalar.cmpi .eq arg0 c31_i32_930
  let v1756 : BitVec 32 := Scalar.extui v1755
  let c0_i32_931 : BitVec 32 := 0#32
  let v1757 : BitVec 1 := Scalar.cmpi .ne v1756 c0_i32_931
  v1757

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x384 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x5120 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x4x32x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== MixIdeal.lean ====
variable {F : FTy → Type} [FloatOps F] [Named F]
def κ : String → Option EReal := fun
  | "cubic" => some ((-80338380498831 / 1125899906842624 : ℝ) : EReal)
  | "slope" => some ((241015141496493 / 1125899906842624 : ℝ) : EReal)
  | _ => none
-- ==== MixRefIdeal.lean ====
abbrev S1x8192x1024 : Shape := ⟨3, ![1, 8192, 1024]⟩
abbrev S8192x1024 : Shape := ⟨2, ![8192, 1024]⟩
abbrev S8192x2048 : Shape := ⟨2, ![8192, 2048]⟩
abbrev S1x1024x5120 : Shape := ⟨3, ![1, 1024, 5120]⟩
abbrev S1x4x256x256 : Shape := ⟨4, ![1, 4, 256, 256]⟩
abbrev S1x1024 : Shape := ⟨2, ![1, 1024]⟩
abbrev S1x4x128x128 : Shape := ⟨4, ![1, 4, 128, 128]⟩
abbrev S1x4x128 : Shape := ⟨3, ![1, 4, 128]⟩
abbrev S1024x5120 : Shape := ⟨2, ![1024, 5120]⟩
abbrev S1x8192x5120 : Shape := ⟨3, ![1, 8192, 5120]⟩
abbrev S1x8192x2048 : Shape := ⟨3, ![1, 8192, 2048]⟩
abbrev S4x256x256 : Shape := ⟨3, ![4, 256, 256]⟩
abbrev S1024 : Shape := ⟨1, ![1024]⟩
abbrev S1x8192x4x256 : Shape := ⟨4, ![1, 8192, 4, 256]⟩
abbrev S_ : Shape := ⟨0, ![]⟩
abbrev S1x2x1x256 : Shape := ⟨4, ![1, 2, 1, 256]⟩
abbrev S1x8190x1x256 : Shape := ⟨4, ![1, 8190, 1, 256]⟩
abbrev S1x8192x1x256 : Shape := ⟨4, ![1, 8192, 1, 256]⟩
abbrev S1x4x1x256 : Shape := ⟨4, ![1, 4, 1, 256]⟩
abbrev S1x8188x1x256 : Shape := ⟨4, ![1, 8188, 1, 256]⟩
abbrev S1x8x1x256 : Shape := ⟨4, ![1, 8, 1, 256]⟩
abbrev S1x8184x1x256 : Shape := ⟨4, ![1, 8184, 1, 256]⟩
abbrev S1x16x1x256 : Shape := ⟨4, ![1, 16, 1, 256]⟩
abbrev S1x8176x1x256 : Shape := ⟨4, ![1, 8176, 1, 256]⟩
abbrev S4 : Shape := ⟨1, ![4]⟩
abbrev S8192 : Shape := ⟨1, ![8192]⟩
abbrev S8192x1 : Shape := ⟨2, ![8192, 1]⟩
abbrev S1x4 : Shape := ⟨2, ![1, 4]⟩
abbrev S8192x4 : Shape := ⟨2, ![8192, 4]⟩
abbrev S1x8192x4x1 : Shape := ⟨4, ![1, 8192, 4, 1]⟩
abbrev S4x256x1x8192 : Shape := ⟨4, ![4, 256, 1, 8192]⟩
abbrev S1x1x1024 : Shape := ⟨3, ![1, 1, 1024]⟩
abbrev S4x128x128 : Shape := ⟨3, ![4, 128, 128]⟩
abbrev S4x128 : Shape := ⟨2, ![4, 128]⟩
abbrev S4x256 : Shape := ⟨2, ![4, 256]⟩
abbrev S1x8192x4 : Shape := ⟨3, ![1, 8192, 4]⟩
abbrev S1x1x4x256 : Shape := ⟨4, ![1, 1, 4, 256]⟩
abbrev S1x64x128x4x256 : Shape := ⟨5, ![1, 64, 128, 4, 256]⟩
abbrev S128x128 : Shape := ⟨2, ![128, 128]⟩
abbrev S1x128x128 : Shape := ⟨3, ![1, 128, 128]⟩
abbrev S4x1x64x256x128 : Shape := ⟨5, ![4, 1, 64, 256, 128]⟩
abbrev S128x4 : Shape := ⟨2, ![128, 4]⟩
abbrev S1x1x128x4x1 : Shape := ⟨5, ![1, 1, 128, 4, 1]⟩
abbrev S1x128x4 : Shape := ⟨3, ![1, 128, 4]⟩
abbrev S1x4x256 : Shape := ⟨3, ![1, 4, 256]⟩
abbrev S4x1x8192x256 : Shape := ⟨4, ![4, 1, 8192, 256]⟩
abbrev S5120x1024 : Shape := ⟨2, ![5120, 1024]⟩
abbrev S8192x5120 : Shape := ⟨2, ![8192, 5120]⟩
abbrev S4x8x32x256 : Shape := ⟨4, ![4, 8, 32, 256]⟩
abbrev S8x4x32x256 : Shape := ⟨4, ![8, 4, 32, 256]⟩

abbrev nBuf : Space → Nat
  | .hbm => 384
  | .vmem => 0
  | .smem => 0
  | _ => 0

abbrev hbmTy0_0 (i : Nat) : BufTy := match i % 128 with
  | 0 => ⟨S1x8192x1024, .f32⟩
  | 1 => ⟨S8192x1024, .f32⟩
  | 2 => ⟨S8192x2048, .f32⟩
  | 3 => ⟨S1x1024x5120, .f32⟩
  | 4 => ⟨S1x4x256x256, .f32⟩
  | 5 => ⟨S1x1024, .f32⟩
  | 6 => ⟨S1x1024, .f32⟩
  | 7 => ⟨S1x1024, .f32⟩
  | 8 => ⟨S1x4x128x128, .f32⟩
  | 9 => ⟨S1x4x128, .f32⟩
  | 10 => ⟨S1024x5120, .f32⟩
  | 11 => ⟨S1x8192x5120, .f32⟩
  | 12 => ⟨S1x8192x1024, .f32⟩
  | 13 => ⟨S1x8192x1024, .f32⟩
  | 14 => ⟨S1x8192x1024, .f32⟩
  | 15 => ⟨S1x8192x2048, .f32⟩
  | 16 => ⟨S4x256x256, .f32⟩
  | 17 => ⟨S1024, .f32⟩
  | 18 => ⟨S1x8192x4x256, .f32⟩
  | 19 => ⟨S_, .f32⟩
  | 20 => ⟨S_, .f32⟩
  | 21 => ⟨S1x8192x4x256, .f32⟩
  | 22 => ⟨S_, .f32⟩
  | 23 => ⟨S1x2x1x256, .f32⟩
  | 24 => ⟨S1x8190x1x256, .f32⟩
  | 25 => ⟨S1x8192x1x256, .f32⟩
  | 26 => ⟨S_, .f32⟩
  | 27 => ⟨S1x2x1x256, .f32⟩
  | 28 => ⟨S_, .f32⟩
  | 29 => ⟨S1x4x1x256, .f32⟩
  | 30 => ⟨S1x8188x1x256, .f32⟩
  | 31 => ⟨S1x8192x1x256, .f32⟩
  | 32 => ⟨S_, .f32⟩
  | 33 => ⟨S1x4x1x256, .f32⟩
  | 34 => ⟨S_, .f32⟩
  | 35 => ⟨S1x8x1x256, .f32⟩
  | 36 => ⟨S1x8184x1x256, .f32⟩
  | 37 => ⟨S1x8192x1x256, .f32⟩
  | 38 => ⟨S_, .f32⟩
  | 39 => ⟨S1x8x1x256, .f32⟩
  | 40 => ⟨S_, .f32⟩
  | 41 => ⟨S1x16x1x256, .f32⟩
  | 42 => ⟨S1x8176x1x256, .f32⟩
  | 43 => ⟨S1x8192x1x256, .f32⟩
  | 44 => ⟨S_, .f32⟩
  | 45 => ⟨S1x16x1x256, .f32⟩
  | 46 => ⟨S1x8192x4x256, .f32⟩
  | 47 => ⟨S4, .i32⟩
  | 48 => ⟨S_, .i32⟩
  | 49 => ⟨S4, .i32⟩
  | 50 => ⟨S4, .i32⟩
  | 51 => ⟨S8192, .i32⟩
  | 52 => ⟨S8192x1, .i32⟩
  | 53 => ⟨S_, .i32⟩
  | 54 => ⟨S8192x1, .i32⟩
  | 55 => ⟨S8192x1, .i32⟩
  | 56 => ⟨S1x4, .i32⟩
  | 57 => ⟨S8192x4, .i32⟩
  | 58 => ⟨S8192x4, .i32⟩
  | 59 => ⟨S8192x4, .i32⟩
  | 60 => ⟨S8192x4, .f32⟩
  | 61 => ⟨S1x8192x4x1, .f32⟩
  | 62 => ⟨S1x8192x4x256, .f32⟩
  | 63 => ⟨S1x8192x4x256, .f32⟩
  | 64 => ⟨S1x8192x4x256, .f32⟩
  | 65 => ⟨S1x8192x4x256, .f32⟩
  | 66 => ⟨S4x256x1x8192, .f32⟩
  | 67 => ⟨S1x8192x4x256, .f32⟩
  | 68 => ⟨S1x8192x1024, .f32⟩
  | 69 => ⟨S1x1x1024, .f32⟩
  | 70 => ⟨S1x8192x1024, .f32⟩
  | 71 => ⟨S1x8192x1024, .f32⟩
  | 72 => ⟨S1024, .f32⟩
  | 73 => ⟨S1024, .f32⟩
  | 74 => ⟨S4x128x128, .f32⟩
  | 75 => ⟨S4x128, .f32⟩
  | 76 => ⟨S1x8192x1024, .f32⟩
  | 77 => ⟨S1x8192x1024, .f32⟩
  | 78 => ⟨S1x8192x1024, .f32⟩
  | 79 => ⟨S_, .f32⟩
  | 80 => ⟨S1x8192x1024, .f32⟩
  | 81 => ⟨S1x8192x1024, .f32⟩
  | 82 => ⟨S_, .f32⟩
  | 83 => ⟨S1x8192x1024, .f32⟩
  | 84 => ⟨S1x8192x1024, .f32⟩
  | 85 => ⟨S1x8192x1024, .f32⟩
  | 86 => ⟨S_, .f32⟩
  | 87 => ⟨S1x8192x1024, .f32⟩
  | 88 => ⟨S1x8192x1024, .f32⟩
  | 89 => ⟨S1x8192x1024, .f32⟩
  | 90 => ⟨S_, .f32⟩
  | 91 => ⟨S1x8192x1024, .f32⟩
  | 92 => ⟨S1x8192x1024, .f32⟩
  | 93 => ⟨S_, .f32⟩
  | 94 => ⟨S1x8192x1024, .f32⟩
  | 95 => ⟨S1x8192x1024, .f32⟩
  | 96 => ⟨S1x8192x1024, .f32⟩
  | 97 => ⟨S_, .f32⟩
  | 98 => ⟨S1x8192x1024, .f32⟩
  | 99 => ⟨S1x8192x1024, .f32⟩
  | 100 => ⟨S_, .f32⟩
  | 101 => ⟨S1x8192x1024, .f32⟩
  | 102 => ⟨S1x8192x1024, .f32⟩
  | 103 => ⟨S1x8192x1024, .f32⟩
  | 104 => ⟨S1x8192x1024, .f32⟩
  | 105 => ⟨S1x8192x1024, .f32⟩
  | 106 => ⟨S1x8192x1024, .f32⟩
  | 107 => ⟨S_, .f32⟩
  | 108 => ⟨S1x8192x1024, .f32⟩
  | 109 => ⟨S1x8192x1024, .f32⟩
  | 110 => ⟨S_, .f32⟩
  | 111 => ⟨S1x8192x1024, .f32⟩
  | 112 => ⟨S1x8192x1024, .f32⟩
  | 113 => ⟨S1x8192x1024, .f32⟩
  | 114 => ⟨S_, .f32⟩
  | 115 => ⟨S1x8192x1024, .f32⟩
  | 116 => ⟨S1x8192x1024, .f32⟩
  | 117 => ⟨S1x8192x1024, .f32⟩
  | 118 => ⟨S_, .f32⟩
  | 119 => ⟨S1x8192x1024, .f32⟩
  | 120 => ⟨S1x8192x1024, .f32⟩
  | 121 => ⟨S_, .f32⟩
  | 122 => ⟨S1x8192x1024, .f32⟩
  | 123 => ⟨S1x8192x1024, .f32⟩
  | 124 => ⟨S1x8192x1024, .f32⟩
  | 125 => ⟨S_, .f32⟩
  | 126 => ⟨S1x8192x1024, .f32⟩
  | 127 => ⟨S1x8192x1024, .f32⟩
  | _ => ⟨S1x8192x1024, .f32⟩

abbrev hbmTy0_1 (i : Nat) : BufTy := match i % 128 with
  | 0 => ⟨S_, .f32⟩
  | 1 => ⟨S1x8192x1024, .f32⟩
  | 2 => ⟨S1x8192x1024, .f32⟩
  | 3 => ⟨S1x8192x1024, .f32⟩
  | 4 => ⟨S1x8192x4x256, .f32⟩
  | 5 => ⟨S4x256, .f32⟩
  | 6 => ⟨S4x256, .f32⟩
  | 7 => ⟨S_, .f32⟩
  | 8 => ⟨S1x8192x4, .f32⟩
  | 9 => ⟨S1x8192x4x1, .f32⟩
  | 10 => ⟨S_, .f32⟩
  | 11 => ⟨S1x8192x4x1, .f32⟩
  | 12 => ⟨S1x8192x4x1, .f32⟩
  | 13 => ⟨S1x8192x4x256, .f32⟩
  | 14 => ⟨S1x8192x4x256, .f32⟩
  | 15 => ⟨S1x8192x4x256, .f32⟩
  | 16 => ⟨S_, .f32⟩
  | 17 => ⟨S1x8192x4x256, .f32⟩
  | 18 => ⟨S1x8192x4x256, .f32⟩
  | 19 => ⟨S_, .f32⟩
  | 20 => ⟨S1x8192x4, .f32⟩
  | 21 => ⟨S1x8192x4x1, .f32⟩
  | 22 => ⟨S_, .f32⟩
  | 23 => ⟨S1x8192x4x1, .f32⟩
  | 24 => ⟨S1x8192x4x1, .f32⟩
  | 25 => ⟨S1x8192x4x256, .f32⟩
  | 26 => ⟨S1x8192x4x256, .f32⟩
  | 27 => ⟨S_, .f32⟩
  | 28 => ⟨S1x8192x4x1, .f32⟩
  | 29 => ⟨S1x8192x4x1, .f32⟩
  | 30 => ⟨S1x8192x4x1, .f32⟩
  | 31 => ⟨S1x8192x4x1, .f32⟩
  | 32 => ⟨S_, .f32⟩
  | 33 => ⟨S1x8192x4x1, .f32⟩
  | 34 => ⟨S1x8192x4x1, .f32⟩
  | 35 => ⟨S1x8192x4x256, .f32⟩
  | 36 => ⟨S1x8192x4x256, .f32⟩
  | 37 => ⟨S1x1x4x256, .f32⟩
  | 38 => ⟨S1x8192x4x256, .f32⟩
  | 39 => ⟨S1x8192x4x256, .f32⟩
  | 40 => ⟨S1x1x4x256, .f32⟩
  | 41 => ⟨S1x8192x4x256, .f32⟩
  | 42 => ⟨S1x8192x4x256, .f32⟩
  | 43 => ⟨S1x64x128x4x256, .f32⟩
  | 44 => ⟨S_, .i1⟩
  | 45 => ⟨S128x128, .i1⟩
  | 46 => ⟨S128x128, .i32⟩
  | 47 => ⟨S_, .i32⟩
  | 48 => ⟨S128x128, .i32⟩
  | 49 => ⟨S128x128, .i32⟩
  | 50 => ⟨S128x128, .i32⟩
  | 51 => ⟨S128x128, .i1⟩
  | 52 => ⟨S_, .i1⟩
  | 53 => ⟨S128x128, .i1⟩
  | 54 => ⟨S128x128, .i1⟩
  | 55 => ⟨S1x128x128, .i1⟩
  | 56 => ⟨S_, .f32⟩
  | 57 => ⟨S4x128x128, .f32⟩
  | 58 => ⟨S4x128x128, .i1⟩
  | 59 => ⟨S4x128x128, .f32⟩
  | 60 => ⟨S_, .f32⟩
  | 61 => ⟨S4x128x128, .f32⟩
  | 62 => ⟨S4x1x64x256x128, .f32⟩
  | 63 => ⟨S1x64x128x4x256, .f32⟩
  | 64 => ⟨S128x4, .f32⟩
  | 65 => ⟨S1x1x128x4x1, .f32⟩
  | 66 => ⟨S1x64x128x4x256, .f32⟩
  | 67 => ⟨S1x64x128x4x256, .f32⟩
  | 68 => ⟨S1x8192x1024, .f32⟩
  | 69 => ⟨S1x8192x1024, .f32⟩
  | 70 => ⟨S1x8192x2048, .f32⟩
  | 71 => ⟨S1x8192x2048, .f32⟩
  | 72 => ⟨S1x8192x2048, .f32⟩
  | 73 => ⟨S_, .f32⟩
  | 74 => ⟨S1x8192x2048, .f32⟩
  | 75 => ⟨S1x8192x2048, .f32⟩
  | 76 => ⟨S_, .f32⟩
  | 77 => ⟨S1x8192x2048, .f32⟩
  | 78 => ⟨S1x8192x2048, .f32⟩
  | 79 => ⟨S_, .f32⟩
  | 80 => ⟨S1x8192x2048, .f32⟩
  | 81 => ⟨S1x8192x2048, .f32⟩
  | 82 => ⟨S1x8192x2048, .f32⟩
  | 83 => ⟨S1x8192x2048, .f32⟩
  | 84 => ⟨S1x8192x2048, .f32⟩
  | 85 => ⟨S1x8192x2048, .f32⟩
  | 86 => ⟨S1x8192x2048, .f32⟩
  | 87 => ⟨S1x8192x2048, .f32⟩
  | 88 => ⟨S1x8192x2048, .f32⟩
  | 89 => ⟨S1x8192x2048, .f32⟩
  | 90 => ⟨S1x8192x2048, .f32⟩
  | 91 => ⟨S1x8192x2048, .f32⟩
  | 92 => ⟨S1x8192x1024, .f32⟩
  | 93 => ⟨S1x8192x1024, .f32⟩
  | 94 => ⟨S1x8192x1024, .f32⟩
  | 95 => ⟨S1x8192x1024, .f32⟩
  | 96 => ⟨S1x64x128x4x256, .f32⟩
  | 97 => ⟨S_, .f32⟩
  | 98 => ⟨S1x128x4, .f32⟩
  | 99 => ⟨S1x1x128x4x1, .f32⟩
  | 100 => ⟨S_, .f32⟩
  | 101 => ⟨S128x4, .f32⟩
  | 102 => ⟨S4x128, .f32⟩
  | 103 => ⟨S4x1x64x256x128, .f32⟩
  | 104 => ⟨S4x128x128, .f32⟩
  | 105 => ⟨S4x1x64x256x128, .f32⟩
  | 106 => ⟨S1x64x128x4x256, .f32⟩
  | 107 => ⟨S_, .f32⟩
  | 108 => ⟨S4x128x128, .f32⟩
  | 109 => ⟨S4x128x128, .f32⟩
  | 110 => ⟨S1x8192x4x256, .f32⟩
  | 111 => ⟨S_, .f32⟩
  | 112 => ⟨S1x4x256, .f32⟩
  | 113 => ⟨S1x1x4x256, .f32⟩
  | 114 => ⟨S_, .f32⟩
  | 115 => ⟨S4x256, .f32⟩
  | 116 => ⟨S1x8192x4x256, .f32⟩
  | 117 => ⟨S_, .f32⟩
  | 118 => ⟨S1x4x256, .f32⟩
  | 119 => ⟨S1x1x4x256, .f32⟩
  | 120 => ⟨S1x8192x4x256, .f32⟩
  | 121 => ⟨S1x8192x4x256, .f32⟩
  | 122 => ⟨S_, .f32⟩
  | 123 => ⟨S4x256, .f32⟩
  | 124 => ⟨S1x8192x4x256, .f32⟩
  | 125 => ⟨S_, .f32⟩
  | 126 => ⟨S1x8192x4, .f32⟩
  | 127 => ⟨S1x8192x4x1, .f32⟩
  | _ => ⟨S1x8192x1024, .f32⟩

abbrev hbmTy0_2 (i : Nat) : BufTy := match i % 128 with
  | 0 => ⟨S1x8192x4x256, .f32⟩
  | 1 => ⟨S1x8192x4x256, .f32⟩
  | 2 => ⟨S1x8192x4x1, .f32⟩
  | 3 => ⟨S1x8192x4x256, .f32⟩
  | 4 => ⟨S_, .f32⟩
  | 5 => ⟨S1x8192x4, .f32⟩
  | 6 => ⟨S1x8192x4x1, .f32⟩
  | 7 => ⟨S_, .f32⟩
  | 8 => ⟨S1x8192x4x1, .f32⟩
  | 9 => ⟨S1x8192x4x1, .f32⟩
  | 10 => ⟨S_, .f32⟩
  | 11 => ⟨S8192x4, .f32⟩
  | 12 => ⟨S1x8192x4, .f32⟩
  | 13 => ⟨S1x8192x4x256, .f32⟩
  | 14 => ⟨S1x8192x4x256, .f32⟩
  | 15 => ⟨S1x8192x4x256, .f32⟩
  | 16 => ⟨S_, .f32⟩
  | 17 => ⟨S1x8192x4, .f32⟩
  | 18 => ⟨S1x8192x4x1, .f32⟩
  | 19 => ⟨S1x8192x4x256, .f32⟩
  | 20 => ⟨S1x8192x4x1, .f32⟩
  | 21 => ⟨S_, .f32⟩
  | 22 => ⟨S1x8192x4x1, .f32⟩
  | 23 => ⟨S1x8192x4x1, .f32⟩
  | 24 => ⟨S_, .f32⟩
  | 25 => ⟨S8192x4, .f32⟩
  | 26 => ⟨S1x8192x4, .f32⟩
  | 27 => ⟨S1x8192x4x256, .f32⟩
  | 28 => ⟨S1x8192x4x256, .f32⟩
  | 29 => ⟨S1024, .f32⟩
  | 30 => ⟨S1024, .f32⟩
  | 31 => ⟨S1x8192x1024, .f32⟩
  | 32 => ⟨S1x8192x1024, .f32⟩
  | 33 => ⟨S1x8192x1024, .f32⟩
  | 34 => ⟨S_, .f32⟩
  | 35 => ⟨S1x8192x1024, .f32⟩
  | 36 => ⟨S1x8192x1024, .f32⟩
  | 37 => ⟨S1x8192x1024, .f32⟩
  | 38 => ⟨S_, .f32⟩
  | 39 => ⟨S1x8192x1024, .f32⟩
  | 40 => ⟨S1x8192x1024, .f32⟩
  | 41 => ⟨S1x8192x1024, .f32⟩
  | 42 => ⟨S_, .f32⟩
  | 43 => ⟨S1x8192x1024, .f32⟩
  | 44 => ⟨S1x8192x1024, .f32⟩
  | 45 => ⟨S1x8192x1024, .f32⟩
  | 46 => ⟨S1x8192x1024, .f32⟩
  | 47 => ⟨S1x8192x1024, .f32⟩
  | 48 => ⟨S1x8192x1024, .f32⟩
  | 49 => ⟨S_, .f32⟩
  | 50 => ⟨S1x8192x1024, .f32⟩
  | 51 => ⟨S1x8192x1024, .f32⟩
  | 52 => ⟨S1x8192x1024, .f32⟩
  | 53 => ⟨S_, .f32⟩
  | 54 => ⟨S1x8192x1024, .f32⟩
  | 55 => ⟨S1x8192x1024, .f32⟩
  | 56 => ⟨S1x8192x1024, .f32⟩
  | 57 => ⟨S_, .f32⟩
  | 58 => ⟨S1x8192x1024, .f32⟩
  | 59 => ⟨S1x8192x1024, .f32⟩
  | 60 => ⟨S1x8192x1024, .f32⟩
  | 61 => ⟨S1x8192x1024, .f32⟩
  | 62 => ⟨S1x4x128, .f32⟩
  | 63 => ⟨S1x4x128x128, .f32⟩
  | 64 => ⟨S1x1024, .f32⟩
  | 65 => ⟨S1x1024, .f32⟩
  | 66 => ⟨S1x8192x1024, .f32⟩
  | 67 => ⟨S_, .f32⟩
  | 68 => ⟨S1x1024, .f32⟩
  | 69 => ⟨S1x1x1024, .f32⟩
  | 70 => ⟨S1x8192x1024, .f32⟩
  | 71 => ⟨S1x8192x1024, .f32⟩
  | 72 => ⟨S_, .f32⟩
  | 73 => ⟨S1024, .f32⟩
  | 74 => ⟨S1x8192x4x256, .f32⟩
  | 75 => ⟨S4x256x1x8192, .f32⟩
  | 76 => ⟨S4x1x8192x256, .f32⟩
  | 77 => ⟨S1x8192x4x256, .f32⟩
  | 78 => ⟨S4x256x256, .f32⟩
  | 79 => ⟨S4x256x256, .f32⟩
  | 80 => ⟨S1x8192x4x256, .f32⟩
  | 81 => ⟨S1x8192x4x256, .f32⟩
  | 82 => ⟨S1x8192x4x256, .f32⟩
  | 83 => ⟨S1x8192x4x256, .f32⟩
  | 84 => ⟨S1x8192x1x256, .f32⟩
  | 85 => ⟨S1x8192x1x256, .f32⟩
  | 86 => ⟨S1x8192x1x256, .f32⟩
  | 87 => ⟨S1x8192x1x256, .f32⟩
  | 88 => ⟨S1x16x1x256, .f32⟩
  | 89 => ⟨S1x8176x1x256, .f32⟩
  | 90 => ⟨S_, .f32⟩
  | 91 => ⟨S1x8192x4x256, .f32⟩
  | 92 => ⟨S1x8192x4x256, .f32⟩
  | 93 => ⟨S1x8x1x256, .f32⟩
  | 94 => ⟨S1x8184x1x256, .f32⟩
  | 95 => ⟨S_, .f32⟩
  | 96 => ⟨S1x8192x4x256, .f32⟩
  | 97 => ⟨S1x8192x4x256, .f32⟩
  | 98 => ⟨S1x4x1x256, .f32⟩
  | 99 => ⟨S1x8188x1x256, .f32⟩
  | 100 => ⟨S_, .f32⟩
  | 101 => ⟨S1x8192x4x256, .f32⟩
  | 102 => ⟨S1x8192x4x256, .f32⟩
  | 103 => ⟨S1x2x1x256, .f32⟩
  | 104 => ⟨S1x8190x1x256, .f32⟩
  | 105 => ⟨S_, .f32⟩
  | 106 => ⟨S1x8192x4x256, .f32⟩
  | 107 => ⟨S1x8192x4x256, .f32⟩
  | 108 => ⟨S_, .f32⟩
  | 109 => ⟨S_, .f32⟩
  | 110 => ⟨S1x8192x4x256, .f32⟩
  | 111 => ⟨S1x8192x4x256, .f32⟩
  | 112 => ⟨S1x8192x1024, .f32⟩
  | 113 => ⟨S1x1024, .f32⟩
  | 114 => ⟨S1x4x256x256, .f32⟩
  | 115 => ⟨S1x8192x5120, .f32⟩
  | 116 => ⟨S5120x1024, .f32⟩
  | 117 => ⟨S1024x5120, .f32⟩
  | 118 => ⟨S1x8192x1024, .f32⟩
  | 119 => ⟨S1x1024x5120, .f32⟩
  | 120 => ⟨S8192x5120, .f32⟩
  | 121 => ⟨S8192x5120, .bf16⟩
  | 122 => ⟨S8192x1024, .f32⟩
  | 123 => ⟨S8192x1024, .f32⟩
  | 124 => ⟨S4x8x32x256, .f32⟩
  | 125 => ⟨S8x4x32x256, .f32⟩
  | 126 => ⟨S4x128x128, .f32⟩
  | 127 => ⟨S4x128, .f32⟩
  | _ => ⟨S1x8192x1024, .f32⟩

abbrev hbmTy (i : Nat) : BufTy := match i / 128 with
  | 0 => hbmTy0_0 i
  | 1 => hbmTy0_1 i
  | 2 => hbmTy0_2 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_call0_cst : Ref sig .tc := ⟨.hbm, 19, rfl⟩
abbrev main_call0_call0_v0 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_8 : Ref sig .tc := ⟨.hbm, 79, rfl⟩
abbrev main_v57 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_10 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_11 : Ref sig .tc := ⟨.hbm, 90, rfl⟩
abbrev main_v65 : Ref sig .tc := ⟨.hbm, 91, rfl⟩
abbrev main_v66 : Ref sig .tc := ⟨.hbm, 92, rfl⟩
abbrev main_cst_12 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_15 : Ref sig .tc := ⟨.hbm, 107, rfl⟩
abbrev main_v78 : Ref sig .tc := ⟨.hbm, 108, rfl⟩
abbrev main_v79 : Ref sig .tc := ⟨.hbm, 109, rfl⟩
abbrev main_cst_16 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_17 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_18 : Ref sig .tc := ⟨.hbm, 118, rfl⟩
abbrev main_v86 : Ref sig .tc := ⟨.hbm, 119, rfl⟩
abbrev main_v87 : Ref sig .tc := ⟨.hbm, 120, rfl⟩
abbrev main_cst_19 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_20 : Ref sig .tc := ⟨.hbm, 125, rfl⟩
abbrev main_v91 : Ref sig .tc := ⟨.hbm, 126, rfl⟩
abbrev main_v92 : Ref sig .tc := ⟨.hbm, 127, rfl⟩
abbrev main_cst_21 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_22 : Ref sig .tc := ⟨.hbm, 135, rfl⟩
abbrev main_v99 : Ref sig .tc := ⟨.hbm, 136, rfl⟩
abbrev main_v100 : Ref sig .tc := ⟨.hbm, 137, rfl⟩
abbrev main_cst_23 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_24 : Ref sig .tc := ⟨.hbm, 144, rfl⟩
abbrev main_v106 : Ref sig .tc := ⟨.hbm, 145, rfl⟩
abbrev main_v107 : Ref sig .tc := ⟨.hbm, 146, rfl⟩
abbrev main_cst_25 : Ref sig .tc := ⟨.hbm, 147, rfl⟩
abbrev main_v108 : Ref sig .tc := ⟨.hbm, 148, rfl⟩
abbrev main_v109 : Ref sig .tc := ⟨.hbm, 149, rfl⟩
abbrev main_cst_26 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_27 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_28 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_c_29 : Ref sig .tc := ⟨.hbm, 172, rfl⟩
abbrev main_v129 : Ref sig .tc := ⟨.hbm, 173, rfl⟩
abbrev main_call1_v0 : Ref sig .tc := ⟨.hbm, 174, rfl⟩
abbrev main_call1_c : Ref sig .tc := ⟨.hbm, 175, rfl⟩
abbrev main_call1_v1 : Ref sig .tc := ⟨.hbm, 176, rfl⟩
abbrev main_call1_v2 : Ref sig .tc := ⟨.hbm, 177, rfl⟩
abbrev main_call1_v3 : Ref sig .tc := ⟨.hbm, 178, rfl⟩
abbrev main_call1_v4 : Ref sig .tc := ⟨.hbm, 179, rfl⟩
abbrev main_call1_c_0 : Ref sig .tc := ⟨.hbm, 180, rfl⟩
abbrev main_call1_v5 : Ref sig .tc := ⟨.hbm, 181, rfl⟩
abbrev main_v130 : Ref sig .tc := ⟨.hbm, 182, rfl⟩
abbrev main_v131 : Ref sig .tc := ⟨.hbm, 183, rfl⟩
abbrev main_cst_30 : Ref sig .tc := ⟨.hbm, 184, rfl⟩
abbrev main_v132 : Ref sig .tc := ⟨.hbm, 185, rfl⟩
abbrev main_v133_1 : Ref sig .tc := ⟨.hbm, 186, rfl⟩
abbrev main_v133_0 : Ref sig .tc := ⟨.hbm, 187, rfl⟩
abbrev main_call2_cst : Ref sig .tc := ⟨.hbm, 188, rfl⟩
abbrev main_v133_2 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_call3_v0 : Ref sig .tc := ⟨.hbm, 199, rfl⟩
abbrev main_call3_v1 : Ref sig .tc := ⟨.hbm, 200, rfl⟩
abbrev main_call3_cst : Ref sig .tc := ⟨.hbm, 201, rfl⟩
abbrev main_call3_v2 : Ref sig .tc := ⟨.hbm, 202, rfl⟩
abbrev main_call3_v3 : Ref sig .tc := ⟨.hbm, 203, rfl⟩
abbrev main_call3_cst_0 : Ref sig .tc := ⟨.hbm, 204, rfl⟩
abbrev main_call3_v4 : Ref sig .tc := ⟨.hbm, 205, rfl⟩
abbrev main_v143_2 : Ref sig .tc := ⟨.hbm, 206, rfl⟩
abbrev main_call3_cst_1 : Ref sig .tc := ⟨.hbm, 207, rfl⟩
abbrev main_call3_v6 : Ref sig .tc := ⟨.hbm, 208, rfl⟩
abbrev main_call3_v7 : Ref sig .tc := ⟨.hbm, 209, rfl⟩
abbrev main_v143_1 : Ref sig .tc := ⟨.hbm, 210, rfl⟩
abbrev main_v143_0 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_call4_v0 : Ref sig .tc := ⟨.hbm, 216, rfl⟩
abbrev main_call4_v1 : Ref sig .tc := ⟨.hbm, 217, rfl⟩
abbrev main_call4_v2 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_cst_31 : Ref sig .tc := ⟨.hbm, 225, rfl⟩
abbrev main_v154 : Ref sig .tc := ⟨.hbm, 226, rfl⟩
abbrev main_v155 : Ref sig .tc := ⟨.hbm, 227, rfl⟩
abbrev main_cst_32 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_call5_cst : Ref sig .tc := ⟨.hbm, 235, rfl⟩
abbrev main_call5_v0 : Ref sig .tc := ⟨.hbm, 236, rfl⟩
abbrev main_v162 : Ref sig .tc := ⟨.hbm, 237, rfl⟩
abbrev main_v163 : Ref sig .tc := ⟨.hbm, 238, rfl⟩
abbrev main_cst_33 : Ref sig .tc := ⟨.hbm, 239, rfl⟩
abbrev main_v164 : Ref sig .tc := ⟨.hbm, 240, rfl⟩
abbrev main_v165 : Ref sig .tc := ⟨.hbm, 241, rfl⟩
abbrev main_cst_34 : Ref sig .tc := ⟨.hbm, 242, rfl⟩
abbrev main_v166 : Ref sig .tc := ⟨.hbm, 243, rfl⟩
abbrev main_v167 : Ref sig .tc := ⟨.hbm, 244, rfl⟩
abbrev main_cst_35 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_cst_36 : Ref sig .tc := ⟨.hbm, 250, rfl⟩
abbrev main_v172 : Ref sig .tc := ⟨.hbm, 251, rfl⟩
abbrev main_v173 : Ref sig .tc := ⟨.hbm, 252, rfl⟩
abbrev main_cst_37 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_cst_38 : Ref sig .tc := ⟨.hbm, 260, rfl⟩
abbrev main_v180 : Ref sig .tc := ⟨.hbm, 261, rfl⟩
abbrev main_v181 : Ref sig .tc := ⟨.hbm, 262, rfl⟩
abbrev main_cst_39 : Ref sig .tc := ⟨.hbm, 263, rfl⟩
abbrev main_v182 : Ref sig .tc := ⟨.hbm, 264, rfl⟩
abbrev main_v183 : Ref sig .tc := ⟨.hbm, 265, rfl⟩
abbrev main_cst_40 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_v188 : Ref sig .tc := ⟨.hbm, 271, rfl⟩
abbrev main_cst_41 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_cst_42 : Ref sig .tc := ⟨.hbm, 277, rfl⟩
abbrev main_v193 : Ref sig .tc := ⟨.hbm, 278, rfl⟩
abbrev main_v194 : Ref sig .tc := ⟨.hbm, 279, rfl⟩
abbrev main_cst_43 : Ref sig .tc := ⟨.hbm, 280, rfl⟩
abbrev main_v195 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_v202 : Ref sig .tc := ⟨.hbm, 288, rfl⟩
abbrev main_v203 : Ref sig .tc := ⟨.hbm, 289, rfl⟩
abbrev main_cst_44 : Ref sig .tc := ⟨.hbm, 290, rfl⟩
abbrev main_v204 : Ref sig .tc := ⟨.hbm, 291, rfl⟩
abbrev main_v205 : Ref sig .tc := ⟨.hbm, 292, rfl⟩
abbrev main_v206 : Ref sig .tc := ⟨.hbm, 293, rfl⟩
abbrev main_cst_45 : Ref sig .tc := ⟨.hbm, 294, rfl⟩
abbrev main_v207 : Ref sig .tc := ⟨.hbm, 295, rfl⟩
abbrev main_v208 : Ref sig .tc := ⟨.hbm, 296, rfl⟩
abbrev main_v209 : Ref sig .tc := ⟨.hbm, 297, rfl⟩
abbrev main_cst_46 : Ref sig .tc := ⟨.hbm, 298, rfl⟩
abbrev main_v210 : Ref sig .tc := ⟨.hbm, 299, rfl⟩
abbrev main_v211 : Ref sig .tc := ⟨.hbm, 300, rfl⟩
abbrev main_v212 : Ref sig .tc := ⟨.hbm, 301, rfl⟩
abbrev main_v213 : Ref sig .tc := ⟨.hbm, 302, rfl⟩
abbrev main_v214 : Ref sig .tc := ⟨.hbm, 303, rfl⟩
abbrev main_v215 : Ref sig .tc := ⟨.hbm, 304, rfl⟩
abbrev main_cst_47 : Ref sig .tc := ⟨.hbm, 305, rfl⟩
abbrev main_v216 : Ref sig .tc := ⟨.hbm, 306, rfl⟩
abbrev main_v217 : Ref sig .tc := ⟨.hbm, 307, rfl⟩
abbrev main_v218 : Ref sig .tc := ⟨.hbm, 308, rfl⟩
abbrev main_cst_48 : Ref sig .tc := ⟨.hbm, 309, rfl⟩
abbrev main_v219 : Ref sig .tc := ⟨.hbm, 310, rfl⟩
abbrev main_v220 : Ref sig .tc := ⟨.hbm, 311, rfl⟩
abbrev main_v221 : Ref sig .tc := ⟨.hbm, 312, rfl⟩
abbrev main_cst_49 : Ref sig .tc := ⟨.hbm, 313, rfl⟩
abbrev main_v222 : Ref sig .tc := ⟨.hbm, 314, rfl⟩
abbrev main_v223 : Ref sig .tc := ⟨.hbm, 315, rfl⟩
abbrev main_v224 : Ref sig .tc := ⟨.hbm, 316, rfl⟩
abbrev main_v225 : Ref sig .tc := ⟨.hbm, 317, rfl⟩
abbrev main_v226 : Ref sig .tc := ⟨.hbm, 318, rfl⟩
abbrev main_v227 : Ref sig .tc := ⟨.hbm, 319, rfl⟩
abbrev main_v228 : Ref sig .tc := ⟨.hbm, 320, rfl⟩
abbrev main_v229 : Ref sig .tc := ⟨.hbm, 321, rfl⟩
abbrev main_v230 : Ref sig .tc := ⟨.hbm, 322, rfl⟩
abbrev main_cst_50 : Ref sig .tc := ⟨.hbm, 323, rfl⟩
abbrev main_v231 : Ref sig .tc := ⟨.hbm, 324, rfl⟩
abbrev main_v232 : Ref sig .tc := ⟨.hbm, 325, rfl⟩
abbrev main_v233 : Ref sig .tc := ⟨.hbm, 326, rfl⟩
abbrev main_v234 : Ref sig .tc := ⟨.hbm, 327, rfl⟩
abbrev main_cst_51 : Ref sig .tc := ⟨.hbm, 328, rfl⟩
abbrev main_v235 : Ref sig .tc := ⟨.hbm, 329, rfl⟩
abbrev main_v236 : Ref sig .tc := ⟨.hbm, 330, rfl⟩
abbrev main_v237 : Ref sig .tc := ⟨.hbm, 331, rfl⟩
abbrev main_v238 : Ref sig .tc := ⟨.hbm, 332, rfl⟩
abbrev main_v239 : Ref sig .tc := ⟨.hbm, 333, rfl⟩
abbrev main_v240 : Ref sig .tc := ⟨.hbm, 334, rfl⟩
abbrev main_v241 : Ref sig .tc := ⟨.hbm, 335, rfl⟩
abbrev main_v242 : Ref sig .tc := ⟨.hbm, 336, rfl⟩
abbrev main_v243 : Ref sig .tc := ⟨.hbm, 337, rfl⟩
abbrev main_v244 : Ref sig .tc := ⟨.hbm, 338, rfl⟩
abbrev main_v245 : Ref sig .tc := ⟨.hbm, 339, rfl⟩
abbrev main_v246 : Ref sig .tc := ⟨.hbm, 340, rfl⟩
abbrev main_v247 : Ref sig .tc := ⟨.hbm, 341, rfl⟩
abbrev main_v248 : Ref sig .tc := ⟨.hbm, 342, rfl⟩
abbrev main_v249 : Ref sig .tc := ⟨.hbm, 343, rfl⟩
abbrev main_v250 : Ref sig .tc := ⟨.hbm, 344, rfl⟩
abbrev main_v251 : Ref sig .tc := ⟨.hbm, 345, rfl⟩
abbrev main_cst_52 : Ref sig .tc := ⟨.hbm, 346, rfl⟩
abbrev main_v252 : Ref sig .tc := ⟨.hbm, 347, rfl⟩
abbrev main_v253 : Ref sig .tc := ⟨.hbm, 348, rfl⟩
abbrev main_v254 : Ref sig .tc := ⟨.hbm, 349, rfl⟩
abbrev main_v255 : Ref sig .tc := ⟨.hbm, 350, rfl⟩
abbrev main_cst_53 : Ref sig .tc := ⟨.hbm, 351, rfl⟩
abbrev main_v256 : Ref sig .tc := ⟨.hbm, 352, rfl⟩
abbrev main_v257 : Ref sig .tc := ⟨.hbm, 353, rfl⟩
abbrev main_v258 : Ref sig .tc := ⟨.hbm, 354, rfl⟩
abbrev main_v259 : Ref sig .tc := ⟨.hbm, 355, rfl⟩
abbrev main_cst_54 : Ref sig .tc := ⟨.hbm, 356, rfl⟩
abbrev main_v260 : Ref sig .tc := ⟨.hbm, 357, rfl⟩
abbrev main_v261 : Ref sig .tc := ⟨.hbm, 358, rfl⟩
abbrev main_v262 : Ref sig .tc := ⟨.hbm, 359, rfl⟩
abbrev main_v263 : Ref sig .tc := ⟨.hbm, 360, rfl⟩
abbrev main_cst_55 : Ref sig .tc := ⟨.hbm, 361, rfl⟩
abbrev main_v264 : Ref sig .tc := ⟨.hbm, 362, rfl⟩
abbrev main_v265 : Ref sig .tc := ⟨.hbm, 363, rfl⟩
abbrev main_call6_call0_cst : Ref sig .tc := ⟨.hbm, 364, rfl⟩
abbrev main_call6_call0_v0 : Ref sig .tc := ⟨.hbm, 365, rfl⟩
abbrev main_v266 : Ref sig .tc := ⟨.hbm, 366, rfl⟩
abbrev main_v267 : Ref sig .tc := ⟨.hbm, 367, rfl⟩
abbrev main_v268 : Ref sig .tc := ⟨.hbm, 368, rfl⟩
abbrev main_v269 : Ref sig .tc := ⟨.hbm, 369, rfl⟩
abbrev main_v270 : Ref sig .tc := ⟨.hbm, 370, rfl⟩
abbrev main_v271 : Ref sig .tc := ⟨.hbm, 371, rfl⟩
abbrev main_v272 : Ref sig .tc := ⟨.hbm, 372, rfl⟩
abbrev main_v273 : Ref sig .tc := ⟨.hbm, 373, rfl⟩
abbrev main_v274 : Ref sig .tc := ⟨.hbm, 374, rfl⟩
abbrev main_v275 : Ref sig .tc := ⟨.hbm, 375, rfl⟩
abbrev main_v276 : Ref sig .tc := ⟨.hbm, 376, rfl⟩
abbrev main_v277 : Ref sig .tc := ⟨.hbm, 377, rfl⟩
abbrev main_v278 : Ref sig .tc := ⟨.hbm, 378, rfl⟩
abbrev main_v279 : Ref sig .tc := ⟨.hbm, 379, rfl⟩
abbrev main_v280 : Ref sig .tc := ⟨.hbm, 380, rfl⟩
abbrev main_v281 : Ref sig .tc := ⟨.hbm, 381, rfl⟩
abbrev main_v282 : Ref sig .tc := ⟨.hbm, 382, rfl⟩
abbrev main_v283 : Ref sig .tc := ⟨.hbm, 383, rfl⟩

abbrev nD : Nat := 1
abbrev τ : Topo := Topo.v7x

variable {F : FTy → Type} [FloatOps F]
-- ==== Fwd.lean ====
abbrev S1x8192x1024 : Shape := ⟨3, ![1, 8192, 1024]⟩
abbrev S1x1024x5120 : Shape := ⟨3, ![1, 1024, 5120]⟩
abbrev S1x4x256x256 : Shape := ⟨4, ![1, 4, 256, 256]⟩
abbrev S1x1024 : Shape := ⟨2, ![1, 1024]⟩
abbrev S1x4x128x128 : Shape := ⟨4, ![1, 4, 128, 128]⟩
abbrev S1x4x128 : Shape := ⟨3, ![1, 4, 128]⟩
abbrev S4x128 : Shape := ⟨2, ![4, 128]⟩
abbrev S128x4 : Shape := ⟨2, ![128, 4]⟩
abbrev S128x4x256 : Shape := ⟨3, ![128, 4, 256]⟩
abbrev S128x1024 : Shape := ⟨2, ![128, 1024]⟩
abbrev S8192x1024 : Shape := ⟨2, ![8192, 1024]⟩
abbrev S1024x5120 : Shape := ⟨2, ![1024, 5120]⟩
abbrev S4x256x256 : Shape := ⟨3, ![4, 256, 256]⟩
abbrev S4x128x128 : Shape := ⟨3, ![4, 128, 128]⟩
abbrev S8192x4096 : Shape := ⟨2, ![8192, 4096]⟩
abbrev S8192x2048 : Shape := ⟨2, ![8192, 2048]⟩
abbrev S512x1024 : Shape := ⟨2, ![512, 1024]⟩
abbrev S512x4096 : Shape := ⟨2, ![512, 4096]⟩
abbrev S512x2048 : Shape := ⟨2, ![512, 2048]⟩
abbrev S528x1024 : Shape := ⟨2, ![528, 1024]⟩
abbrev S512x5120 : Shape := ⟨2, ![512, 5120]⟩
abbrev S16x1024 : Shape := ⟨2, ![16, 1024]⟩
abbrev S1024x1024 : Shape := ⟨2, ![1024, 1024]⟩
abbrev S512x256 : Shape := ⟨2, ![512, 256]⟩
abbrev S512x1 : Shape := ⟨2, ![512, 1]⟩
abbrev S1x256x256 : Shape := ⟨3, ![1, 256, 256]⟩
abbrev S256x256 : Shape := ⟨2, ![256, 256]⟩
abbrev S1x256 : Shape := ⟨2, ![1, 256]⟩
abbrev S128x128 : Shape := ⟨2, ![128, 128]⟩
abbrev S1x128x128 : Shape := ⟨3, ![1, 128, 128]⟩
abbrev S128x256 : Shape := ⟨2, ![128, 256]⟩
abbrev S128 : Shape := ⟨1, ![128]⟩
abbrev S128x1 : Shape := ⟨2, ![128, 1]⟩

abbrev nBuf : Space → Nat
  | .hbm => 22
  | .vmem => 19
  | .smem => 0
  | _ => 0

abbrev bufTy : (tb : Table) → Fin (tcTables nBuf tb) → BufTy
  | .hbm, ⟨0, _⟩ => ⟨S1x8192x1024, .f32⟩
  | .hbm, ⟨1, _⟩ => ⟨S1x1024x5120, .f32⟩
  | .hbm, ⟨2, _⟩ => ⟨S1x4x256x256, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x4x128x128, .f32⟩
  | .hbm, ⟨7, _⟩ => ⟨S1x4x128, .f32⟩
  | .hbm, ⟨8, _⟩ => ⟨S4x128, .f32⟩
  | .hbm, ⟨9, _⟩ => ⟨S128x4, .f32⟩
  | .hbm, ⟨10, _⟩ => ⟨S128x4x256, .f32⟩
  | .hbm, ⟨11, _⟩ => ⟨S128x1024, .f32⟩
  | .hbm, ⟨12, _⟩ => ⟨S8192x1024, .f32⟩
  | .hbm, ⟨13, _⟩ => ⟨S1024x5120, .f32⟩
  | .hbm, ⟨14, _⟩ => ⟨S1024x5120, .bf16⟩
  | .hbm, ⟨15, _⟩ => ⟨S4x256x256, .f32⟩
  | .hbm, ⟨16, _⟩ => ⟨S4x256x256, .bf16⟩
  | .hbm, ⟨17, _⟩ => ⟨S4x128x128, .f32⟩
  | .hbm, ⟨18, _⟩ => ⟨S8192x4096, .bf16⟩
  | .hbm, ⟨19, _⟩ => ⟨S8192x2048, .bf16⟩
  | .hbm, ⟨20, _⟩ => ⟨S8192x1024, .bf16⟩
  | .hbm, ⟨21, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1024x5120, .bf16⟩
  | .local _ .vmem, ⟨3, _⟩ => ⟨S4x256x256, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S4x128x128, .f32⟩
  | .local _ .vmem, ⟨8, _⟩ => ⟨S128x1024, .f32⟩
  | .local _ .vmem, ⟨9, _⟩ => ⟨S512x4096, .bf16⟩
  | .local _ .vmem, ⟨10, _⟩ => ⟨S512x4096, .bf16⟩
  | .local _ .vmem, ⟨11, _⟩ => ⟨S512x2048, .bf16⟩
  | .local _ .vmem, ⟨12, _⟩ => ⟨S512x2048, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S528x1024, .f32⟩
  | .local _ .vmem, ⟨18, _⟩ => ⟨S512x5120, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FwdRefIdeal.lean ====
abbrev S1x8192x1024 : Shape := ⟨3, ![1, 8192, 1024]⟩
abbrev S1x1024x5120 : Shape := ⟨3, ![1, 1024, 5120]⟩
abbrev S1x4x256x256 : Shape := ⟨4, ![1, 4, 256, 256]⟩
abbrev S1x1024 : Shape := ⟨2, ![1, 1024]⟩
abbrev S1x4x128x128 : Shape := ⟨4, ![1, 4, 128, 128]⟩
abbrev S1x4x128 : Shape := ⟨3, ![1, 4, 128]⟩
abbrev S1024x5120 : Shape := ⟨2, ![1024, 5120]⟩
abbrev S1x8192x5120 : Shape := ⟨3, ![1, 8192, 5120]⟩
abbrev S1x8192x2048 : Shape := ⟨3, ![1, 8192, 2048]⟩
abbrev S4x256x256 : Shape := ⟨3, ![4, 256, 256]⟩
abbrev S1024 : Shape := ⟨1, ![1024]⟩
abbrev S1x8192x4x256 : Shape := ⟨4, ![1, 8192, 4, 256]⟩
abbrev S_ : Shape := ⟨0, ![]⟩
abbrev S1x2x1x256 : Shape := ⟨4, ![1, 2, 1, 256]⟩
abbrev S1x8190x1x256 : Shape := ⟨4, ![1, 8190, 1, 256]⟩
abbrev S1x8192x1x256 : Shape := ⟨4, ![1, 8192, 1, 256]⟩
abbrev S1x4x1x256 : Shape := ⟨4, ![1, 4, 1, 256]⟩
abbrev S1x8188x1x256 : Shape := ⟨4, ![1, 8188, 1, 256]⟩
abbrev S1x8x1x256 : Shape := ⟨4, ![1, 8, 1, 256]⟩
abbrev S1x8184x1x256 : Shape := ⟨4, ![1, 8184, 1, 256]⟩
abbrev S1x16x1x256 : Shape := ⟨4, ![1, 16, 1, 256]⟩
abbrev S1x8176x1x256 : Shape := ⟨4, ![1, 8176, 1, 256]⟩
abbrev S4 : Shape := ⟨1, ![4]⟩
abbrev S8192 : Shape := ⟨1, ![8192]⟩
abbrev S8192x1 : Shape := ⟨2, ![8192, 1]⟩
abbrev S1x4 : Shape := ⟨2, ![1, 4]⟩
abbrev S8192x4 : Shape := ⟨2, ![8192, 4]⟩
abbrev S1x8192x4x1 : Shape := ⟨4, ![1, 8192, 4, 1]⟩
abbrev S4x256x1x8192 : Shape := ⟨4, ![4, 256, 1, 8192]⟩
abbrev S1x1x1024 : Shape := ⟨3, ![1, 1, 1024]⟩
abbrev S4x128x128 : Shape := ⟨3, ![4, 128, 128]⟩
abbrev S4x128 : Shape := ⟨2, ![4, 128]⟩
abbrev S4x256 : Shape := ⟨2, ![4, 256]⟩
abbrev S1x8192x4 : Shape := ⟨3, ![1, 8192, 4]⟩
abbrev S1x1x4x256 : Shape := ⟨4, ![1, 1, 4, 256]⟩
abbrev S1x64x128x4x256 : Shape := ⟨5, ![1, 64, 128, 4, 256]⟩
abbrev S128x128 : Shape := ⟨2, ![128, 128]⟩
abbrev S1x128x128 : Shape := ⟨3, ![1, 128, 128]⟩
abbrev S4x1x64x256x128 : Shape := ⟨5, ![4, 1, 64, 256, 128]⟩
abbrev S128x4 : Shape := ⟨2, ![128, 4]⟩
abbrev S1x1x128x4x1 : Shape := ⟨5, ![1, 1, 128, 4, 1]⟩
abbrev S1x8192x4096 : Shape := ⟨3, ![1, 8192, 4096]⟩
abbrev S8192x4096 : Shape := ⟨2, ![8192, 4096]⟩
abbrev S8192x2048 : Shape := ⟨2, ![8192, 2048]⟩
abbrev S8192x1024 : Shape := ⟨2, ![8192, 1024]⟩

abbrev nBuf : Space → Nat
  | .hbm => 217
  | .vmem => 0
  | .smem => 0
  | _ => 0

abbrev hbmTy0_0 (i : Nat) : BufTy := match i % 128 with
  | 0 => ⟨S1x8192x1024, .f32⟩
  | 1 => ⟨S1x1024x5120, .f32⟩
  | 2 => ⟨S1x4x256x256, .f32⟩
  | 3 => ⟨S1x1024, .f32⟩
  | 4 => ⟨S1x1024, .f32⟩
  | 5 => ⟨S1x1024, .f32⟩
  | 6 => ⟨S1x4x128x128, .f32⟩
  | 7 => ⟨S1x4x128, .f32⟩
  | 8 => ⟨S1024x5120, .f32⟩
  | 9 => ⟨S1x8192x5120, .f32⟩
  | 10 => ⟨S1x8192x1024, .f32⟩
  | 11 => ⟨S1x8192x1024, .f32⟩
  | 12 => ⟨S1x8192x1024, .f32⟩
  | 13 => ⟨S1x8192x2048, .f32⟩
  | 14 => ⟨S4x256x256, .f32⟩
  | 15 => ⟨S1024, .f32⟩
  | 16 => ⟨S1x8192x4x256, .f32⟩
  | 17 => ⟨S_, .f32⟩
  | 18 => ⟨S_, .f32⟩
  | 19 => ⟨S1x8192x4x256, .f32⟩
  | 20 => ⟨S_, .f32⟩
  | 21 => ⟨S1x2x1x256, .f32⟩
  | 22 => ⟨S1x8190x1x256, .f32⟩
  | 23 => ⟨S1x8192x1x256, .f32⟩
  | 24 => ⟨S_, .f32⟩
  | 25 => ⟨S1x4x1x256, .f32⟩
  | 26 => ⟨S1x8188x1x256, .f32⟩
  | 27 => ⟨S1x8192x1x256, .f32⟩
  | 28 => ⟨S_, .f32⟩
  | 29 => ⟨S1x8x1x256, .f32⟩
  | 30 => ⟨S1x8184x1x256, .f32⟩
  | 31 => ⟨S1x8192x1x256, .f32⟩
  | 32 => ⟨S_, .f32⟩
  | 33 => ⟨S1x16x1x256, .f32⟩
  | 34 => ⟨S1x8176x1x256, .f32⟩
  | 35 => ⟨S1x8192x1x256, .f32⟩
  | 36 => ⟨S1x8192x4x256, .f32⟩
  | 37 => ⟨S4, .i32⟩
  | 38 => ⟨S_, .i32⟩
  | 39 => ⟨S4, .i32⟩
  | 40 => ⟨S4, .i32⟩
  | 41 => ⟨S8192, .i32⟩
  | 42 => ⟨S8192x1, .i32⟩
  | 43 => ⟨S_, .i32⟩
  | 44 => ⟨S8192x1, .i32⟩
  | 45 => ⟨S8192x1, .i32⟩
  | 46 => ⟨S1x4, .i32⟩
  | 47 => ⟨S8192x4, .i32⟩
  | 48 => ⟨S8192x4, .i32⟩
  | 49 => ⟨S8192x4, .i32⟩
  | 50 => ⟨S8192x4, .f32⟩
  | 51 => ⟨S1x8192x4x1, .f32⟩
  | 52 => ⟨S1x8192x4x256, .f32⟩
  | 53 => ⟨S1x8192x4x256, .f32⟩
  | 54 => ⟨S1x8192x4x256, .f32⟩
  | 55 => ⟨S1x8192x4x256, .f32⟩
  | 56 => ⟨S4x256x1x8192, .f32⟩
  | 57 => ⟨S1x8192x4x256, .f32⟩
  | 58 => ⟨S1x8192x1024, .f32⟩
  | 59 => ⟨S1x1x1024, .f32⟩
  | 60 => ⟨S1x8192x1024, .f32⟩
  | 61 => ⟨S1x8192x1024, .f32⟩
  | 62 => ⟨S1024, .f32⟩
  | 63 => ⟨S1024, .f32⟩
  | 64 => ⟨S4x128x128, .f32⟩
  | 65 => ⟨S4x128, .f32⟩
  | 66 => ⟨S1x8192x1024, .f32⟩
  | 67 => ⟨S1x8192x1024, .f32⟩
  | 68 => ⟨S_, .f32⟩
  | 69 => ⟨S1x8192x1024, .f32⟩
  | 70 => ⟨S1x8192x1024, .f32⟩
  | 71 => ⟨S1x8192x1024, .f32⟩
  | 72 => ⟨S_, .f32⟩
  | 73 => ⟨S1x8192x1024, .f32⟩
  | 74 => ⟨S1x8192x1024, .f32⟩
  | 75 => ⟨S1x8192x1024, .f32⟩
  | 76 => ⟨S_, .f32⟩
  | 77 => ⟨S1x8192x1024, .f32⟩
  | 78 => ⟨S1x8192x1024, .f32⟩
  | 79 => ⟨S_, .f32⟩
  | 80 => ⟨S1x8192x1024, .f32⟩
  | 81 => ⟨S1x8192x1024, .f32⟩
  | 82 => ⟨S1x8192x1024, .f32⟩
  | 83 => ⟨S1x8192x1024, .f32⟩
  | 84 => ⟨S1x8192x1024, .f32⟩
  | 85 => ⟨S_, .f32⟩
  | 86 => ⟨S1x8192x1024, .f32⟩
  | 87 => ⟨S1x8192x1024, .f32⟩
  | 88 => ⟨S1x8192x1024, .f32⟩
  | 89 => ⟨S_, .f32⟩
  | 90 => ⟨S1x8192x1024, .f32⟩
  | 91 => ⟨S1x8192x1024, .f32⟩
  | 92 => ⟨S1x8192x1024, .f32⟩
  | 93 => ⟨S_, .f32⟩
  | 94 => ⟨S1x8192x1024, .f32⟩
  | 95 => ⟨S1x8192x1024, .f32⟩
  | 96 => ⟨S_, .f32⟩
  | 97 => ⟨S1x8192x1024, .f32⟩
  | 98 => ⟨S1x8192x1024, .f32⟩
  | 99 => ⟨S1x8192x1024, .f32⟩
  | 100 => ⟨S1x8192x4x256, .f32⟩
  | 101 => ⟨S4x256, .f32⟩
  | 102 => ⟨S4x256, .f32⟩
  | 103 => ⟨S_, .f32⟩
  | 104 => ⟨S1x8192x4, .f32⟩
  | 105 => ⟨S1x8192x4x1, .f32⟩
  | 106 => ⟨S_, .f32⟩
  | 107 => ⟨S1x8192x4x1, .f32⟩
  | 108 => ⟨S1x8192x4x1, .f32⟩
  | 109 => ⟨S1x8192x4x256, .f32⟩
  | 110 => ⟨S1x8192x4x256, .f32⟩
  | 111 => ⟨S1x8192x4x256, .f32⟩
  | 112 => ⟨S_, .f32⟩
  | 113 => ⟨S1x8192x4, .f32⟩
  | 114 => ⟨S1x8192x4x1, .f32⟩
  | 115 => ⟨S_, .f32⟩
  | 116 => ⟨S1x8192x4x1, .f32⟩
  | 117 => ⟨S1x8192x4x1, .f32⟩
  | 118 => ⟨S1x8192x4x256, .f32⟩
  | 119 => ⟨S1x8192x4x256, .f32⟩
  | 120 => ⟨S_, .f32⟩
  | 121 => ⟨S1x8192x4x1, .f32⟩
  | 122 => ⟨S1x8192x4x1, .f32⟩
  | 123 => ⟨S1x8192x4x1, .f32⟩
  | 124 => ⟨S1x8192x4x256, .f32⟩
  | 125 => ⟨S1x8192x4x256, .f32⟩
  | 126 => ⟨S1x1x4x256, .f32⟩
  | 127 => ⟨S1x8192x4x256, .f32⟩
  | _ => ⟨S1x8192x1024, .f32⟩

abbrev hbmTy0_1 (i : Nat) : BufTy := match i % 128 with
  | 0 => ⟨S1x8192x4x256, .f32⟩
  | 1 => ⟨S1x1x4x256, .f32⟩
  | 2 => ⟨S1x8192x4x256, .f32⟩
  | 3 => ⟨S1x8192x4x256, .f32⟩
  | 4 => ⟨S1x64x128x4x256, .f32⟩
  | 5 => ⟨S_, .i1⟩
  | 6 => ⟨S128x128, .i1⟩
  | 7 => ⟨S128x128, .i32⟩
  | 8 => ⟨S_, .i32⟩
  | 9 => ⟨S128x128, .i32⟩
  | 10 => ⟨S128x128, .i32⟩
  | 11 => ⟨S128x128, .i32⟩
  | 12 => ⟨S128x128, .i1⟩
  | 13 => ⟨S_, .i1⟩
  | 14 => ⟨S128x128, .i1⟩
  | 15 => ⟨S128x128, .i1⟩
  | 16 => ⟨S1x128x128, .i1⟩
  | 17 => ⟨S_, .f32⟩
  | 18 => ⟨S4x128x128, .f32⟩
  | 19 => ⟨S4x128x128, .i1⟩
  | 20 => ⟨S4x128x128, .f32⟩
  | 21 => ⟨S4x1x64x256x128, .f32⟩
  | 22 => ⟨S1x64x128x4x256, .f32⟩
  | 23 => ⟨S128x4, .f32⟩
  | 24 => ⟨S1x1x128x4x1, .f32⟩
  | 25 => ⟨S1x64x128x4x256, .f32⟩
  | 26 => ⟨S1x64x128x4x256, .f32⟩
  | 27 => ⟨S1x8192x1024, .f32⟩
  | 28 => ⟨S1x8192x1024, .f32⟩
  | 29 => ⟨S1x8192x2048, .f32⟩
  | 30 => ⟨S1x8192x2048, .f32⟩
  | 31 => ⟨S1x8192x2048, .f32⟩
  | 32 => ⟨S_, .f32⟩
  | 33 => ⟨S1x8192x2048, .f32⟩
  | 34 => ⟨S1x8192x2048, .f32⟩
  | 35 => ⟨S_, .f32⟩
  | 36 => ⟨S1x8192x2048, .f32⟩
  | 37 => ⟨S1x8192x2048, .f32⟩
  | 38 => ⟨S1x8192x2048, .f32⟩
  | 39 => ⟨S1x8192x2048, .f32⟩
  | 40 => ⟨S1x8192x4096, .f32⟩
  | 41 => ⟨S8192x4096, .f32⟩
  | 42 => ⟨S8192x4096, .bf16⟩
  | 43 => ⟨S8192x2048, .f32⟩
  | 44 => ⟨S8192x2048, .bf16⟩
  | 45 => ⟨S1x8192x4x256, .f32⟩
  | 46 => ⟨S_, .f32⟩
  | 47 => ⟨S_, .f32⟩
  | 48 => ⟨S1x8192x4x256, .f32⟩
  | 49 => ⟨S_, .f32⟩
  | 50 => ⟨S1x2x1x256, .f32⟩
  | 51 => ⟨S1x8190x1x256, .f32⟩
  | 52 => ⟨S1x8192x1x256, .f32⟩
  | 53 => ⟨S_, .f32⟩
  | 54 => ⟨S1x4x1x256, .f32⟩
  | 55 => ⟨S1x8188x1x256, .f32⟩
  | 56 => ⟨S1x8192x1x256, .f32⟩
  | 57 => ⟨S_, .f32⟩
  | 58 => ⟨S1x8x1x256, .f32⟩
  | 59 => ⟨S1x8184x1x256, .f32⟩
  | 60 => ⟨S1x8192x1x256, .f32⟩
  | 61 => ⟨S_, .f32⟩
  | 62 => ⟨S1x16x1x256, .f32⟩
  | 63 => ⟨S1x8176x1x256, .f32⟩
  | 64 => ⟨S1x8192x1x256, .f32⟩
  | 65 => ⟨S1x8192x4x256, .f32⟩
  | 66 => ⟨S4, .i32⟩
  | 67 => ⟨S_, .i32⟩
  | 68 => ⟨S4, .i32⟩
  | 69 => ⟨S4, .i32⟩
  | 70 => ⟨S8192, .i32⟩
  | 71 => ⟨S8192x1, .i32⟩
  | 72 => ⟨S_, .i32⟩
  | 73 => ⟨S8192x1, .i32⟩
  | 74 => ⟨S8192x1, .i32⟩
  | 75 => ⟨S1x4, .i32⟩
  | 76 => ⟨S8192x4, .i32⟩
  | 77 => ⟨S8192x4, .i32⟩
  | 78 => ⟨S8192x4, .i32⟩
  | 79 => ⟨S8192x4, .f32⟩
  | 80 => ⟨S1x8192x4x1, .f32⟩
  | 81 => ⟨S1x8192x4x256, .f32⟩
  | 82 => ⟨S1x8192x4x256, .f32⟩
  | 83 => ⟨S1x8192x4x256, .f32⟩
  | 84 => ⟨S1x8192x4x256, .f32⟩
  | 85 => ⟨S8192x1024, .f32⟩
  | 86 => ⟨S8192x1024, .bf16⟩
  | 87 => ⟨S8192x1024, .f32⟩
  | 88 => ⟨S8192x1024, .bf16⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_call0_cst : Ref sig .tc := ⟨.hbm, 17, rfl⟩
abbrev main_call0_call0_v0 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_4 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_5 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_6 : Ref sig .tc := ⟨.hbm, 76, rfl⟩
abbrev main_v58 : Ref sig .tc := ⟨.hbm, 77, rfl⟩
abbrev main_v59 : Ref sig .tc := ⟨.hbm, 78, rfl⟩
abbrev main_cst_7 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_8 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_9 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_10 : Ref sig .tc := ⟨.hbm, 93, rfl⟩
abbrev main_v71 : Ref sig .tc := ⟨.hbm, 94, rfl⟩
abbrev main_v72 : Ref sig .tc := ⟨.hbm, 95, rfl⟩
abbrev main_cst_11 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_12 : Ref sig .tc := ⟨.hbm, 103, rfl⟩
abbrev main_v79 : Ref sig .tc := ⟨.hbm, 104, rfl⟩
abbrev main_v80 : Ref sig .tc := ⟨.hbm, 105, rfl⟩
abbrev main_cst_13 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_14 : Ref sig .tc := ⟨.hbm, 112, rfl⟩
abbrev main_v86 : Ref sig .tc := ⟨.hbm, 113, rfl⟩
abbrev main_v87 : Ref sig .tc := ⟨.hbm, 114, rfl⟩
abbrev main_cst_15 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_16 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_c_17 : Ref sig .tc := ⟨.hbm, 133, rfl⟩
abbrev main_v104 : Ref sig .tc := ⟨.hbm, 134, rfl⟩
abbrev main_call1_v0 : Ref sig .tc := ⟨.hbm, 135, rfl⟩
abbrev main_call1_c : Ref sig .tc := ⟨.hbm, 136, rfl⟩
abbrev main_call1_v1 : Ref sig .tc := ⟨.hbm, 137, rfl⟩
abbrev main_call1_v2 : Ref sig .tc := ⟨.hbm, 138, rfl⟩
abbrev main_call1_v3 : Ref sig .tc := ⟨.hbm, 139, rfl⟩
abbrev main_call1_v4 : Ref sig .tc := ⟨.hbm, 140, rfl⟩
abbrev main_call1_c_0 : Ref sig .tc := ⟨.hbm, 141, rfl⟩
abbrev main_call1_v5 : Ref sig .tc := ⟨.hbm, 142, rfl⟩
abbrev main_v105 : Ref sig .tc := ⟨.hbm, 143, rfl⟩
abbrev main_v106 : Ref sig .tc := ⟨.hbm, 144, rfl⟩
abbrev main_cst_18 : Ref sig .tc := ⟨.hbm, 145, rfl⟩
abbrev main_v107 : Ref sig .tc := ⟨.hbm, 146, rfl⟩
abbrev main_call2_v0 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_call3_v0 : Ref sig .tc := ⟨.hbm, 158, rfl⟩
abbrev main_call3_v1 : Ref sig .tc := ⟨.hbm, 159, rfl⟩
abbrev main_call3_cst : Ref sig .tc := ⟨.hbm, 160, rfl⟩
abbrev main_call3_v2 : Ref sig .tc := ⟨.hbm, 161, rfl⟩
abbrev main_call3_v3 : Ref sig .tc := ⟨.hbm, 162, rfl⟩
abbrev main_call3_cst_0 : Ref sig .tc := ⟨.hbm, 163, rfl⟩
abbrev main_call3_v4 : Ref sig .tc := ⟨.hbm, 164, rfl⟩
abbrev main_call3_v5 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_call4_call0_cst : Ref sig .tc := ⟨.hbm, 174, rfl⟩
abbrev main_call4_call0_v0 : Ref sig .tc := ⟨.hbm, 175, rfl⟩
abbrev main_v126 : Ref sig .tc := ⟨.hbm, 176, rfl⟩
abbrev main_cst_19 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_cst_20 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_cst_21 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_cst_22 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_c_23 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_c_24 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩

abbrev nD : Nat := 1
abbrev τ : Topo := Topo.v7x

variable {F : FTy → Type} [FloatOps F]
-- ==== Grad.lean ====
abbrev S8192x2048 : Shape := ⟨2, ![8192, 2048]⟩
abbrev S8192x1024 : Shape := ⟨2, ![8192, 1024]⟩
abbrev S1x2048x1024 : Shape := ⟨3, ![1, 2048, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S8192x1024, .bf16⟩
  | .hbm, ⟨4, _⟩ => ⟨S1x2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1x2048x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradRefIdeal.lean ====
abbrev S8192x2048 : Shape := ⟨2, ![8192, 2048]⟩
abbrev S8192x1024 : Shape := ⟨2, ![8192, 1024]⟩
abbrev S_ : Shape := ⟨0, ![]⟩
abbrev S1x2048x1024 : Shape := ⟨3, ![1, 2048, 1024]⟩
abbrev S1x8192x2048 : Shape := ⟨3, ![1, 8192, 2048]⟩
abbrev S2048x1024 : Shape := ⟨2, ![2048, 1024]⟩
abbrev S1x8192x1024 : Shape := ⟨3, ![1, 8192, 1024]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S_, .f32⟩
  | .hbm, ⟨3, _⟩ => ⟨S1x2048x1024, .f32⟩
  | .hbm, ⟨4, _⟩ => ⟨S1x8192x2048, .f32⟩
  | .hbm, ⟨5, _⟩ => ⟨S2048x1024, .f32⟩
  | .hbm, ⟨6, _⟩ => ⟨S1x8192x1024, .f32⟩
  | .hbm, ⟨7, _⟩ => ⟨S1x8192x1024, .f32⟩
  | .hbm, ⟨8, _⟩ => ⟨S1024x2048, .f32⟩
  | .hbm, ⟨9, _⟩ => ⟨S2048x1024, .f32⟩
  | .hbm, ⟨10, _⟩ => ⟨S1x2048x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Norm.lean ====
/-
  Layer normalisation of one row over the reals: the mean, the centred row, the reciprocal deviation, the normalised row,
  and the gradient of the row in the two forms the programs spell: the kernel's closed form, and the chain of a centred
  row and its variance that differentiation of the reference produces. The two forms are one number.
-/
module

public import Idealize.ShloMosaic.PureOps.Ideal
public import Mathlib.Tactic.Ring
public import Mathlib.Tactic.Linarith
public import Mathlib.Tactic.Positivity
public import Mathlib.Tactic.FieldSimp

@[expose] public section

noncomputable section

namespace Cert.Norm

/-- The programs' offset under the root: the value of their 32-bit word for `1e-5`. -/
def eps : ℝ := 10995116 / 1099511627776

theorem eps_pos : 0 < eps := by norm_num [eps]

variable {n : ℕ}

/-- The mean of a row. -/
def mean (v : Fin n → ℝ) : ℝ := (∑ k, v k) * (1 / (n : ℝ))

/-- The row less its mean. -/
def cen (v : Fin n → ℝ) (d : Fin n) : ℝ := v d - mean v

/-- The variance of a row. -/
def var (v : Fin n → ℝ) : ℝ := mean fun k => cen v k * cen v k

/-- The reciprocal of the root of the variance and the offset. -/
def rstd (v : Fin n → ℝ) : ℝ := (Real.sqrt (var v + eps))⁻¹

/-- The normalised row. -/
def xhat (v : Fin n → ℝ) (d : Fin n) : ℝ := cen v d * rstd v

/-- The gradient of the row, `g` that of the normalised row, in closed form. -/
def back (v g : Fin n → ℝ) (d : Fin n) : ℝ :=
  rstd v * (g d - mean g - xhat v d * mean fun k => g k * xhat v k)

/-- The variance's part of the gradient, as the chain rule gives it: per element `2 · (x − mean)` times this. -/
def chainVar (v g : Fin n → ℝ) : ℝ :=
  (∑ k, cen v k * g k) * (-(1 / 2) * (rstd v * (1 / (var v + eps)))) * (1 / (n : ℝ))

/-- The gradient of the row as the chain rule gives it: the scaled row's part, the variance's, and the mean's. -/
def chain (v g : Fin n → ℝ) (d : Fin n) : ℝ :=
  g d * rstd v + chainVar v g * (2 * cen v d)
    + ((∑ k, -(g k * rstd v)) + ∑ k, -(chainVar v g * (2 * cen v k))) * (1 / (n : ℝ))

theorem var_nonneg (v : Fin n → ℝ) : 0 ≤ var v :=
  mul_nonneg (Finset.sum_nonneg fun k _ => mul_self_nonneg _) (by positivity)

theorem var_eps_pos (v : Fin n → ℝ) : 0 < var v + eps := add_pos_of_nonneg_of_pos (var_nonneg v) eps_pos

/-- The reciprocal deviation squared is the reciprocal of what stands under the root. -/
theorem rstd_sq (v : Fin n → ℝ) : rstd v * rstd v = 1 / (var v + eps) := by
  unfold rstd
  rw [← mul_inv, Real.mul_self_sqrt (var_eps_pos v).le, one_div]

/-- A centred row sums to zero. -/
theorem sum_cen [NeZero n] (v : Fin n → ℝ) : ∑ k, cen v k = 0 := by
  have hn : (n : ℝ) ≠ 0 := by exact_mod_cast NeZero.ne n
  simp only [cen, mean, Finset.sum_sub_distrib, Finset.sum_const, Finset.card_univ, Fintype.card_fin, nsmul_eq_mul]
  field_simp
  ring

/-- The two forms of the gradient are equal. -/
theorem chain_eq [NeZero n] (v g : Fin n → ℝ) (d : Fin n) : chain v g d = back v g d := by
  have h1 : ∑ k, -(g k * rstd v) = -(rstd v * ∑ k, g k) := by
    rw [Finset.sum_neg_distrib, Finset.mul_sum]
    exact congrArg Neg.neg (Finset.sum_congr rfl fun k _ => mul_comm _ _)
  have h2 : ∑ k, -(chainVar v g * (2 * cen v k)) = 0 := by
    have : ∀ k, -(chainVar v g * (2 * cen v k)) = -(chainVar v g * 2) * cen v k := fun k => by ring
    simp only [this, ← Finset.mul_sum, sum_cen, mul_zero]
  have h3 : ∑ k, g k * xhat v k = rstd v * ∑ k, cen v k * g k := by
    rw [Finset.mul_sum]
    exact Finset.sum_congr rfl fun k _ => by unfold xhat; ring
  unfold chain back
  rw [h1, h2]
  have h4 : mean (fun k => g k * xhat v k) = rstd v * (∑ k, cen v k * g k) * (1 / (n : ℝ)) := by rw [mean, h3]
  rw [h4]
  simp only [mean, chainVar, ← rstd_sq, xhat]
  ring

end Cert.Norm

end
-- ==== Proof.Lift.lean ====
/-
  From extended reals to reals: sums, quotients, roots and the logistic function of finite extended reals are finite, and
  are the reals' own; the float words the programs spell, as the reals they denote; and what a finiteness precondition says
  of an array.
-/
module

public import Idealize.ShloMosaic.Lib.Pointwise
public import Mathlib.Tactic.Ring
public import Mathlib.Tactic.Linarith
public import Mathlib.Tactic.Positivity

@[expose] public section

noncomputable section

namespace Cert.Lift

open Idealize.ShloMosaic

/-- A finite sum of reals, taken in the extended reals, is the real sum. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The reciprocal root of a positive real. -/
theorem rsqrt_pos {r : ℝ} (h : 0 < r) : Ideal.rsqrt (r : EReal) = ((Real.sqrt r)⁻¹ : ℝ) := by
  rw [Ideal.rsqrt_coe, if_neg h.le.not_gt, if_neg h.ne']

/-- The logistic function of an extended real, as a real: 0 at `-∞`, 1 at `+∞`. -/
def sig (z : EReal) : ℝ := (Ideal.logistic z).toReal

/-- The logistic function of any extended real is a real. -/
theorem logistic_eq (z : EReal) : Ideal.logistic z = (sig z : EReal) := by
  unfold sig
  induction z using EReal.rec with
  | bot => simp
  | coe r => rw [Ideal.logistic_coe, EReal.toReal_coe]
  | top => simp

theorem sig_coe (r : ℝ) : sig (r : EReal) = (1 + Real.exp (-r))⁻¹ := by
  unfold sig; rw [Ideal.logistic_coe, EReal.toReal_coe]

/-- The spelled-out quotient `1 / (1 + exp (-z))` is the logistic function. -/
theorem div_exp (z : EReal) : Ideal.div ((1 : ℝ) : EReal) (((1 : ℝ) : EReal) + Ideal.exp (-z)) = (sig z : EReal) := by
  rw [← logistic_eq]; simp only [EReal.coe_one]; rfl

/-- A quotient of reals by a nonzero real. -/
theorem div_coe {b : ℝ} (h : b ≠ 0) (a : ℝ) : Ideal.div (a : EReal) (b : EReal) = ((a * (1 / b) : ℝ) : EReal) := by
  rw [Ideal.div_coe h, ← EReal.coe_mul]

/-! ### The programs' float words -/

theorem word_one : Ideal.ofBits .f32 0x3F800000#32 = ((1 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_three : Ideal.ofBits .f32 0x40400000#32 = ((3 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_1024 : Ideal.ofBits .f32 0x44800000#32 = ((1024 : ℝ) : EReal) := by
  simp [Ideal.ofBits, Ideal.ieee, -EReal.coe_mul]; norm_num
theorem word_256 : Ideal.ofBits .f32 0x43800000#32 = ((256 : ℝ) : EReal) := by
  simp [Ideal.ofBits, Ideal.ieee, -EReal.coe_mul]; norm_num
theorem word_inv_1024 : Ideal.ofBits .f32 0x3A800000#32 = ((1 / 1024 : ℝ) : EReal) := by
  simp [Ideal.ofBits, Ideal.ieee, -EReal.coe_mul]; norm_num
theorem word_half_inv_1024 : Ideal.ofBits .f32 0x3A000000#32 = ((1 / 2048 : ℝ) : EReal) := by
  simp [Ideal.ofBits, Ideal.ieee, -EReal.coe_mul]; norm_num
/-- The word of `1e-5`. -/
theorem word_eps : Ideal.ofBits .f32 0x3727C5AC#32 = ((10995116 / 1099511627776 : ℝ) : EReal) := by
  simp [Ideal.ofBits, Ideal.ieee, -EReal.coe_mul]; norm_num
/-- The word of the fourth root of two. -/
theorem word_alpha : Ideal.ofBits .f32 0x3F9837F0#32 = ((9975792 / 8388608 : ℝ) : EReal) := by
  simp [Ideal.ofBits, Ideal.ieee, -EReal.coe_mul]; norm_num
theorem word_inf : Ideal.ofBits .f32 0x7F800000#32 = ⊤ := by
  simp [Ideal.ofBits, Ideal.ieee]

/-! ### Finiteness -/

/-- An extended real whose magnitude compares below infinity is a real. -/
theorem real_of_abs_lt {x : EReal} (h : Ideal.cmp .olt (max x (-x)) ⊤ = 1#1) : x = (x.toReal : EReal) := by
  induction x using EReal.rec with
  | bot => simp [Ideal.cmp] at h
  | coe r => rw [EReal.toReal_coe]
  | top => simp [Ideal.cmp] at h

/-- An array whose magnitudes all compare below infinity holds reals. -/
theorem real_of_finite {s : Shape} {X : FVec Ideal s .f32} {hb : (⟨0, ![]⟩ : Shape).BroadcastsInDim s ![]}
    (h : cmpf .olt (Host.absf X) (broadcastInDim s ![] hb (constant ⟨0, ![]⟩ .f32 0x7F800000#32)) = fun _ => 1#1)
    (i : s.Idx) : X i = ((X i).toReal : EReal) := by
  refine real_of_abs_lt ?_
  have h' := congrFun h i
  rw [← word_inf]
  exact h'

end Cert.Lift

end
-- ==== Proof.HeadModel.lean ====
/-
  What the step's head computes for one batch row of tokens, over the reals: the residual sum, its layer normalisation, the
  sigmoid-gated per-layer embedding, the error against the target, the loss, and the gradients of all of them.
-/
module

public import proofs.«01_k».proof.Proof.Norm
public import proofs.«01_k».proof.Proof.Lift

@[expose] public section

noncomputable section

namespace Cert.HeadModel

open Cert.Norm Cert.Lift

/-- The arguments of the head: activations, mixed activations, embedding and target by token; the output projection, the
    norm's scale and offset, the embedding's projection, the gate's weights, all real; the gate's bias, which may be infinite. -/
structure Args where
  x : Fin 8192 → Fin 1024 → ℝ
  y : Fin 8192 → Fin 2048 → ℝ
  p : Fin 8192 → Fin 256 → ℝ
  t : Fin 8192 → Fin 1024 → ℝ
  wo : Fin 2048 → Fin 1024 → ℝ
  lg : Fin 1024 → ℝ
  lb : Fin 1024 → ℝ
  pw : Fin 256 → Fin 1024 → ℝ
  gw : Fin 1024 → Fin 1024 → ℝ
  gb : Fin 1024 → EReal

/-- The residual's scale: the value of the programs' 32-bit word for the fourth root of two. -/
def alpha : ℝ := 9975792 / 8388608

namespace Args

variable (A : Args)

/-- The residual sum `α·x + y·W_out` of a token. -/
def res (r : Fin 8192) (d : Fin 1024) : ℝ := alpha * A.x r d + ∑ k, A.y r k * A.wo k d
/-- The normalised token, scaled and offset. -/
def xn (r : Fin 8192) (d : Fin 1024) : ℝ := xhat (A.res r) d * A.lg d + A.lb d
/-- The gate of a token: the logistic function of a product with the gate's weights and of its bias. -/
def gate (r : Fin 8192) (e : Fin 1024) : ℝ := sig (((∑ k, A.xn r k * A.gw k e : ℝ) : EReal) + A.gb e)
/-- The projected embedding of a token. -/
def pe (r : Fin 8192) (d : Fin 1024) : ℝ := ∑ k, A.p r k * A.pw k d
/-- The token's error against the target. -/
def err (r : Fin 8192) (d : Fin 1024) : ℝ := A.xn r d + A.gate r d * A.pe r d - A.t r d
/-- The gradient of the token's output: the mean squared error's. -/
def dout (r : Fin 8192) (d : Fin 1024) : ℝ := A.err r d * (1 / 1024)
/-- The gradient of the projected embedding. -/
def dpe (r : Fin 8192) (d : Fin 1024) : ℝ := A.dout r d * A.gate r d
/-- The gradient of the gate's argument. -/
def dgp (r : Fin 8192) (e : Fin 1024) : ℝ := A.dout r e * A.pe r e * A.gate r e * (1 - A.gate r e)
/-- The gradient of the normalised, scaled and offset token. -/
def dxn (r : Fin 8192) (d : Fin 1024) : ℝ := A.dout r d + ∑ k, A.dgp r k * A.gw d k
/-- The gradient of the normalised token. -/
def dxh (r : Fin 8192) (d : Fin 1024) : ℝ := A.dxn r d * A.lg d
/-- The gradient of the residual sum. -/
def dr (r : Fin 8192) (d : Fin 1024) : ℝ := back (A.res r) (A.dxh r) d
/-- The gradient of the mixed activations. -/
def dy (r : Fin 8192) (k : Fin 2048) : ℝ := ∑ d, A.dr r d * A.wo k d
/-- The squared error of a token. -/
def sq (r : Fin 8192) : ℝ := ∑ d, A.err r d * A.err r d

/-- The loss. -/
def loss : ℝ := 1 / 2048 * ∑ r, A.sq r
/-- The gradient of the norm's scale. -/
def dlg (d : Fin 1024) : ℝ := ∑ r, A.dxn r d * xhat (A.res r) d
/-- The gradient of the norm's offset. -/
def dlb (d : Fin 1024) : ℝ := ∑ r, A.dxn r d
/-- The gradient of the gate's bias. -/
def dgb (e : Fin 1024) : ℝ := ∑ r, A.dgp r e

end Args

end Cert.HeadModel

end
-- ==== Proof.HeadBlock.lean ====
/- What the head's kernel computes of one block of 256 rows: each intermediate value, at an index, as a real number of the
  arguments. The rows of the block are named by a map `R` into the 8192 rows of the arguments, so one lemma serves every block. -/
module

public import proofs.«01_k».proof.Proof.HeadModel
public import proofs.«01_k».proof.Proof.Gen.HeadIdeal.Skeleton
public import Idealize.ShloMosaic.Lib.Pointwise

@[expose] public section

set_option maxRecDepth 16384

noncomputable section

namespace Cert.HeadBlock

open Cert.HeadModel Cert.Lift Cert.Norm Cert.HeadIdeal Cert.HeadIdeal.Gen Idealize.ShloMosaic

/-! ### Twins

The two blocks of a tile are computed by the same functions under different names; the first block's are written by the second
block's here or the other way round. -/

theorem pay50_eq (GW : FVec Ideal S1024x1024 .bf16) : k0_pay50 (F := Ideal) GW = GW := by
  unfold k0_pay50
  exact shapeCast_self _ _

theorem pay13_eq : @k0_pay13 Ideal _ = k0_pay8 := rfl
theorem pay14_eq : @k0_pay14 Ideal _ = k0_pay9 := rfl
theorem pay15_eq : @k0_pay15 Ideal _ = k0_pay10 := rfl
theorem pay16_eq : @k0_pay16 Ideal _ = k0_pay11 := rfl
theorem pay17_eq : @k0_pay17 Ideal _ = k0_pay12 := rfl
theorem pay30_eq : @k0_pay30 Ideal _ = k0_pay20 := rfl
theorem pay31_eq : @k0_pay31 Ideal _ = k0_pay21 := rfl
theorem pay32_eq : @k0_pay32 Ideal _ = k0_pay22 := rfl
theorem pay42_eq (N : FVec Ideal S256x1024 .bf16) : k0_pay42 (F := Ideal) N = N := by
  unfold k0_pay42
  exact shapeCast_self _ _
theorem pay49_eq (N : FVec Ideal S256x1024 .bf16) : k0_pay49 (F := Ideal) N = N := by
  unfold k0_pay49
  exact shapeCast_self _ _
theorem pay3_eq : @k0_pay3 Ideal _ = k0_pay2 := rfl

section firstBlock

variable (V D XH T : FVec Ideal S256x1024 .f32) (N DG PW : FVec Ideal S256x1024 .bf16) (GW : FVec Ideal S1024x1024 .bf16)
  (C G Z : FVec Ideal S1x1024 .f32) (P : FVec Ideal S256x256 .f32) (RS : FVec Ideal S256x1 .f32)

theorem pay24_eq : k0_pay24 (F := Ideal) V N GW C P PW T = k0_pay34 (k0_pay22 V N GW C P PW T) := rfl
theorem pay25_eq : k0_pay25 (F := Ideal) V N GW C P PW T = k0_pay35 (k0_pay20 N GW C) (k0_pay22 V N GW C P PW T) := rfl
theorem pay43_eq : k0_pay43 (F := Ideal) D DG GW = k0_pay51 D DG (k0_pay50 GW) := rfl
theorem pay45_eq : k0_pay45 (F := Ideal) D Z DG GW = k0_pay52 D Z DG (k0_pay50 GW) := rfl
theorem pay46_eq : k0_pay46 (F := Ideal) RS XH D DG GW G = k0_pay53 RS XH D DG (k0_pay50 GW) G := rfl
theorem pay47_eq : k0_pay47 (F := Ideal) RS XH D DG GW G = k0_pay54 RS XH D DG (k0_pay50 GW) G := rfl
theorem pay48_eq : k0_pay48 (F := Ideal) RS XH D DG GW G = k0_pay55 RS XH D DG (k0_pay50 GW) G := rfl

end firstBlock

variable {A : Args} {R : Fin 256 → Fin 8192}
  {X T P0 : FVec Ideal S256x1024 .f32} {Y : FVec Ideal S256x2048 .bf16} {P : FVec Ideal S256x256 .f32}
  {W : FVec Ideal S2048x1024 .bf16} {G B C : FVec Ideal S1x1024 .f32} {PW : FVec Ideal S256x1024 .bf16} {GW : FVec Ideal S1024x1024 .bf16}

/-! ### The forward values -/

section forward

variable (hX : ∀ s d, X (ix2 s d) = (A.x (R s) d : EReal)) (hY : ∀ s k, Y (ix2 s k) = (A.y (R s) k : EReal))
  (hW : ∀ k d, W (ix2 k d) = (A.wo k d : EReal))
include hX hY hW

theorem cen_blk (s : Fin 256) (d : Fin 1024) : k0_pay8 (F := Ideal) X Y W (ix2 s d) = (cen (A.res (R s)) d : EReal) := by
  pointwise [k0_pay8]
  simp only [hX, hY, hW, word_alpha, word_1024, ← EReal.coe_mul, coe_sum, ← EReal.coe_add, ← EReal.coe_sub, div_coe (show (1024 : ℝ) ≠ 0 by norm_num)]
  exact congrArg _ (by simp [cen, mean, Args.res, alpha])

theorem rstd_blk (s : Fin 256) : k0_pay9 (F := Ideal) X Y W (ix2 s 0) = (rstd (A.res (R s)) : EReal) := by
  pointwise [k0_pay9]
  simp only [cen_blk hX hY hW, word_1024, word_eps, ← EReal.coe_mul, coe_sum, ← EReal.coe_add, div_coe (show (1024 : ℝ) ≠ 0 by norm_num)]
  exact (congrArg (fun z : ℝ => Ideal.rsqrt (z : EReal)) (show _ = var (A.res (R s)) + eps by simp [var, mean, eps])).trans (rsqrt_pos (var_eps_pos _))

theorem xhat_blk (s : Fin 256) (d : Fin 1024) : k0_pay10 (F := Ideal) X Y W (ix2 s d) = (xhat (A.res (R s)) d : EReal) := by
  pointwise [k0_pay10]
  simp only [cen_blk hX hY hW, rstd_blk hX hY hW, ← EReal.coe_mul]
  rfl

variable (hG : ∀ d, G (ix2 0 d) = (A.lg d : EReal)) (hB : ∀ d, B (ix2 0 d) = (A.lb d : EReal))
include hG hB

theorem xn_blk (s : Fin 256) (d : Fin 1024) : k0_pay11 (F := Ideal) X Y W G B (ix2 s d) = (A.xn (R s) d : EReal) := by
  pointwise [k0_pay11]
  simp only [xhat_blk hX hY hW, hG, hB, ← EReal.coe_mul, ← EReal.coe_add]
  rfl

theorem xn_store (s : Fin 256) (d : Fin 1024) : k0_pay12 (F := Ideal) X Y W G B (ix2 s d) = (A.xn (R s) d : EReal) := by
  pointwise [k0_pay12]
  exact xn_blk hX hY hW hG hB s d

end forward

/-! ### The gate, the projected embedding, the error -/

section gated

variable {N : FVec Ideal S256x1024 .bf16} {V : FVec Ideal S256x1024 .f32}
  (hN : ∀ s d, N (ix2 s d) = (A.xn (R s) d : EReal)) (hGW : ∀ d e, GW (ix2 d e) = (A.gw d e : EReal)) (hC : ∀ e, C (ix2 0 e) = A.gb e)
include hN hGW hC

theorem gate_blk (s : Fin 256) (e : Fin 1024) : k0_pay20 (F := Ideal) N GW C (ix2 s e) = (A.gate (R s) e : EReal) := by
  pointwise [k0_pay20]
  simp only [hN, hGW, hC, ← EReal.coe_mul, coe_sum, zero_sub, ← EReal.coe_one, div_exp]
  rfl

variable (hP : ∀ s k, P (ix2 s k) = (A.p (R s) k : EReal)) (hPW : ∀ k d, PW (ix2 k d) = (A.pw k d : EReal))

omit hN hGW hC in
include hP hPW in
theorem pe_blk (s : Fin 256) (d : Fin 1024) : k0_pay21 (F := Ideal) P PW (ix2 s d) = (A.pe (R s) d : EReal) := by
  pointwise [k0_pay21]
  simp only [hP, hPW, ← EReal.coe_mul, coe_sum]
  rfl

variable (hV : ∀ s d, V (ix2 s d) = (A.xn (R s) d : EReal)) (hT : ∀ s d, T (ix2 s d) = (A.t (R s) d : EReal))
include hP hPW hV hT

theorem err_blk (s : Fin 256) (d : Fin 1024) : k0_pay22 (F := Ideal) V N GW C P PW T (ix2 s d) = (A.err (R s) d : EReal) := by
  pointwise [k0_pay22]
  simp only [gate_blk hN hGW hC, pe_blk hP hPW, hV, hT, ← EReal.coe_mul, ← EReal.coe_add, ← EReal.coe_sub]
  rfl

theorem loss_blk (L : FVec Ideal S1x1 .f32) : k0_pay23 (F := Ideal) V L N GW C P PW T (ix2 0 0) = L (ix2 0 0) + ((∑ s, A.sq (R s) : ℝ) : EReal) := by
  pointwise [k0_pay23]
  simp only [err_blk hN hGW hC hP hPW hV hT, ← EReal.coe_mul, coe_sum]
  rfl

theorem sq_blk (s : Fin 256) (d : Fin 1024) : k0_pay33 (F := Ideal) V N GW C P PW T (ix3 0 s d) = (A.err (R s) d * A.err (R s) d : ℝ) := by
  pointwise [k0_pay33]
  change k0_pay22 (F := Ideal) V N GW C P PW T (ix2 s d) * k0_pay22 (F := Ideal) V N GW C P PW T (ix2 s d) = _
  simp only [err_blk hN hGW hC hP hPW hV hT, ← EReal.coe_mul]

end gated

/-! ### The gradients through the gate -/

theorem dout_pe_blk {V T : FVec Ideal S256x1024 .f32} {N : FVec Ideal S256x1024 .bf16}
    (hE : ∀ s d, k0_pay22 (F := Ideal) V N GW C P PW T (ix2 s d) = (A.err (R s) d : EReal))
    (hQ : ∀ s d, k0_pay21 (F := Ideal) P PW (ix2 s d) = (A.pe (R s) d : EReal)) (s : Fin 256) (d : Fin 1024) :
    k0_pay26 (F := Ideal) V N GW C P PW T (ix2 s d) = (A.dout (R s) d * A.pe (R s) d : ℝ) := by
  pointwise [k0_pay26]
  rw [pay24_eq]
  pointwise [k0_pay34]
  simp only [hE, hQ, word_inv_1024, ← EReal.coe_mul]
  rfl

section through

variable {D Q E DP : FVec Ideal S256x1024 .f32}
  (hE : ∀ s d, E (ix2 s d) = (A.err (R s) d : EReal)) (hD : ∀ s d, D (ix2 s d) = (A.gate (R s) d : EReal))
  (hQ : ∀ s d, Q (ix2 s d) = (A.pe (R s) d : EReal)) (hDP : ∀ s d, DP (ix2 s d) = (A.dout (R s) d * A.pe (R s) d : ℝ))

include hE in
theorem dout_blk (s : Fin 256) (d : Fin 1024) : k0_pay34 (F := Ideal) E (ix2 s d) = (A.dout (R s) d : EReal) := by
  pointwise [k0_pay34]
  simp only [hE, word_inv_1024, ← EReal.coe_mul]
  rfl

include hE hD in
theorem dpe_blk (s : Fin 256) (d : Fin 1024) : k0_pay35 (F := Ideal) D E (ix2 s d) = (A.dpe (R s) d : EReal) := by
  pointwise [k0_pay35]
  simp only [dout_blk hE, hD, ← EReal.coe_mul]
  rfl

include hD hDP in
theorem dgp_blk (s : Fin 256) (d : Fin 1024) : k0_pay27 (F := Ideal) D DP (ix2 s d) = (A.dgp (R s) d : EReal) := by
  pointwise [k0_pay27]
  simp only [hDP, hD, ← EReal.coe_one, ← EReal.coe_mul, ← EReal.coe_sub]
  rfl

include hD hDP in
theorem dgb_blk (Z : FVec Ideal S1x1024 .f32) (d : Fin 1024) : k0_pay28 (F := Ideal) Z D DP (ix2 0 d)
    = Z (ix2 0 d) + ((∑ s, A.dgp (R s) d : ℝ) : EReal) := by
  pointwise [k0_pay28]
  simp only [dgp_blk hD hDP, coe_sum]

include hE hD hQ in
theorem dgp_blk' (s : Fin 256) (d : Fin 1024) : k0_pay36 (F := Ideal) D Q E (ix2 s d) = (A.dgp (R s) d : EReal) := by
  pointwise [k0_pay36]
  simp only [dout_blk hE, hQ, hD, ← EReal.coe_one, ← EReal.coe_mul, ← EReal.coe_sub]
  rfl

include hE hD hQ in
theorem dgb_blk' (Z O : FVec Ideal S1x1024 .f32) (d : Fin 1024) : k0_pay39 (F := Ideal) Z D Q E O (ix2 0 d)
    = O (ix2 0 d) + (Z (ix2 0 d) + ((∑ s, A.dgp (R s) d : ℝ) : EReal)) := by
  pointwise [k0_pay39]
  simp only [dgp_blk' hE hD hQ, coe_sum]

end through

theorem loss_acc {L : FVec Ideal S1x1 .f32} {S : FVec Ideal S1x256x1024 .f32} (O : FVec Ideal S1x128 .f32) {a : ℝ} (hL : L (ix2 0 0) = (a : EReal))
    (hS : ∀ s d, S (ix3 0 s d) = (A.err (R s) d * A.err (R s) d : ℝ)) (l : Fin 128) :
    k0_pay38 (F := Ideal) L S O (ix2 0 l) = O (ix2 0 l) + ((1 / 2048 * (a + ∑ s, A.sq (R s)) : ℝ) : EReal) := by
  pointwise [k0_pay38]
  simp only [hS, hL, word_half_inv_1024, coe_sum, ← EReal.coe_add, ← EReal.coe_mul]
  rfl

/-! ### The gradient through the norm -/

section norm

variable {D XH : FVec Ideal S256x1024 .f32} {DG : FVec Ideal S256x1024 .bf16} {RS : FVec Ideal S256x1 .f32}
  (hD : ∀ s d, D (ix2 s d) = (A.dout (R s) d : EReal)) (hDG : ∀ s d, DG (ix2 s d) = (A.dgp (R s) d : EReal))
  (hGW : ∀ d e, GW (ix2 d e) = (A.gw d e : EReal))
include hD hDG hGW

theorem dxn_blk (s : Fin 256) (d : Fin 1024) : k0_pay51 (F := Ideal) D DG GW (ix2 s d) = (A.dxn (R s) d : EReal) := by
  pointwise [k0_pay51]
  simp only [hD, hDG, hGW, ← EReal.coe_mul, coe_sum, ← EReal.coe_add]
  rfl

theorem dlb_blk (Z : FVec Ideal S1x1024 .f32) (d : Fin 1024) : k0_pay52 (F := Ideal) D Z DG GW (ix2 0 d)
    = Z (ix2 0 d) + ((∑ s, A.dxn (R s) d : ℝ) : EReal) := by
  pointwise [k0_pay52]
  simp only [dxn_blk hD hDG hGW, coe_sum]

variable (hXH : ∀ s d, XH (ix2 s d) = (xhat (A.res (R s)) d : EReal))
include hXH

theorem dlg_blk (Z : FVec Ideal S1x1024 .f32) (d : Fin 1024) : k0_pay44 (F := Ideal) XH D Z DG GW (ix2 0 d)
    = Z (ix2 0 d) + ((∑ s, A.dxn (R s) d * xhat (A.res (R s)) d : ℝ) : EReal) := by
  pointwise [k0_pay44]
  rw [pay43_eq, pay50_eq]
  simp only [dxn_blk hD hDG hGW, hXH, ← EReal.coe_mul, coe_sum]

theorem dlg_blk' (Z O : FVec Ideal S1x1024 .f32) (d : Fin 1024) : k0_pay56 (F := Ideal) XH D Z DG GW O (ix2 0 d)
    = O (ix2 0 d) + (Z (ix2 0 d) + ((∑ s, A.dxn (R s) d * xhat (A.res (R s)) d : ℝ) : EReal)) := by
  pointwise [k0_pay56]
  simp only [dxn_blk hD hDG hGW, hXH, ← EReal.coe_mul, coe_sum]

variable (hRS : ∀ s, RS (ix2 s 0) = (rstd (A.res (R s)) : EReal)) (hG : ∀ d, G (ix2 0 d) = (A.lg d : EReal))
include hRS hG

theorem dr_blk (s : Fin 256) (d : Fin 1024) : k0_pay53 (F := Ideal) RS XH D DG GW G (ix2 s d) = (A.dr (R s) d : EReal) := by
  pointwise [k0_pay53]
  simp only [dxn_blk hD hDG hGW, hXH, hRS, hG, word_1024, ← EReal.coe_mul, coe_sum, ← EReal.coe_sub, div_coe (show (1024 : ℝ) ≠ 0 by norm_num)]
  exact congrArg _ (by simp [Args.dr, back, mean, Args.dxh])

theorem dxr_blk (s : Fin 256) (d : Fin 1024) : k0_pay54 (F := Ideal) RS XH D DG GW G (ix2 s d) = (alpha * A.dr (R s) d : ℝ) := by
  pointwise [k0_pay54]
  simp only [dr_blk hD hDG hGW hXH hRS hG, word_alpha, ← EReal.coe_mul]
  rfl

theorem dr_store (s : Fin 256) (d : Fin 1024) : k0_pay55 (F := Ideal) RS XH D DG GW G (ix2 s d) = (A.dr (R s) d : EReal) := by
  pointwise [k0_pay55]
  exact dr_blk hD hDG hGW hXH hRS hG s d

end norm

theorem dy_blk {N : FVec Ideal S256x1024 .bf16} (hN : ∀ s d, N (ix2 s d) = (A.dr (R s) d : EReal)) (hW : ∀ k d, W (ix2 k d) = (A.wo k d : EReal))
    (s : Fin 256) (k : Fin 2048) : k0_pay2 (F := Ideal) N W (ix2 s k) = (A.dy (R s) k : EReal) := by
  pointwise [k0_pay2]
  simp only [hN, hW, ← EReal.coe_mul, coe_sum]
  rfl

end Cert.HeadBlock

end
-- ==== Proof.HeadSub.lean ====
/- What the head's kernel stores of one block of 256 rows, as functions of the block's operands: the chain of the block's payloads
  in the order of the body, each read as the reals of the arguments. -/
module

public import proofs.«01_k».proof.Proof.HeadBlock

@[expose] public section

set_option maxRecDepth 16384

noncomputable section

namespace Cert.HeadSub

open Cert.HeadModel Cert.HeadBlock Cert.Lift Cert.Norm Cert.HeadIdeal Cert.HeadIdeal.Gen Idealize.ShloMosaic

/-- The operands that every block of rows shares hold the reals of `A`: projection, gate weights, embedding weights, the norm's scale
    and offset, the gate's bias. -/
structure Shared (A : Args) (W : FVec Ideal S2048x1024 .bf16) (GW : FVec Ideal S1024x1024 .bf16) (PW : FVec Ideal S256x1024 .bf16)
    (G B C : FVec Ideal S1x1024 .f32) : Prop where
  wo : ∀ k d, W (ix2 k d) = (A.wo k d : EReal)
  gw : ∀ d e, GW (ix2 d e) = (A.gw d e : EReal)
  pw : ∀ k d, PW (ix2 k d) = (A.pw k d : EReal)
  lg : ∀ d, G (ix2 0 d) = (A.lg d : EReal)
  lb : ∀ d, B (ix2 0 d) = (A.lb d : EReal)
  gb : ∀ e, C (ix2 0 e) = A.gb e

/-- A block's own operands hold the rows `R` of `A`: activations, mixed activations, embedding, target. -/
structure Rows (A : Args) (R : Fin 256 → Fin 8192) (X : FVec Ideal S256x1024 .f32) (Y : FVec Ideal S256x2048 .bf16)
    (P : FVec Ideal S256x256 .f32) (T : FVec Ideal S256x1024 .f32) : Prop where
  x : ∀ s d, X (ix2 s d) = (A.x (R s) d : EReal)
  y : ∀ s k, Y (ix2 s k) = (A.y (R s) k : EReal)
  p : ∀ s k, P (ix2 s k) = (A.p (R s) k : EReal)
  t : ∀ s d, T (ix2 s d) = (A.t (R s) d : EReal)

section block

variable {A : Args} {R : Fin 256 → Fin 8192} {W : FVec Ideal S2048x1024 .bf16} {GW : FVec Ideal S1024x1024 .bf16} {PW : FVec Ideal S256x1024 .bf16}
  {G B C : FVec Ideal S1x1024 .f32} {X : FVec Ideal S256x1024 .f32} {Y : FVec Ideal S256x2048 .bf16}
  {P : FVec Ideal S256x256 .f32} {T : FVec Ideal S256x1024 .f32}
  (S : Shared A W GW PW G B C) (H : Rows A R X Y P T)
include S H

theorem xn (s : Fin 256) (d : Fin 1024) : k0_pay11 (F := Ideal) X Y W G B (ix2 s d) = (A.xn (R s) d : EReal) :=
  xn_blk H.x H.y S.wo S.lg S.lb s d

theorem xn_out (s : Fin 256) (d : Fin 1024) : k0_pay12 (F := Ideal) X Y W G B (ix2 s d) = (A.xn (R s) d : EReal) :=
  xn_store H.x H.y S.wo S.lg S.lb s d

theorem gate (s : Fin 256) (e : Fin 1024) : k0_pay20 (F := Ideal) (k0_pay12 (F := Ideal) X Y W G B) GW C (ix2 s e) = (A.gate (R s) e : EReal) :=
  gate_blk (xn_out S H) S.gw S.gb s e

theorem pe (s : Fin 256) (d : Fin 1024) : k0_pay21 (F := Ideal) P PW (ix2 s d) = (A.pe (R s) d : EReal) :=
  pe_blk H.p S.pw s d

theorem err (s : Fin 256) (d : Fin 1024) :
    k0_pay22 (F := Ideal) (k0_pay11 (F := Ideal) X Y W G B) (k0_pay12 (F := Ideal) X Y W G B) GW C P PW T (ix2 s d) = (A.err (R s) d : EReal) :=
  err_blk (xn_out S H) S.gw S.gb H.p S.pw (xn S H) H.t s d

theorem dout (s : Fin 256) (d : Fin 1024) :
    k0_pay34 (F := Ideal) (k0_pay22 (F := Ideal) (k0_pay11 (F := Ideal) X Y W G B) (k0_pay12 (F := Ideal) X Y W G B) GW C P PW T) (ix2 s d) = (A.dout (R s) d : EReal) :=
  dout_blk (err S H) s d

theorem dpe (s : Fin 256) (d : Fin 1024) :
    k0_pay35 (F := Ideal) (k0_pay20 (F := Ideal) (k0_pay12 (F := Ideal) X Y W G B) GW C) (k0_pay22 (F := Ideal) (k0_pay11 (F := Ideal) X Y W G B) (k0_pay12 (F := Ideal) X Y W G B) GW C P PW T) (ix2 s d)
      = (A.dpe (R s) d : EReal) :=
  dpe_blk (err S H) (gate S H) s d

/-- The gradient of the gate's argument, as the first block of a tile computes it. -/
theorem dgp (s : Fin 256) (d : Fin 1024) :
    k0_pay29 (F := Ideal) (k0_pay20 (F := Ideal) (k0_pay12 (F := Ideal) X Y W G B) GW C) (k0_pay26 (F := Ideal) (k0_pay11 (F := Ideal) X Y W G B) (k0_pay12 (F := Ideal) X Y W G B) GW C P PW T) (ix2 s d)
      = (A.dgp (R s) d : EReal) := by
  pointwise [k0_pay29]
  exact dgp_blk (gate S H) (dout_pe_blk (err S H) (pe S H)) s d

/-- The gradient of the gate's argument, as the second block of a tile computes it. -/
theorem dgp' (s : Fin 256) (d : Fin 1024) :
    k0_pay37 (F := Ideal) (k0_pay20 (F := Ideal) (k0_pay12 (F := Ideal) X Y W G B) GW C) (k0_pay21 (F := Ideal) P PW)
      (k0_pay22 (F := Ideal) (k0_pay11 (F := Ideal) X Y W G B) (k0_pay12 (F := Ideal) X Y W G B) GW C P PW T) (ix2 s d) = (A.dgp (R s) d : EReal) := by
  pointwise [k0_pay37]
  exact dgp_blk' (err S H) (gate S H) (pe S H) s d

theorem dgb (Z : FVec Ideal S1x1024 .f32) (d : Fin 1024) :
    k0_pay28 (F := Ideal) Z (k0_pay20 (F := Ideal) (k0_pay12 (F := Ideal) X Y W G B) GW C) (k0_pay26 (F := Ideal) (k0_pay11 (F := Ideal) X Y W G B) (k0_pay12 (F := Ideal) X Y W G B) GW C P PW T) (ix2 0 d)
      = Z (ix2 0 d) + ((∑ s, A.dgp (R s) d : ℝ) : EReal) :=
  dgb_blk (gate S H) (dout_pe_blk (err S H) (pe S H)) Z d

theorem dgb' (Z O : FVec Ideal S1x1024 .f32) (d : Fin 1024) :
    k0_pay39 (F := Ideal) Z (k0_pay20 (F := Ideal) (k0_pay12 (F := Ideal) X Y W G B) GW C) (k0_pay21 (F := Ideal) P PW)
      (k0_pay22 (F := Ideal) (k0_pay11 (F := Ideal) X Y W G B) (k0_pay12 (F := Ideal) X Y W G B) GW C P PW T) O (ix2 0 d)
      = O (ix2 0 d) + (Z (ix2 0 d) + ((∑ s, A.dgp (R s) d : ℝ) : EReal)) :=
  dgb_blk' (err S H) (gate S H) (pe S H) Z O d

theorem loss (L : FVec Ideal S1x1 .f32) : k0_pay23 (F := Ideal) (k0_pay11 (F := Ideal) X Y W G B) L (k0_pay12 (F := Ideal) X Y W G B) GW C P PW T (ix2 0 0)
    = L (ix2 0 0) + ((∑ s, A.sq (R s) : ℝ) : EReal) :=
  loss_blk (xn_out S H) S.gw S.gb H.p S.pw (xn S H) H.t L

theorem sq (s : Fin 256) (d : Fin 1024) : k0_pay33 (F := Ideal) (k0_pay11 (F := Ideal) X Y W G B) (k0_pay12 (F := Ideal) X Y W G B) GW C P PW T (ix3 0 s d)
    = (A.err (R s) d * A.err (R s) d : ℝ) :=
  sq_blk (xn_out S H) S.gw S.gb H.p S.pw (xn S H) H.t s d

/-! ### After the gradient of the gate's argument -/

variable {D : FVec Ideal S256x1024 .f32} {DG : FVec Ideal S256x1024 .bf16}
  (hD : ∀ s d, D (ix2 s d) = (A.dout (R s) d : EReal)) (hDG : ∀ s d, DG (ix2 s d) = (A.dgp (R s) d : EReal))
include hD hDG

omit H in
theorem dlb (Z : FVec Ideal S1x1024 .f32) (d : Fin 1024) :
    k0_pay52 (F := Ideal) D Z DG GW (ix2 0 d) = Z (ix2 0 d) + ((∑ s, A.dxn (R s) d : ℝ) : EReal) :=
  dlb_blk hD hDG S.gw Z d

theorem dlg (Z : FVec Ideal S1x1024 .f32) (d : Fin 1024) :
    k0_pay44 (F := Ideal) (k0_pay10 (F := Ideal) X Y W) D Z DG GW (ix2 0 d) = Z (ix2 0 d) + ((∑ s, A.dxn (R s) d * xhat (A.res (R s)) d : ℝ) : EReal) :=
  dlg_blk hD hDG S.gw (xhat_blk H.x H.y S.wo) Z d

theorem dlg' (Z O : FVec Ideal S1x1024 .f32) (d : Fin 1024) :
    k0_pay56 (F := Ideal) (k0_pay10 (F := Ideal) X Y W) D Z DG GW O (ix2 0 d)
      = O (ix2 0 d) + (Z (ix2 0 d) + ((∑ s, A.dxn (R s) d * xhat (A.res (R s)) d : ℝ) : EReal)) :=
  dlg_blk' hD hDG S.gw (xhat_blk H.x H.y S.wo) Z O d

theorem dxr (s : Fin 256) (d : Fin 1024) :
    k0_pay54 (F := Ideal) (k0_pay9 (F := Ideal) X Y W) (k0_pay10 (F := Ideal) X Y W) D DG GW G (ix2 s d) = (alpha * A.dr (R s) d : ℝ) :=
  dxr_blk hD hDG S.gw (xhat_blk H.x H.y S.wo) (rstd_blk H.x H.y S.wo) S.lg s d

theorem dr (s : Fin 256) (d : Fin 1024) :
    k0_pay55 (F := Ideal) (k0_pay9 (F := Ideal) X Y W) (k0_pay10 (F := Ideal) X Y W) D DG GW G (ix2 s d) = (A.dr (R s) d : EReal) :=
  dr_store hD hDG S.gw (xhat_blk H.x H.y S.wo) (rstd_blk H.x H.y S.wo) S.lg s d

theorem dy (s : Fin 256) (k : Fin 2048) :
    k0_pay2 (F := Ideal) (k0_pay55 (F := Ideal) (k0_pay9 (F := Ideal) X Y W) (k0_pay10 (F := Ideal) X Y W) D DG GW G) W (ix2 s k) = (A.dy (R s) k : EReal) :=
  dy_blk (dr S H hD hDG) S.wo s k

end block

/-! ### A tile: two blocks, added onto what the tile before left -/

section tile

variable {A : Args} {R₁ R₂ : Fin 256 → Fin 8192} {W : FVec Ideal S2048x1024 .bf16} {GW : FVec Ideal S1024x1024 .bf16} {PW : FVec Ideal S256x1024 .bf16}
  {G B C : FVec Ideal S1x1024 .f32} {X1 X2 : FVec Ideal S256x1024 .f32} {Y1 Y2 : FVec Ideal S256x2048 .bf16}
  {P1 P2 : FVec Ideal S256x256 .f32} {T1 T2 : FVec Ideal S256x1024 .f32}
  (S : Shared A W GW PW G B C) (H₁ : Rows A R₁ X1 Y1 P1 T1) (H₂ : Rows A R₂ X2 Y2 P2 T2)
include S H₁ H₂

theorem dgb_tile (O : FVec Ideal S1x1024 .f32) (d : Fin 1024) :
    k0_pay39 (F := Ideal) (k0_pay28 (F := Ideal) k0_pay19 (k0_pay20 (F := Ideal) (k0_pay12 (F := Ideal) X1 Y1 W G B) GW C) (k0_pay26 (F := Ideal) (k0_pay11 (F := Ideal) X1 Y1 W G B) (k0_pay12 (F := Ideal) X1 Y1 W G B) GW C P1 PW T1)) (k0_pay20 (F := Ideal) (k0_pay12 (F := Ideal) X2 Y2 W G B) GW C) (k0_pay21 (F := Ideal) P2 PW) (k0_pay22 (F := Ideal) (k0_pay11 (F := Ideal) X2 Y2 W G B) (k0_pay12 (F := Ideal) X2 Y2 W G B) GW C P2 PW T2) O (ix2 0 d)
      = O (ix2 0 d) + (((∑ s, A.dgp (R₁ s) d) + ∑ s, A.dgp (R₂ s) d : ℝ) : EReal) := by
  refine (dgb' S H₂ _ O d).trans (congrArg _ ?_)
  rw [dgb S H₁, EReal.coe_add, show k0_pay19 (F := Ideal) (ix2 0 d) = 0 by pointwise [k0_pay19], zero_add]

theorem loss_tile (O : FVec Ideal S1x128 .f32) (l : Fin 128) :
    k0_pay38 (F := Ideal) (k0_pay23 (F := Ideal) (k0_pay11 (F := Ideal) X1 Y1 W G B) k0_pay18 (k0_pay12 (F := Ideal) X1 Y1 W G B) GW C P1 PW T1) (k0_pay33 (F := Ideal) (k0_pay11 (F := Ideal) X2 Y2 W G B) (k0_pay12 (F := Ideal) X2 Y2 W G B) GW C P2 PW T2) O (ix2 0 l)
      = O (ix2 0 l) + (((∑ s, 1 / 2048 * A.sq (R₁ s)) + ∑ s, 1 / 2048 * A.sq (R₂ s) : ℝ) : EReal) := by
  refine (loss_acc O (a := ∑ s, A.sq (R₁ s)) ?_ (sq S H₂) l).trans (congrArg _ (congrArg _ ?_))
  · rw [loss S H₁, show k0_pay18 (F := Ideal) (ix2 0 0) = 0 by pointwise [k0_pay18], zero_add]
  · rw [mul_add, Finset.mul_sum, Finset.mul_sum]

theorem dlg_tile (O : FVec Ideal S1x1024 .f32) (d : Fin 1024) :
    k0_pay56 (F := Ideal) (k0_pay10 (F := Ideal) X2 Y2 W) (k0_pay34 (F := Ideal) (k0_pay22 (F := Ideal) (k0_pay11 (F := Ideal) X2 Y2 W G B) (k0_pay12 (F := Ideal) X2 Y2 W G B) GW C P2 PW T2)) (k0_pay44 (F := Ideal) (k0_pay10 (F := Ideal) X1 Y1 W) (k0_pay34 (F := Ideal) (k0_pay22 (F := Ideal) (k0_pay11 (F := Ideal) X1 Y1 W G B) (k0_pay12 (F := Ideal) X1 Y1 W G B) GW C P1 PW T1)) k0_pay40 (k0_pay29 (F := Ideal) (k0_pay20 (F := Ideal) (k0_pay12 (F := Ideal) X1 Y1 W G B) GW C) (k0_pay26 (F := Ideal) (k0_pay11 (F := Ideal) X1 Y1 W G B) (k0_pay12 (F := Ideal) X1 Y1 W G B) GW C P1 PW T1)) GW) (k0_pay37 (F := Ideal) (k0_pay20 (F := Ideal) (k0_pay12 (F := Ideal) X2 Y2 W G B) GW C) (k0_pay21 (F := Ideal) P2 PW) (k0_pay22 (F := Ideal) (k0_pay11 (F := Ideal) X2 Y2 W G B) (k0_pay12 (F := Ideal) X2 Y2 W G B) GW C P2 PW T2)) GW O (ix2 0 d)
      = O (ix2 0 d) + (((∑ s, A.dxn (R₁ s) d * xhat (A.res (R₁ s)) d) + ∑ s, A.dxn (R₂ s) d * xhat (A.res (R₂ s)) d : ℝ) : EReal) := by
  refine (dlg' S H₂ (dout S H₂) (dgp' S H₂) _ O d).trans (congrArg _ ?_)
  rw [dlg S H₁ (dout S H₁) (dgp S H₁), EReal.coe_add, show k0_pay40 (F := Ideal) (ix2 0 d) = 0 by pointwise [k0_pay40], zero_add]

theorem dlb_tile (O : FVec Ideal S1x1024 .f32) (d : Fin 1024) :
    k0_pay1 (F := Ideal) (k0_pay52 (F := Ideal) (k0_pay34 (F := Ideal) (k0_pay22 (F := Ideal) (k0_pay11 (F := Ideal) X2 Y2 W G B) (k0_pay12 (F := Ideal) X2 Y2 W G B) GW C P2 PW T2)) (k0_pay52 (F := Ideal) (k0_pay34 (F := Ideal) (k0_pay22 (F := Ideal) (k0_pay11 (F := Ideal) X1 Y1 W G B) (k0_pay12 (F := Ideal) X1 Y1 W G B) GW C P1 PW T1)) k0_pay41 (k0_pay29 (F := Ideal) (k0_pay20 (F := Ideal) (k0_pay12 (F := Ideal) X1 Y1 W G B) GW C) (k0_pay26 (F := Ideal) (k0_pay11 (F := Ideal) X1 Y1 W G B) (k0_pay12 (F := Ideal) X1 Y1 W G B) GW C P1 PW T1)) GW) (k0_pay37 (F := Ideal) (k0_pay20 (F := Ideal) (k0_pay12 (F := Ideal) X2 Y2 W G B) GW C) (k0_pay21 (F := Ideal) P2 PW) (k0_pay22 (F := Ideal) (k0_pay11 (F := Ideal) X2 Y2 W G B) (k0_pay12 (F := Ideal) X2 Y2 W G B) GW C P2 PW T2)) GW) O (ix2 0 d)
      = O (ix2 0 d) + (((∑ s, A.dxn (R₁ s) d) + ∑ s, A.dxn (R₂ s) d : ℝ) : EReal) := by
  pointwise [k0_pay1]
  rw [dlb S (dout S H₂) (dgp' S H₂), dlb S (dout S H₁) (dgp S H₁), EReal.coe_add, show k0_pay41 (F := Ideal) (ix2 0 d) = 0 by pointwise [k0_pay41], zero_add]

end tile

end Cert.HeadSub

end
-- ==== Proof.HeadArgs.lean ====
/-
  The arrays the head is given, and the reals they hold: what a finiteness precondition says of each argument, gathered
  once for the kernel and for the reference.
-/
module

public import proofs.«01_k».proof.Proof.HeadModel

@[expose] public section

noncomputable section

namespace Cert.HeadModel

open Idealize.ShloMosaic

/-- The argument arrays, read as extended reals, hold the reals of `A` (the gate's bias: its extended reals). -/
structure Holds (A : Args) (x0 : FVec Ideal ⟨3, ![1, 8192, 1024]⟩ .f32) (x1 : FVec Ideal ⟨2, ![8192, 2048]⟩ .f32)
    (x2 : FVec Ideal ⟨4, ![1, 1, 8192, 256]⟩ .f32) (x3 : FVec Ideal ⟨3, ![1, 8192, 1024]⟩ .f32)
    (x4 : FVec Ideal ⟨3, ![1, 2048, 1024]⟩ .f32) (x5 x6 : FVec Ideal ⟨2, ![1, 1024]⟩ .f32)
    (x7 : FVec Ideal ⟨3, ![1, 256, 1024]⟩ .f32) (x8 : FVec Ideal ⟨3, ![1, 1024, 1024]⟩ .f32)
    (x9 : FVec Ideal ⟨2, ![1, 1024]⟩ .f32) : Prop where
  x : ∀ r d, x0 (ix3 0 r d) = (A.x r d : EReal)
  y : ∀ r k, x1 (ix2 r k) = (A.y r k : EReal)
  p : ∀ r k, x2 (ix4 0 0 r k) = (A.p r k : EReal)
  t : ∀ r d, x3 (ix3 0 r d) = (A.t r d : EReal)
  wo : ∀ k d, x4 (ix3 0 k d) = (A.wo k d : EReal)
  lg : ∀ d, x5 (ix2 0 d) = (A.lg d : EReal)
  lb : ∀ d, x6 (ix2 0 d) = (A.lb d : EReal)
  pw : ∀ k d, x7 (ix3 0 k d) = (A.pw k d : EReal)
  gw : ∀ d e, x8 (ix3 0 d e) = (A.gw d e : EReal)
  gb : ∀ e, x9 (ix2 0 e) = A.gb e

end Cert.HeadModel

end
-- ==== Proof.HeadTile.lean ====
/- Which rows of the arguments a tile of the head's kernel holds, half by half. -/
module

public import proofs.«01_k».proof.Proof.HeadSub
public import proofs.«01_k».proof.Proof.HeadArgs
public import proofs.«01_k».proof.Proof.Gen.HeadIdeal.Value
public import Idealize.ShloMosaic.Lib.Pipeline.ValueKit

@[expose] public section

set_option maxRecDepth 16384

noncomputable section

namespace Cert.HeadTile

open Cert.HeadModel Cert.HeadBlock Cert.HeadSub Cert.Lift Cert.Norm Cert.HeadIdeal Cert.HeadIdeal.Gen Idealize.ShloMosaic Idealize.ShloMosaic.TcCoe Idealize.ShloMosaic.Tactic
open Idealize.SL.Sem

variable (m : (ℓ : Loc nD τ sig) → Buf (Elt Ideal) ℓ) (c : Dev nD)

/-- Which block of its array each window holds at a grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![t.val, 0] ∧ win0_11.index t = ![t.val, 0] ∧ win0_12.index t = ![t.val, 0]
    ∧ win0_13.index t = ![t.val, 0] ∧ win0_14.index t = ![t.val, 0] ∧ win0_15.index t = ![t.val, 0] :=
  (by decide +kernel : ∀ t : Fin grid0.N, _)

/-- The arguments of one device hold the reals of `A`. -/
abbrev Given (A : Args) : Prop :=
  Holds A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- Row `256·k + s` of tile `t`. -/
def row (t : Fin cfg0.N) (k : Fin 2) (s : Fin 256) : Fin 8192 :=
  ⟨512 * t.val + (256 * k.val + s.val), by have := t.isLt; have : cfg0.N = 16 := N_0; omega⟩

variable {A : Args} (H : Given m c A)
include H

theorem shared (t : Fin cfg0.N) : Shared A (iblk m c 4 t) (iblk m c 5 t) (iblk m c 6 t) (iblk m c 7 t) (iblk m c 8 t) (iblk m c 9 t) where
  wo k d := by
    rw [← H.wo k d]
    blk_point [iblk, V, idx t]
  gw k d := by
    rw [← H.gw k d]
    blk_point [iblk, V, idx t]
  pw k d := by
    rw [← H.pw k d]
    blk_point [iblk, V, idx t]
  lg d := by
    rw [← H.lg d]
    blk_point [iblk, V, idx t]
  lb d := by
    rw [← H.lb d]
    blk_point [iblk, V, idx t]
  gb d := by
    rw [← H.gb d]
    blk_point [iblk, V, idx t]

/-- The first half of a tile's blocks holds its first 256 rows. -/
theorem lo (t : Fin cfg0.N) : Rows A (row t 0) (View.ld (iblk m c 0 t) (Rect.unit (s := S512x1024) ![0, 0] S256x1024.size inb_S512x1024_S256x1024_0_0))
    (View.ld (iblk m c 1 t) (Rect.unit (s := S512x2048) ![0, 0] S256x2048.size inb_S512x2048_S256x2048_0_0))
    (View.ld (iblk m c 2 t) (Rect.unit (s := S512x256) ![0, 0] S256x256.size inb_S512x256_S256x256_0_0))
    (View.ld (iblk m c 3 t) (Rect.unit (s := S512x1024) ![0, 0] S256x1024.size inb_S512x1024_S256x1024_0_0)) where
  x s d := by
    rw [← H.x (row t 0 s) d]
    pointwise
    blk_point [iblk, V, idx t, row]
  y s d := by
    rw [← H.y (row t 0 s) d]
    pointwise
    blk_point [iblk, V, idx t, row]
  p s d := by
    rw [← H.p (row t 0 s) d]
    pointwise
    blk_point [iblk, V, idx t, row]
  t s d := by
    rw [← H.t (row t 0 s) d]
    pointwise
    blk_point [iblk, V, idx t, row]

/-- The second half of a tile's blocks holds its last 256 rows. -/
theorem hi (t : Fin cfg0.N) : Rows A (row t 1) (View.ld (iblk m c 0 t) (Rect.unit (s := S512x1024) ![256, 0] S256x1024.size inb_S512x1024_S256x1024_256_0))
    (View.ld (iblk m c 1 t) (Rect.unit (s := S512x2048) ![256, 0] S256x2048.size inb_S512x2048_S256x2048_256_0))
    (View.ld (iblk m c 2 t) (Rect.unit (s := S512x256) ![256, 0] S256x256.size inb_S512x256_S256x256_256_0))
    (View.ld (iblk m c 3 t) (Rect.unit (s := S512x1024) ![256, 0] S256x1024.size inb_S512x1024_S256x1024_256_0)) where
  x s d := by
    rw [← H.x (row t 1 s) d]
    pointwise
    blk_point [iblk, V, idx t, row]
  y s d := by
    rw [← H.y (row t 1 s) d]
    pointwise
    blk_point [iblk, V, idx t, row]
  p s d := by
    rw [← H.p (row t 1 s) d]
    pointwise
    blk_point [iblk, V, idx t, row]
  t s d := by
    rw [← H.t (row t 1 s) d]
    pointwise
    blk_point [iblk, V, idx t, row]

end Cert.HeadTile

end
-- ==== Proof.HeadOut.lean ====
module

public import proofs.«01_k».proof.Proof.HeadTile
public import Idealize.ShloMosaic.Lib.Pipeline.ValueKit
public import Idealize.ShloMosaic.Lib.Pipeline.ReadBack
public import Idealize.ShloMosaic.Lib.Claim

@[expose] public section

set_option maxRecDepth 16384

noncomputable section

namespace Cert.HeadOut

open Cert.HeadTile Cert.HeadModel Cert.HeadBlock Cert.HeadSub Cert.Lift Cert.Norm Cert.HeadIdeal Cert.HeadIdeal.Gen Idealize.ShloMosaic Idealize.ShloMosaic.TcCoe Idealize.ShloMosaic.Tactic
open Idealize.SL.Sem

variable (m : (ℓ : Loc nD τ sig) → Buf (Elt Ideal) ℓ) (c : Dev nD) {A : Args} (H : Given m c A)

/-- Row `r` of tile `t`. -/
def rowOf (t : Fin cfg0.N) (r : Fin 512) : Fin 8192 :=
  ⟨t.val * 512 + r.val, by have := t.isLt; have : cfg0.N = 16 := N_0; omega⟩

theorem half_eq {n : ℕ} {φ : FTy} {Z : FVec Ideal ⟨2, ![256, n]⟩ φ} (f : Fin 8192 → Fin n → EReal) {t : Fin cfg0.N} {k : Fin 2}
    (hZ : ∀ s d, Z (ix2 s d) = f (row t k s) d) (x : Shape.Idx ⟨2, ![256, n]⟩) (y : Shape.Idx ⟨2, ![512, n]⟩)
    (h0 : (y 0 : Fin 512).val = 256 * k.val + (x 0 : Fin 256).val) (h1 : (y 1 : Fin n).val = (x 1 : Fin n).val) :
    Z x = f (rowOf t (y 0)) (y 1) := by
  have e0 : rowOf t (y 0) = row t k (x 0) := Fin.ext (by simp only [rowOf, row]; omega)
  have e1 : (y 1 : Fin n) = x 1 := Fin.ext h1
  rw [e0, e1]
  exact (congrArg Z (eq_ix2 x)).trans (hZ (x 0) (x 1))

include H

/-- A tile leaves the gradient of the mixed activations, row by row. -/
theorem dy_tile (t : Fin cfg0.N) (y : S512x2048.Idx) :
    (outsAt0 m c t.val t.isLt).1 y = (fun r d => ((A.dy r d : ℝ) : EReal)) (rowOf t (y 0)) (y 1) := by
  rcases em (t.val % 16 = 0) with h | h
  on_goal 1 => rw [outsAt0_A m c t h]
  on_goal 2 => rw [outsAt0_B m c t h]
  all_goals
    frame_out
    simp (disch := decide) only [View.readCov_skip, View.readCov_cons_toLoadRect, pay3_eq, pay13_eq, pay14_eq, pay15_eq, pay16_eq, pay17_eq,
      pay24_eq, pay25_eq, pay30_eq, pay31_eq, pay32_eq, pay42_eq, pay43_eq, pay45_eq, pay47_eq, pay48_eq, pay49_eq, pay50_eq]
    canon_tiles x h
    · exact half_eq (k := 1) (fun r d => ((A.dy r d : ℝ) : EReal)) (HeadSub.dy (shared m c H t) (hi m c H t) (dout (shared m c H t) (hi m c H t)) (dgp' (shared m c H t) (hi m c H t))) x y h0 h1
    · exact half_eq (k := 0) (fun r d => ((A.dy r d : ℝ) : EReal)) (HeadSub.dy (shared m c H t) (lo m c H t) (dout (shared m c H t) (lo m c H t)) (dgp (shared m c H t) (lo m c H t))) x y (by simpa using h0) h1

/-- The array of the gradient of the mixed activations, after the run. -/
theorem dy_array : (dats m 0 c).arrAt 10 (cfgs 0).N = fun j => (fun r d => ((A.dy r d : ℝ) : EReal)) (j 0) (j 1) := by
  refine (dats m 0 c).arrAt_eq_of_covers 10 _ (by decide +kernel) fun t hf y => ?_
  blk_simp
  rw [after0_10]
  refine (dy_tile m c H t y).trans ?_
  refine congrArg₂ (fun r d => ((A.dy r d : ℝ) : EReal)) (Fin.ext ?_) (Fin.ext ?_) <;> blk_simp [rowOf, idx t] <;> rfl

/-- A tile leaves the gradient of the activations through the residual, row by row. -/
theorem dxr_tile (t : Fin cfg0.N) (y : S512x1024.Idx) :
    (outsAt0 m c t.val t.isLt).2.1 y = (fun r d => ((alpha * A.dr r d : ℝ) : EReal)) (rowOf t (y 0)) (y 1) := by
  rcases em (t.val % 16 = 0) with h | h
  on_goal 1 => rw [outsAt0_A m c t h]
  on_goal 2 => rw [outsAt0_B m c t h]
  all_goals
    frame_out
    simp (disch := decide) only [View.readCov_skip, View.readCov_cons_toLoadRect, pay3_eq, pay13_eq, pay14_eq, pay15_eq, pay16_eq, pay17_eq,
      pay24_eq, pay25_eq, pay30_eq, pay31_eq, pay32_eq, pay42_eq, pay43_eq, pay45_eq, pay47_eq, pay48_eq, pay49_eq, pay50_eq]
    canon_tiles x h
    · exact half_eq (k := 1) (fun r d => ((alpha * A.dr r d : ℝ) : EReal)) (HeadSub.dxr (shared m c H t) (hi m c H t) (dout (shared m c H t) (hi m c H t)) (dgp' (shared m c H t) (hi m c H t))) x y h0 h1
    · exact half_eq (k := 0) (fun r d => ((alpha * A.dr r d : ℝ) : EReal)) (HeadSub.dxr (shared m c H t) (lo m c H t) (dout (shared m c H t) (lo m c H t)) (dgp (shared m c H t) (lo m c H t))) x y (by simpa using h0) h1

/-- The array of the gradient of the activations through the residual, after the run. -/
theorem dxr_array : (dats m 0 c).arrAt 11 (cfgs 0).N = fun j => (fun r d => ((alpha * A.dr r d : ℝ) : EReal)) (j 0) (j 1) := by
  refine (dats m 0 c).arrAt_eq_of_covers 11 _ (by decide +kernel) fun t hf y => ?_
  blk_simp
  rw [after0_11]
  refine (dxr_tile m c H t y).trans ?_
  refine congrArg₂ (fun r d => ((alpha * A.dr r d : ℝ) : EReal)) (Fin.ext ?_) (Fin.ext ?_) <;> blk_simp [rowOf, idx t] <;> rfl

/-- A tile leaves the normalised tokens, row by row. -/
theorem xn_tile (t : Fin cfg0.N) (y : S512x1024.Idx) :
    (outsAt0 m c t.val t.isLt).2.2.1 y = (fun r d => ((A.xn r d : ℝ) : EReal)) (rowOf t (y 0)) (y 1) := by
  rcases em (t.val % 16 = 0) with h | h
  on_goal 1 => rw [outsAt0_A m c t h]
  on_goal 2 => rw [outsAt0_B m c t h]
  all_goals
    frame_out
    simp (disch := decide) only [View.readCov_skip, View.readCov_cons_toLoadRect, pay3_eq, pay13_eq, pay14_eq, pay15_eq, pay16_eq, pay17_eq,
      pay24_eq, pay25_eq, pay30_eq, pay31_eq, pay32_eq, pay42_eq, pay43_eq, pay45_eq, pay47_eq, pay48_eq, pay49_eq, pay50_eq]
    canon_tiles x h
    · exact half_eq (k := 1) (fun r d => ((A.xn r d : ℝ) : EReal)) (HeadSub.xn_out (shared m c H t) (hi m c H t)) x y h0 h1
    · exact half_eq (k := 0) (fun r d => ((A.xn r d : ℝ) : EReal)) (HeadSub.xn_out (shared m c H t) (lo m c H t)) x y (by simpa using h0) h1

/-- The array of the normalised tokens, after the run. -/
theorem xn_array : (dats m 0 c).arrAt 12 (cfgs 0).N = fun j => (fun r d => ((A.xn r d : ℝ) : EReal)) (j 0) (j 1) := by
  refine (dats m 0 c).arrAt_eq_of_covers 12 _ (by decide +kernel) fun t hf y => ?_
  blk_simp
  rw [after0_12]
  refine (xn_tile m c H t y).trans ?_
  refine congrArg₂ (fun r d => ((A.xn r d : ℝ) : EReal)) (Fin.ext ?_) (Fin.ext ?_) <;> blk_simp [rowOf, idx t] <;> rfl

/-- A tile leaves the gradient of the gate's argument, row by row. -/
theorem dgp_tile (t : Fin cfg0.N) (y : S512x1024.Idx) :
    (outsAt0 m c t.val t.isLt).2.2.2.1 y = (fun r d => ((A.dgp r d : ℝ) : EReal)) (rowOf t (y 0)) (y 1) := by
  rcases em (t.val % 16 = 0) with h | h
  on_goal 1 => rw [outsAt0_A m c t h]
  on_goal 2 => rw [outsAt0_B m c t h]
  all_goals
    frame_out
    simp (disch := decide) only [View.readCov_skip, View.readCov_cons_toLoadRect, pay3_eq, pay13_eq, pay14_eq, pay15_eq, pay16_eq, pay17_eq,
      pay24_eq, pay25_eq, pay30_eq, pay31_eq, pay32_eq, pay42_eq, pay43_eq, pay45_eq, pay47_eq, pay48_eq, pay49_eq, pay50_eq]
    canon_tiles x h
    · exact half_eq (k := 1) (fun r d => ((A.dgp r d : ℝ) : EReal)) (HeadSub.dgp' (shared m c H t) (hi m c H t)) x y h0 h1
    · exact half_eq (k := 0) (fun r d => ((A.dgp r d : ℝ) : EReal)) (HeadSub.dgp (shared m c H t) (lo m c H t)) x y (by simpa using h0) h1

/-- The array of the gradient of the gate's argument, after the run. -/
theorem dgp_array : (dats m 0 c).arrAt 13 (cfgs 0).N = fun j => (fun r d => ((A.dgp r d : ℝ) : EReal)) (j 0) (j 1) := by
  refine (dats m 0 c).arrAt_eq_of_covers 13 _ (by decide +kernel) fun t hf y => ?_
  blk_simp
  rw [after0_13]
  refine (dgp_tile m c H t y).trans ?_
  refine congrArg₂ (fun r d => ((A.dgp r d : ℝ) : EReal)) (Fin.ext ?_) (Fin.ext ?_) <;> blk_simp [rowOf, idx t] <;> rfl

/-- A tile leaves the gradient of the projected embedding, row by row. -/
theorem dpe_tile (t : Fin cfg0.N) (y : S512x1024.Idx) :
    (outsAt0 m c t.val t.isLt).2.2.2.2.1 y = (fun r d => ((A.dpe r d : ℝ) : EReal)) (rowOf t (y 0)) (y 1) := by
  rcases em (t.val % 16 = 0) with h | h
  on_goal 1 => rw [outsAt0_A m c t h]
  on_goal 2 => rw [outsAt0_B m c t h]
  all_goals
    frame_out
    simp (disch := decide) only [View.readCov_skip, View.readCov_cons_toLoadRect, pay3_eq, pay13_eq, pay14_eq, pay15_eq, pay16_eq, pay17_eq,
      pay24_eq, pay25_eq, pay30_eq, pay31_eq, pay32_eq, pay42_eq, pay43_eq, pay45_eq, pay47_eq, pay48_eq, pay49_eq, pay50_eq]
    canon_tiles x h
    · exact half_eq (k := 1) (fun r d => ((A.dpe r d : ℝ) : EReal)) (HeadSub.dpe (shared m c H t) (hi m c H t)) x y h0 h1
    · exact half_eq (k := 0) (fun r d => ((A.dpe r d : ℝ) : EReal)) (HeadSub.dpe (shared m c H t) (lo m c H t)) x y (by simpa using h0) h1

/-- The array of the gradient of the projected embedding, after the run. -/
theorem dpe_array : (dats m 0 c).arrAt 14 (cfgs 0).N = fun j => (fun r d => ((A.dpe r d : ℝ) : EReal)) (j 0) (j 1) := by
  refine (dats m 0 c).arrAt_eq_of_covers 14 _ (by decide +kernel) fun t hf y => ?_
  blk_simp
  rw [after0_14]
  refine (dpe_tile m c H t y).trans ?_
  refine congrArg₂ (fun r d => ((A.dpe r d : ℝ) : EReal)) (Fin.ext ?_) (Fin.ext ?_) <;> blk_simp [rowOf, idx t] <;> rfl

/-- A tile leaves the gradient of the residual sum, row by row. -/
theorem dr_tile (t : Fin cfg0.N) (y : S512x1024.Idx) :
    (outsAt0 m c t.val t.isLt).2.2.2.2.2.1 y = (fun r d => ((A.dr r d : ℝ) : EReal)) (rowOf t (y 0)) (y 1) := by
  rcases em (t.val % 16 = 0) with h | h
  on_goal 1 => rw [outsAt0_A m c t h]
  on_goal 2 => rw [outsAt0_B m c t h]
  all_goals
    frame_out
    simp (disch := decide) only [View.readCov_skip, View.readCov_cons_toLoadRect, pay3_eq, pay13_eq, pay14_eq, pay15_eq, pay16_eq, pay17_eq,
      pay24_eq, pay25_eq, pay30_eq, pay31_eq, pay32_eq, pay42_eq, pay43_eq, pay45_eq, pay47_eq, pay48_eq, pay49_eq, pay50_eq]
    canon_tiles x h
    · exact half_eq (k := 1) (fun r d => ((A.dr r d : ℝ) : EReal)) (HeadSub.dr (shared m c H t) (hi m c H t) (dout (shared m c H t) (hi m c H t)) (dgp' (shared m c H t) (hi m c H t))) x y h0 h1
    · exact half_eq (k := 0) (fun r d => ((A.dr r d : ℝ) : EReal)) (HeadSub.dr (shared m c H t) (lo m c H t) (dout (shared m c H t) (lo m c H t)) (dgp (shared m c H t) (lo m c H t))) x y (by simpa using h0) h1

/-- The array of the gradient of the residual sum, after the run. -/
theorem dr_array : (dats m 0 c).arrAt 15 (cfgs 0).N = fun j => (fun r d => ((A.dr r d : ℝ) : EReal)) (j 0) (j 1) := by
  refine (dats m 0 c).arrAt_eq_of_covers 15 _ (by decide +kernel) fun t hf y => ?_
  blk_simp
  rw [after0_15]
  refine (dr_tile m c H t y).trans ?_
  refine congrArg₂ (fun r d => ((A.dr r d : ℝ) : EReal)) (Fin.ext ?_) (Fin.ext ?_) <;> blk_simp [rowOf, idx t] <;> rfl

end Cert.HeadOut

end
-- ==== Proof.HeadAcc.lean ====
module

public import proofs.«01_k».proof.Proof.HeadTile
public import Idealize.ShloMosaic.Lib.Pipeline.ValueKit
public import Idealize.ShloMosaic.Lib.Pipeline.ReadBack
public import Idealize.ShloMosaic.Lib.Claim

@[expose] public section

set_option maxRecDepth 16384

noncomputable section

namespace Cert.HeadAcc

open Cert.HeadTile Cert.HeadModel Cert.HeadBlock Cert.HeadSub Cert.Lift Cert.Norm Cert.HeadIdeal Cert.HeadIdeal.Gen Idealize.ShloMosaic Idealize.ShloMosaic.TcCoe Idealize.ShloMosaic.Tactic
open Idealize.SL.Sem

variable (m : (ℓ : Loc nD τ sig) → Buf (Elt Ideal) ℓ) (c : Dev nD) {A : Args} (H : Given m c A)

/-- A sum over the tiles, each of two halves of 256 rows, is the sum over all rows. -/
theorem sum_rows (f : Fin 8192 → ℝ) : ∑ t : Fin cfg0.N, ((∑ s, f (row t 0 s)) + ∑ s, f (row t 1 s)) = ∑ r, f r := by
  have h : ∑ r : Fin 8192, f r = ∑ t : Fin 16, ∑ k : Fin 2, ∑ s : Fin 256, f ⟨512 * t.val + (256 * k.val + s.val), by omega⟩ := by
    rw [← (finProdFinEquiv (m := 16) (n := 512)).sum_comp, Fintype.sum_prod_type]
    refine Finset.sum_congr rfl fun t _ => ?_
    rw [← (finProdFinEquiv (m := 2) (n := 256)).sum_comp, Fintype.sum_prod_type]
    refine Finset.sum_congr rfl fun k _ => Finset.sum_congr rfl fun s _ => congrArg f (Fin.ext ?_)
    simp [finProdFinEquiv]
    omega
  rw [h]
  refine Fintype.sum_equiv (finCongr N_0) _ _ fun t => ?_
  rw [Fin.sum_univ_two]
  rfl

include H

/-- The loss, after the run: the tiles' parts added up. -/
theorem loss_array : (dats m 0 c).arrAt 16 (cfgs 0).N = fun j => (A.loss : EReal) := by
  refine (dats m 0 c).arrAt_eq_of_after_last 16 t0_15 (by decide +kernel) _ fun j => ?_
  blk_simp
  rw [after0_16]
  refine (Pipeline.eq_sum_fin_of_reset_step_apply_last (fun n h => (outsAt0 m c n h).2.2.2.2.2.2.1) 16 (fun _ => 0)
    (fun t j => (((∑ s, 1 / 2048 * A.sq (row t 0 s)) + ∑ s, 1 / 2048 * A.sq (row t 1 s) : ℝ) : EReal)) (fun t h j => ?_) (fun t h j => ?_) (le_of_eq N_0) t0_15 rfl j).trans ?_
  · show (outsAt0 m c t.val t.isLt).2.2.2.2.2.2.1 j = _
    rw [outsAt0_A m c t h]
    frame_out
    simp (disch := decide) only [View.readCov_skip, View.readCov_cons_toLoadRect, pay3_eq, pay13_eq, pay14_eq, pay15_eq, pay16_eq, pay17_eq,
      pay24_eq, pay25_eq, pay30_eq, pay31_eq, pay32_eq, pay42_eq, pay43_eq, pay45_eq, pay47_eq, pay48_eq, pay49_eq, pay50_eq]
    idx_vars j
    obtain rfl : j0 = 0 := Subsingleton.elim _ _
    refine (HeadSub.loss_tile (shared m c H t) (lo m c H t) (hi m c H t) _ j1).trans (congrArg (· + _) ?_)
    pointwise [k0_pay4]
  · show (outsAt0 m c t.val t.isLt).2.2.2.2.2.2.1 j = _
    rw [outsAt0_B m c t h]
    frame_out
    simp (disch := decide) only [View.readCov_skip, View.readCov_cons_toLoadRect, pay3_eq, pay13_eq, pay14_eq, pay15_eq, pay16_eq, pay17_eq,
      pay24_eq, pay25_eq, pay30_eq, pay31_eq, pay32_eq, pay42_eq, pay43_eq, pay45_eq, pay47_eq, pay48_eq, pay49_eq, pay50_eq]
    idx_vars j
    obtain rfl : j0 = 0 := Subsingleton.elim _ _
    exact HeadSub.loss_tile (shared m c H t) (lo m c H t) (hi m c H t) _ j1
  · rw [zero_add, coe_sum]
    refine congrArg _ ((sum_rows fun r => 1 / 2048 * A.sq r).trans ?_)
    simp only [Args.loss, Finset.mul_sum]

/-- The gradient of the norm's scale, after the run: the tiles' parts added up. -/
theorem dlg_array : (dats m 0 c).arrAt 17 (cfgs 0).N = fun j => (A.dlg (j 1) : EReal) := by
  refine (dats m 0 c).arrAt_eq_of_after_last 17 t0_15 (by decide +kernel) _ fun j => ?_
  blk_simp
  rw [after0_17]
  refine (Pipeline.eq_sum_fin_of_reset_step_apply_last (fun n h => (outsAt0 m c n h).2.2.2.2.2.2.2.1) 16 (fun _ => 0)
    (fun t j => (((∑ s, A.dxn (row t 0 s) (j 1) * xhat (A.res (row t 0 s)) (j 1)) + ∑ s, A.dxn (row t 1 s) (j 1) * xhat (A.res (row t 1 s)) (j 1) : ℝ) : EReal)) (fun t h j => ?_) (fun t h j => ?_) (le_of_eq N_0) t0_15 rfl j).trans ?_
  · show (outsAt0 m c t.val t.isLt).2.2.2.2.2.2.2.1 j = _
    rw [outsAt0_A m c t h]
    frame_out
    simp (disch := decide) only [View.readCov_skip, View.readCov_cons_toLoadRect, pay3_eq, pay13_eq, pay14_eq, pay15_eq, pay16_eq, pay17_eq,
      pay24_eq, pay25_eq, pay30_eq, pay31_eq, pay32_eq, pay42_eq, pay43_eq, pay45_eq, pay47_eq, pay48_eq, pay49_eq, pay50_eq]
    idx_vars j
    obtain rfl : j0 = 0 := Subsingleton.elim _ _
    refine (HeadSub.dlg_tile (shared m c H t) (lo m c H t) (hi m c H t) _ j1).trans (congrArg (· + _) ?_)
    pointwise [k0_pay5]
  · show (outsAt0 m c t.val t.isLt).2.2.2.2.2.2.2.1 j = _
    rw [outsAt0_B m c t h]
    frame_out
    simp (disch := decide) only [View.readCov_skip, View.readCov_cons_toLoadRect, pay3_eq, pay13_eq, pay14_eq, pay15_eq, pay16_eq, pay17_eq,
      pay24_eq, pay25_eq, pay30_eq, pay31_eq, pay32_eq, pay42_eq, pay43_eq, pay45_eq, pay47_eq, pay48_eq, pay49_eq, pay50_eq]
    idx_vars j
    obtain rfl : j0 = 0 := Subsingleton.elim _ _
    exact HeadSub.dlg_tile (shared m c H t) (lo m c H t) (hi m c H t) _ j1
  · rw [zero_add, coe_sum]
    refine congrArg _ ((sum_rows fun r => A.dxn r (j 1) * xhat (A.res r) (j 1)).trans ?_)
    simp only [Args.dlg]

/-- The gradient of the norm's offset, after the run: the tiles' parts added up. -/
theorem dlb_array : (dats m 0 c).arrAt 18 (cfgs 0).N = fun j => (A.dlb (j 1) : EReal) := by
  refine (dats m 0 c).arrAt_eq_of_after_last 18 t0_15 (by decide +kernel) _ fun j => ?_
  blk_simp
  rw [after0_18]
  refine (Pipeline.eq_sum_fin_of_reset_step_apply_last (fun n h => (outsAt0 m c n h).2.2.2.2.2.2.2.2.1) 16 (fun _ => 0)
    (fun t j => (((∑ s, A.dxn (row t 0 s) (j 1)) + ∑ s, A.dxn (row t 1 s) (j 1) : ℝ) : EReal)) (fun t h j => ?_) (fun t h j => ?_) (le_of_eq N_0) t0_15 rfl j).trans ?_
  · show (outsAt0 m c t.val t.isLt).2.2.2.2.2.2.2.2.1 j = _
    rw [outsAt0_A m c t h]
    frame_out
    simp (disch := decide) only [View.readCov_skip, View.readCov_cons_toLoadRect, pay3_eq, pay13_eq, pay14_eq, pay15_eq, pay16_eq, pay17_eq,
      pay24_eq, pay25_eq, pay30_eq, pay31_eq, pay32_eq, pay42_eq, pay43_eq, pay45_eq, pay47_eq, pay48_eq, pay49_eq, pay50_eq]
    idx_vars j
    obtain rfl : j0 = 0 := Subsingleton.elim _ _
    refine (HeadSub.dlb_tile (shared m c H t) (lo m c H t) (hi m c H t) _ j1).trans (congrArg (· + _) ?_)
    pointwise [k0_pay6]
  · show (outsAt0 m c t.val t.isLt).2.2.2.2.2.2.2.2.1 j = _
    rw [outsAt0_B m c t h]
    frame_out
    simp (disch := decide) only [View.readCov_skip, View.readCov_cons_toLoadRect, pay3_eq, pay13_eq, pay14_eq, pay15_eq, pay16_eq, pay17_eq,
      pay24_eq, pay25_eq, pay30_eq, pay31_eq, pay32_eq, pay42_eq, pay43_eq, pay45_eq, pay47_eq, pay48_eq, pay49_eq, pay50_eq]
    idx_vars j
    obtain rfl : j0 = 0 := Subsingleton.elim _ _
    exact HeadSub.dlb_tile (shared m c H t) (lo m c H t) (hi m c H t) _ j1
  · rw [zero_add, coe_sum]
    refine congrArg _ ((sum_rows fun r => A.dxn r (j 1)).trans ?_)
    simp only [Args.dlb]

/-- The gradient of the gate's bias, after the run: the tiles' parts added up. -/
theorem dgb_array : (dats m 0 c).arrAt 19 (cfgs 0).N = fun j => (A.dgb (j 1) : EReal) := by
  refine (dats m 0 c).arrAt_eq_of_after_last 19 t0_15 (by decide +kernel) _ fun j => ?_
  blk_simp
  rw [after0_19]
  refine (Pipeline.eq_sum_fin_of_reset_step_apply_last (fun n h => (outsAt0 m c n h).2.2.2.2.2.2.2.2.2) 16 (fun _ => 0)
    (fun t j => (((∑ s, A.dgp (row t 0 s) (j 1)) + ∑ s, A.dgp (row t 1 s) (j 1) : ℝ) : EReal)) (fun t h j => ?_) (fun t h j => ?_) (le_of_eq N_0) t0_15 rfl j).trans ?_
  · show (outsAt0 m c t.val t.isLt).2.2.2.2.2.2.2.2.2 j = _
    rw [outsAt0_A m c t h]
    frame_out
    simp (disch := decide) only [View.readCov_skip, View.readCov_cons_toLoadRect, pay3_eq, pay13_eq, pay14_eq, pay15_eq, pay16_eq, pay17_eq,
      pay24_eq, pay25_eq, pay30_eq, pay31_eq, pay32_eq, pay42_eq, pay43_eq, pay45_eq, pay47_eq, pay48_eq, pay49_eq, pay50_eq]
    idx_vars j
    obtain rfl : j0 = 0 := Subsingleton.elim _ _
    refine (HeadSub.dgb_tile (shared m c H t) (lo m c H t) (hi m c H t) _ j1).trans (congrArg (· + _) ?_)
    pointwise [k0_pay7]
  · show (outsAt0 m c t.val t.isLt).2.2.2.2.2.2.2.2.2 j = _
    rw [outsAt0_B m c t h]
    frame_out
    simp (disch := decide) only [View.readCov_skip, View.readCov_cons_toLoadRect, pay3_eq, pay13_eq, pay14_eq, pay15_eq, pay16_eq, pay17_eq,
      pay24_eq, pay25_eq, pay30_eq, pay31_eq, pay32_eq, pay42_eq, pay43_eq, pay45_eq, pay47_eq, pay48_eq, pay49_eq, pay50_eq]
    idx_vars j
    obtain rfl : j0 = 0 := Subsingleton.elim _ _
    exact HeadSub.dgb_tile (shared m c H t) (lo m c H t) (hi m c H t) _ j1
  · rw [zero_add, coe_sum]
    refine congrArg _ ((sum_rows fun r => A.dgp r (j 1)).trans ?_)
    simp only [Args.dgb]

end Cert.HeadAcc

end
-- ==== Proof.UnitSum.lean ====
/-
  A host sum over axes of size one: the one element it adds. The reference's transposes of broadcasts sum over such axes.
-/
module

public import Idealize.ShloMosaic.Lib.Pointwise

@[expose] public section

noncomputable section

namespace Cert.UnitSum

open Idealize.ShloMosaic

/-- A sum whose result index has one source index is that element. -/
theorem of_unique {s t : Shape} {axes : List (Fin s.rank)} (h : s.ReducesTo axes t) (x : s.Idx → EReal) (init : EReal)
    (j : t.Idx) (i : s.Idx) (hi : h.drop i = j) (hu : ∀ k, h.drop k = j → k = i) :
    Ideal.hostReduceAdd h x init j = init + x i := by
  unfold Ideal.hostReduceAdd
  refine congrArg (init + ·) ?_
  rw [show Finset.univ.filter (fun k => h.drop k = j) = {i} from by
    ext k; simp only [Finset.mem_filter, Finset.mem_univ, true_and, Finset.mem_singleton]
    exact ⟨hu k, fun e => e ▸ hi⟩]
  exact Finset.sum_singleton _ _

/-- Two leading axes of size one. -/
theorem lead {n : ℕ} (h : (⟨3, ![1, 1, n]⟩ : Shape).ReducesTo [0, 1] ⟨1, ![n]⟩)
    (x : (⟨3, ![1, 1, n]⟩ : Shape).Idx → EReal) (init : EReal) (d : Fin n) :
    Ideal.hostReduceAdd h x init (ix1 d) = init + x (ix3 0 0 d) := by
  refine of_unique h x init _ _ (funext fun b => ?_) fun k hk => ?_
  · obtain rfl : b = 0 := Subsingleton.elim _ _
    rfl
  · funext a
    match a with
    | ⟨0, _⟩ => exact Subsingleton.elim (α := Fin 1) _ _
    | ⟨1, _⟩ => exact Subsingleton.elim (α := Fin 1) _ _
    | ⟨2, _⟩ => exact Fin.ext (congrArg Fin.val (congrFun hk 0))

/-- A leading and a trailing axis of size one. -/
theorem around {n : ℕ} (h : (⟨3, ![1, n, 1]⟩ : Shape).ReducesTo [0, 2] ⟨1, ![n]⟩)
    (x : (⟨3, ![1, n, 1]⟩ : Shape).Idx → EReal) (init : EReal) (d : Fin n) :
    Ideal.hostReduceAdd h x init (ix1 d) = init + x (ix3 0 d 0) := by
  refine of_unique h x init _ _ (funext fun b => ?_) fun k hk => ?_
  · obtain rfl : b = 0 := Subsingleton.elim _ _
    rfl
  · funext a
    match a with
    | ⟨0, _⟩ => exact Subsingleton.elim (α := Fin 1) _ _
    | ⟨1, _⟩ => exact Fin.ext (congrArg Fin.val (congrFun hk 0))
    | ⟨2, _⟩ => exact Subsingleton.elim (α := Fin 1) _ _

end Cert.UnitSum

end
-- ==== Proof.HeadRefRead.lean ====
/- What the reference of the head computes: each of its buffers, at an index, as a real number of the arguments.
  The forward values first, then the cotangents in the order of the chain rule, then the ten results. -/
module

public import proofs.«01_k».proof.Proof.HeadArgs
public import proofs.«01_k».proof.Proof.UnitSum
public import proofs.«01_k».proof.Proof.Gen.HeadRefIdeal.Read

@[expose] public section

set_option maxRecDepth 16384

noncomputable section

namespace Cert.HeadRefRead

open Cert.HeadModel Cert.Lift Cert.Norm Cert.HeadRefIdeal Cert.HeadRefIdeal.Gen Cert.HeadRefIdeal.Read Idealize.ShloMosaic

variable {A : Args} {x0 : FVec Ideal S1x8192x1024 .f32} {x1 : FVec Ideal S8192x2048 .f32} {x2 : FVec Ideal S1x1x8192x256 .f32}
  {x3 : FVec Ideal S1x8192x1024 .f32} {x4 : FVec Ideal S1x2048x1024 .f32} {x5 x6 : FVec Ideal S1x1024 .f32}
  {x7 : FVec Ideal S1x256x1024 .f32} {x8 : FVec Ideal S1x1024x1024 .f32} {x9 : FVec Ideal S1x1024 .f32}
  (H : Holds A x0 x1 x2 x3 x4 x5 x6 x7 x8 x9)
include H

theorem res (r : Fin 8192) (d : Fin 1024) : val_main_v7 (F := Ideal) x0 x1 x4 (ix3 0 r d) = (A.res r d : EReal) := by
  pointwise [val_main_v7, val_main_v6, val_main_v5, val_main_cst_0, val_main_v4, val_main_v3, val_main_v2, val_main_v1, val_main_v0, val_main_cst]
  simp only [H.x, H.y, H.wo, word_alpha, ← EReal.coe_mul, coe_sum, ← EReal.coe_add]
  rfl

theorem mean_res (r : Fin 8192) : val_main_v13 (F := Ideal) x0 x1 x4 (ix3 0 r 0) = (mean (A.res r) : EReal) := by
  pointwise [val_main_v13, val_main_v12, val_main_v11, val_main_v10, val_main_cst_1, val_main_cst_2]
  simp only [res H, coe_sum, word_1024, div_coe (show (1024 : ℝ) ≠ 0 by norm_num)]
  simp [mean]

theorem cen_res (r : Fin 8192) (d : Fin 1024) : val_main_v15 (F := Ideal) x0 x1 x4 (ix3 0 r d) = (cen (A.res r) d : EReal) := by
  pointwise [val_main_v15, val_main_v14]
  simp only [res H, mean_res H, ← EReal.coe_sub]
  rfl

theorem cen_res' (r : Fin 8192) (d : Fin 1024) : val_main_v24 (F := Ideal) x0 x1 x4 (ix3 0 r d) = (cen (A.res r) d : EReal) := by
  pointwise [val_main_v24, val_main_v23]
  simp only [res H, mean_res H, ← EReal.coe_sub]
  rfl

theorem var_res (r : Fin 8192) : val_main_v26 (F := Ideal) x0 x1 x4 (ix3 0 r 0) = (var (A.res r) + eps : ℝ) := by
  pointwise [val_main_v26, val_main_v25, val_main_cst_6, val_main_v22, val_main_v21, val_main_v20, val_main_v19, val_main_cst_4, val_main_cst_5, val_main_v16]
  simp only [cen_res H, ← EReal.coe_mul, coe_sum, word_eps, word_1024, div_coe (show (1024 : ℝ) ≠ 0 by norm_num), ← EReal.coe_add]
  simp [mean, var, eps]

theorem rstd_res (r : Fin 8192) : val_main_v27 (F := Ideal) x0 x1 x4 (ix3 0 r 0) = (rstd (A.res r) : EReal) := by
  pointwise [val_main_v27]
  rw [var_res H, rsqrt_pos (var_eps_pos _)]
  rfl

theorem rstd3 (r : Fin 8192) : val_main_v30 (F := Ideal) x0 x1 x4 (ix3 0 r 0)
    = (-(1 / 2) * (rstd (A.res r) * (1 / (var (A.res r) + eps))) : ℝ) := by
  pointwise [val_main_v30, val_main_v29, val_main_v28, val_main_cst_7]
  rw [rstd_res H, var_res H, div_coe (var_eps_pos _).ne', word_neg_half, ← EReal.coe_mul]

theorem xhat_res (r : Fin 8192) (d : Fin 1024) : val_main_v32 (F := Ideal) x0 x1 x4 (ix3 0 r d) = (xhat (A.res r) d : EReal) := by
  pointwise [val_main_v32, val_main_v31]
  simp only [cen_res' H, rstd_res H, ← EReal.coe_mul]
  rfl

theorem xn (r : Fin 8192) (d : Fin 1024) : val_main_v38 (F := Ideal) x0 x1 x4 x5 x6 (ix3 0 r d) = (A.xn r d : EReal) := by
  pointwise [val_main_v38, val_main_v37, val_main_v36, val_main_v35, val_main_v34, val_main_v33, val_main_v9, val_main_v8]
  simp only [xhat_res H, H.lg, H.lb, ← EReal.coe_mul, ← EReal.coe_add]
  rfl

theorem gate (r : Fin 8192) (d : Fin 1024) : val_main_v51 (F := Ideal) x0 x1 x4 x5 x6 x8 x9 (ix3 0 r d) = (A.gate r d : EReal) := by
  pointwise [val_main_v51, val_main_v50, val_main_cst_9, val_main_v49, val_main_v48, val_main_cst_8, val_main_v47, val_main_v46, val_main_v45, val_main_v44, val_main_v43, val_main_v42, val_main_v41, val_main_v40, val_main_v39, val_main_v0, val_main_cst]
  simp only [xn H, H.gw, H.gb, ← EReal.coe_mul, coe_sum, word_one]
  exact div_exp _

theorem gate_slope (r : Fin 8192) (d : Fin 1024) : val_main_v54 (F := Ideal) x0 x1 x4 x5 x6 x8 x9 (ix3 0 r d) = (A.gate r d * (1 - A.gate r d) : ℝ) := by
  pointwise [val_main_v54, val_main_v53, val_main_v52, val_main_cst_10]
  simp only [gate H, ← EReal.coe_one, ← EReal.coe_mul, ← EReal.coe_sub]

theorem pe (r : Fin 8192) (d : Fin 1024) : val_main_v58 (F := Ideal) x2 x7 (ix3 0 r d) = (A.pe r d : EReal) := by
  pointwise [val_main_v58, val_main_v57, val_main_v56, val_main_v55, val_main_v0, val_main_cst]
  simp only [H.p, H.pw, ← EReal.coe_mul, coe_sum]
  rfl

theorem err (r : Fin 8192) (d : Fin 1024) : val_main_v61 (F := Ideal) x0 x1 x2 x3 x4 x5 x6 x7 x8 x9 (ix3 0 r d) = (A.err r d : EReal) := by
  pointwise [val_main_v61, val_main_v60, val_main_v59]
  simp only [xn H, gate H, pe H, H.t, ← EReal.coe_mul, ← EReal.coe_add, ← EReal.coe_sub]
  rfl

theorem dout (r : Fin 8192) (d : Fin 1024) : val_main_v75 (F := Ideal) x0 x1 x2 x3 x4 x5 x6 x7 x8 x9 (ix3 0 r d) = (A.dout r d : EReal) := by
  pointwise [val_main_v75, val_main_v74, val_main_v73, val_main_v72, val_main_v71, val_main_v70, val_main_cst_16, val_main_cst_17, val_main_cst_18, val_main_v64, val_main_v63, val_main_cst_11]
  simp only [err H, word_half, word_one, word_two, word_1024, ← EReal.coe_mul, div_coe (show (1024 : ℝ) ≠ 0 by norm_num)]
  exact congrArg _ (by unfold Args.dout; ring)

theorem dpe (r : Fin 8192) (d : Fin 1024) : val_main_v76 (F := Ideal) x0 x1 x2 x3 x4 x5 x6 x7 x8 x9 (ix3 0 r d) = (A.dpe r d : EReal) := by
  pointwise [val_main_v76]
  simp only [dout H, gate H, ← EReal.coe_mul]
  exact congrArg _ (mul_comm _ _)

theorem dgp (r : Fin 8192) (d : Fin 1024) : val_main_v78 (F := Ideal) x0 x1 x2 x3 x4 x5 x6 x7 x8 x9 (ix3 0 r d) = (A.dgp r d : EReal) := by
  pointwise [val_main_v78, val_main_v77]
  simp only [dout H, pe H, gate_slope H, ← EReal.coe_mul]
  exact congrArg _ (by unfold Args.dgp; ring)

theorem dxn (r : Fin 8192) (d : Fin 1024) : val_main_v84 (F := Ideal) x0 x1 x2 x3 x4 x5 x6 x7 x8 x9 (ix3 0 r d) = (A.dxn r d : EReal) := by
  pointwise [val_main_v84, val_main_v83, val_main_v39]
  simp only [dout H, dgp H, H.gw, ← EReal.coe_mul, coe_sum, ← EReal.coe_add]
  rfl

theorem dxh (r : Fin 8192) (d : Fin 1024) : val_main_v92 (F := Ideal) x0 x1 x2 x3 x4 x5 x6 x7 x8 x9 (ix3 0 r d) = (A.dxh r d : EReal) := by
  pointwise [val_main_v92, val_main_v91, val_main_v33, val_main_v8]
  simp only [dxn H, H.lg, ← EReal.coe_mul]
  rfl

theorem chain_var (r : Fin 8192) : val_main_v105 (F := Ideal) x0 x1 x2 x3 x4 x5 x6 x7 x8 x9 (ix1 r) = (chainVar (A.res r) (A.dxh r) : EReal) := by
  unfold val_main_v105
  refine (UnitSum.around _ _ _ r).trans ?_
  pointwise [val_main_v104, val_main_v103, val_main_v99, val_main_v96, val_main_v95, val_main_v94, val_main_cst_25, val_main_cst_27, val_main_cst_28]
  simp only [cen_res' H, dxh H, rstd3 H, word_1024, ← EReal.coe_mul, coe_sum, div_coe (show (1024 : ℝ) ≠ 0 by norm_num)]
  simp [chainVar]

theorem scaled (r : Fin 8192) (d : Fin 1024) : val_main_v98 (F := Ideal) x0 x1 x2 x3 x4 x5 x6 x7 x8 x9 (ix3 0 r d) = (A.dxh r d * rstd (A.res r) : ℝ) := by
  pointwise [val_main_v98, val_main_v97]
  simp only [dxh H, rstd_res H, ← EReal.coe_mul]

theorem var_part (r : Fin 8192) (d : Fin 1024) : val_main_v108 (F := Ideal) x0 x1 x2 x3 x4 x5 x6 x7 x8 x9 (ix3 0 r d)
    = (chainVar (A.res r) (A.dxh r) * (2 * cen (A.res r) d) : ℝ) := by
  pointwise [val_main_v108, val_main_v107, val_main_v106, val_main_v18, val_main_v17, val_main_cst_3]
  simp only [chain_var H, cen_res H, word_two, ← EReal.coe_mul]

theorem mean_part (r : Fin 8192) : val_main_v116 (F := Ideal) x0 x1 x2 x3 x4 x5 x6 x7 x8 x9 (ix1 r)
    = (((∑ k, -(A.dxh r k * rstd (A.res r))) + ∑ k, -(chainVar (A.res r) (A.dxh r) * (2 * cen (A.res r) k))) * (1 / 1024) : ℝ) := by
  unfold val_main_v116
  refine (UnitSum.around _ _ _ r).trans ?_
  pointwise [val_main_v115, val_main_v114, val_main_v113, val_main_v111, val_main_v110, val_main_v109, val_main_v102, val_main_v101, val_main_v100, val_main_cst_26, val_main_cst_29, val_main_cst_30, val_main_cst_31]
  simp only [scaled H, var_part H, word_1024, ← EReal.coe_neg, coe_sum, ← EReal.coe_add, div_coe (show (1024 : ℝ) ≠ 0 by norm_num)]

theorem dr (r : Fin 8192) (d : Fin 1024) : val_main_v119 (F := Ideal) x0 x1 x2 x3 x4 x5 x6 x7 x8 x9 (ix3 0 r d) = (A.dr r d : EReal) := by
  pointwise [val_main_v119, val_main_v118, val_main_v117, val_main_v112]
  simp only [mean_part H, scaled H, var_part H, ← EReal.coe_add]
  refine congrArg _ (Eq.trans ?_ (chain_eq (A.res r) (A.dxh r) d))
  simp [chain]

/-! ### The results -/

theorem dy (r : Fin 8192) (k : Fin 2048) : val_main_v125 (F := Ideal) x0 x1 x2 x3 x4 x5 x6 x7 x8 x9 (ix2 r k) = (A.dy r k : EReal) := by
  pointwise [val_main_v125, val_main_v124, val_main_v2, val_main_cst_33]
  simp only [H.wo]
  rw [Fin.sum_univ_one]
  refine (Finset.sum_congr rfl fun x _ => congrArg (· * (A.wo k x : EReal)) (dr H r x)).trans ?_
  simp only [← EReal.coe_mul, coe_sum]
  rfl

theorem dxr (r : Fin 8192) (d : Fin 1024) : val_main_v126 (F := Ideal) x0 x1 x2 x3 x4 x5 x6 x7 x8 x9 (ix2 r d) = (alpha * A.dr r d : ℝ) := by
  pointwise [val_main_v126, val_main_v123, val_main_v122, val_main_cst_32]
  simp only [dr H, word_alpha, ← EReal.coe_mul]
  rfl

theorem xn_out (r : Fin 8192) (d : Fin 1024) : val_main_v128 (F := Ideal) x0 x1 x4 x5 x6 (ix2 r d) = (A.xn r d : EReal) := by
  pointwise [val_main_v128, val_main_v127]
  exact xn H r d

theorem dgp_out (r : Fin 8192) (d : Fin 1024) : val_main_v130 (F := Ideal) x0 x1 x2 x3 x4 x5 x6 x7 x8 x9 (ix2 r d) = (A.dgp r d : EReal) := by
  pointwise [val_main_v130, val_main_v129]
  exact dgp H r d

theorem dpe_out (r : Fin 8192) (d : Fin 1024) : val_main_v132 (F := Ideal) x0 x1 x2 x3 x4 x5 x6 x7 x8 x9 (ix2 r d) = (A.dpe r d : EReal) := by
  pointwise [val_main_v132, val_main_v131]
  exact dpe H r d

theorem dr_out (r : Fin 8192) (d : Fin 1024) : val_main_v134 (F := Ideal) x0 x1 x2 x3 x4 x5 x6 x7 x8 x9 (ix2 r d) = (A.dr r d : EReal) := by
  pointwise [val_main_v134, val_main_v133]
  exact dr H r d

theorem loss (l : Fin 128) : val_main_v135 (F := Ideal) x0 x1 x2 x3 x4 x5 x6 x7 x8 x9 (ix2 0 l) = (A.loss : EReal) := by
  pointwise [val_main_v135, val_main_v69, val_main_v68, val_main_v67, val_main_v66, val_main_v65, val_main_v62, val_main_cst_12, val_main_cst_13, val_main_cst_14, val_main_cst_15]
  simp only [err H, word_half, word_1024, ← EReal.coe_mul, coe_sum, div_coe (show (1024 : ℝ) ≠ 0 by norm_num)]
  rw [Fin.sum_univ_one, Args.loss]
  simp only [← Finset.sum_mul, Args.sq]
  exact congrArg _ (by ring)

theorem dlg (d : Fin 1024) : val_main_v121 (F := Ideal) x0 x1 x2 x3 x4 x5 x6 x7 x8 x9 (ix2 0 d) = (A.dlg d : EReal) := by
  pointwise [val_main_v121, val_main_v93]
  rw [UnitSum.lead]
  pointwise [val_main_v90, val_main_v89, val_main_v88, val_main_cst_23, val_main_cst_24]
  simp only [dxn H, xhat_res H, ← EReal.coe_mul, coe_sum]
  simp [Args.dlg, mul_comm]

theorem dlb (d : Fin 1024) : val_main_v120 (F := Ideal) x0 x1 x2 x3 x4 x5 x6 x7 x8 x9 (ix2 0 d) = (A.dlb d : EReal) := by
  pointwise [val_main_v120, val_main_v87]
  rw [UnitSum.lead]
  pointwise [val_main_v86, val_main_v85, val_main_cst_21, val_main_cst_22]
  simp only [dxn H, coe_sum]
  simp [Args.dlb]

theorem dgb (d : Fin 1024) : val_main_v82 (F := Ideal) x0 x1 x2 x3 x4 x5 x6 x7 x8 x9 (ix2 0 d) = (A.dgb d : EReal) := by
  pointwise [val_main_v82, val_main_v81]
  rw [UnitSum.lead]
  pointwise [val_main_v80, val_main_v79, val_main_cst_19, val_main_cst_20]
  simp only [dgp H, coe_sum]
  simp [Args.dgb]

end Cert.HeadRefRead

end
-- ==== Proof.HeadClaim.lean ====
/-
  The head's value claim: over the reals, on finite arguments (the gate's bias may be infinite), the kernel's ten results
  are the reference's.
-/
module

public import proofs.«01_k».proof.Defs
public import proofs.«01_k».proof.Proof.HeadOut
public import proofs.«01_k».proof.Proof.HeadAcc
public import proofs.«01_k».proof.Proof.HeadRefRead
public import proofs.«01_k».proof.Proof.Gen.HeadIdeal.Frame
public import proofs.«01_k».proof.Proof.Gen.HeadRefIdeal
public import proofs.«01_k».proof.Proof.Gen.Pre_head_finite
public import Idealize.ShloMosaic.Adequacy
public import Idealize.ShloMosaic.Init
public import Idealize.ShloMosaic.Lib.Claim

@[expose] public section

set_option maxRecDepth 16384

noncomputable section

namespace Cert.HeadClaim

open Idealize.ShloMosaic Idealize.ShloMosaic.TcCoe Idealize.ShloMosaic.StableHlo Idealize.SL.Sem Cert.HeadModel Cert.Lift

/-- The reals the argument arrays hold, an infinite element read as zero (the gate's bias: read as it is). -/
def argsOf (x0 : FVec Ideal ⟨3, ![1, 8192, 1024]⟩ .f32) (x1 : FVec Ideal ⟨2, ![8192, 2048]⟩ .f32)
    (x2 : FVec Ideal ⟨4, ![1, 1, 8192, 256]⟩ .f32) (x3 : FVec Ideal ⟨3, ![1, 8192, 1024]⟩ .f32)
    (x4 : FVec Ideal ⟨3, ![1, 2048, 1024]⟩ .f32) (x5 x6 : FVec Ideal ⟨2, ![1, 1024]⟩ .f32)
    (x7 : FVec Ideal ⟨3, ![1, 256, 1024]⟩ .f32) (x8 : FVec Ideal ⟨3, ![1, 1024, 1024]⟩ .f32)
    (x9 : FVec Ideal ⟨2, ![1, 1024]⟩ .f32) : Args where
  x r d := (x0 (ix3 0 r d)).toReal
  y r k := (x1 (ix2 r k)).toReal
  p r k := (x2 (ix4 0 0 r k)).toReal
  t r d := (x3 (ix3 0 r d)).toReal
  wo k d := (x4 (ix3 0 k d)).toReal
  lg d := (x5 (ix2 0 d)).toReal
  lb d := (x6 (ix2 0 d)).toReal
  pw k d := (x7 (ix3 0 k d)).toReal
  gw d e := (x8 (ix3 0 d e)).toReal
  gb e := x9 (ix2 0 e)

/-- The reals of a device's argument arrays. -/
def args (m : (ℓ : Loc HeadIdeal.nD HeadIdeal.τ HeadIdeal.sig) → Buf (Elt Ideal) ℓ) (c : Dev HeadIdeal.nD) : Args :=
  argsOf (m ((c : Thread HeadIdeal.nD HeadIdeal.τ).loc HeadIdeal.main_arg0)) (m ((c : Thread HeadIdeal.nD HeadIdeal.τ).loc HeadIdeal.main_arg1))
    (m ((c : Thread HeadIdeal.nD HeadIdeal.τ).loc HeadIdeal.main_arg2)) (m ((c : Thread HeadIdeal.nD HeadIdeal.τ).loc HeadIdeal.main_arg3))
    (m ((c : Thread HeadIdeal.nD HeadIdeal.τ).loc HeadIdeal.main_arg4)) (m ((c : Thread HeadIdeal.nD HeadIdeal.τ).loc HeadIdeal.main_arg5))
    (m ((c : Thread HeadIdeal.nD HeadIdeal.τ).loc HeadIdeal.main_arg6)) (m ((c : Thread HeadIdeal.nD HeadIdeal.τ).loc HeadIdeal.main_arg7))
    (m ((c : Thread HeadIdeal.nD HeadIdeal.τ).loc HeadIdeal.main_arg8)) (m ((c : Thread HeadIdeal.nD HeadIdeal.τ).loc HeadIdeal.main_arg9))

/-- Under the precondition a device's argument arrays hold those reals. -/
theorem given (m : (ℓ : Loc HeadIdeal.nD HeadIdeal.τ HeadIdeal.sig) → Buf (Elt Ideal) ℓ) (hpre : Pre_HeadIdeal_head_finite m)
    (c : Dev HeadIdeal.nD) : HeadTile.Given m c (args m c) := by
  obtain ⟨h0, h1, h2, h3, h4, h5, h6, h7, h8⟩ := hpre c
  exact ⟨fun r d => real_of_finite h0 _, fun r k => real_of_finite h1 _, fun r k => real_of_finite h2 _, fun r d => real_of_finite h3 _,
    fun k d => real_of_finite h4 _, fun d => real_of_finite h5 _, fun d => real_of_finite h6 _, fun k d => real_of_finite h7 _,
    fun d e => real_of_finite h8 _, fun _ => rfl⟩

/-- Memories that agree on the arguments: the reference's argument arrays hold the kernel's reals. -/
theorem ref_given {m : (ℓ : Loc HeadIdeal.nD HeadIdeal.τ HeadIdeal.sig) → Buf (Elt Ideal) ℓ} {c : Dev HeadIdeal.nD} {A : Args}
    (H : HeadTile.Given m c A) {x0 x1 x2 x3 x4 x5 x6 x7 x8 x9}
    (h : x0 = m ((c.tc : Thread HeadIdeal.nD HeadIdeal.τ).loc HeadIdeal.main_arg0) ∧ x1 = m ((c.tc : Thread HeadIdeal.nD HeadIdeal.τ).loc HeadIdeal.main_arg1)
      ∧ x2 = m ((c.tc : Thread HeadIdeal.nD HeadIdeal.τ).loc HeadIdeal.main_arg2) ∧ x3 = m ((c.tc : Thread HeadIdeal.nD HeadIdeal.τ).loc HeadIdeal.main_arg3)
      ∧ x4 = m ((c.tc : Thread HeadIdeal.nD HeadIdeal.τ).loc HeadIdeal.main_arg4) ∧ x5 = m ((c.tc : Thread HeadIdeal.nD HeadIdeal.τ).loc HeadIdeal.main_arg5)
      ∧ x6 = m ((c.tc : Thread HeadIdeal.nD HeadIdeal.τ).loc HeadIdeal.main_arg6) ∧ x7 = m ((c.tc : Thread HeadIdeal.nD HeadIdeal.τ).loc HeadIdeal.main_arg7)
      ∧ x8 = m ((c.tc : Thread HeadIdeal.nD HeadIdeal.τ).loc HeadIdeal.main_arg8) ∧ x9 = m ((c.tc : Thread HeadIdeal.nD HeadIdeal.τ).loc HeadIdeal.main_arg9)) :
    Holds A x0 x1 x2 x3 x4 x5 x6 x7 x8 x9 := by
  obtain ⟨rfl, rfl, rfl, rfl, rfl, rfl, rfl, rfl, rfl, rfl⟩ := h
  exact H

/-- The ten results of the kernel are the reference's. -/
theorem algebraic : Cert.algebraic_HeadIdeal_HeadRefIdeal_pre_head_finite := by
  intro m g m' g' hpre hagree
  refine ⟨fun c => (HeadIdeal.Gen.dats m 0 c).arrAt 10 (HeadIdeal.cfgs 0).N, fun c => (HeadIdeal.Gen.dats m 0 c).arrAt 11 (HeadIdeal.cfgs 0).N, fun c => (HeadIdeal.Gen.dats m 0 c).arrAt 12 (HeadIdeal.cfgs 0).N, fun c => (HeadIdeal.Gen.dats m 0 c).arrAt 13 (HeadIdeal.cfgs 0).N, fun c => (HeadIdeal.Gen.dats m 0 c).arrAt 14 (HeadIdeal.cfgs 0).N,
    fun c => (HeadIdeal.Gen.dats m 0 c).arrAt 15 (HeadIdeal.cfgs 0).N, fun c => (HeadIdeal.Gen.dats m 0 c).arrAt 16 (HeadIdeal.cfgs 0).N, fun c => (HeadIdeal.Gen.dats m 0 c).arrAt 17 (HeadIdeal.cfgs 0).N, fun c => (HeadIdeal.Gen.dats m 0 c).arrAt 18 (HeadIdeal.cfgs 0).N, fun c => (HeadIdeal.Gen.dats m 0 c).arrAt 19 (HeadIdeal.cfgs 0).N, ?_, ?_⟩
  · refine θ_run_mono (θ_run_and (HeadIdeal.Gen.run_main m g) (HeadIdeal.Gen.frame m g)) fun r hr c => ?_
    exact ⟨(hr.1 c).1 10, (hr.1 c).1 11, (hr.1 c).1 12, (hr.1 c).1 13, (hr.1 c).1 14, (hr.1 c).1 15, (hr.1 c).1 16, (hr.1 c).1 17, (hr.1 c).1 18, (hr.1 c).1 19, hr.2.1 c⟩
  · refine θ_run_mono (Cert.HeadRefIdeal.Value.run m' g') fun r hr c => ?_
    obtain ⟨h0, h1, h2, h3, h4, h5, h6, h7, h8, h9, hargs⟩ := hr c
    have H := given m hpre c
    have R := ref_given H (hagree c)
    have e0 := h0.trans ((HeadRefIdeal.Read.val_main_v125_eq (launchContents m' c)).trans (Eq.trans (funext fun j => by
      idx_vars j
      exact HeadRefRead.dy R j0 j1) (HeadOut.dy_array m c H).symm))
    have e1 := h1.trans ((HeadRefIdeal.Read.val_main_v126_eq (launchContents m' c)).trans (Eq.trans (funext fun j => by
      idx_vars j
      exact HeadRefRead.dxr R j0 j1) (HeadOut.dxr_array m c H).symm))
    have e2 := h2.trans ((HeadRefIdeal.Read.val_main_v128_eq (launchContents m' c)).trans (Eq.trans (funext fun j => by
      idx_vars j
      exact HeadRefRead.xn_out R j0 j1) (HeadOut.xn_array m c H).symm))
    have e3 := h3.trans ((HeadRefIdeal.Read.val_main_v130_eq (launchContents m' c)).trans (Eq.trans (funext fun j => by
      idx_vars j
      exact HeadRefRead.dgp_out R j0 j1) (HeadOut.dgp_array m c H).symm))
    have e4 := h4.trans ((HeadRefIdeal.Read.val_main_v132_eq (launchContents m' c)).trans (Eq.trans (funext fun j => by
      idx_vars j
      exact HeadRefRead.dpe_out R j0 j1) (HeadOut.dpe_array m c H).symm))
    have e5 := h5.trans ((HeadRefIdeal.Read.val_main_v134_eq (launchContents m' c)).trans (Eq.trans (funext fun j => by
      idx_vars j
      exact HeadRefRead.dr_out R j0 j1) (HeadOut.dr_array m c H).symm))
    have e6 := h6.trans ((HeadRefIdeal.Read.val_main_v135_eq (launchContents m' c)).trans (Eq.trans (funext fun j => by
      idx_vars j
      obtain rfl : j0 = 0 := Subsingleton.elim _ _
      exact HeadRefRead.loss R j1) (HeadAcc.loss_array m c H).symm))
    have e7 := h7.trans ((HeadRefIdeal.Read.val_main_v121_eq (launchContents m' c)).trans (Eq.trans (funext fun j => by
      idx_vars j
      obtain rfl : j0 = 0 := Subsingleton.elim _ _
      exact HeadRefRead.dlg R j1) (HeadAcc.dlg_array m c H).symm))
    have e8 := h8.trans ((HeadRefIdeal.Read.val_main_v120_eq (launchContents m' c)).trans (Eq.trans (funext fun j => by
      idx_vars j
      obtain rfl : j0 = 0 := Subsingleton.elim _ _
      exact HeadRefRead.dlb R j1) (HeadAcc.dlb_array m c H).symm))
    have e9 := h9.trans ((HeadRefIdeal.Read.val_main_v82_eq (launchContents m' c)).trans (Eq.trans (funext fun j => by
      idx_vars j
      obtain rfl : j0 = 0 := Subsingleton.elim _ _
      exact HeadRefRead.dgb R j1) (HeadAcc.dgb_array m c H).symm))
    exact ⟨e0, e1, e2, e3, e4, e5, e6, e7, e8, e9, hargs⟩

end Cert.HeadClaim

end
-- ==== Proof.WinSum.lean ====
/-
  A running sum along one axis, as the host's window sum, and the difference of a running sum with a shifted one: a sum over
  a short window.
-/
module

public import proofs.«01_k».proof.Proof.Lift
public import Idealize.ShloMosaic.Lib.Pointwise

@[expose] public section

noncomputable section

namespace Cert.WinSum

open Idealize.ShloMosaic

theorem foldl_add {ι : Type*} (g : ι → EReal) (l : List ι) (v : EReal) :
    l.foldl (fun r n => r + g n) v = v + (l.map g).sum := by
  induction l generalizing v with
  | nil => simp
  | cons a l ih => simp only [List.foldl_cons, List.map_cons, List.sum_cons, ih, add_assoc]

/-- A window of the whole second axis, padded by `L` before: the sum of the entries it meets. -/
theorem window {n g d L H : ℕ}
    (h : (⟨4, ![1, n, g, d]⟩ : Shape).ReduceWindows ![1, n, 1, 1] ![1, 1, 1, 1] ![0, L, 0, 0] ![0, H, 0, 0] ⟨4, ![1, n, g, d]⟩)
    (x : (⟨4, ![1, n, g, d]⟩ : Shape).Idx → EReal) {v : EReal} (hv : v = 0) (r : Fin n) (a : Fin g) (b : Fin d) :
    Ideal.hostReduceWindowAdd ![1, n, 1, 1] ![1, 1, 1, 1] ![0, L, 0, 0] ![0, H, 0, 0] h x v (ix4 0 r a b)
      = ∑ k : Fin n, if hk : L ≤ r.val + k.val ∧ r.val + k.val - L < n then x (ix4 0 ⟨r.val + k.val - L, hk.2⟩ a b) else 0 := by
  subst hv
  unfold Ideal.hostReduceWindowAdd Host.reduceWindow
  refine (foldl_add _ _ _).trans ((zero_add _).trans ?_)
  rw [← List.ofFn_eq_map, List.sum_ofFn]
  refine ((Equiv.sum_comp (⟨4, ![1, n, 1, 1]⟩ : Shape).rowMajor _).symm.trans (sum_idx4 _)).trans ?_
  rw [Fintype.sum_unique]
  refine Finset.sum_congr rfl fun k _ => ?_
  rw [Fintype.sum_unique, Fintype.sum_unique]
  simp only [Equiv.symm_apply_apply]
  by_cases hk : L ≤ r.val + k.val ∧ r.val + k.val - L < n
  · rw [dif_pos hk, dif_pos (fun q => by
      match q with
      | ⟨0, _⟩ => exact ⟨Nat.zero_le _, Nat.one_pos⟩
      | ⟨1, _⟩ => show L ≤ r.val * 1 + k.val ∧ r.val * 1 + k.val - L < n; rw [mul_one]; exact hk
      | ⟨2, _⟩ => exact ⟨Nat.zero_le _, (a.val * 1).add_zero.symm ▸ by show a.val * 1 + 0 - 0 < g; have := a.isLt; omega⟩
      | ⟨3, _⟩ => exact ⟨Nat.zero_le _, by show b.val * 1 + 0 - 0 < d; have := b.isLt; omega⟩)]
    refine congrArg x (funext fun q => Fin.ext ?_)
    match q with
    | ⟨0, _⟩ => rfl
    | ⟨1, _⟩ => show r.val * 1 + k.val - L = r.val + k.val - L; rw [mul_one]
    | ⟨2, _⟩ => show a.val * 1 + 0 - 0 = a.val; omega
    | ⟨3, _⟩ => show b.val * 1 + 0 - 0 = b.val; omega
  · rw [dif_neg hk, dif_neg (fun q => hk (by
      have := q (1 : Fin 4)
      change L ≤ r.val * 1 + k.val ∧ r.val * 1 + k.val - L < n at this
      rwa [mul_one] at this))]

/-- A function of the rows, zero past the last. -/
def ext {n : ℕ} (f : Fin n → ℝ) (j : ℕ) : ℝ := if h : j < n then f ⟨j, h⟩ else 0

theorem ext_val {n : ℕ} (f : Fin n → ℝ) (j : Fin n) : ext f j.val = f j := dif_pos j.isLt

/-- The sum of everything from `r` on, less the same sum `w` rows on: the sum over a window of `w` rows. -/
theorem telescope {n : ℕ} (f : Fin n → ℝ) (r w : ℕ) :
    ∑ k ∈ Finset.range n, (ext f (r + k) - ext f (r + k + w)) = ∑ k ∈ Finset.range w, ext f (r + k) := by
  have h1 := Finset.sum_range_add (fun k => ext f (r + k)) n w
  have h2 := Finset.sum_range_add (fun k => ext f (r + k)) w n
  have h3 : ∑ k ∈ Finset.range w, ext f (r + (n + k)) = 0 :=
    Finset.sum_eq_zero fun k _ => dif_neg (by omega)
  have h4 : ∑ k ∈ Finset.range n, ext f (r + (w + k)) = ∑ k ∈ Finset.range n, ext f (r + k + w) :=
    Finset.sum_congr rfl fun k _ => congrArg _ (by omega)
  rw [Nat.add_comm w n] at h2
  rw [Finset.sum_sub_distrib]
  linarith

/-- A row of ones over a window, times a column: the sum over the window. -/
theorem band {n : ℕ} (E : ℕ → ℝ) (i w : ℕ) (h : i + w ≤ n) :
    (∑ j : Fin n, if i ≤ j.val ∧ j.val < i + w then E j.val else 0) = ∑ k ∈ Finset.range w, E (i + k) := by
  rw [Fin.sum_univ_eq_sum_range (fun j => if i ≤ j ∧ j < i + w then E j else 0) n, ← Finset.sum_filter]
  refine (Finset.sum_nbij' (fun k => i + k) (fun j => j - i) (fun k hk => ?_) (fun j hj => ?_) (fun k hk => ?_) (fun j hj => ?_)
    (fun k hk => rfl)).symm
  · have := Finset.mem_range.1 hk
    exact Finset.mem_filter.2 ⟨Finset.mem_range.2 (by omega), by omega, by omega⟩
  · have := Finset.mem_filter.1 hj
    exact Finset.mem_range.2 (by omega)
  · simp
  · have := (Finset.mem_filter.1 hj).2
    omega

/-- A column block padded into one of four, with `w` rows of padding after it. -/
theorem pad_at {α : Type} {m n d lo hi w : ℕ} (x : (⟨4, ![1, m, 1, d]⟩ : Shape).Idx → α) {u : Shape} (v : u.Idx → α)
    (h : (⟨4, ![1, m, 1, d]⟩ : Shape).Pads ![0, 0, lo, 0] ![0, w, hi, 0] ![0, 0, 0, 0] ⟨4, ![1, n, 4, d]⟩) (hu : 0 < u.numel)
    (r : Fin n) (a : Fin 4) (b : Fin d) :
    pad ⟨4, ![1, n, 4, d]⟩ ![0, 0, lo, 0] ![0, w, hi, 0] ![0, 0, 0, 0] x v h hu (ix4 0 r a b)
      = if hh : a.val = lo ∧ r.val < m then x (ix4 0 ⟨r.val, hh.2⟩ 0 b) else v (Shape.Idx.first hu) := by
  unfold pad
  by_cases hh : a.val = lo ∧ r.val < m
  · rw [dif_pos hh, dif_pos (fun q => by
      match q with
      | ⟨0, _⟩ => exact ⟨Nat.zero_le _, rfl, by show (0 - 0) / 1 < 1; omega⟩
      | ⟨1, _⟩ => exact ⟨Nat.zero_le _, Nat.mod_one _, by show (r.val - 0) / 1 < m; rw [Nat.div_one]; exact hh.2⟩
      | ⟨2, _⟩ => exact ⟨hh.1.ge, Nat.mod_one _, by show (a.val - lo) / 1 < 1; rw [Nat.div_one]; omega⟩
      | ⟨3, _⟩ => exact ⟨Nat.zero_le _, Nat.mod_one _, by show (b.val - 0) / 1 < d; rw [Nat.div_one]; exact b.isLt⟩)]
    refine congrArg x (funext fun q => Fin.ext ?_)
    match q with
    | ⟨0, _⟩ => exact Nat.div_one _
    | ⟨1, _⟩ => exact Nat.div_one _
    | ⟨2, _⟩ => show (a.val - lo) / 1 = 0; rw [Nat.div_one]; omega
    | ⟨3, _⟩ => exact Nat.div_one _
  · rw [dif_neg hh, dif_neg (fun q => hh (by
      have h1 := (q (1 : Fin 4)).2.2
      have h2 := q (2 : Fin 4)
      change (r.val - 0) / 1 < m at h1
      change lo ≤ a.val ∧ (a.val - lo) % 1 = 0 ∧ (a.val - lo) / 1 < 1 at h2
      rw [Nat.div_one] at h1 h2
      omega))]

/-- Rows `w` on, with the sign changed, padded into one column block of four. -/
theorem pad_shift {m n d lo hi w : ℕ} (hm : m + w = n) (f : Fin n → Fin d → ℝ) {x : (⟨4, ![1, m, 1, d]⟩ : Shape).Idx → EReal}
    (hx : ∀ j b, x (ix4 0 j 0 b) = ((-f ⟨w + j.val, by omega⟩ b : ℝ) : EReal)) {u : Shape} {v : u.Idx → EReal} {hu : 0 < u.numel}
    (hv : v (Shape.Idx.first hu) = 0)
    (h : (⟨4, ![1, m, 1, d]⟩ : Shape).Pads ![0, 0, lo, 0] ![0, w, hi, 0] ![0, 0, 0, 0] ⟨4, ![1, n, 4, d]⟩)
    (r : Fin n) (a : Fin 4) (b : Fin d) :
    pad ⟨4, ![1, n, 4, d]⟩ ![0, 0, lo, 0] ![0, w, hi, 0] ![0, 0, 0, 0] x v h hu (ix4 0 r a b)
      = ((if a.val = lo then -ext (fun j => f j b) (r.val + w) else 0 : ℝ) : EReal) := by
  rw [pad_at]
  by_cases ha : a.val = lo
  · rw [if_pos ha]
    by_cases hr : r.val < m
    · rw [dif_pos ⟨ha, hr⟩, hx, ext, dif_pos (by omega)]
      exact congrArg (fun j => ((-f j b : ℝ) : EReal)) (Fin.ext (Nat.add_comm _ _))
    · rw [dif_neg (fun q => hr q.2), ext, dif_neg (by omega), hv, neg_zero, EReal.coe_zero]
  · rw [if_neg ha, dif_neg (fun q => ha q.1), hv, EReal.coe_zero]

end Cert.WinSum

end
-- ==== Proof.MixModel.lean ====
/-
  The gradients of the two mixers over the reals. One half of the columns is mixed over 128 tokens at a time by a masked
  matrix, after a layer normalisation of each head's columns; the other half is pooled over a window of earlier tokens and
  mixed by group. Both halves go through a gate.
-/
module

public import proofs.«01_k».proof.Proof.Norm
public import proofs.«01_k».proof.Proof.Lift
public import proofs.«01_k».proof.Proof.WinSum

@[expose] public section

noncomputable section

namespace Cert.MixModel

open Cert.Norm Cert.Lift

/-- The two constants of the smooth rectifier: the values of the programs' 32-bit words. -/
def c0 : ℝ := 13386282 / 16777216
def c1 : ℝ := 12003091 / 268435456

/-- The rectifier's distribution function, its value and its slope. -/
def cdf (y : ℝ) : ℝ := (1 + Real.exp (y * (-(2 * c0) + -(2 * c0 * c1) * (y * y))))⁻¹
def gelu (y : ℝ) : ℝ := y * cdf y
def dgelu (y : ℝ) : ℝ := cdf y + y * cdf y * (1 - cdf y) * (2 * c0 + 6 * c0 * c1 * (y * y))

/-- The logistic function, the gate and its slope. -/
def sg (z : ℝ) : ℝ := (1 + Real.exp (-z))⁻¹
def gate (z : ℝ) : ℝ := z * sg z
def slope (z : ℝ) : ℝ := sg z * (1 + z * (1 - sg z))

theorem half_tanh (x : ℝ) : 1 / 2 * (1 + Real.tanh x) = (1 + Real.exp (-(2 * x)))⁻¹ := by
  rw [Real.tanh_eq_sinh_div_cosh, Real.sinh_eq, Real.cosh_eq]
  have h1 : Real.exp x ≠ 0 := (Real.exp_pos x).ne'
  have h2 : Real.exp (-x) ≠ 0 := (Real.exp_pos _).ne'
  have h3 : Real.exp (-(2 * x)) = Real.exp (-x) * Real.exp (-x) := by rw [← Real.exp_add]; congr 1; ring
  have h4 : Real.exp x * Real.exp (-x) = 1 := by rw [← Real.exp_add]; simp
  have h5 : Real.exp x + Real.exp (-x) ≠ 0 := (add_pos (Real.exp_pos _) (Real.exp_pos _)).ne'
  have h6 : 1 + Real.exp (-x) * Real.exp (-x) ≠ 0 := (add_pos one_pos (mul_pos (Real.exp_pos _) (Real.exp_pos _))).ne'
  rw [h3]
  field_simp
  linear_combination 2 * Real.exp (-x) * h4

/-- The argument of the hyperbolic tangent. -/
def arg (y : ℝ) : ℝ := c0 * (y + c1 * (y * y * y))

theorem cdf_eq (y : ℝ) : cdf y = 1 / 2 * (1 + Real.tanh (arg y)) := by
  rw [half_tanh, cdf, arg]
  congr 3
  ring

theorem dgelu_eq (y : ℝ) : dgelu y = 1 / 2 * (1 + Real.tanh (arg y))
    + y * (1 / 2) * ((1 + Real.tanh (arg y)) * (1 - Real.tanh (arg y))) * c0 * (1 + c1 * (3 * (y * y))) := by
  rw [dgelu, cdf_eq]
  ring

/-- One head's columns of 128 consecutive tokens: the values to gate and to mix, the gate's argument, the incoming gradient,
    the norm's scale and offset, the mixing matrix and its offset. -/
structure Chunk where
  u : Fin 128 → Fin 256 → ℝ
  v : Fin 128 → Fin 256 → ℝ
  z : Fin 128 → Fin 256 → ℝ
  dy : Fin 128 → Fin 256 → ℝ
  lg : Fin 256 → ℝ
  lb : Fin 256 → ℝ
  sw : Fin 128 → Fin 128 → ℝ
  sb : Fin 128 → ℝ

namespace Chunk

variable (C : Chunk)

/-- The mixing matrix below and on its diagonal. -/
def mw (s k : Fin 128) : ℝ := if k ≤ s then C.sw s k else 0
def gv (s : Fin 128) (d : Fin 256) : ℝ := gelu (C.v s d)
def xh (s : Fin 128) (d : Fin 256) : ℝ := xhat (C.gv s) d
def vln (s : Fin 128) (d : Fin 256) : ℝ := C.xh s d * C.lg d + C.lb d
def sv (s : Fin 128) (d : Fin 256) : ℝ := (∑ k, C.mw s k * C.vln k d) + C.sb s
def dyg (s : Fin 128) (d : Fin 256) : ℝ := C.dy s d * gate (C.z s d)
def dz (s : Fin 128) (d : Fin 256) : ℝ := C.dy s d * (gelu (C.u s d) * C.sv s d) * slope (C.z s d)
def du (s : Fin 128) (d : Fin 256) : ℝ := C.dyg s d * C.sv s d * dgelu (C.u s d)
def dsv (s : Fin 128) (d : Fin 256) : ℝ := C.dyg s d * gelu (C.u s d)
def dvln (s : Fin 128) (d : Fin 256) : ℝ := ∑ k, C.mw k s * C.dsv k d
def dxh (s : Fin 128) (d : Fin 256) : ℝ := C.dvln s d * C.lg d
def dv (s : Fin 128) (d : Fin 256) : ℝ := back (C.gv s) (C.dxh s) d * dgelu (C.v s d)
/-- The chunk's parts of the gradients of the norm's scale and offset, the mixing matrix and its offset. -/
def dlg (d : Fin 256) : ℝ := ∑ s, C.dvln s d * C.xh s d
def dlb (d : Fin 256) : ℝ := ∑ s, C.dvln s d
def dsw (s k : Fin 128) : ℝ := ∑ d, C.dsv s d * C.vln k d
def dsb (s : Fin 128) : ℝ := ∑ d, C.dsv s d

end Chunk

/-- The column of a head's entry, and the row of a chunk's token. -/
def col (k : Fin 4) (d : Fin 256) : Fin 1024 := ⟨k.val * 256 + d.val, by omega⟩
def row (n : Fin 64) (s : Fin 128) : Fin 8192 := ⟨n.val * 128 + s.val, by omega⟩

/-- The arguments: the tokens, the gradient that reaches them by the residual, the gradient of the mixed values, the
    projection, the pooled half's mixing matrices and scale, the other half's norm, mixing matrices and offset; and the pooled
    values, a saved result of the forward lines. -/
structure Args where
  x : Fin 8192 → Fin 1024 → ℝ
  dxr : Fin 8192 → Fin 1024 → EReal
  dy : Fin 8192 → Fin 2048 → ℝ
  wi : Fin 1024 → Fin 5120 → ℝ
  pw : Fin 4 → Fin 256 → Fin 256 → ℝ
  ps : Fin 1024 → ℝ
  lg : Fin 1024 → ℝ
  lb : Fin 1024 → ℝ
  sw : Fin 4 → Fin 128 → Fin 128 → ℝ
  sb : Fin 4 → Fin 128 → ℝ
  pl : Fin 8192 → Fin 4 → Fin 256 → ℝ

namespace Args

variable (A : Args)

/-- The projected token. -/
def h (r : Fin 8192) (e : Fin 5120) : ℝ := ∑ k, A.x r k * A.wi k e

/-- Section `b` of 1024 columns of the projected token. -/
def sec (b : Fin 5) (r : Fin 8192) (e : Fin 1024) : ℝ := A.h r ⟨1024 * b.val + e.val, by omega⟩

/-- Section `b` of 1024 columns of the incoming gradient. -/
def dys (b : Fin 2) (r : Fin 8192) (e : Fin 1024) : ℝ := A.dy r ⟨1024 * b.val + e.val, by omega⟩

/-- Head `k` of chunk `n`. -/
def chunk (n : Fin 64) (k : Fin 4) : Chunk where
  u s d := A.sec 1 (row n s) (col k d)
  v s d := A.sec 2 (row n s) (col k d)
  z s d := A.sec 4 (row n s) (col k d)
  dy s d := A.dys 1 (row n s) (col k d)
  lg d := A.lg (col k d)
  lb d := A.lb (col k d)
  sw := A.sw k
  sb := A.sb k

/-- The gradients of the norm's scale and offset, of the mixing matrices and their offset: sums over the chunks. -/
def dlg (k : Fin 4) (d : Fin 256) : ℝ := ∑ n, (A.chunk n k).dlg d
def dlb (k : Fin 4) (d : Fin 256) : ℝ := ∑ n, (A.chunk n k).dlb d
def dsw (k : Fin 4) (s j : Fin 128) : ℝ := if j ≤ s then ∑ n, (A.chunk n k).dsw s j else 0
def dsb (k : Fin 4) (s : Fin 128) : ℝ := ∑ n, (A.chunk n k).dsb s

/-- The width of a group's window. -/
def width (g : Fin 4) : ℕ := 2 * 2 ^ g.val

/-- The pooled half of a token: the mixed values, the gradients of the gate's argument, of the scaled and of the mixed values,
    of the pooled values, and the latter over the count of tokens in the window. -/
def mixed (r : Fin 8192) (g : Fin 4) (d : Fin 256) : ℝ := ∑ k, A.pl r g k * A.pw g k d
def dzp (r : Fin 8192) (g : Fin 4) (d : Fin 256) : ℝ :=
  A.dys 0 r (col g d) * (A.mixed r g d * A.ps (col g d)) * slope (A.sec 3 r (col g d))
def dms (r : Fin 8192) (g : Fin 4) (d : Fin 256) : ℝ := A.dys 0 r (col g d) * gate (A.sec 3 r (col g d))
def dmix (r : Fin 8192) (g : Fin 4) (d : Fin 256) : ℝ := A.dms r g d * A.ps (col g d)
def dpl (r : Fin 8192) (g : Fin 4) (d : Fin 256) : ℝ := ∑ k, A.dmix r g k * A.pw g d k

def cnt (r : Fin 8192) (g : Fin 4) : ℕ := min (r.val + 1) (width g)
def q (r : Fin 8192) (g : Fin 4) (d : Fin 256) : ℝ := A.dpl r g d * (1 / (cnt r g : ℝ))
/-- The gradient of the values that are pooled: that of the pooled values of every token whose window holds this one, over
    its count, less the token's own. -/
def da (r : Fin 8192) (g : Fin 4) (d : Fin 256) : ℝ :=
  (∑ k ∈ Finset.range (width g), WinSum.ext (fun j => A.q j g d) (r.val + k)) - A.dpl r g d

def dps (g : Fin 4) (d : Fin 256) : ℝ := ∑ r, A.dms r g d * A.mixed r g d
def dpw (g : Fin 4) (k d : Fin 256) : ℝ := ∑ r, A.pl r g k * A.dmix r g d

/-- The gradient of the projected token. -/
def dhs (n : Fin 64) (s : Fin 128) (b : Fin 5) (k : Fin 4) (d : Fin 256) : ℝ :=
  match b with
  | 0 => A.da (row n s) k d
  | 1 => (A.chunk n k).du s d
  | 2 => (A.chunk n k).dv s d
  | 3 => A.dzp (row n s) k d
  | 4 => (A.chunk n k).dz s d

end Args

end Cert.MixModel

end
-- ==== Proof.MixArgs.lean ====
/- What it means that the mixers' argument arrays hold given reals. -/
module

public import proofs.«01_k».proof.Proof.MixModel
public import Idealize.ShloMosaic.Lib.Pointwise

@[expose] public section

noncomputable section

namespace Cert.MixModel

open Idealize.ShloMosaic

/-- The argument arrays, read as extended reals, hold the reals of `A` (the gradient by the residual: its extended reals). -/
structure Holds (A : Args) (x0 : FVec Ideal ⟨3, ![1, 8192, 1024]⟩ .f32) (x1 : FVec Ideal ⟨2, ![8192, 1024]⟩ .f32)
    (x2 : FVec Ideal ⟨2, ![8192, 2048]⟩ .f32) (x3 : FVec Ideal ⟨3, ![1, 1024, 5120]⟩ .f32)
    (x4 : FVec Ideal ⟨4, ![1, 4, 256, 256]⟩ .f32) (x5 x6 x7 : FVec Ideal ⟨2, ![1, 1024]⟩ .f32)
    (x8 : FVec Ideal ⟨4, ![1, 4, 128, 128]⟩ .f32) (x9 : FVec Ideal ⟨3, ![1, 4, 128]⟩ .f32) : Prop where
  x : ∀ r d, x0 (ix3 0 r d) = (A.x r d : EReal)
  dxr : ∀ r d, x1 (ix2 r d) = A.dxr r d
  dy : ∀ r k, x2 (ix2 r k) = (A.dy r k : EReal)
  wi : ∀ k e, x3 (ix3 0 k e) = (A.wi k e : EReal)
  pw : ∀ g k d, x4 (ix4 0 g k d) = (A.pw g k d : EReal)
  ps : ∀ d, x5 (ix2 0 d) = (A.ps d : EReal)
  lg : ∀ d, x6 (ix2 0 d) = (A.lg d : EReal)
  lb : ∀ d, x7 (ix2 0 d) = (A.lb d : EReal)
  sw : ∀ k s j, x8 (ix4 0 k s j) = (A.sw k s j : EReal)
  sb : ∀ k s, x9 (ix3 0 k s) = (A.sb k s : EReal)

end Cert.MixModel

end
-- ==== Proof.MixChunk.lean ====
/- What the mixers' kernel computes of one head's columns of 128 rows: each value, at an index, as a real number of the chunk. -/
module

public import proofs.«01_k».proof.Proof.MixModel
public import proofs.«01_k».proof.Proof.Gen.MixIdeal.Skeleton
public import Idealize.ShloMosaic.Lib.Pointwise
public import Idealize.ShloMosaic.Lib.WordCmp

@[expose] public section

set_option maxRecDepth 16384

noncomputable section

namespace Cert.MixChunk

open Cert.MixModel Cert.Lift Cert.Norm Cert.MixIdeal Cert.MixIdeal.Gen Idealize.ShloMosaic

/-! ### The constants -/

theorem word_neg_two_c0 : Ideal.ofBits .f32 0xBFCC422A#32 = ((-(2 * c0) : ℝ) : EReal) := by
  simp [Ideal.ofBits, Ideal.ieee, -EReal.coe_mul]; norm_num [c0]
theorem word_two_c0 : Ideal.ofBits .f32 0x3FCC422A#32 = ((2 * c0 : ℝ) : EReal) := by
  simp [Ideal.ofBits, Ideal.ieee, -EReal.coe_mul]; norm_num [c0]
theorem named_cubic : Named.named (F := Ideal) Cert.MixIdeal.κ "cubic" (φ := .f32) 0xBD922279#32 = ((-(2 * c0 * c1) : ℝ) : EReal) :=
  (IdealRules.named_const.ideal_named_scalar _ _ _ _ rfl).trans (congrArg _ (by norm_num [c0, c1]))
theorem named_slope : Named.named (F := Ideal) Cert.MixIdeal.κ "slope" (φ := .f32) 0x3E5B33B6#32 = ((6 * c0 * c1 : ℝ) : EReal) :=
  (IdealRules.named_const.ideal_named_scalar _ _ _ _ rfl).trans (congrArg _ (by norm_num [c0, c1]))

/-! ### The functions -/

section fns

variable (U V Z : FVec Ideal S128x256 .bf16) (DY SB : FVec Ideal S128x256 .f32) (LG LB : FVec Ideal S1x256 .f32) (SW : FVec Ideal S1x128x128 .f32)

def gu : FVec Ideal S128x256 .f32 := k0_pay132 (F := Ideal) (k0_pay127 U) (k0_pay129 U) k0_pay130
def dgu : FVec Ideal S128x256 .f32 := k0_pay133 (F := Ideal) (k0_pay127 U) (k0_pay128 U) (k0_pay129 U) k0_pay130
def rs : FVec Ideal S128x1 .f32 := k0_pay142 (F := Ideal) (k0_pay137 V) (k0_pay139 V) k0_pay140
def xh : FVec Ideal S128x256 .f32 := k0_pay143 (F := Ideal) (k0_pay137 V) (k0_pay139 V) k0_pay140
def vln : FVec Ideal S128x256 .bf16 := k0_pay144 (F := Ideal) (k0_pay137 V) (k0_pay139 V) k0_pay140 LG LB
def sv : FVec Ideal S128x256 .f32 := k0_pay145 (F := Ideal) (k0_pay125 SW) (k0_pay137 V) (k0_pay139 V) k0_pay140 LG LB SB
def dz : FVec Ideal S128x256 .bf16 :=
  k0_pay151 (F := Ideal) (k0_pay147 Z) (k0_pay148 (k0_pay125 SW) (gu U) (k0_pay137 V) (k0_pay139 V) k0_pay140 LG LB SB DY) (k0_pay149 Z) k0_pay150
def du : FVec Ideal S128x256 .bf16 := k0_pay153 (F := Ideal) (dgu U) (sv V SB LG LB SW) (k0_pay146 Z) (k0_pay147 Z) DY
def dsv : FVec Ideal S128x256 .f32 := k0_pay154 (F := Ideal) (gu U) (k0_pay146 Z) (k0_pay147 Z) DY
def dsb (ACC : FVec Ideal S128x256 .f32) : FVec Ideal S128x256 .f32 := k0_pay155 (F := Ideal) (gu U) (k0_pay146 Z) (k0_pay147 Z) DY ACC
def dsw (ACC : FVec Ideal S1x128x128 .f32) : FVec Ideal S1x128x128 .f32 :=
  k0_pay157 (F := Ideal) (gu U) (vln V LG LB) (k0_pay146 Z) (k0_pay147 Z) DY ACC
def dvln : FVec Ideal S128x256 .f32 := k0_pay158 (F := Ideal) (k0_pay126 SW) (gu U) (k0_pay146 Z) (k0_pay147 Z) DY
def dlg (ACC : FVec Ideal S1x256 .f32) : FVec Ideal S1x256 .f32 :=
  k0_pay159 (F := Ideal) (k0_pay126 SW) (gu U) (xh V) (k0_pay146 Z) (k0_pay147 Z) DY ACC
def dlb (ACC : FVec Ideal S1x256 .f32) : FVec Ideal S1x256 .f32 := k0_pay160 (F := Ideal) (dvln U Z DY SW) ACC
def dv : FVec Ideal S128x256 .bf16 := k0_pay161 (F := Ideal) (k0_pay138 V) (rs V) (xh V) (dvln U Z DY SW) LG

end fns

/-- The blocks hold the reals of a chunk. -/
structure Blk (C : Chunk) (U V Z : FVec Ideal S128x256 .bf16) (DY SB : FVec Ideal S128x256 .f32) (LG LB : FVec Ideal S1x256 .f32)
    (SW : FVec Ideal S1x128x128 .f32) : Prop where
  u : ∀ s d, U (ix2 s d) = (C.u s d : EReal)
  v : ∀ s d, V (ix2 s d) = (C.v s d : EReal)
  z : ∀ s d, Z (ix2 s d) = (C.z s d : EReal)
  dy : ∀ s d, DY (ix2 s d) = (C.dy s d : EReal)
  sb : ∀ s d, SB (ix2 s d) = (C.sb s : EReal)
  lg : ∀ d, LG (ix2 0 d) = (C.lg d : EReal)
  lb : ∀ d, LB (ix2 0 d) = (C.lb d : EReal)
  sw : ∀ s k, SW (ix3 0 s k) = (C.sw s k : EReal)

theorem one_add_exp (r : ℝ) : Ideal.div ((1 : ℝ) : EReal) (((1 : ℝ) : EReal) + Ideal.exp ((r : ℝ) : EReal)) = (((1 + Real.exp r)⁻¹ : ℝ) : EReal) := by
  rw [Ideal.exp_coe, ← EReal.coe_add, div_coe (add_pos one_pos (Real.exp_pos r)).ne', one_mul, one_div]

section gelu

variable {X : FVec Ideal S128x256 .bf16} {x : Fin 128 → Fin 256 → ℝ} (hX : ∀ s d, X (ix2 s d) = (x s d : EReal))
include hX

theorem gu_at (s : Fin 128) (d : Fin 256) : gu X (ix2 s d) = (gelu (x s d) : EReal) := by
  unfold gu
  pointwise [k0_pay132, k0_pay131, k0_pay127, k0_pay128, k0_pay129, k0_pay130]
  simp only [hX, named_cubic, word_neg_two_c0, ← EReal.coe_one, ← EReal.coe_mul, ← EReal.coe_add, one_add_exp]
  rfl

theorem dgu_at (s : Fin 128) (d : Fin 256) : dgu X (ix2 s d) = (dgelu (x s d) : EReal) := by
  unfold dgu
  pointwise [k0_pay133, k0_pay132, k0_pay131, k0_pay127, k0_pay128, k0_pay129, k0_pay130]
  simp only [hX, named_cubic, named_slope, word_neg_two_c0, word_two_c0, ← EReal.coe_one, ← EReal.coe_mul, ← EReal.coe_add, one_add_exp, ← EReal.coe_sub]
  rfl

end gelu

variable {C : Chunk} {U V Z : FVec Ideal S128x256 .bf16} {DY SB : FVec Ideal S128x256 .f32} {LG LB : FVec Ideal S1x256 .f32}
  {SW : FVec Ideal S1x128x128 .f32} (H : Blk C U V Z DY SB LG LB SW)
include H

theorem gv_at (s : Fin 128) (d : Fin 256) : k0_pay137 (F := Ideal) V (ix2 s d) = (C.gv s d : EReal) :=
  gu_at H.v s d

theorem dgv_at (s : Fin 128) (d : Fin 256) : k0_pay138 (F := Ideal) V (ix2 s d) = (dgelu (C.v s d) : EReal) :=
  dgu_at H.v s d

theorem cen_at (s : Fin 128) (d : Fin 256) :
    k0_pay141 (F := Ideal) (k0_pay137 V) (k0_pay139 V) k0_pay140 (ix2 s d) = (cen (C.gv s) d : EReal) := by
  pointwise [k0_pay141, k0_pay139, k0_pay140]
  simp only [gv_at H, word_256, coe_sum, div_coe (show (256 : ℝ) ≠ 0 by norm_num), ← EReal.coe_sub]
  exact congrArg _ (by simp [cen, mean])

theorem rs_at (s : Fin 128) : rs V (ix2 s 0) = (rstd (C.gv s) : EReal) := by
  unfold rs
  pointwise [k0_pay142]
  simp only [cen_at H, word_256, word_eps, ← EReal.coe_mul, coe_sum, ← EReal.coe_add, div_coe (show (256 : ℝ) ≠ 0 by norm_num)]
  exact (congrArg (fun z : ℝ => Ideal.rsqrt (z : EReal)) (show _ = var (C.gv s) + eps by simp [var, mean, eps])).trans (rsqrt_pos (var_eps_pos _))

theorem xh_at (s : Fin 128) (d : Fin 256) : xh V (ix2 s d) = (C.xh s d : EReal) := by
  have hr := rs_at H s
  unfold rs at hr
  unfold xh
  pointwise [k0_pay143]
  simp only [cen_at H, hr, ← EReal.coe_mul]
  rfl

theorem vln_at (s : Fin 128) (d : Fin 256) : vln V LG LB (ix2 s d) = (C.vln s d : EReal) := by
  have hx := xh_at H s d
  unfold xh at hx
  unfold vln
  pointwise [k0_pay144]
  simp only [hx, H.lg, H.lb, ← EReal.coe_mul, ← EReal.coe_add]
  rfl

theorem mw_at (s k : Fin 128) : k0_pay124 (F := Ideal) SW (ix2 s k) = (C.mw s k : EReal) := by
  pointwise [k0_pay124]
  rw [WordCmp.cmpi_sge_ofNat (by omega) (by omega), WordCmp.select_ofBool, H.sw]
  by_cases h : k ≤ s
  · rw [if_pos (by simpa using h), Chunk.mw, if_pos h]
  · rw [if_neg (by simpa using h), Chunk.mw, if_neg h]
    rfl

theorem sv_at (s : Fin 128) (d : Fin 256) : sv V SB LG LB SW (ix2 s d) = (C.sv s d : EReal) := by
  have hv := vln_at H
  unfold vln at hv
  unfold sv
  pointwise [k0_pay145, k0_pay125]
  simp only [hv, mw_at H, H.sb, ← EReal.coe_mul, coe_sum, ← EReal.coe_add]
  rfl

theorem dyg_at (s : Fin 128) (d : Fin 256) : k0_pay152 (F := Ideal) (k0_pay146 Z) (k0_pay147 Z) DY (ix2 s d) = (C.dyg s d : EReal) := by
  pointwise [k0_pay152, k0_pay146, k0_pay147]
  simp only [H.z, H.dy, zero_sub, ← EReal.coe_neg, ← EReal.coe_one, one_add_exp, ← EReal.coe_mul]
  rfl

theorem dz_at (s : Fin 128) (d : Fin 256) : dz U V Z DY SB LG LB SW (ix2 s d) = (C.dz s d : EReal) := by
  have hs := sv_at H s d
  unfold sv at hs
  unfold dz
  pointwise [k0_pay151, k0_pay148, k0_pay147, k0_pay149, k0_pay146, k0_pay150]
  simp only [hs, gu_at H.u]
  simp only [H.z, H.dy, zero_sub, ← EReal.coe_neg, ← EReal.coe_one, one_add_exp, ← EReal.coe_mul, ← EReal.coe_sub, ← EReal.coe_add]
  rfl

theorem du_at (s : Fin 128) (d : Fin 256) : du U V Z DY SB LG LB SW (ix2 s d) = (C.du s d : EReal) := by
  unfold du
  pointwise [k0_pay153]
  simp only [dyg_at H, sv_at H, dgu_at H.u, ← EReal.coe_mul]
  rfl

theorem dsv_at (s : Fin 128) (d : Fin 256) : dsv U Z DY (ix2 s d) = (C.dsv s d : EReal) := by
  unfold dsv
  pointwise [k0_pay154]
  simp only [dyg_at H, gu_at H.u, ← EReal.coe_mul]
  rfl

theorem dsb_at (ACC : FVec Ideal S128x256 .f32) (s : Fin 128) (d : Fin 256) :
    dsb U Z DY ACC (ix2 s d) = ACC (ix2 s d) + (C.dsv s d : EReal) := by
  have h := dsv_at H s d
  unfold dsv at h
  unfold dsb
  pointwise [k0_pay155]
  rw [h]

theorem dsw_at (ACC : FVec Ideal S1x128x128 .f32) (s k : Fin 128) :
    dsw U V Z DY LG LB ACC (ix3 0 s k) = ACC (ix3 0 s k) + (C.dsw s k : EReal) := by
  have h := dsv_at H
  unfold dsv at h
  unfold dsw
  pointwise [k0_pay157, k0_pay156]
  simp only [h, vln_at H, ← EReal.coe_mul, coe_sum]
  rfl

theorem dvln_at (s : Fin 128) (d : Fin 256) : dvln U Z DY SW (ix2 s d) = (C.dvln s d : EReal) := by
  have h := dsv_at H
  unfold dsv at h
  unfold dvln
  pointwise [k0_pay158, k0_pay156, k0_pay126]
  simp only [h, mw_at H, ← EReal.coe_mul, coe_sum]
  rfl

theorem dlg_at (ACC : FVec Ideal S1x256 .f32) (d : Fin 256) :
    dlg U V Z DY SW ACC (ix2 0 d) = ACC (ix2 0 d) + (C.dlg d : EReal) := by
  have h := dvln_at H
  unfold dvln at h
  unfold dlg
  pointwise [k0_pay159]
  simp only [h, xh_at H, ← EReal.coe_mul, coe_sum]
  rfl

theorem dlb_at (ACC : FVec Ideal S1x256 .f32) (d : Fin 256) :
    dlb U Z DY SW ACC (ix2 0 d) = ACC (ix2 0 d) + (C.dlb d : EReal) := by
  unfold dlb
  pointwise [k0_pay160]
  simp only [dvln_at H, coe_sum]
  rfl

theorem dv_at (s : Fin 128) (d : Fin 256) : dv U V Z DY LG SW (ix2 s d) = (C.dv s d : EReal) := by
  unfold dv
  pointwise [k0_pay161]
  simp only [dvln_at H, xh_at H, rs_at H, dgv_at H, H.lg, word_256, ← EReal.coe_mul, coe_sum, div_coe (show (256 : ℝ) ≠ 0 by norm_num), ← EReal.coe_sub]
  refine congrArg (fun r : ℝ => (r : EReal)) ?_
  simp only [Chunk.dv, Chunk.dxh, back, mean, Chunk.xh]
  push_cast
  rfl

end Cert.MixChunk

end
-- ==== Proof.MixRefGate.lean ====
/- What the mixers' reference computes: the projected tokens, the gates and the smooth rectifiers, at an index, as reals. -/
module

public import proofs.«01_k».proof.Proof.MixArgs
public import proofs.«01_k».proof.Proof.UnitSum
public import proofs.«01_k».proof.Proof.Gen.MixRefIdeal.Read
public import Idealize.ShloMosaic.Lib.WordCmp

@[expose] public section

set_option maxRecDepth 16384

noncomputable section

namespace Cert.MixRefRead

open Cert.MixModel Cert.Lift Cert.Norm Cert.MixRefIdeal Cert.MixRefIdeal.Gen Cert.MixRefIdeal.Read Idealize.ShloMosaic

theorem word_c0 : Ideal.ofBits .f32 0x3F4C422A#32 = ((c0 : ℝ) : EReal) := by
  simp [Ideal.ofBits, Ideal.ieee, -EReal.coe_mul]; norm_num [c0]
theorem word_c1 : Ideal.ofBits .f32 0x3D372713#32 = ((c1 : ℝ) : EReal) := by
  simp [Ideal.ofBits, Ideal.ieee, -EReal.coe_mul]; norm_num [c1]

theorem sg_div (r : ℝ) : Ideal.div 1 (1 + Ideal.exp (-(r : EReal))) = ((sg r : ℝ) : EReal) := by
  rw [← EReal.coe_neg, Ideal.exp_coe, ← EReal.coe_one, ← EReal.coe_add, div_coe (add_pos one_pos (Real.exp_pos _)).ne', one_mul, one_div]
  rfl

variable {A : Args} {x0 : FVec Ideal S1x8192x1024 .f32} {x1 : FVec Ideal S8192x1024 .f32} {x2 : FVec Ideal S8192x2048 .f32}
  {x3 : FVec Ideal S1x1024x5120 .f32} {x4 : FVec Ideal S1x4x256x256 .f32} {x5 x6 x7 : FVec Ideal S1x1024 .f32}
  {x8 : FVec Ideal S1x4x128x128 .f32} {x9 : FVec Ideal S1x4x128 .f32}
  (H : Holds A x0 x1 x2 x3 x4 x5 x6 x7 x8 x9)
include H

theorem h_at (r : Fin 8192) (e : Fin 5120) : val_main_v1 (F := Ideal) x0 x3 (ix3 0 r e) = (A.h r e : EReal) := by
  pointwise [val_main_v1, val_main_v0]
  simp only [H.x, H.wi, ← EReal.coe_mul, coe_sum]
  rfl

theorem u_at (r : Fin 8192) (e : Fin 1024) : val_main_v3 (F := Ideal) x0 x3 (ix3 0 r e) = (A.sec 1 r e : EReal) := by
  pointwise [val_main_v3]
  exact h_at H r _

theorem v_at (r : Fin 8192) (e : Fin 1024) : val_main_v4 (F := Ideal) x0 x3 (ix3 0 r e) = (A.sec 2 r e : EReal) := by
  pointwise [val_main_v4]
  exact h_at H r _

theorem tanh_u (r : Fin 8192) (e : Fin 1024) : val_main_v64 (F := Ideal) x0 x3 (ix3 0 r e) = (Real.tanh (arg (A.sec 1 r e)) : EReal) := by
  pointwise [val_main_v64, val_main_v63, val_main_v62, val_main_v61, val_main_v60, val_main_v59, val_main_v55, val_main_v54, val_main_cst_9, val_main_cst_10]
  simp only [u_at H, word_c0, word_c1, ← EReal.coe_mul, ← EReal.coe_add]
  rfl

theorem cdf_u (r : Fin 8192) (e : Fin 1024) : val_main_v73 (F := Ideal) x0 x3 (ix3 0 r e) = (cdf (A.sec 1 r e) : EReal) := by
  pointwise [val_main_v73, val_main_v72, val_main_v71, val_main_v70, val_main_cst_13, val_main_cst_14]
  simp only [tanh_u H, word_half, ← EReal.coe_one, ← EReal.coe_mul, ← EReal.coe_add]
  rw [cdf_eq]

theorem gelu_u (r : Fin 8192) (e : Fin 1024) : val_main_v74 (F := Ideal) x0 x3 (ix3 0 r e) = (gelu (A.sec 1 r e) : EReal) := by
  pointwise [val_main_v74]
  simp only [u_at H, cdf_u H, ← EReal.coe_mul]
  rfl

theorem sig_at (r : Fin 8192) (e : Fin 2048) : val_main_v143_2 (F := Ideal) x0 x3 (ix3 0 r e) = (sg (A.h r ⟨3072 + e.val, by omega⟩) : EReal) := by
  pointwise [val_main_v143_2, val_main_call3_v4, val_main_call3_v3, val_main_call3_cst_0, val_main_call3_v2, val_main_call3_v1, val_main_call3_v0, val_main_call3_cst, val_main_v5]
  simp only [h_at H]
  exact sg_div _

theorem gate_at (r : Fin 8192) (e : Fin 2048) : val_main_v143_0 (F := Ideal) x0 x3 (ix3 0 r e) = (MixModel.gate (A.h r ⟨3072 + e.val, by omega⟩) : EReal) := by
  pointwise [val_main_v143_0, val_main_v5]
  simp only [h_at H, sig_at H, ← EReal.coe_mul]
  rfl

theorem tanh_v (r : Fin 8192) (e : Fin 1024) : val_main_v85 (F := Ideal) x0 x3 (ix3 0 r e) = (Real.tanh (arg (A.sec 2 r e)) : EReal) := by
  pointwise [val_main_v85, val_main_v84, val_main_v83, val_main_v82, val_main_v81, val_main_v80, val_main_v76, val_main_v75, val_main_cst_16, val_main_cst_17]
  simp only [v_at H, word_c0, word_c1, ← EReal.coe_mul, ← EReal.coe_add]
  rfl

theorem cdf_v (r : Fin 8192) (e : Fin 1024) : val_main_v94 (F := Ideal) x0 x3 (ix3 0 r e) = (cdf (A.sec 2 r e) : EReal) := by
  pointwise [val_main_v94, val_main_v93, val_main_v92, val_main_v91, val_main_cst_20, val_main_cst_21]
  simp only [tanh_v H, word_half, ← EReal.coe_one, ← EReal.coe_mul, ← EReal.coe_add]
  rw [cdf_eq]

theorem gelu_v (r : Fin 8192) (e : Fin 1024) : val_main_v95 (F := Ideal) x0 x3 (ix3 0 r e) = (gelu (A.sec 2 r e) : EReal) := by
  pointwise [val_main_v95]
  simp only [v_at H, cdf_v H, ← EReal.coe_mul]
  rfl

/-- The gradient through the rectifier of the gated values, from that of its value. -/
theorem back_u (r : Fin 8192) (e : Fin 1024) {g : ℝ} (hg : val_main_v152 (F := Ideal) x0 x2 x3 x6 x7 x8 x9 (ix3 0 r e) = (g : EReal)) :
    val_main_v225 (F := Ideal) x0 x2 x3 x6 x7 x8 x9 (ix3 0 r e) = ((g * dgelu (A.sec 1 r e) : ℝ) : EReal) := by
  pointwise [val_main_v225, val_main_v224, val_main_v223, val_main_v222, val_main_v221, val_main_v220, val_main_v219, val_main_v218, val_main_v217, val_main_v216, val_main_v215, val_main_v214, val_main_v58, val_main_v57, val_main_v56, val_main_v69, val_main_v68, val_main_v67, val_main_v66, val_main_v65, val_main_cst_8, val_main_cst_11, val_main_cst_12, val_main_cst_47, val_main_cst_48, val_main_cst_49]
  simp only [hg, u_at H, cdf_u H, tanh_u H, word_half, word_three, word_c0, word_c1, ← EReal.coe_one, ← EReal.coe_mul, ← EReal.coe_add, ← EReal.coe_sub]
  exact congrArg _ (by rw [dgelu_eq, cdf_eq]; ring)

/-- The gradient through the rectifier of the mixed values, from that of its value. -/
theorem back_v (r : Fin 8192) (e : Fin 1024) {g : ℝ} (hg : val_main_v201 (F := Ideal) x0 x2 x3 x6 x8 (ix3 0 r e) = (g : EReal)) :
    val_main_v213 (F := Ideal) x0 x2 x3 x6 x8 (ix3 0 r e) = ((g * dgelu (A.sec 2 r e) : ℝ) : EReal) := by
  pointwise [val_main_v213, val_main_v212, val_main_v211, val_main_v210, val_main_v209, val_main_v208, val_main_v207, val_main_v206, val_main_v205, val_main_v204, val_main_v203, val_main_v202, val_main_v79, val_main_v78, val_main_v77, val_main_v90, val_main_v89, val_main_v88, val_main_v87, val_main_v86, val_main_cst_15, val_main_cst_18, val_main_cst_19, val_main_cst_44, val_main_cst_45, val_main_cst_46]
  simp only [hg, v_at H, cdf_v H, tanh_v H, word_half, word_three, word_c0, word_c1, ← EReal.coe_one, ← EReal.coe_mul, ← EReal.coe_add, ← EReal.coe_sub]
  exact congrArg _ (by rw [dgelu_eq, cdf_eq]; ring)

/-- The gradient of the gate's argument, from the gated value and its gradient. -/
theorem back_gate (r : Fin 8192) (e : Fin 2048) {y : ℝ} (hy : val_main_v142 (F := Ideal) x0 x3 x4 x5 x6 x7 x8 x9 (ix3 0 r e) = (y : EReal)) :
    val_main_v148 (F := Ideal) x0 x2 x3 x4 x5 x6 x7 x8 x9 (ix3 0 r e) = ((A.dy r e * y * slope (A.h r ⟨3072 + e.val, by omega⟩) : ℝ) : EReal) := by
  pointwise [val_main_v148, val_main_call4_v1, val_main_call4_v2, val_main_call4_v0, val_main_v143_1, val_main_call3_v7, val_main_call3_v6, val_main_call3_cst_1, val_main_v146, val_main_v145, val_main_v5]
  simp only [hy, h_at H, sig_at H, H.dy, ← EReal.coe_one, ← EReal.coe_mul, ← EReal.coe_add, ← EReal.coe_sub]
  exact congrArg _ (by unfold MixModel.slope; ring)

theorem dgate_at (r : Fin 8192) (e : Fin 2048) : val_main_v147 (F := Ideal) x0 x2 x3 (ix3 0 r e) = ((A.dy r e * MixModel.gate (A.h r ⟨3072 + e.val, by omega⟩) : ℝ) : EReal) := by
  pointwise [val_main_v147, val_main_v145]
  simp only [H.dy, gate_at H, ← EReal.coe_mul]

end Cert.MixRefRead

end
-- ==== Proof.MixHost.lean ====
/- What the host's lines hand to the mixers' kernel, at an index: reshaped arguments, the projected tokens, the pooled values, the band of ones. -/
module

public import proofs.«01_k».proof.Proof.MixArgs
public import proofs.«01_k».proof.Proof.MixChunk
public import proofs.«01_k».proof.Proof.MixRefGate
public import proofs.«01_k».proof.Proof.Gen.MixIdeal.Launch
public import proofs.«01_k».proof.Proof.Gen.MixIdeal.Frame.Runs
public import Idealize.ShloMosaic.Lib.StableHlo.ReadAt

@[expose] public section

set_option maxRecDepth 16384
set_option maxHeartbeats 4000000

noncomputable section

namespace Cert.MixHost

open Cert.MixModel Cert.Lift Cert.Norm Cert.MixIdeal Cert.MixIdeal.Gen Idealize.ShloMosaic Idealize.ShloMosaic.TcCoe Idealize.ShloMosaic.Tactic
open Idealize.SL.Sem

variable (m : (ℓ : Loc nD τ sig) → Buf (Elt Ideal) ℓ) (c : Dev nD)

/-- The arguments of one device hold the reals of `A`. -/
abbrev Given (A : Args) : Prop :=
  Holds A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The saved pooled values are the reals of `A`. -/
abbrev Pooled (A : Args) : Prop :=
  ∀ r g d, MixRefIdeal.Read.val_main_v43 (F := Ideal) (m ((c : Thread nD τ).loc main_arg0)) (m ((c : Thread nD τ).loc main_arg3)) (ix4 0 r g d) = (A.pl r g d : EReal)

theorem v43_eq : V m c main_v43 = shapeCast S8192x1024 (MixRefIdeal.Read.val_main_v43 (F := Ideal) (m ((c : Thread nD τ).loc main_arg0)) (m ((c : Thread nD τ).loc main_arg3))) shapeCasts_S1x8192x4x256_S8192x1024 := by
  unfold V
  simp only [List.flatten_cons, List.flatten_nil, List.append_nil, StableHlo.after_append]
  after_reads_simp
  rfl

variable {A : Args} (H : Given m c A) (P : Pooled m c A)

include P in
theorem pl_at (r : Fin 8192) (g : Fin 4) (d : Fin 256) : V m c main_v43 (ix2 r (col g d)) = (A.pl r g d : EReal) := by
  rw [v43_eq]
  refine Eq.trans ?_ (P r g d)
  pointwise [col]

include H

theorem sb_at (s : Fin 128) (k : Fin 4) (d : Fin 256) : V m c main_v39 (ix2 s (col k d)) = (A.sb k s : EReal) := by
  unfold V
  simp only [List.flatten_cons, List.flatten_nil, List.append_nil, StableHlo.after_append]
  rw [← H.sb k s]
  after_reads_at
  exact congrArg (fun z => m (c, Proc.tc.devRef main_arg9) (ix3 0 z s)) (Fin.ext (by show (k.val * 256 + d.val) / 256 = k.val; omega))

theorem sw_at (k : Fin 4) (s j : Fin 128) : V m c main_v48 (ix3 k s j) = (A.sw k s j : EReal) := by
  unfold V
  simp only [List.flatten_cons, List.flatten_nil, List.append_nil, StableHlo.after_append]
  rw [← H.sw k s j]
  after_reads_at

theorem wi_at (d : Fin 1024) (e : Fin 5120) : V m c main_v45 (ix2 d e) = (A.wi d e : EReal) := by
  unfold V
  simp only [List.flatten_cons, List.flatten_nil, List.append_nil, StableHlo.after_append]
  rw [← H.wi d e]
  after_reads_at

theorem pw_at (g : Fin 4) (k d : Fin 256) : V m c main_v47 (ix3 g k d) = (A.pw g k d : EReal) := by
  unfold V
  simp only [List.flatten_cons, List.flatten_nil, List.append_nil, StableHlo.after_append]
  rw [← H.pw g k d]
  after_reads_at

theorem h_at (r : Fin 8192) (b : Fin 4) (e : Fin 1024) : V m c main_v42 (ix2 r ⟨1024 * b.val + e.val, by omega⟩) = (A.sec b.succ r e : EReal) := by
  unfold V
  simp only [List.flatten_cons, List.flatten_nil, List.append_nil, StableHlo.after_append]
  after_reads_at
  refine (Finset.sum_congr rfl fun x _ => congrArg₂ (fun a b : EReal => a * b) (H.x r x) (H.wi x _)).trans ?_
  simp only [← EReal.coe_mul, coe_sum]
  refine congrArg _ (Finset.sum_congr rfl fun x _ => congrArg (fun z => A.x r x * A.wi x z) (Fin.ext ?_))
  show 1024 + (1024 * b.val + e.val) = 1024 * b.succ.val + e.val
  rw [Fin.val_succ]
  omega

omit H
theorem band_at (g : Fin 4) (i : Fin 256) (j : Fin 384) : V m c main_v60 (ix3 g i j) = ((if i.val ≤ j.val ∧ j.val < i.val + Args.width g then 1 else 0 : ℝ) : EReal) := by
  unfold V
  simp only [List.flatten_cons, List.flatten_nil, List.append_nil, StableHlo.after_append]
  after_reads_at
  have hs : (IntOp.subi (BitVec.ofNat 32 j.val) (BitVec.ofNat 32 i.val)).toInt = (j.val : ℤ) - i.val := by
    show (BitVec.ofNat 32 j.val - BitVec.ofNat 32 i.val).toInt = _
    rw [BitVec.toInt_sub, WordCmp.toInt_ofNat_of_lt (by omega), WordCmp.toInt_ofNat_of_lt (by omega)]
    exact Int.bmod_eq_of_le (by omega) (by omega)
  have hw : (IntOp.shli .host 2#32 (BitVec.ofNat 32 g.val)).toInt = (Args.width g : ℤ) := by revert g; decide
  rw [WordCmp.cmpi_sge_eq, WordCmp.cmpi_slt_eq, WordCmp.andi_ofBool, hs, hw]
  show (((BitVec.ofBool _).toNat : ℝ) : EReal) = _
  refine congrArg _ ?_
  by_cases h : i.val ≤ j.val ∧ j.val < i.val + Args.width g
  · rw [if_pos h, decide_eq_true (by simpa using h.1), decide_eq_true (by omega)]
    simp
  · rw [if_neg h]
    by_cases h' : i.val ≤ j.val
    · rw [decide_eq_false (p := ((j.val : ℤ) - i.val < Args.width g)) (by omega), Bool.and_false]
      simp
    · rw [decide_eq_false (by simpa using h'), Bool.false_and]
      simp

end Cert.MixHost

end
-- ==== Proof.MixPool.lean ====
/- What the mixers' kernel computes of one group's columns of 256 rows of the pooled half, at an index, as a real number. -/
module

public import proofs.«01_k».proof.Proof.MixChunk

@[expose] public section

set_option maxRecDepth 16384

noncomputable section

namespace Cert.MixPool

open Cert.MixModel Cert.MixChunk Cert.Lift Cert.MixIdeal Cert.MixIdeal.Gen Idealize.ShloMosaic

section fns

variable (PL Z : FVec Ideal S256x256 .bf16) (DY : FVec Ideal S256x256 .f32) (PS : FVec Ideal S1x256 .f32) (PW : FVec Ideal S1x256x256 .bf16)

def dzp : FVec Ideal S256x256 .bf16 := k0_pay64 (F := Ideal) (k0_pay59 Z) (k0_pay60 Z) (k0_pay62 PL PW) DY (k0_pay63 PS)
def dps (ACC : FVec Ideal S1x256 .f32) : FVec Ideal S1x256 .f32 := k0_pay66 (F := Ideal) (k0_pay59 Z) (k0_pay60 Z) (k0_pay62 PL PW) DY ACC
def dmix : FVec Ideal S256x256 .bf16 := k0_pay67 (F := Ideal) (k0_pay59 Z) (k0_pay60 Z) DY PS
def dpw (ACC : FVec Ideal S1x256x256 .f32) : FVec Ideal S1x256x256 .f32 :=
  k0_pay68 (F := Ideal) (k0_pay59 Z) (k0_pay60 Z) (k0_pay61 PL) DY PS ACC
def dpl : FVec Ideal S256x256 .f32 := k0_pay69 (F := Ideal) (k0_pay59 Z) (k0_pay60 Z) DY PS PW

end fns

/-- The blocks hold the rows `R` of group `g` of the arguments. -/
structure Blk (A : Args) (R : Fin 256 → Fin 8192) (g : Fin 4) (PL Z : FVec Ideal S256x256 .bf16) (DY : FVec Ideal S256x256 .f32)
    (PS : FVec Ideal S1x256 .f32) (PW : FVec Ideal S1x256x256 .bf16) : Prop where
  pl : ∀ s d, PL (ix2 s d) = (A.pl (R s) g d : EReal)
  z : ∀ s d, Z (ix2 s d) = (A.sec 3 (R s) (col g d) : EReal)
  dy : ∀ s d, DY (ix2 s d) = (A.dys 0 (R s) (col g d) : EReal)
  ps : ∀ d, PS (ix2 0 d) = (A.ps (col g d) : EReal)
  pw : ∀ k d, PW (ix3 0 k d) = (A.pw g k d : EReal)

variable {A : Args} {R : Fin 256 → Fin 8192} {g : Fin 4} {PL Z : FVec Ideal S256x256 .bf16} {DY : FVec Ideal S256x256 .f32}
  {PS : FVec Ideal S1x256 .f32} {PW : FVec Ideal S1x256x256 .bf16} (H : Blk A R g PL Z DY PS PW)
include H

theorem mixed_at (s d : Fin 256) : k0_pay62 (F := Ideal) PL PW (ix2 s d) = (A.mixed (R s) g d : EReal) := by
  pointwise [k0_pay62, k0_pay61]
  simp only [H.pl, H.pw, ← EReal.coe_mul, coe_sum]
  rfl

theorem dms_at (s d : Fin 256) : k0_pay65 (F := Ideal) (k0_pay59 Z) (k0_pay60 Z) DY (ix2 s d) = (A.dms (R s) g d : EReal) := by
  pointwise [k0_pay65, k0_pay59, k0_pay60]
  simp only [H.z, H.dy, zero_sub, ← EReal.coe_neg, ← EReal.coe_one, one_add_exp, ← EReal.coe_mul]
  rfl

theorem dzp_at (s d : Fin 256) : dzp PL Z DY PS PW (ix2 s d) = (A.dzp (R s) g d : EReal) := by
  unfold dzp
  pointwise [k0_pay64, k0_pay59, k0_pay60, k0_pay63]
  simp only [mixed_at H, H.z, H.dy, H.ps, zero_sub, ← EReal.coe_neg, ← EReal.coe_one, one_add_exp, ← EReal.coe_mul, ← EReal.coe_sub, ← EReal.coe_add]
  rfl

theorem dps_at (ACC : FVec Ideal S1x256 .f32) (d : Fin 256) :
    dps PL Z DY PW ACC (ix2 0 d) = ACC (ix2 0 d) + ((∑ s, A.dms (R s) g d * A.mixed (R s) g d : ℝ) : EReal) := by
  unfold dps
  pointwise [k0_pay66]
  simp only [dms_at H, mixed_at H, ← EReal.coe_mul, coe_sum]

theorem dmix_at (s d : Fin 256) : dmix Z DY PS (ix2 s d) = (A.dmix (R s) g d : EReal) := by
  unfold dmix
  pointwise [k0_pay67]
  simp only [dms_at H, H.ps, ← EReal.coe_mul]
  rfl

theorem dpw_at (ACC : FVec Ideal S1x256x256 .f32) (k d : Fin 256) :
    dpw PL Z DY PS ACC (ix3 0 k d) = ACC (ix3 0 k d) + ((∑ s, A.pl (R s) g k * A.dmix (R s) g d : ℝ) : EReal) := by
  have h := dmix_at H
  unfold dmix at h
  unfold dpw
  pointwise [k0_pay68, k0_pay61]
  simp only [h, H.pl, ← EReal.coe_mul, coe_sum]

theorem dpl_at (s d : Fin 256) : dpl Z DY PS PW (ix2 s d) = (A.dpl (R s) g d : EReal) := by
  have h := dmix_at H
  unfold dmix at h
  unfold dpl
  pointwise [k0_pay69]
  simp only [h, H.pw, ← EReal.coe_mul, coe_sum]
  rfl

end Cert.MixPool

end
-- ==== Proof.MixTile.lean ====
/- What the blocks of the mixers' kernel hold at a grid point: the rows of one tile, and its two chunks, head by head and group by group. -/
module

public import proofs.«01_k».proof.Proof.MixHost
public import proofs.«01_k».proof.Proof.MixPool
public import proofs.«01_k».proof.Proof.Gen.MixIdeal.Value
public import Idealize.ShloMosaic.Lib.Pipeline.ValueKit

@[expose] public section

set_option maxRecDepth 16384

noncomputable section

namespace Cert.MixTile

open Cert.MixModel Cert.MixHost Cert.Lift Cert.Norm Cert.MixIdeal Cert.MixIdeal.Gen Idealize.ShloMosaic Idealize.ShloMosaic.TcCoe Idealize.ShloMosaic.Tactic
open Idealize.SL.Sem

variable (m : (ℓ : Loc nD τ sig) → Buf (Elt Ideal) ℓ) (c : Dev nD)

/-- Which block of its array each window holds at a grid point. -/
theorem idx : ∀ t : Fin cfg0.N, win0_0.index t = ![31 - t.val, 0] ∧ win0_1.index t = ![31 - t.val, 0] ∧ win0_2.index t = ![31 - t.val, 0]
    ∧ win0_3.index t = ![31 - t.val, 0] ∧ win0_4.index t = ![0, 0] ∧ win0_5.index t = ![0, 0, 0] ∧ win0_6.index t = ![0, 0] ∧ win0_7.index t = ![0, 0]
    ∧ win0_8.index t = ![0, 0] ∧ win0_9.index t = ![0, 0, 0] ∧ win0_10.index t = ![0, 0] ∧ win0_11.index t = ![0, 0, 0]
    ∧ win0_12.index t = ![31 - t.val, 0] ∧ win0_13.index t = ![31 - t.val, 0] :=
  (by decide +kernel : ∀ t : Fin grid0.N, _)

/-- Row `i` of a grid point's tile, and the number of its chunk `n`. -/
def trow (t : Fin cfg0.N) (i : Fin 256) : Fin 8192 := ⟨256 * (31 - t.val) + i.val, by omega⟩
def cidx (t : Fin cfg0.N) (n : Fin 2) : Fin 64 := ⟨2 * (31 - t.val) + n.val, by omega⟩
/-- Row `s` of chunk `n` within the tile. -/
def crow (n : Fin 2) (s : Fin 128) : Fin 256 := ⟨128 * n.val + s.val, by omega⟩

theorem trow_crow (t : Fin cfg0.N) (n : Fin 2) (s : Fin 128) : trow t (crow n s) = row (cidx t n) s := Fin.ext (by
  show 256 * (31 - t.val) + (128 * n.val + s.val) = (2 * (31 - t.val) + n.val) * 128 + s.val
  omega)

/-- Column `e` of section `b` of the four staged. -/
def scol (b : Fin 4) (e : Fin 1024) : Fin 4096 := ⟨1024 * b.val + e.val, by omega⟩

variable {A : Args} (H : Given m c A) (P : Pooled m c A)

section blocks
include H

theorem h_blk (t : Fin cfg0.N) (i : Fin 256) (b : Fin 4) (e : Fin 1024) : iblk m c 0 t (ix2 i (scol b e)) = (A.sec b.succ (trow t i) e : EReal) := by
  rw [← h_at m c H (trow t i) b e]
  blk_point [iblk, idx t, trow, scol]
theorem dy_blk (t : Fin cfg0.N) (i : Fin 256) (d : Fin 2048) : iblk m c 1 t (ix2 i d) = (A.dy (trow t i) d : EReal) := by
  rw [← H.dy (trow t i) d]
  blk_point [iblk, V, idx t, trow]
theorem dxr_blk (t : Fin cfg0.N) (i : Fin 256) (d : Fin 1024) : iblk m c 2 t (ix2 i d) = A.dxr (trow t i) d := by
  rw [← H.dxr (trow t i) d]
  blk_point [iblk, V, idx t, trow]
theorem wi_blk (t : Fin cfg0.N) (d : Fin 1024) (e : Fin 5120) : iblk m c 4 t (ix2 d e) = (A.wi d e : EReal) := by
  rw [← wi_at m c H d e]
  blk_point [iblk, idx t]
theorem pw_blk (t : Fin cfg0.N) (g : Fin 4) (k d : Fin 256) : iblk m c 5 t (ix3 g k d) = (A.pw g k d : EReal) := by
  rw [← pw_at m c H g k d]
  blk_point [iblk, idx t]
theorem ps_blk (t : Fin cfg0.N) (d : Fin 1024) : iblk m c 6 t (ix2 0 d) = (A.ps d : EReal) := by
  rw [← H.ps d]
  blk_point [iblk, V, idx t]
theorem lg_blk (t : Fin cfg0.N) (d : Fin 1024) : iblk m c 7 t (ix2 0 d) = (A.lg d : EReal) := by
  rw [← H.lg d]
  blk_point [iblk, V, idx t]
theorem lb_blk (t : Fin cfg0.N) (d : Fin 1024) : iblk m c 8 t (ix2 0 d) = (A.lb d : EReal) := by
  rw [← H.lb d]
  blk_point [iblk, V, idx t]
theorem sw_blk (t : Fin cfg0.N) (k : Fin 4) (s j : Fin 128) : iblk m c 9 t (ix3 k s j) = (A.sw k s j : EReal) := by
  rw [← sw_at m c H k s j]
  blk_point [iblk, idx t]
theorem sb_blk (t : Fin cfg0.N) (s : Fin 128) (k : Fin 4) (d : Fin 256) : iblk m c 10 t (ix2 s (col k d)) = (A.sb k s : EReal) := by
  rw [← sb_at m c H s k d]
  blk_point [iblk, idx t]

end blocks

include P in
theorem pl_blk (t : Fin cfg0.N) (i : Fin 256) (g : Fin 4) (d : Fin 256) : iblk m c 3 t (ix2 i (col g d)) = (A.pl (trow t i) g d : EReal) := by
  rw [← pl_at m c P (trow t i) g d]
  blk_point [iblk, idx t, trow]

theorem band_blk (t : Fin cfg0.N) (g : Fin 4) (i : Fin 256) (j : Fin 384) :
    iblk m c 11 t (ix3 g i j) = ((if i.val ≤ j.val ∧ j.val < i.val + Args.width g then 1 else 0 : ℝ) : EReal) := by
  rw [← band_at m c g i j]
  blk_point [iblk, idx t]

/-- Head `k` of chunk `n` of a grid point, as the body loads it. -/
abbrev hld (t : Fin cfg0.N) (n : Fin 2) (b : Fin 4) (k : Fin 4) : FVec Ideal S128x256 .bf16 :=
  View.ld (iblk m c 0 t) (Rect.unit (s := S256x4096) ![128 * n.val, 1024 * b.val + 256 * k.val] S128x256.size (by revert n b k; decide))
abbrev yld (t : Fin cfg0.N) (n : Fin 2) (k : Fin 4) : FVec Ideal S128x256 .f32 :=
  View.ld (iblk m c 1 t) (Rect.unit (s := S256x2048) ![128 * n.val, 1024 + 256 * k.val] S128x256.size (by revert n k; decide))
abbrev gld (t : Fin cfg0.N) (k : Fin 4) : FVec Ideal S1x256 .f32 :=
  View.ld (iblk m c 7 t) (Rect.unit (s := S1x1024) ![0, 256 * k.val] S1x256.size (by revert k; decide))
abbrev bld (t : Fin cfg0.N) (k : Fin 4) : FVec Ideal S1x256 .f32 :=
  View.ld (iblk m c 8 t) (Rect.unit (s := S1x1024) ![0, 256 * k.val] S1x256.size (by revert k; decide))
abbrev wld (t : Fin cfg0.N) (k : Fin 4) : FVec Ideal S1x128x128 .f32 :=
  View.ld (iblk m c 9 t) (Rect.unit (s := S4x128x128) ![k.val, 0, 0] S1x128x128.size (by revert k; decide))
abbrev old (t : Fin cfg0.N) (k : Fin 4) : FVec Ideal S128x256 .f32 :=
  View.ld (iblk m c 10 t) (Rect.unit (s := S128x1024) ![0, 256 * k.val] S128x256.size (by revert k; decide))

/-- A load through a rectangle of unit stride, at an index. -/
theorem ld_at {S : Shape} {e : EltTy} (X : S.Idx → Elt Ideal e) {off size : Fin S.rank → ℕ} (inb : ∀ a, off a + size a ≤ S.size a)
    (x : (Rect.unit off size inb).shape.Idx) (y : S.Idx) (h : ∀ a, (y a).val = off a + (x a).val) : View.ld X (Rect.unit off size inb) x = X y := by
  refine congrArg X (funext fun a => Fin.ext ?_)
  rw [h a]
  show off a + 1 * (x a).val = _
  rw [one_mul]

/-- The head's columns, spelled as the loads spell them. -/
theorem val_col (k : Fin 4) (d : Fin 256) : (col k d).val = 256 * k.val + d.val := by
  show k.val * 256 + d.val = _
  omega

include H

theorem h_ld (t : Fin cfg0.N) (n : Fin 2) (b k : Fin 4) (s : Fin 128) (d : Fin 256) :
    hld m c t n b k (ix2 s d) = (A.sec b.succ (row (cidx t n) s) (col k d) : EReal) := by
  rw [← trow_crow, ← h_blk m c H t]
  refine ld_at _ _ _ _ (Fin.forall_fin_two.2 ⟨rfl, ?_⟩)
  show 1024 * b.val + (col k d).val = 1024 * b.val + 256 * k.val + d.val
  rw [val_col]
  omega

theorem y_ld (t : Fin cfg0.N) (n : Fin 2) (k : Fin 4) (s : Fin 128) (d : Fin 256) :
    yld m c t n k (ix2 s d) = (A.dys 1 (row (cidx t n) s) (col k d) : EReal) := by
  rw [← trow_crow, Args.dys, ← dy_blk m c H t]
  refine ld_at _ _ _ _ (Fin.forall_fin_two.2 ⟨rfl, ?_⟩)
  show 1024 * 1 + (col k d).val = 1024 + 256 * k.val + d.val
  rw [val_col]
  omega

/-- The blocks of head `k` in chunk `n` hold the chunk's reals. -/
theorem chunk (t : Fin cfg0.N) (n : Fin 2) (k : Fin 4) :
    MixChunk.Blk (A.chunk (cidx t n) k) (hld m c t n 0 k) (hld m c t n 1 k) (hld m c t n 3 k) (yld m c t n k) (old m c t k) (gld m c t k) (bld m c t k) (wld m c t k) where
  u := h_ld m c H t n 0 k
  v := h_ld m c H t n 1 k
  z := h_ld m c H t n 3 k
  dy := y_ld m c H t n k
  sb s d := (ld_at _ _ _ _ (Fin.forall_fin_two.2 ⟨(Nat.zero_add _).symm, val_col k d⟩)).trans (sb_blk m c H t s k d)
  lg d := (ld_at _ _ _ _ (Fin.forall_fin_two.2 ⟨(Nat.zero_add _).symm, val_col k d⟩)).trans (lg_blk m c H t (col k d))
  lb d := (ld_at _ _ _ _ (Fin.forall_fin_two.2 ⟨(Nat.zero_add _).symm, val_col k d⟩)).trans (lb_blk m c H t (col k d))
  sw s j := (ld_at _ _ _ _ (Fin.forall_fin_succ.2 ⟨(Nat.add_zero _).symm, Fin.forall_fin_two.2 ⟨(Nat.zero_add _).symm, (Nat.zero_add _).symm⟩⟩)).trans (sw_blk m c H t k s j)

omit H

/-- Group `g` of a grid point's tile, as the body loads it. -/
abbrev plld (t : Fin cfg0.N) (g : Fin 4) : FVec Ideal S256x256 .bf16 :=
  View.ld (iblk m c 3 t) (Rect.unit (s := S256x1024) ![0, 256 * g.val] S256x256.size (by revert g; decide))
abbrev zld (t : Fin cfg0.N) (g : Fin 4) : FVec Ideal S256x256 .bf16 :=
  View.ld (iblk m c 0 t) (Rect.unit (s := S256x4096) ![0, 2048 + 256 * g.val] S256x256.size (by revert g; decide))
abbrev ypld (t : Fin cfg0.N) (g : Fin 4) : FVec Ideal S256x256 .f32 :=
  View.ld (iblk m c 1 t) (Rect.unit (s := S256x2048) ![0, 256 * g.val] S256x256.size (by revert g; decide))
abbrev psld (t : Fin cfg0.N) (g : Fin 4) : FVec Ideal S1x256 .f32 :=
  View.ld (iblk m c 6 t) (Rect.unit (s := S1x1024) ![0, 256 * g.val] S1x256.size (by revert g; decide))
abbrev pwld (t : Fin cfg0.N) (g : Fin 4) : FVec Ideal S1x256x256 .bf16 :=
  View.ld (iblk m c 5 t) (Rect.unit (s := S4x256x256) ![g.val, 0, 0] S1x256x256.size (by revert g; decide))
abbrev bandld (t : Fin cfg0.N) (g : Fin 4) : FVec Ideal S1x256x384 .bf16 :=
  View.ld (iblk m c 11 t) (Rect.unit (s := S4x256x384) ![g.val, 0, 0] S1x256x384.size (by revert g; decide))

include H P

/-- The blocks of group `g` hold the tile's rows of it. -/
theorem group (t : Fin cfg0.N) (g : Fin 4) :
    MixPool.Blk A (trow t) g (plld m c t g) (zld m c t g) (ypld m c t g) (psld m c t g) (pwld m c t g) where
  pl s d := (ld_at _ _ _ _ (Fin.forall_fin_two.2 ⟨(Nat.zero_add _).symm, val_col g d⟩)).trans (pl_blk m c P t s g d)
  z s d := (ld_at _ _ _ (ix2 s (scol 2 (col g d))) (Fin.forall_fin_two.2 ⟨(Nat.zero_add _).symm, by
    show 1024 * 2 + (col g d).val = 2048 + 256 * g.val + d.val
    rw [val_col]
    omega⟩)).trans (h_blk m c H t s 2 (col g d))
  dy s d := (ld_at _ _ _ (ix2 s ⟨1024 * 0 + (col g d).val, by omega⟩) (Fin.forall_fin_two.2 ⟨(Nat.zero_add _).symm, by
    show 1024 * 0 + (col g d).val = 256 * g.val + d.val
    rw [val_col]
    omega⟩)).trans (dy_blk m c H t s _)
  ps d := (ld_at _ _ _ _ (Fin.forall_fin_two.2 ⟨(Nat.zero_add _).symm, val_col g d⟩)).trans (ps_blk m c H t (col g d))
  pw k d := (ld_at _ _ _ _ (Fin.forall_fin_succ.2 ⟨(Nat.add_zero _).symm, Fin.forall_fin_two.2 ⟨(Nat.zero_add _).symm, (Nat.zero_add _).symm⟩⟩)).trans (pw_blk m c H t g k d)

omit H P

theorem band_ld (t : Fin cfg0.N) (g : Fin 4) (i : Fin 256) (j : Fin 384) :
    bandld m c t g (ix3 0 i j) = ((if i.val ≤ j.val ∧ j.val < i.val + Args.width g then 1 else 0 : ℝ) : EReal) :=
  (ld_at _ _ _ _ (Fin.forall_fin_succ.2 ⟨(Nat.add_zero _).symm, Fin.forall_fin_two.2 ⟨(Nat.zero_add _).symm, (Nat.zero_add _).symm⟩⟩)).trans (band_blk m c t g i j)

/-! ### Reading what several stores leave -/

section stores

variable {S : Shape} {e : EltTy} {off size : Fin S.rank → ℕ} {inb : ∀ a, off a + size a ≤ S.size a}
  {w : (Rect.unit off size inb).shape.Idx → Elt Ideal e} {L : List (View.Piece (Elt Ideal) S e)}

/-- Under the last store, the stored value; -/
theorem hit (y : S.Idx) (x : (Rect.unit off size inb).shape.Idx) (h : ∀ a, (y a).val = off a + (x a).val) :
    View.canon ((⟨Rect.unit off size inb, w⟩ : View.Piece (Elt Ideal) S e) :: L) y = w x := by
  have e : y = (Rect.unit off size inb).emb x := funext fun a => Fin.ext (by
    rw [Rect.emb_apply, h a]
    show _ = off a + 1 * (x a).val
    rw [one_mul])
  rw [e, View.canon_cons_emb]

/-- beside it, what the earlier stores left. -/
theorem miss (y : S.Idx) (a : Fin S.rank) (h : (y a).val < off a ∨ off a + size a ≤ (y a).val) :
    View.canon ((⟨Rect.unit off size inb, w⟩ : View.Piece (Elt Ideal) S e) :: L) y = View.canon L y :=
  View.canon_cons_of_not_mem _ _ fun hm => by have := Rect.mem_set_unit.mp (show y ∈ (Rect.unit off size inb).set from hm) a; omega

end stores

end Cert.MixTile

end
-- ==== Proof.MixStep.lean ====
/- What one grid point of the mixers' kernel adds to the sums it carries from point to point. -/
module

public import proofs.«01_k».proof.Proof.MixTile
public import Idealize.ShloMosaic.Lib.Pipeline.ReadBack
public import Idealize.ShloMosaic.Lib.Claim

@[expose] public section

set_option maxRecDepth 16384
set_option maxHeartbeats 1000000

noncomputable section

namespace Cert.MixStep

open Cert.MixModel Cert.MixHost Cert.MixTile Cert.Lift Cert.Norm Cert.MixIdeal Cert.MixIdeal.Gen Idealize.ShloMosaic Idealize.ShloMosaic.TcCoe Idealize.ShloMosaic.Tactic
open Idealize.SL.Sem

variable (m : (ℓ : Loc nD τ sig) → Buf (Elt Ideal) ℓ) (c : Dev nD) {A : Args} (H : Given m c A) (P : Pooled m c A)

theorem step {x a r p : EReal} (h : x = a + p) (h' : a = r) : x = r + p := h' ▸ h

/-- Two parts added one after the other. -/
theorem pair {x r : EReal} {p q : ℝ} (h : x = r + (p : EReal) + (q : EReal)) : x = r + ((p + q : ℝ) : EReal) := by
  rw [h, EReal.coe_add, add_assoc]

/-- Where only the first clearing has been stored, the sum is clear. -/
theorem fresh {S : Shape} {e : EltTy} {off size : Fin S.rank → ℕ} {inb : ∀ a, off a + size a ≤ S.size a}
    {w : (Rect.unit off size inb).shape.Idx → Elt Ideal e} {L : List (View.Piece (Elt Ideal) S e)} {z : Elt Ideal e} (y : S.Idx)
    (ho : ∀ a, off a = 0) (hs : ∀ a, (y a).val < size a) (hw : ∀ x, w x = z) :
    View.canon ((⟨Rect.unit off size inb, w⟩ : View.Piece (Elt Ideal) S e) :: L) y = z :=
  (hit (off := off) (size := size) (inb := inb) (w := w) y (fun a => ⟨(y a).val, hs a⟩) fun a => by rw [ho a, Nat.zero_add]).trans (hw _)

/-- What the sum was before a grid point: zero at the first. -/
abbrev prev {s : Shape} (f : (n : ℕ) → n < cfg0.N → s.Idx → EReal) (t : Fin cfg0.N) (j : s.Idx) : EReal :=
  if t.val % 32 = 0 then 0 else f (t.val - 1) (Nat.lt_of_le_of_lt (Nat.sub_le _ _) t.isLt) j

include H

theorem dlg (t : Fin cfg0.N) (k : Fin 4) (d : Fin 256) :
    (outsAt0 m c t.val t.isLt).2.2.2.2.1 (ix2 0 (col k d)) = prev (s := S1x1024) (fun n h => (outsAt0 m c n h).2.2.2.2.1) t (ix2 0 (col k d))
      + (((A.chunk (cidx t 0) k).dlg d + (A.chunk (cidx t 1) k).dlg d : ℝ) : EReal) := by
  refine pair ?_
  have s1 := fun ACC => MixChunk.dlg_at (chunk m c H t 1 k) ACC d
  have s0 := fun ACC => MixChunk.dlg_at (chunk m c H t 0 k) ACC d
  by_cases h0 : t.val % 32 = 0
  on_goal 1 => rw [prev, if_pos h0, outsAt0_A m c t h0 (by omega)]
  on_goal 2 => by_cases h1 : t.val % 32 = 31
  on_goal 2 => rw [prev, if_neg h0, outsAt0_C m c t h0 h1]
  on_goal 3 => rw [prev, if_neg h0, outsAt0_B m c t h0 h1]
  all_goals
    frame_out
    try simp (disch := decide) only [View.readCov_skip, View.readCov_cons_toLoadRect, read_unread_whole]
    fin_cases k
  all_goals
    repeat (refine (miss _ 1 ?_).trans ?_; on_goal 1 => (left; show (col _ d).val < _; rw [val_col]; simp <;> omega))
    refine (hit _ (ix2 0 d) ?_).trans ?_
    · exact Fin.forall_fin_two.2 ⟨(Nat.zero_add _).symm, val_col _ d⟩
    refine step (s1 _) (step (s0 _) ?_)
    first
    | exact ld_at _ _ _ _ (Fin.forall_fin_two.2 ⟨(Nat.zero_add _).symm, val_col _ d⟩)
    | exact (congrFun (View.readCov_eq_canon' _ _ _) _).trans (fresh _ (by decide) (fun a => Fin.isLt _) fun _ => Ideal.ofBits_zero .f32)

theorem dlb (t : Fin cfg0.N) (k : Fin 4) (d : Fin 256) :
    (outsAt0 m c t.val t.isLt).2.2.2.2.2.1 (ix2 0 (col k d)) = prev (s := S1x1024) (fun n h => (outsAt0 m c n h).2.2.2.2.2.1) t (ix2 0 (col k d))
      + (((A.chunk (cidx t 0) k).dlb d + (A.chunk (cidx t 1) k).dlb d : ℝ) : EReal) := by
  refine pair ?_
  have s1 := fun ACC => MixChunk.dlb_at (chunk m c H t 1 k) ACC d
  have s0 := fun ACC => MixChunk.dlb_at (chunk m c H t 0 k) ACC d
  by_cases h0 : t.val % 32 = 0
  on_goal 1 => rw [prev, if_pos h0, outsAt0_A m c t h0 (by omega)]
  on_goal 2 => by_cases h1 : t.val % 32 = 31
  on_goal 2 => rw [prev, if_neg h0, outsAt0_C m c t h0 h1]
  on_goal 3 => rw [prev, if_neg h0, outsAt0_B m c t h0 h1]
  all_goals
    frame_out
    try simp (disch := decide) only [View.readCov_skip, View.readCov_cons_toLoadRect, read_unread_whole]
    fin_cases k
  all_goals
    repeat (refine (miss _ 1 ?_).trans ?_; on_goal 1 => (left; show (col _ d).val < _; rw [val_col]; simp <;> omega))
    refine (hit _ (ix2 0 d) ?_).trans ?_
    · exact Fin.forall_fin_two.2 ⟨(Nat.zero_add _).symm, val_col _ d⟩
    refine step (s1 _) (step (s0 _) ?_)
    first
    | exact ld_at _ _ _ _ (Fin.forall_fin_two.2 ⟨(Nat.zero_add _).symm, val_col _ d⟩)
    | exact (congrFun (View.readCov_eq_canon' _ _ _) _).trans (fresh _ (by decide) (fun a => Fin.isLt _) fun _ => Ideal.ofBits_zero .f32)

theorem dsb (t : Fin cfg0.N) (k : Fin 4) (s : Fin 128) (d : Fin 256) :
    (outsAt0 m c t.val t.isLt).2.2.2.2.2.2.2.2.2.2.2 (ix2 s (col k d)) = prev (s := S128x1024) (fun n h => (outsAt0 m c n h).2.2.2.2.2.2.2.2.2.2.2) t (ix2 s (col k d))
      + (((A.chunk (cidx t 0) k).dsv s d + (A.chunk (cidx t 1) k).dsv s d : ℝ) : EReal) := by
  refine pair ?_
  have s1 := fun ACC => MixChunk.dsb_at (chunk m c H t 1 k) ACC s d
  have s0 := fun ACC => MixChunk.dsb_at (chunk m c H t 0 k) ACC s d
  by_cases h0 : t.val % 32 = 0
  on_goal 1 => rw [prev, if_pos h0, outsAt0_A m c t h0 (by omega)]
  on_goal 2 => by_cases h1 : t.val % 32 = 31
  on_goal 2 => rw [prev, if_neg h0, outsAt0_C m c t h0 h1]
  on_goal 3 => rw [prev, if_neg h0, outsAt0_B m c t h0 h1]
  all_goals
    frame_out
    try simp (disch := decide) only [View.readCov_skip, View.readCov_cons_toLoadRect, read_unread_whole]
    fin_cases k
  all_goals
    repeat (refine (miss _ 1 ?_).trans ?_; on_goal 1 => (left; show (col _ d).val < _; rw [val_col]; simp <;> omega))
    refine (hit _ (ix2 s d) ?_).trans ?_
    · exact Fin.forall_fin_two.2 ⟨(Nat.zero_add _).symm, val_col _ d⟩
    refine step (s1 _) (step (s0 _) ?_)
    first
    | exact ld_at _ _ _ _ (Fin.forall_fin_two.2 ⟨(Nat.zero_add _).symm, val_col _ d⟩)
    | exact (congrFun (View.readCov_eq_canon' _ _ _) _).trans (fresh _ (by decide) (fun a => Fin.isLt _) fun _ => Ideal.ofBits_zero .f32)

theorem dsw (t : Fin cfg0.N) (h1 : ¬t.val % 32 = 31) (k : Fin 4) (s j : Fin 128) :
    (outsAt0 m c t.val t.isLt).2.2.2.2.2.2.1 (ix3 k s j) = prev (s := S4x128x128) (fun n h => (outsAt0 m c n h).2.2.2.2.2.2.1) t (ix3 k s j)
      + (((A.chunk (cidx t 0) k).dsw s j + (A.chunk (cidx t 1) k).dsw s j : ℝ) : EReal) := by
  refine pair ?_
  have s1 := fun ACC => MixChunk.dsw_at (chunk m c H t 1 k) ACC s j
  have s0 := fun ACC => MixChunk.dsw_at (chunk m c H t 0 k) ACC s j
  by_cases h0 : t.val % 32 = 0
  on_goal 1 => rw [prev, if_pos h0, outsAt0_A m c t h0 (by omega)]
  on_goal 2 => rw [prev, if_neg h0, outsAt0_B m c t h0 h1]
  all_goals
    frame_out
    try simp (disch := decide) only [View.readCov_skip, View.readCov_cons_toLoadRect, read_unread_whole]
    fin_cases k
  all_goals
    repeat (refine (miss _ 0 ?_).trans ?_; on_goal 1 => (left; exact of_decide_eq_true rfl))
    refine (hit _ (ix3 0 s j) ?_).trans ?_
    · exact Fin.forall_fin_succ.2 ⟨(Nat.add_zero _).symm, Fin.forall_fin_two.2 ⟨(Nat.zero_add _).symm, (Nat.zero_add _).symm⟩⟩
    refine step (s1 _) (step (s0 _) ?_)
    first
    | exact ld_at _ _ _ _ (Fin.forall_fin_succ.2 ⟨(Nat.add_zero _).symm, Fin.forall_fin_two.2 ⟨(Nat.zero_add _).symm, (Nat.zero_add _).symm⟩⟩)
    | exact (congrFun (View.readCov_eq_canon' _ _ _) _).trans (fresh _ (by decide) (fun a => Fin.isLt _) fun _ => Ideal.ofBits_zero .f32)

include P

theorem dps (t : Fin cfg0.N) (g : Fin 4) (d : Fin 256) :
    (outsAt0 m c t.val t.isLt).2.2.2.1 (ix2 0 (col g d)) = prev (s := S1x1024) (fun n h => (outsAt0 m c n h).2.2.2.1) t (ix2 0 (col g d))
      + ((∑ i, A.dms (trow t i) g d * A.mixed (trow t i) g d : ℝ) : EReal) := by
  have s0 := fun ACC => MixPool.dps_at (group m c H P t g) ACC d
  by_cases h0 : t.val % 32 = 0
  on_goal 1 => rw [prev, if_pos h0, outsAt0_A m c t h0 (by omega)]
  on_goal 2 => by_cases h1 : t.val % 32 = 31
  on_goal 2 => rw [prev, if_neg h0, outsAt0_C m c t h0 h1]
  on_goal 3 => rw [prev, if_neg h0, outsAt0_B m c t h0 h1]
  all_goals
    frame_out
    try simp (disch := decide) only [View.readCov_skip, View.readCov_cons_toLoadRect, read_unread_whole]
    fin_cases g
  all_goals
    repeat (refine (miss _ 1 ?_).trans ?_; on_goal 1 => (left; show (col _ d).val < _; rw [val_col]; simp <;> omega))
    refine (hit _ (ix2 0 d) ?_).trans ?_
    · exact Fin.forall_fin_two.2 ⟨(Nat.zero_add _).symm, val_col _ d⟩
    refine step (s0 _) ?_
    first
    | exact ld_at _ _ _ _ (Fin.forall_fin_two.2 ⟨(Nat.zero_add _).symm, val_col _ d⟩)
    | exact (congrFun (View.readCov_eq_canon' _ _ _) _).trans (fresh _ (by decide) (fun a => Fin.isLt _) fun _ => Ideal.ofBits_zero .f32)

theorem dpw (t : Fin cfg0.N) (g : Fin 4) (k d : Fin 256) :
    (outsAt0 m c t.val t.isLt).2.2.2.2.2.2.2.2.2.2.1 (ix3 g k d) = prev (s := S4x256x256) (fun n h => (outsAt0 m c n h).2.2.2.2.2.2.2.2.2.2.1) t (ix3 g k d)
      + ((∑ i, A.pl (trow t i) g k * A.dmix (trow t i) g d : ℝ) : EReal) := by
  have s0 := fun ACC => MixPool.dpw_at (group m c H P t g) ACC k d
  by_cases h0 : t.val % 32 = 0
  on_goal 1 => rw [prev, if_pos h0, outsAt0_A m c t h0 (by omega)]
  on_goal 2 => by_cases h1 : t.val % 32 = 31
  on_goal 2 => rw [prev, if_neg h0, outsAt0_C m c t h0 h1]
  on_goal 3 => rw [prev, if_neg h0, outsAt0_B m c t h0 h1]
  all_goals
    frame_out
    try simp (disch := decide) only [View.readCov_skip, View.readCov_cons_toLoadRect, read_unread_whole]
    fin_cases g
  all_goals
    repeat (refine (miss _ 0 ?_).trans ?_; on_goal 1 => (left; exact of_decide_eq_true rfl))
    refine (hit _ (ix3 0 k d) ?_).trans ?_
    · exact Fin.forall_fin_succ.2 ⟨(Nat.add_zero _).symm, Fin.forall_fin_two.2 ⟨(Nat.zero_add _).symm, (Nat.zero_add _).symm⟩⟩
    refine step (s0 _) ?_
    first
    | exact ld_at _ _ _ _ (Fin.forall_fin_succ.2 ⟨(Nat.add_zero _).symm, Fin.forall_fin_two.2 ⟨(Nat.zero_add _).symm, (Nat.zero_add _).symm⟩⟩)
    | exact (congrFun (View.readCov_eq_canon' _ _ _) _).trans (fresh _ (by decide) (fun a => Fin.isLt _) fun _ => Ideal.ofBits_zero .f32)

end Cert.MixStep

end
-- ==== Proof.MixCnt.lean ====
/- The count of the tokens in a window, as the programs compute it on 32-bit words. -/
module

public import proofs.«01_k».proof.Proof.MixModel
public import Idealize.ShloMosaic.Lib.PlanTiles.Rows

@[expose] public section

noncomputable section

namespace Cert.MixModel

open Idealize.ShloMosaic

theorem word_val {n : ℕ} (h : n < 2 ^ 31) : (((BitVec.ofNat 32 n).toInt : ℝ) : EReal) = ((n : ℝ) : EReal) := by
  rw [BitVec.toInt_eq_toNat_of_lt (by rw [BitVec.toNat_ofNat]; omega), BitVec.toNat_ofNat, Nat.mod_eq_of_lt (by omega)]
  rfl

theorem width_lt (g : Fin 4) : Args.width g ≤ 16 := by revert g; decide

theorem cnt_word (r : Fin 8192) (g : Fin 4) :
    (((IntOp.minsi (BitVec.ofNat 32 (r.val + 1)) (BitVec.ofNat 32 (Args.width g))).toInt : ℝ) : EReal) = ((Args.cnt r g : ℝ) : EReal) := by
  have := width_lt g
  rw [PlanTiles.minsi_word (by omega) (by omega), word_val (by omega), min_comm]
  rfl

theorem cnt_ne (r : Fin 8192) (g : Fin 4) : (Args.cnt r g : ℝ) ≠ 0 := by
  have : 0 < Args.width g := by revert g; decide
  exact_mod_cast (show Args.cnt r g ≠ 0 by unfold Args.cnt; omega)

end Cert.MixModel

end
-- ==== Proof.MixHalo.lean ====
/- The gradients over their counts that the mixers' kernel carries between neighbouring tiles, and the windows' sums it takes over
   them. -/
module

public import proofs.«01_k».proof.Proof.MixStep
public import proofs.«01_k».proof.Proof.MixCnt
public import Idealize.ShloMosaic.Lib.WritesUnit

@[expose] public section

set_option maxRecDepth 16384
set_option maxHeartbeats 1000000

noncomputable section

namespace Cert.MixHalo

open Cert.MixModel Cert.MixHost Cert.MixTile Cert.MixStep Cert.Lift Cert.Norm Cert.MixIdeal Cert.MixIdeal.Gen Idealize.ShloMosaic Idealize.ShloMosaic.TcCoe Idealize.ShloMosaic.Tactic
open Idealize.SL.Sem

section fns
variable (T W : BitVec 32) (X : FVec Ideal S256x256 .f32)

/-- A group's gradients over the counts of its windows, and what the shorter format keeps and leaves of them. -/
def qf : FVec Ideal S256x256 .f32 :=
  mulf X (broadcastTo S256x256 (divf (broadcast S256x1 (FloatOps.ofBits .f32 0x3F800000#32))
    (sitofp .f32 (minsi (addi (addi (broadcast S256x1 (Scalar.muli T 256#32)) (iota .tc S256x1 32 [0] iota_S256x1_d0_w32)) (broadcast S256x1 1#32)) (broadcast S256x1 W))))
    broadcasts_S256x1_S256x256)
def qhi : FVec Ideal S256x256 .bf16 := shapeCast S256x256 (truncf .bf16 (qf T W X) bitsLt_bf16_f32) shapeCasts_S256x256_S256x256
def qlo : FVec Ideal S256x256 .bf16 :=
  shapeCast S256x256 (truncf .bf16 (subf (qf T W X) (extf .f32 (truncf .bf16 (qf T W X) bitsLt_bf16_f32) bitsLt_bf16_f32)) bitsLt_bf16_f32) shapeCasts_S256x256_S256x256

end fns

theorem tile_word : ∀ t : Fin cfg0.N, Scalar.subi (31#32) (BitVec.ofNat 32 (grid0.coords t 0).val) = BitVec.ofNat 32 (31 - t.val) :=
  (by decide +kernel : ∀ t : Fin grid0.N, _)

/-- The tile's rows of a group's gradients over the counts, with those of the sixteen tokens after it. -/
def hal (A : Args) (n : ℕ) (g : Fin 4) (d : Fin 256) (j : ℕ) : ℝ := if j < 272 then WinSum.ext (fun r => A.q r g d) (256 * (31 - n) + j) else 0

section rows
variable {A : Args} {t : Fin cfg0.N} {g : Fin 4} {d : Fin 256}

theorem hal_top (j : ℕ) (h : j < 256) : A.q (trow t ⟨j, h⟩) g d = hal A t.val g d j := by
  rw [hal, if_pos (by omega)]
  exact (WinSum.ext_val (fun r => A.q r g d) (trow t ⟨j, h⟩)).symm
theorem hal_first (h0 : t.val % 32 = 0) (j : ℕ) (h : 256 ≤ j) : hal A t.val g d j = 0 := by
  have ht : t.val < 32 := lt_of_lt_of_eq t.isLt N_0
  unfold hal WinSum.ext
  split
  · rw [dif_neg (by omega)]
  · rfl
theorem hal_next (h0 : ¬t.val % 32 = 0) (j r : ℕ) (h : j = 256 + r) (h' : r < 16) : hal A (t.val - 1) g d r = hal A t.val g d j := by
  have ht : t.val < 32 := lt_of_lt_of_eq t.isLt N_0
  rw [hal, hal, if_pos (by omega), if_pos (by omega), show 256 * (31 - (t.val - 1)) + r = 256 * (31 - t.val) + j by omega]
theorem hal_low (n j : ℕ) (h : 272 ≤ j) : hal A n g d j = 0 := if_neg (by omega)

theorem q_at (T W : BitVec 32) (hT : T = BitVec.ofNat 32 (31 - t.val)) (hW : W = BitVec.ofNat 32 (Args.width g)) (X : FVec Ideal S256x256 .f32) (i : Fin 256)
    (hX : X (ix2 i d) = (A.dpl (trow t i) g d : EReal)) : qf T W X (ix2 i d) = (A.q (trow t i) g d : EReal) := by
  subst hT hW
  pointwise [qf]
  rw [hX]
  refine (congrArg₂ (fun a b : EReal => a * b) rfl (congrArg (fun a : EReal => Ideal.div 1 a) (?_ : _ = ((Args.cnt (trow t i) g : ℝ) : EReal)))).trans ?_
  · refine Eq.trans ?_ (cnt_word (trow t i) g)
    have hw : IntOp.addi (IntOp.addi (Scalar.muli (BitVec.ofNat 32 (31 - t.val)) 256#32) (BitVec.ofNat 32 i.val)) 1#32 = BitVec.ofNat 32 ((trow t i).val + 1) := by
      show BitVec.ofNat 32 (31 - t.val) * BitVec.ofNat 32 256 + BitVec.ofNat 32 i.val + BitVec.ofNat 32 1 = _
      rw [BitVec.ofNat_mul_ofNat, BitVec.ofNat_add_ofNat, BitVec.ofNat_add_ofNat, Nat.mul_comm]
      rfl
    rw [hw]
    rfl
  · simp only [← EReal.coe_one, div_coe (cnt_ne (trow t i) g), ← EReal.coe_mul, one_mul]
    rfl

theorem qhi_at (T W : BitVec 32) (hT : T = BitVec.ofNat 32 (31 - t.val)) (hW : W = BitVec.ofNat 32 (Args.width g)) (X : FVec Ideal S256x256 .f32) (i : Fin 256)
    (hX : X (ix2 i d) = (A.dpl (trow t i) g d : EReal)) : qhi T W X (ix2 i d) = (A.q (trow t i) g d : EReal) := by
  pointwise [qhi]
  exact q_at T W hT hW X i hX
theorem qlo_at (T W : BitVec 32) (hT : T = BitVec.ofNat 32 (31 - t.val)) (hW : W = BitVec.ofNat 32 (Args.width g)) (X : FVec Ideal S256x256 .f32) (i : Fin 256)
    (hX : X (ix2 i d) = (A.dpl (trow t i) g d : EReal)) : qlo T W X (ix2 i d) = 0 := by
  pointwise [qlo]
  rw [q_at T W hT hW X i hX, ← EReal.coe_sub, sub_self]
  rfl

/-- The windows' sums over the carried gradients, less the tokens' own. -/
theorem da_at (X : FVec Ideal S256x256 .f32) (B : FVec Ideal S1x256x384 .bf16) (Q1 Q2 : FVec Ideal S384x256 .bf16) (i : Fin 256)
    (hB : ∀ j, B (ix3 0 i j) = ((if i.val ≤ j.val ∧ j.val < i.val + Args.width g then 1 else 0 : ℝ) : EReal))
    (hX : X (ix2 i d) = (A.dpl (trow t i) g d : EReal)) (h1 : ∀ j : Fin 384, Q1 (ix2 j d) = (hal A t.val g d j.val : EReal)) (h2 : ∀ j, Q2 (ix2 j d) = 0) :
    k0_pay74 (F := Ideal) X B Q1 B Q2 (ix2 i d) = (A.da (trow t i) g d : EReal) := by
  pointwise [k0_pay74]
  simp only [hB, hX, h1, h2, mul_zero, Finset.sum_const_zero, add_zero, ← EReal.coe_mul, coe_sum, ← EReal.coe_sub]
  refine congrArg _ ?_
  unfold Args.da
  refine congrArg (· - _) ?_
  have hw := width_lt g
  have hb := WinSum.band (n := 384) (hal A t.val g d) i.val (Args.width g) (by omega)
  refine Eq.trans (Finset.sum_congr rfl fun j _ => ?_) (hb.trans (Finset.sum_congr rfl fun k hk => ?_))
  · split
    · rw [one_mul]
    · rw [zero_mul]
  · have := Finset.mem_range.1 hk
    rw [hal, if_pos (by omega), ← Nat.add_assoc]
    rfl

end rows

/-! ### Reading what several stores leave over earlier contents -/

section stores

variable {sig : RefSig} {κ : Kind} {sp : Space} {S : Shape} {e : EltTy} {v : View sig κ sp S e} {f : v.ty.Contents (Elt Ideal)}
  {off size : Fin S.rank → ℕ} {inb : ∀ a, off a + size a ≤ S.size a}
  {w : (Rect.unit off size inb).shape.Idx → Elt Ideal e} {L : List (View.Piece (Elt Ideal) S e)}

theorem whit (y : S.Idx) (x : (Rect.unit off size inb).shape.Idx) (h : ∀ a, (y a).val = off a + (x a).val) :
    View.read (Elt Ideal) v (v.writes (Elt Ideal) f ((⟨Rect.unit off size inb, w⟩ : View.Piece (Elt Ideal) S e) :: L)) y = w x :=
  View.read_writes_cons_unit_of_mem v f inb w L y x rfl h

theorem wmiss (y : S.Idx) (a : Fin S.rank) (h : (y a).val < off a ∨ off a + size a ≤ (y a).val) :
    View.read (Elt Ideal) v (v.writes (Elt Ideal) f ((⟨Rect.unit off size inb, w⟩ : View.Piece (Elt Ideal) S e) :: L)) y
      = View.read (Elt Ideal) v (v.writes (Elt Ideal) f L) y :=
  View.read_writes_cons_unit_of_not_mem v f inb w L y rfl a h

end stores

variable (m : (ℓ : Loc nD τ sig) → Buf (Elt Ideal) ℓ) (c : Dev nD) {A : Args} (H : Given m c A) (P : Pooled m c A)

/-- What the carried gradients are after a grid point, and what the shorter format leaves of them: nothing. -/
abbrev Carried (A : Args) (n : ℕ) (hn : n < cfg0.N) : Prop := ∀ (j : Fin 384) (g : Fin 4) (d : Fin 256),
  (outsAt0 m c n hn).2.2.2.2.2.2.2.2.1 (ix2 j (col g d)) = (hal A n g d j.val : EReal) ∧ (outsAt0 m c n hn).2.2.2.2.2.2.2.2.2.1 (ix2 j (col g d)) = 0

include H P

theorem next (t : Fin cfg0.N) (K : ¬t.val % 32 = 0 → Carried m c A (t.val - 1) (Nat.lt_of_le_of_lt (Nat.sub_le _ _) t.isLt)) :
    Carried m c A t.val t.isLt := by
  intro j g d
  have X := fun i => MixPool.dpl_at (group m c H P t g) i d
  have HI := fun W hW Y i => qhi_at (A := A) (t := t) (g := g) (d := d) _ W (tile_word t) hW Y i
  have LO := fun W hW Y i => qlo_at (A := A) (t := t) (g := g) (d := d) _ W (tile_word t) hW Y i
  by_cases h0 : t.val % 32 = 0
  on_goal 1 => rw [outsAt0_A m c t h0 (by omega)]
  on_goal 2 => by_cases h1 : t.val % 32 = 31
  on_goal 2 => rw [outsAt0_C m c t h0 h1]
  on_goal 3 => rw [outsAt0_B m c t h0 h1]
  all_goals
    frame_out
    try simp (disch := decide) only [View.readCov_skip, View.readCov_cons_toLoadRect, read_unread_whole]
    by_cases ht : j.val < 256
    on_goal 2 => by_cases hm : j.val < 272
  · rw [← hal_top (t := t) _ ht]
    fin_cases g
    all_goals
      refine ⟨?_, ?_⟩
      all_goals
        repeat (refine (miss _ 1 ?_).trans ?_; on_goal 1 => (left; show (col _ d).val < _; rw [val_col]; simp <;> omega))
        refine (hit _ (ix2 ⟨j.val, ht⟩ d) ?_).trans ?_
        · exact Fin.forall_fin_two.2 ⟨(Nat.zero_add _).symm, val_col _ d⟩
      · exact HI _ rfl _ _ (X ⟨j.val, ht⟩)
      · exact LO _ rfl _ _ (X ⟨j.val, ht⟩)
  · obtain ⟨r, hr⟩ : ∃ r : Fin 16, j.val = 256 + r.val := ⟨⟨j.val - 256, by omega⟩, (Nat.add_sub_cancel' (by omega)).symm⟩
    refine ⟨?_, ?_⟩
    all_goals
      repeat (refine (miss _ 0 ?_).trans ?_; on_goal 1 => (right; show _ ≤ j.val; simp <;> omega))
      refine (hit _ (ix2 r (col g d)) ?_).trans ?_
      · exact Fin.forall_fin_two.2 ⟨hr, (Nat.zero_add _).symm⟩
      refine (congrFun (shapeCast_self _ _) (ix2 r (col g d))).trans ?_
    · rw [hal_first h0 _ (by omega)]
      exact (congrFun (View.readCov_eq_canon' _ _ _) _).trans (fresh _ (by decide) (fun a => Fin.isLt _) fun _ => Ideal.ofBits_zero .bf16)
    · exact (congrFun (View.readCov_eq_canon' _ _ _) _).trans (fresh _ (by decide) (fun a => Fin.isLt _) fun _ => Ideal.ofBits_zero .bf16)
  · rw [hal_first h0 _ (by omega)]
    refine ⟨?_, ?_⟩
    all_goals
      repeat (refine (miss _ 0 ?_).trans ?_; on_goal 1 => (right; show _ ≤ j.val; simp <;> omega))
      exact fresh _ (by decide) (fun a => Fin.isLt _) fun _ => Ideal.ofBits_zero .bf16
  · rw [← hal_top (t := t) _ ht]
    fin_cases g
    all_goals
      refine ⟨?_, ?_⟩
      all_goals
        repeat (refine (wmiss _ 1 ?_).trans ?_; on_goal 1 => (left; show (col _ d).val < _; rw [val_col]; simp <;> omega))
        refine (whit _ (ix2 ⟨j.val, ht⟩ d) ?_).trans ?_
        · exact Fin.forall_fin_two.2 ⟨(Nat.zero_add _).symm, val_col _ d⟩
      · exact HI _ rfl _ _ (X ⟨j.val, ht⟩)
      · exact LO _ rfl _ _ (X ⟨j.val, ht⟩)
  · obtain ⟨r, hr⟩ : ∃ r : Fin 16, j.val = 256 + r.val := ⟨⟨j.val - 256, by omega⟩, (Nat.add_sub_cancel' (by omega)).symm⟩
    refine ⟨?_, ?_⟩
    all_goals
      repeat (refine (wmiss _ 0 ?_).trans ?_; on_goal 1 => (right; show _ ≤ j.val; simp <;> omega))
      refine (whit _ (ix2 r (col g d)) ?_).trans ?_
      · exact Fin.forall_fin_two.2 ⟨hr, (Nat.zero_add _).symm⟩
      refine (congrFun (shapeCast_self _ _) (ix2 r (col g d))).trans ?_
    · exact (ld_at _ _ _ (ix2 ⟨r.val, by omega⟩ (col g d)) (Fin.forall_fin_two.2 ⟨(Nat.zero_add _).symm, (Nat.zero_add _).symm⟩)).trans
        ((K h0 ⟨r.val, by omega⟩ g d).1.trans (congrArg _ (hal_next h0 _ _ hr r.isLt)))
    · exact (ld_at _ _ _ (ix2 ⟨r.val, by omega⟩ (col g d)) (Fin.forall_fin_two.2 ⟨(Nat.zero_add _).symm, (Nat.zero_add _).symm⟩)).trans
        (K h0 ⟨r.val, by omega⟩ g d).2
  · have hz := K h0 j g d
    rw [hal_low _ _ (by omega)] at hz
    rw [hal_low _ _ (by omega)]
    refine ⟨?_, ?_⟩
    all_goals
      repeat (refine (wmiss _ 0 ?_).trans ?_; on_goal 1 => (right; show _ ≤ j.val; simp <;> omega))
      refine (congrFun (read_unread_whole _ _ _) _).trans ?_
    · exact hz.1
    · exact hz.2
  · rw [← hal_top (t := t) _ ht]
    fin_cases g
    all_goals
      refine ⟨?_, ?_⟩
      all_goals
        repeat (refine (wmiss _ 1 ?_).trans ?_; on_goal 1 => (left; show (col _ d).val < _; rw [val_col]; simp <;> omega))
        refine (whit _ (ix2 ⟨j.val, ht⟩ d) ?_).trans ?_
        · exact Fin.forall_fin_two.2 ⟨(Nat.zero_add _).symm, val_col _ d⟩
      · exact HI _ rfl _ _ (X ⟨j.val, ht⟩)
      · exact LO _ rfl _ _ (X ⟨j.val, ht⟩)
  · obtain ⟨r, hr⟩ : ∃ r : Fin 16, j.val = 256 + r.val := ⟨⟨j.val - 256, by omega⟩, (Nat.add_sub_cancel' (by omega)).symm⟩
    refine ⟨?_, ?_⟩
    all_goals
      repeat (refine (wmiss _ 0 ?_).trans ?_; on_goal 1 => (right; show _ ≤ j.val; simp <;> omega))
      refine (whit _ (ix2 r (col g d)) ?_).trans ?_
      · exact Fin.forall_fin_two.2 ⟨hr, (Nat.zero_add _).symm⟩
      refine (congrFun (shapeCast_self _ _) (ix2 r (col g d))).trans ?_
    · exact (ld_at _ _ _ (ix2 ⟨r.val, by omega⟩ (col g d)) (Fin.forall_fin_two.2 ⟨(Nat.zero_add _).symm, (Nat.zero_add _).symm⟩)).trans
        ((K h0 ⟨r.val, by omega⟩ g d).1.trans (congrArg _ (hal_next h0 _ _ hr r.isLt)))
    · exact (ld_at _ _ _ (ix2 ⟨r.val, by omega⟩ (col g d)) (Fin.forall_fin_two.2 ⟨(Nat.zero_add _).symm, (Nat.zero_add _).symm⟩)).trans
        (K h0 ⟨r.val, by omega⟩ g d).2
  · have hz := K h0 j g d
    rw [hal_low _ _ (by omega)] at hz
    rw [hal_low _ _ (by omega)]
    refine ⟨?_, ?_⟩
    all_goals
      repeat (refine (wmiss _ 0 ?_).trans ?_; on_goal 1 => (right; show _ ≤ j.val; simp <;> omega))
      refine (congrFun (read_unread_whole _ _ _) _).trans ?_
    · exact hz.1
    · exact hz.2

end Cert.MixHalo

end
-- ==== Proof.AxisSum.lean ====
/-
  Host sums over several axes, read at an index: over axes of size one, over two long axes, and a contraction over three.
-/
module

public import proofs.«01_k».proof.Proof.UnitSum

@[expose] public section

noncomputable section

namespace Cert.UnitSum

open Idealize.ShloMosaic

/-- A first and a last axis of size one, of four. -/
theorem around4 {n m : ℕ} (h : (⟨4, ![1, n, m, 1]⟩ : Shape).ReducesTo [0, 3] ⟨2, ![n, m]⟩)
    (x : (⟨4, ![1, n, m, 1]⟩ : Shape).Idx → EReal) (init : EReal) (r : Fin n) (k : Fin m) :
    Ideal.hostReduceAdd h x init (ix2 r k) = init + x (ix4 0 r k 0) := by
  refine of_unique h x init _ _ (funext fun b => ?_) fun i hi => ?_
  · match b with
    | ⟨0, _⟩ => rfl
    | ⟨1, _⟩ => rfl
  · funext a
    match a with
    | ⟨0, _⟩ => exact Subsingleton.elim (α := Fin 1) _ _
    | ⟨1, _⟩ => exact Fin.ext (congrArg Fin.val (congrFun hi 0))
    | ⟨2, _⟩ => exact Fin.ext (congrArg Fin.val (congrFun hi 1))
    | ⟨3, _⟩ => exact Subsingleton.elim (α := Fin 1) _ _

/-- Two leading axes of size one, of four. -/
theorem lead4 {n m : ℕ} (h : (⟨4, ![1, 1, n, m]⟩ : Shape).ReducesTo [0, 1] ⟨2, ![n, m]⟩)
    (x : (⟨4, ![1, 1, n, m]⟩ : Shape).Idx → EReal) (init : EReal) (r : Fin n) (k : Fin m) :
    Ideal.hostReduceAdd h x init (ix2 r k) = init + x (ix4 0 0 r k) := by
  refine of_unique h x init _ _ (funext fun b => ?_) fun i hi => ?_
  · match b with
    | ⟨0, _⟩ => rfl
    | ⟨1, _⟩ => rfl
  · funext a
    match a with
    | ⟨0, _⟩ => exact Subsingleton.elim (α := Fin 1) _ _
    | ⟨1, _⟩ => exact Subsingleton.elim (α := Fin 1) _ _
    | ⟨2, _⟩ => exact Fin.ext (congrArg Fin.val (congrFun hi 0))
    | ⟨3, _⟩ => exact Fin.ext (congrArg Fin.val (congrFun hi 1))

/-- Two leading axes and a last one of size one, of five. -/
theorem ring5 {n m : ℕ} (h : (⟨5, ![1, 1, n, m, 1]⟩ : Shape).ReducesTo [0, 1, 4] ⟨2, ![n, m]⟩)
    (x : (⟨5, ![1, 1, n, m, 1]⟩ : Shape).Idx → EReal) (init : EReal) (r : Fin n) (k : Fin m) :
    Ideal.hostReduceAdd h x init (ix2 r k) = init + x (ix5 0 0 r k 0) := by
  refine of_unique h x init _ _ (funext fun b => ?_) fun i hi => ?_
  · match b with
    | ⟨0, _⟩ => rfl
    | ⟨1, _⟩ => rfl
  · funext a
    match a with
    | ⟨0, _⟩ => exact Subsingleton.elim (α := Fin 1) _ _
    | ⟨1, _⟩ => exact Subsingleton.elim (α := Fin 1) _ _
    | ⟨2, _⟩ => exact Fin.ext (congrArg Fin.val (congrFun hi 0))
    | ⟨3, _⟩ => exact Fin.ext (congrArg Fin.val (congrFun hi 1))
    | ⟨4, _⟩ => exact Subsingleton.elim (α := Fin 1) _ _

/-- The second and the last axis of five, the first of size one: a double sum. -/
theorem two5 {a b c e : ℕ} (h : (⟨5, ![1, a, b, c, e]⟩ : Shape).ReducesTo [1, 4] ⟨3, ![1, b, c]⟩)
    (x : (⟨5, ![1, a, b, c, e]⟩ : Shape).Idx → EReal) (init : EReal) (s : Fin b) (k : Fin c) :
    Ideal.hostReduceAdd h x init (ix3 0 s k) = init + ∑ n, ∑ d, x (ix5 0 n s k d) := by
  unfold Ideal.hostReduceAdd
  refine congrArg (init + ·) ?_
  rw [← Fintype.sum_prod_type']
  refine Finset.sum_nbij' (fun i => ((i (1 : Fin 5) : Fin a), (i (4 : Fin 5) : Fin e)))
    (fun p => (ix5 0 p.1 s k p.2 : (⟨5, ![1, a, b, c, e]⟩ : Shape).Idx)) (fun _ _ => Finset.mem_univ _) (fun p _ => ?_)
    (fun i hi => ?_) (fun _ _ => rfl) (fun i hi => ?_)
  · refine Finset.mem_filter.2 ⟨Finset.mem_univ _, funext fun b => ?_⟩
    match b with
    | ⟨0, _⟩ => rfl
    | ⟨1, _⟩ => rfl
    | ⟨2, _⟩ => rfl
  all_goals
    have hj := (Finset.mem_filter.1 hi).2
    have hi' : (ix5 0 (i (1 : Fin 5)) s k (i (4 : Fin 5)) : (⟨5, ![1, a, b, c, e]⟩ : Shape).Idx) = i := by
      funext q
      match q with
      | ⟨0, _⟩ => exact Subsingleton.elim (α := Fin 1) _ _
      | ⟨1, _⟩ => rfl
      | ⟨2, _⟩ => exact Fin.ext (congrArg Fin.val (congrFun hj 1)).symm
      | ⟨3, _⟩ => exact Fin.ext (congrArg Fin.val (congrFun hj 2)).symm
      | ⟨4, _⟩ => rfl
  · exact hi'
  · exact congrArg x hi'.symm

/-- A contraction over three axes, the first of size one: a double sum. -/
theorem dot3 (wf) (l : (⟨5, ![4, 1, 64, 256, 128]⟩ : Shape).Idx → EReal) (r : (⟨5, ![1, 64, 128, 4, 256]⟩ : Shape).Idx → EReal)
    (acc : (⟨3, ![4, 128, 128]⟩ : Shape).Idx → EReal) (k : Fin 4) (s j : Fin 128) :
    Ideal.matmul ⟨[1, 2, 3], [0, 1, 4], [4], [2], [0], [3], wf⟩ l r acc (ix3 k s j)
      = acc (ix3 k s j) + ∑ n : Fin 64, ∑ d : Fin 256, l (ix5 k 0 n d s) * r (ix5 0 n j k d) := by
  unfold Ideal.matmul
  refine congrArg (acc _ + ·) ?_
  rw [← Fintype.sum_prod_type']
  refine Finset.sum_nbij' (fun i => ((i (1 : Fin 3) : Fin 64), (i (2 : Fin 3) : Fin 256)))
    (fun p a => match a with | ⟨0, _⟩ => (0 : Fin 1) | ⟨1, _⟩ => p.1 | ⟨2, _⟩ => p.2) (fun _ _ => Finset.mem_univ _)
    (fun _ _ => Finset.mem_univ _) (fun i _ => ?_) (fun _ _ => rfl) (fun i _ => ?_)
  · funext a
    match a with
    | ⟨0, _⟩ => exact Subsingleton.elim (α := Fin 1) _ _
    | ⟨1, _⟩ => rfl
    | ⟨2, _⟩ => rfl
  · refine congrArg₂ (· * ·) (congrArg l (funext fun a => ?_)) (congrArg r (funext fun a => ?_)) <;>
    match a with
    | ⟨0, _⟩ => first | rfl | exact Subsingleton.elim (α := Fin 1) _ _
    | ⟨1, _⟩ => first | rfl | exact Subsingleton.elim (α := Fin 1) _ _
    | ⟨2, _⟩ => rfl
    | ⟨3, _⟩ => rfl
    | ⟨4, _⟩ => rfl

/-- A sum over 8192 rows, by blocks of 128. -/
theorem rows {M : Type*} [AddCommMonoid M] (f : Fin 8192 → M) :
    ∑ r, f r = ∑ n : Fin 64, ∑ s : Fin 128, f ⟨n.val * 128 + s.val, by omega⟩ := by
  rw [← Fintype.sum_prod_type']
  refine (Fintype.sum_equiv (finProdFinEquiv (m := 64) (n := 128)) _ f fun p => congrArg f (Fin.ext ?_)).symm
  simp only [finProdFinEquiv_apply_val]
  omega

end Cert.UnitSum

end
-- ==== Proof.MixRefPool.lean ====
/- What the mixers' reference computes of the pooled half: the mixed values, the gradients of the gate, the scale, the mixing
  matrices and the pooled values, and what those give the tokens of each window. -/
module

public import proofs.«01_k».proof.Proof.MixRefGate
public import proofs.«01_k».proof.Proof.AxisSum
public import proofs.«01_k».proof.Proof.MixCnt

@[expose] public section

set_option maxRecDepth 16384

noncomputable section

namespace Cert.MixRefRead

open Cert.MixModel Cert.Lift Cert.Norm Cert.MixRefIdeal Cert.MixRefIdeal.Gen Cert.MixRefIdeal.Read Idealize.ShloMosaic

variable {A : Args} {x0 : FVec Ideal S1x8192x1024 .f32} {x1 : FVec Ideal S8192x1024 .f32} {x2 : FVec Ideal S8192x2048 .f32}
  {x3 : FVec Ideal S1x1024x5120 .f32} {x4 : FVec Ideal S1x4x256x256 .f32} {x5 x6 x7 : FVec Ideal S1x1024 .f32}
  {x8 : FVec Ideal S1x4x128x128 .f32} {x9 : FVec Ideal S1x4x128 .f32}
  (H : Holds A x0 x1 x2 x3 x4 x5 x6 x7 x8 x9) (hp : ∀ r g d, val_main_v43 (F := Ideal) x0 x3 (ix4 0 r g d) = (A.pl r g d : EReal))

include H

theorem dms_at (r : Fin 8192) (g : Fin 4) (d : Fin 256) :
    val_main_v149 (F := Ideal) x0 x2 x3 (ix3 0 r (col g d)) = (A.dms r g d : EReal) := by
  pointwise [val_main_v149]
  rw [dgate_at H]
  refine congrArg (fun r : ℝ => (r : EReal)) (congrArg₂ (fun e f => A.dy r e * MixModel.gate (A.h r f)) (Fin.ext ?_) (Fin.ext ?_))
  · show (col g d).val = 1024 * 0 + (col g d).val
    omega
  · show 3072 + (col g d).val = 1024 * 3 + (col g d).val
    omega

theorem dmix_at (r : Fin 8192) (g : Fin 4) (d : Fin 256) :
    val_main_v237 (F := Ideal) x0 x2 x3 x5 (ix4 g d 0 r) = (A.dmix r g d : EReal) := by
  have h : val_main_v236 (F := Ideal) x0 x2 x3 x5 (ix4 0 r g d) = (A.dmix r g d : EReal) := by
    have h' : val_main_v234 (F := Ideal) x0 x2 x3 x5 (ix3 0 r (col g d)) = (A.dmix r g d : EReal) := by
      pointwise [val_main_v234, val_main_v233, val_main_v47, val_main_v7]
      rw [dms_at H, H.ps, ← EReal.coe_mul]
      rfl
    pointwise [val_main_v236]
    exact h'
  pointwise [val_main_v237]
  exact h

theorem dpl_at (r : Fin 8192) (g : Fin 4) (d : Fin 256) :
    val_main_v239 (F := Ideal) x0 x2 x3 x4 x5 (ix4 0 r g d) = (A.dpl r g d : EReal) := by
  pointwise [val_main_v239, val_main_v238, val_main_v6]
  simp only [dmix_at H, H.pw, ← EReal.coe_mul, coe_sum]
  rfl

include hp

theorem mixed_at (r : Fin 8192) (g : Fin 4) (d : Fin 256) :
    val_main_v46 (F := Ideal) x0 x3 x4 (ix3 0 r (col g d)) = (A.mixed r g d : EReal) := by
  pointwise [val_main_v46, val_main_v45, val_main_v44, val_main_v6, col]
  simp only [hp, H.pw, ← EReal.coe_mul, coe_sum]
  refine congrArg (fun r : ℝ => (r : EReal)) ?_
  simp only [Args.mixed, mul_comm]

theorem dzp_at (r : Fin 8192) (g : Fin 4) (d : Fin 256) :
    val_main_v148 (F := Ideal) x0 x2 x3 x4 x5 x6 x7 x8 x9 (ix3 0 r ⟨(col g d).val, by have := (col g d).isLt; omega⟩) = (A.dzp r g d : EReal) := by
  have h : val_main_v142 (F := Ideal) x0 x3 x4 x5 x6 x7 x8 x9 (ix3 0 r ⟨(col g d).val, by have := (col g d).isLt; omega⟩)
      = ((A.mixed r g d * A.ps (col g d) : ℝ) : EReal) := by
    have h' : val_main_v49 (F := Ideal) x0 x3 x4 x5 (ix3 0 r (col g d)) = ((A.mixed r g d * A.ps (col g d) : ℝ) : EReal) := by
      pointwise [val_main_v49, val_main_v48, val_main_v47, val_main_v7]
      rw [mixed_at H hp, H.ps, ← EReal.coe_mul]
    have hc := (col g d).isLt
    pointwise [val_main_v142]
    exact h'
  refine (back_gate H r _ h).trans (congrArg (fun r : ℝ => (r : EReal)) (congrArg₂ (fun e f => A.dy r e * (A.mixed r g d * A.ps (col g d)) * MixModel.slope (A.h r f)) (Fin.ext ?_) (Fin.ext ?_)))
  · show (col g d).val = 1024 * 0 + (col g d).val
    omega
  · show 3072 + (col g d).val = 1024 * 3 + (col g d).val
    omega

theorem dps_at (g : Fin 4) (d : Fin 256) :
    val_main_v269 (F := Ideal) x0 x2 x3 x4 (ix2 0 (col g d)) = (A.dps g d : EReal) := by
  pointwise [val_main_v269]
  unfold val_main_v235
  refine (UnitSum.lead _ _ _ _).trans ?_
  pointwise [val_main_v232, val_main_v231, val_main_v230, val_main_cst_50, val_main_cst_51]
  simp only [mixed_at H hp, dms_at H, ← EReal.coe_mul, coe_sum]
  refine congrArg (fun r : ℝ => (r : EReal)) ?_
  simp only [Args.dps, mul_comm]

theorem dpw_dot (g : Fin 4) (d k : Fin 256) :
    val_main_v240 (F := Ideal) x0 x2 x3 x5 (ix3 g d k) = (A.dpw g k d : EReal) := by
  pointwise [val_main_v240]
  rw [Fintype.sum_unique]
  simp only [show (default : Fin 1) = 0 from rfl, dmix_at H, hp, ← EReal.coe_mul, coe_sum]
  refine congrArg (fun r : ℝ => (r : EReal)) ?_
  simp [Args.dpw, mul_comm]

theorem dpw_at (g : Fin 4) (a : Fin 8) (b : Fin 32) (d : Fin 256) :
    val_main_v281 (F := Ideal) x0 x2 x3 x5 (ix4 a g b d) = (A.dpw g ⟨a.val * 32 + b.val, by omega⟩ d : EReal) := by
  pointwise [val_main_v281, val_main_v280, val_main_v270, val_main_v241]
  exact dpw_dot H hp _ _ _

omit hp

omit H in
theorem cnt_at (r : Fin 8192) (g : Fin 4) : val_main_v39 (F := Ideal) (ix4 0 r g 0) = ((Args.cnt r g : ℝ) : EReal) := by
  pointwise [val_main_v39, val_main_v38, val_main_v37, val_main_v36, val_main_v35, val_main_v34, val_main_v33, val_main_v32, val_main_v31, val_main_v30, val_main_v29, val_main_v28, val_main_v27, val_main_c, val_main_c_7]
  rw [show IntOp.shli ArithUnit.host (2#32) (BitVec.ofNat 32 g.val) = BitVec.ofNat 32 (Args.width g) by revert g; decide,
    show IntOp.addi (BitVec.ofNat 32 r.val) 1#32 = BitVec.ofNat 32 (r.val + 1) from (BitVec.ofNat_add _ _).symm]
  exact cnt_word r g

theorem q_at (r : Fin 8192) (g : Fin 4) (d : Fin 256) :
    val_main_v244 (F := Ideal) x0 x2 x3 x4 x5 (ix4 0 r g d) = (A.q r g d : EReal) := by
  pointwise [val_main_v244, val_main_v243]
  rw [dpl_at H, cnt_at, div_coe (cnt_ne r g)]
  rfl

theorem neg_q_at (r : Fin 8192) (g : Fin 4) (d : Fin 256) :
    val_main_v245 (F := Ideal) x0 x2 x3 x4 x5 (ix4 0 r g d) = ((-A.q r g d : ℝ) : EReal) := by
  pointwise [val_main_v245]
  rw [q_at H, ← EReal.coe_neg]

theorem pad3_at (r : Fin 8192) (g : Fin 4) (d : Fin 256) : val_main_v252 (F := Ideal) x0 x2 x3 x4 x5 (ix4 0 r g d)
    = ((if g.val = 3 then -WinSum.ext (fun j => A.q j 3 d) (r.val + 16) else 0 : ℝ) : EReal) := by
  refine WinSum.pad_shift (m := 8176) (by norm_num) (fun j d => A.q j 3 d) (fun j b => ?_) ?_ _ r g d
  · pointwise [val_main_v251, val_main_v249]
    exact neg_q_at H _ _ _
  · pointwise [val_main_cst_52]

theorem pad2_at (r : Fin 8192) (g : Fin 4) (d : Fin 256) : val_main_v256 (F := Ideal) x0 x2 x3 x4 x5 (ix4 0 r g d)
    = ((if g.val = 2 then -WinSum.ext (fun j => A.q j 2 d) (r.val + 8) else 0 : ℝ) : EReal) := by
  refine WinSum.pad_shift (m := 8184) (by norm_num) (fun j d => A.q j 2 d) (fun j b => ?_) ?_ _ r g d
  · pointwise [val_main_v255, val_main_v248]
    exact neg_q_at H _ _ _
  · pointwise [val_main_cst_53]

theorem pad1_at (r : Fin 8192) (g : Fin 4) (d : Fin 256) : val_main_v260 (F := Ideal) x0 x2 x3 x4 x5 (ix4 0 r g d)
    = ((if g.val = 1 then -WinSum.ext (fun j => A.q j 1 d) (r.val + 4) else 0 : ℝ) : EReal) := by
  refine WinSum.pad_shift (m := 8188) (by norm_num) (fun j d => A.q j 1 d) (fun j b => ?_) ?_ _ r g d
  · pointwise [val_main_v259, val_main_v247]
    exact neg_q_at H _ _ _
  · pointwise [val_main_cst_54]

theorem pad0_at (r : Fin 8192) (g : Fin 4) (d : Fin 256) : val_main_v264 (F := Ideal) x0 x2 x3 x4 x5 (ix4 0 r g d)
    = ((if g.val = 0 then -WinSum.ext (fun j => A.q j 0 d) (r.val + 2) else 0 : ℝ) : EReal) := by
  refine WinSum.pad_shift (m := 8190) (by norm_num) (fun j d => A.q j 0 d) (fun j b => ?_) ?_ _ r g d
  · pointwise [val_main_v263, val_main_v246]
    exact neg_q_at H _ _ _
  · pointwise [val_main_cst_55]

theorem qd_at (r : Fin 8192) (g : Fin 4) (d : Fin 256) :
    val_main_v265 (F := Ideal) x0 x2 x3 x4 x5 (ix4 0 r g d)
      = ((A.q r g d - WinSum.ext (fun j => A.q j g d) (r.val + Args.width g) : ℝ) : EReal) := by
  pointwise [val_main_v265, val_main_v261, val_main_v257, val_main_v253]
  rw [q_at H, pad0_at H, pad1_at H, pad2_at H, pad3_at H]
  simp only [← EReal.coe_add]
  refine congrArg (fun r : ℝ => (r : EReal)) ?_
  fin_cases g <;> simp [Args.width, sub_eq_add_neg]

theorem da_at (r : Fin 8192) (g : Fin 4) (d : Fin 256) :
    val_main_v268 (F := Ideal) x0 x2 x3 x4 x5 (ix3 0 r (col g d)) = (A.da r g d : EReal) := by
  have h : val_main_v266 (F := Ideal) x0 x2 x3 x4 x5 (ix4 0 r g d)
      = ((∑ k ∈ Finset.range (Args.width g), WinSum.ext (fun j => A.q j g d) (r.val + k) : ℝ) : EReal) := by
    have hv : val_main_call6_call0_v0 (F := Ideal) (Shape.Idx.first h_S_) = 0 := by
      pointwise [val_main_call6_call0_v0, val_main_call6_call0_cst]
    have e := (WinSum.window (L := 0) (H := 8191) reduceWindows_S1x8192x4x256_S1x8192x4x256_w1s1p0_0_w8192s1p0_8191_w1s1p0_0_w1s1p0_0 (val_main_v265 (F := Ideal) x0 x2 x3 x4 x5) hv r g d)
    unfold val_main_v266 Host.reduceWindowAdd
    refine Eq.trans e ?_
    rw [← WinSum.telescope (n := 8192)]
    rw [← Fin.sum_univ_eq_sum_range (fun k => WinSum.ext (fun j => A.q j g d) (r.val + k) - WinSum.ext (fun j => A.q j g d) (r.val + k + Args.width g)) 8192, ← coe_sum]
    refine Finset.sum_congr rfl fun k _ => ?_
    by_cases hk : 0 ≤ r.val + k.val ∧ r.val + k.val - 0 < 8192
    · rw [dif_pos hk, qd_at H]
      exact congrArg (fun x : ℝ => ((x - _ : ℝ) : EReal)) (WinSum.ext_val (fun j => A.q j g d) ⟨r.val + k.val, hk.2⟩).symm
    · rw [dif_neg hk, WinSum.ext, WinSum.ext, dif_neg (by omega), dif_neg (by omega), sub_zero, EReal.coe_zero]
  pointwise [val_main_v268, val_main_v267, val_main_v242, col]
  rw [dpl_at H, h, ← EReal.coe_neg, ← EReal.coe_add]
  exact congrArg (fun r : ℝ => (r : EReal)) (neg_add_eq_sub _ _)

end Cert.MixRefRead

end
-- ==== Proof.MixRefSgu.lean ====
/- What the mixers' reference computes of the half that is mixed over 128 tokens: the normalised values, the mixed ones and
  the gradients of both. -/
module

public import proofs.«01_k».proof.Proof.MixRefGate
public import proofs.«01_k».proof.Proof.AxisSum

@[expose] public section

set_option maxRecDepth 16384

noncomputable section

namespace Cert.MixRefRead

open Cert.MixModel Cert.Lift Cert.Norm Cert.MixRefIdeal Cert.MixRefIdeal.Gen Cert.MixRefIdeal.Read Idealize.ShloMosaic

variable {A : Args} {x0 : FVec Ideal S1x8192x1024 .f32} {x1 : FVec Ideal S8192x1024 .f32} {x2 : FVec Ideal S8192x2048 .f32}
  {x3 : FVec Ideal S1x1024x5120 .f32} {x4 : FVec Ideal S1x4x256x256 .f32} {x5 x6 x7 : FVec Ideal S1x1024 .f32}
  {x8 : FVec Ideal S1x4x128x128 .f32} {x9 : FVec Ideal S1x4x128 .f32}
  (H : Holds A x0 x1 x2 x3 x4 x5 x6 x7 x8 x9)

/-- One head's columns of the values to mix. -/
def gr (A : Args) (r : Fin 8192) (k : Fin 4) (d : Fin 256) : ℝ := gelu (A.sec 2 r (col k d))

include H

theorem gr_at (r : Fin 8192) (k : Fin 4) (d : Fin 256) : val_main_v96 (F := Ideal) x0 x3 (ix4 0 r k d) = (gr A r k d : EReal) := by
  pointwise [val_main_v96]
  exact gelu_v H r (col k d)

theorem mean_at (r : Fin 8192) (k : Fin 4) : val_main_v102 (F := Ideal) x0 x3 (ix4 0 r k 0) = (mean (gr A r k) : EReal) := by
  pointwise [val_main_v102, val_main_v101, val_main_v100, val_main_v99, val_main_cst_22, val_main_cst_23]
  simp only [gr_at H, coe_sum, word_256, div_coe (show (256 : ℝ) ≠ 0 by norm_num)]
  simp [mean]

theorem cen_at (r : Fin 8192) (k : Fin 4) (d : Fin 256) : val_main_v104 (F := Ideal) x0 x3 (ix4 0 r k d) = (cen (gr A r k) d : EReal) := by
  pointwise [val_main_v104, val_main_v103]
  simp only [gr_at H, mean_at H, ← EReal.coe_sub]
  rfl

theorem cen_at' (r : Fin 8192) (k : Fin 4) (d : Fin 256) : val_main_v113 (F := Ideal) x0 x3 (ix4 0 r k d) = (cen (gr A r k) d : EReal) := by
  pointwise [val_main_v113, val_main_v112]
  simp only [gr_at H, mean_at H, ← EReal.coe_sub]
  rfl

theorem var_at (r : Fin 8192) (k : Fin 4) : val_main_v115 (F := Ideal) x0 x3 (ix4 0 r k 0) = (var (gr A r k) + eps : ℝ) := by
  pointwise [val_main_v115, val_main_v114, val_main_cst_27, val_main_v111, val_main_v110, val_main_v109, val_main_v108, val_main_cst_25, val_main_cst_26, val_main_v105]
  simp only [cen_at H, ← EReal.coe_mul, coe_sum, word_eps, word_256, div_coe (show (256 : ℝ) ≠ 0 by norm_num), ← EReal.coe_add]
  simp [mean, var, eps]

theorem rstd_at (r : Fin 8192) (k : Fin 4) : val_main_v116 (F := Ideal) x0 x3 (ix4 0 r k 0) = (rstd (gr A r k) : EReal) := by
  pointwise [val_main_v116]
  rw [var_at H, rsqrt_pos (var_eps_pos _)]
  rfl

theorem rstd3_at (r : Fin 8192) (k : Fin 4) : val_main_v119 (F := Ideal) x0 x3 (ix4 0 r k 0)
    = (-(1 / 2) * (rstd (gr A r k) * (1 / (var (gr A r k) + eps))) : ℝ) := by
  pointwise [val_main_v119, val_main_v118, val_main_v117, val_main_cst_28]
  rw [rstd_at H, var_at H, div_coe (var_eps_pos _).ne', word_neg_half, ← EReal.coe_mul]

theorem xhat_at (r : Fin 8192) (k : Fin 4) (d : Fin 256) : val_main_v121 (F := Ideal) x0 x3 (ix4 0 r k d) = (xhat (gr A r k) d : EReal) := by
  pointwise [val_main_v121, val_main_v120]
  simp only [cen_at' H, rstd_at H, ← EReal.coe_mul]
  rfl

theorem vln_at (n : Fin 64) (s : Fin 128) (k : Fin 4) (d : Fin 256) :
    val_main_v128 (F := Ideal) x0 x3 x6 x7 (ix5 0 n s k d) = ((A.chunk n k).vln s d : EReal) := by
  pointwise [val_main_v128, val_main_v127, val_main_v126, val_main_v125, val_main_v124, val_main_v123, val_main_v122, val_main_v98, val_main_v97, val_main_v50, val_main_v51]
  simp only [xhat_at H, H.lg, H.lb, ← EReal.coe_mul, ← EReal.coe_add]
  rfl

theorem mw_at (k : Fin 4) (s j : Fin 128) (n : Fin 64) : val_main_v133_0 (F := Ideal) x8 (ix3 k s j) = ((A.chunk n k).mw s j : EReal) := by
  pointwise [val_main_v133_0, val_main_v133_1, val_main_v132, val_main_v131, val_main_v130, val_main_v129, val_main_c_29, val_main_call1_v4, val_main_call1_v2, val_main_call1_v0, val_main_call1_v1, val_main_call1_c, val_main_call1_v3, val_main_call1_v5, val_main_call1_c_0, val_main_v52, val_main_cst_30]
  rw [show IntOp.addi (BitVec.ofNat 32 s.val) 0#32 = BitVec.ofNat 32 s.val from BitVec.add_zero _,
    WordCmp.cmpi_sge_ofNat (by omega) (by omega), H.sw]
  by_cases h : j ≤ s
  · rw [show decide (j.val ≤ s.val) = true by simpa using h, Chunk.mw, if_pos h]
    rfl
  · rw [show decide (j.val ≤ s.val) = false by simpa using h, Chunk.mw, if_neg h]
    rfl

theorem sv_at (n : Fin 64) (s : Fin 128) (k : Fin 4) (d : Fin 256) :
    val_main_v140 (F := Ideal) x0 x3 x6 x7 x8 x9 (ix3 0 (row n s) (col k d)) = ((A.chunk n k).sv s d : EReal) := by
  pointwise [val_main_v140, val_main_v139, val_main_v138, val_main_v137, val_main_v136, val_main_v135, val_main_v134, val_main_v53, row, col]
  simp only [vln_at H, mw_at H _ _ _ n, H.sb, ← EReal.coe_mul, coe_sum, ← EReal.coe_add]
  refine congrArg (fun r : ℝ => (r : EReal)) ?_
  simp only [Chunk.sv, mul_comm]
  rfl

theorem dyg_at (n : Fin 64) (s : Fin 128) (k : Fin 4) (d : Fin 256) :
    val_main_v150 (F := Ideal) x0 x2 x3 (ix3 0 (row n s) (col k d)) = ((A.chunk n k).dyg s d : EReal) := by
  pointwise [val_main_v150]
  rw [dgate_at H]
  refine congrArg (fun r : ℝ => (r : EReal)) (congrArg₂ (fun e f => A.dy (row n s) e * MixModel.gate (A.h (row n s) f)) (Fin.ext ?_) (Fin.ext ?_))
  · rfl
  · show 3072 + (1024 + (col k d).val) = 1024 * 4 + (col k d).val
    omega

theorem dsv_at' (n : Fin 64) (s : Fin 128) (k : Fin 4) (d : Fin 256) :
    val_main_v151 (F := Ideal) x0 x2 x3 (ix3 0 (row n s) (col k d)) = ((A.chunk n k).dsv s d : EReal) := by
  pointwise [val_main_v151]
  rw [gelu_u H, dyg_at H, ← EReal.coe_mul]
  exact congrArg _ (mul_comm _ _)

theorem dsv_at (n : Fin 64) (s : Fin 128) (k : Fin 4) (d : Fin 256) :
    val_main_v153 (F := Ideal) x0 x2 x3 (ix5 0 n s k d) = ((A.chunk n k).dsv s d : EReal) := by
  pointwise [val_main_v153]
  exact dsv_at' H n s k d

theorem dvln_at (n : Fin 64) (s : Fin 128) (k : Fin 4) (d : Fin 256) :
    val_main_v163 (F := Ideal) x0 x2 x3 x8 (ix4 0 (row n s) k d) = ((A.chunk n k).dvln s d : EReal) := by
  pointwise [val_main_v163, val_main_v161, val_main_v160, val_main_v158, row]
  simp only [dsv_at H, mw_at H _ _ _ n, ← EReal.coe_mul, coe_sum]
  refine congrArg (fun r : ℝ => (r : EReal)) ?_
  simp only [Chunk.dvln, mul_comm]

theorem du_at (n : Fin 64) (s : Fin 128) (k : Fin 4) (d : Fin 256) :
    val_main_v225 (F := Ideal) x0 x2 x3 x6 x7 x8 x9 (ix3 0 (row n s) (col k d)) = ((A.chunk n k).du s d : EReal) := by
  refine back_u H _ _ (g := (A.chunk n k).dyg s d * (A.chunk n k).sv s d) ?_
  pointwise [val_main_v152]
  rw [dyg_at H, sv_at H, ← EReal.coe_mul]

theorem dxh_at (n : Fin 64) (s : Fin 128) (k : Fin 4) (d : Fin 256) :
    val_main_v171 (F := Ideal) x0 x2 x3 x6 x8 (ix4 0 (row n s) k d) = ((A.chunk n k).dxh s d : EReal) := by
  pointwise [val_main_v171, val_main_v170, val_main_v122, val_main_v97, val_main_v50]
  simp only [dvln_at H, H.lg, ← EReal.coe_mul]
  rfl

theorem chain_var_at (n : Fin 64) (s : Fin 128) (k : Fin 4) :
    val_main_v184 (F := Ideal) x0 x2 x3 x6 x8 (ix2 (row n s) k) = (chainVar (gr A (row n s) k) ((A.chunk n k).dxh s) : EReal) := by
  unfold val_main_v184
  refine (UnitSum.around4 _ _ _ _ _).trans ?_
  pointwise [val_main_v183, val_main_v182, val_main_cst_39, val_main_cst_40, val_main_v178, val_main_v175, val_main_v174, val_main_cst_37, val_main_v173]
  simp only [cen_at' H, dxh_at H, rstd3_at H, word_256, ← EReal.coe_mul, coe_sum, div_coe (show (256 : ℝ) ≠ 0 by norm_num)]
  refine congrArg (fun r : ℝ => (r : EReal)) ?_
  simp [chainVar]

theorem mean_part_at (n : Fin 64) (s : Fin 128) (k : Fin 4) :
    val_main_v195 (F := Ideal) x0 x2 x3 x6 x8 (ix2 (row n s) k) = (((∑ d, -((A.chunk n k).dxh s d * rstd (gr A (row n s) k)))
      + ∑ d, -(chainVar (gr A (row n s) k) ((A.chunk n k).dxh s) * (2 * cen (gr A (row n s) k) d))) * (1 / 256) : ℝ) := by
  unfold val_main_v195
  refine (UnitSum.around4 _ _ _ _ _).trans ?_
  pointwise [val_main_v194, val_main_v193, val_main_v192, val_main_v191, val_main_v190, val_main_v189, val_main_v188, val_main_v187, val_main_v186, val_main_v185, val_main_v181, val_main_v180, val_main_v179, val_main_v177, val_main_v176, val_main_v107, val_main_v106, val_main_cst_24, val_main_cst_38, val_main_cst_41, val_main_cst_42, val_main_cst_43]
  simp only [chain_var_at H, dxh_at H, rstd_at H, cen_at H, word_two, word_256, ← EReal.coe_mul, ← EReal.coe_neg, coe_sum, ← EReal.coe_add, div_coe (show (256 : ℝ) ≠ 0 by norm_num)]

theorem chain_at (n : Fin 64) (s : Fin 128) (k : Fin 4) (d : Fin 256) :
    val_main_v198 (F := Ideal) x0 x2 x3 x6 x8 (ix4 0 (row n s) k d) = (back ((A.chunk n k).gv s) ((A.chunk n k).dxh s) d : EReal) := by
  refine Eq.trans ?_ (congrArg (fun r : ℝ => (r : EReal)) (chain_eq _ _ _))
  pointwise [val_main_v198, val_main_v197, val_main_v196, val_main_v193, val_main_v192, val_main_v191, val_main_v190, val_main_v189, val_main_v188, val_main_v187, val_main_v186, val_main_v185, val_main_v181, val_main_v180, val_main_v179, val_main_v177, val_main_v176, val_main_v107, val_main_v106, val_main_cst_24, val_main_cst_38, val_main_cst_41, val_main_cst_42, val_main_cst_43]
  simp only [mean_part_at H, chain_var_at H, dxh_at H, rstd_at H, cen_at H, word_two, word_256, ← EReal.coe_mul, ← EReal.coe_neg, coe_sum, ← EReal.coe_add, div_coe (show (256 : ℝ) ≠ 0 by norm_num)]
  simp [chain]
  rfl

theorem dv_at (n : Fin 64) (s : Fin 128) (k : Fin 4) (d : Fin 256) :
    val_main_v213 (F := Ideal) x0 x2 x3 x6 x8 (ix3 0 (row n s) (col k d)) = ((A.chunk n k).dv s d : EReal) := by
  refine back_v H _ _ (g := back ((A.chunk n k).gv s) ((A.chunk n k).dxh s) d) ?_
  pointwise [val_main_v201, col]
  exact chain_at H n s k d

theorem dlg_at (k : Fin 4) (d : Fin 256) :
    val_main_v229 (F := Ideal) x0 x2 x3 x8 (ix2 0 (col k d)) = (A.dlg k d : EReal) := by
  pointwise [val_main_v229, val_main_v200, col]
  unfold val_main_v172
  refine (UnitSum.lead4 _ _ _ _ _).trans ?_
  pointwise [val_main_v169, val_main_v168, val_main_v167, val_main_cst_35, val_main_cst_36, col]
  rw [UnitSum.rows]
  refine (Finset.sum_congr rfl fun n _ => Finset.sum_congr rfl fun s _ => congrArg₂ (· * ·) (xhat_at H (row n s) k d) (dvln_at H n s k d)).trans ?_
  simp only [← EReal.coe_mul, coe_sum]
  refine congrArg (fun r : ℝ => (r : EReal)) (Finset.sum_congr rfl fun n _ => Finset.sum_congr rfl fun s _ => mul_comm _ _)

theorem dlb_at (k : Fin 4) (d : Fin 256) :
    val_main_v228 (F := Ideal) x0 x2 x3 x8 (ix2 0 (col k d)) = (A.dlb k d : EReal) := by
  pointwise [val_main_v228, val_main_v199, col]
  unfold val_main_v166
  refine (UnitSum.lead4 _ _ _ _ _).trans ?_
  pointwise [val_main_v165, val_main_v164, val_main_cst_33, val_main_cst_34, col]
  rw [UnitSum.rows]
  refine (Finset.sum_congr rfl fun n _ => Finset.sum_congr rfl fun s _ => dvln_at H n s k d).trans ?_
  simp only [coe_sum]
  rfl

theorem dsw_dot (k : Fin 4) (s j : Fin 128) :
    val_main_v159 (F := Ideal) x0 x2 x3 x6 x7 (ix3 k s j) = ((∑ n, (A.chunk n k).dsw s j : ℝ) : EReal) := by
  unfold val_main_v159
  refine (UnitSum.dot3 _ _ _ _ _ _ _).trans ?_
  pointwise [val_main_v158]
  simp only [dsv_at H, vln_at H, ← EReal.coe_mul, coe_sum]
  rfl

theorem dsw_at (k : Fin 4) (s j : Fin 128) :
    val_main_v282 (F := Ideal) x0 x2 x3 x6 x7 (ix3 k s j) = (A.dsw k s j : EReal) := by
  pointwise [val_main_v282, val_main_v227, val_main_v162, val_main_v133_1, val_main_v132, val_main_v131, val_main_v130, val_main_v129, val_main_c_29, val_main_call1_v4, val_main_call1_v2, val_main_call1_v0, val_main_call1_v1, val_main_call1_c, val_main_call1_v3, val_main_call1_v5, val_main_call1_c_0, val_main_call5_v0, val_main_call5_cst]
  rw [show IntOp.addi (BitVec.ofNat 32 s.val) 0#32 = BitVec.ofNat 32 s.val from BitVec.add_zero _,
    WordCmp.cmpi_sge_ofNat (by omega) (by omega), dsw_dot H]
  by_cases h : j ≤ s
  · rw [show decide (j.val ≤ s.val) = true by simpa using h, Args.dsw, if_pos h]
    rfl
  · rw [show decide (j.val ≤ s.val) = false by simpa using h, Args.dsw, if_neg h]
    rfl

theorem dsb_at (k : Fin 4) (s : Fin 128) :
    val_main_v283 (F := Ideal) x0 x2 x3 (ix2 k s) = (A.dsb k s : EReal) := by
  pointwise [val_main_v283, val_main_v226, val_main_v157]
  unfold val_main_v156
  refine (UnitSum.ring5 _ _ _ _ _).trans ?_
  pointwise [val_main_v155, val_main_cst_32]
  unfold val_main_v154
  refine (UnitSum.two5 _ _ _ _ _).trans ?_
  pointwise [val_main_cst_31]
  simp only [dsv_at H, coe_sum, zero_add]
  rfl

end Cert.MixRefRead

end
-- ==== Proof.MixRefOut.lean ====
/- The mixers' reference results that join both halves: the gradient of the projected tokens and that of the tokens. -/
module

public import proofs.«01_k».proof.Proof.MixRefPool
public import proofs.«01_k».proof.Proof.MixRefSgu

@[expose] public section

set_option maxRecDepth 16384

noncomputable section

namespace Cert.MixModel

/-- The column of entry `d` of head `k` in section `b` of the projected token. -/
def colh (b : Fin 5) (k : Fin 4) (d : Fin 256) : Fin 5120 := ⟨1024 * b.val + (col k d).val, by have := (col k d).isLt; omega⟩

/-- A sum over the columns of the projected token, by section and head. -/
theorem sum_colh {M : Type*} [AddCommMonoid M] (f : Fin 5120 → M) : ∑ e, f e = ∑ b, ∑ k, ∑ d, f (colh b k d) := by
  simp only [← Fintype.sum_prod_type']
  let e : Fin 5 × Fin 4 × Fin 256 ≃ Fin 5120 :=
    ((Equiv.refl _).prodCongr (finProdFinEquiv (m := 4) (n := 256))).trans (finProdFinEquiv (m := 5) (n := 1024))
  refine (Fintype.sum_equiv e _ f fun p => congrArg f (Fin.ext ?_)).symm
  show 1024 * p.1.val + (p.2.1.val * 256 + p.2.2.val) = (p.2.2.val + 256 * p.2.1.val) + 1024 * p.1.val
  omega

end Cert.MixModel

namespace Cert.MixRefRead

open Cert.MixModel Cert.Lift Cert.Norm Cert.MixRefIdeal Cert.MixRefIdeal.Gen Cert.MixRefIdeal.Read Idealize.ShloMosaic

variable {A : Args} {x0 : FVec Ideal S1x8192x1024 .f32} {x1 : FVec Ideal S8192x1024 .f32} {x2 : FVec Ideal S8192x2048 .f32}
  {x3 : FVec Ideal S1x1024x5120 .f32} {x4 : FVec Ideal S1x4x256x256 .f32} {x5 x6 x7 : FVec Ideal S1x1024 .f32}
  {x8 : FVec Ideal S1x4x128x128 .f32} {x9 : FVec Ideal S1x4x128 .f32}
  (H : Holds A x0 x1 x2 x3 x4 x5 x6 x7 x8 x9) (hp : ∀ r g d, val_main_v43 (F := Ideal) x0 x3 (ix4 0 r g d) = (A.pl r g d : EReal))

include H

theorem dz_at (n : Fin 64) (s : Fin 128) (k : Fin 4) (d : Fin 256) :
    val_main_v148 (F := Ideal) x0 x2 x3 x4 x5 x6 x7 x8 x9 (ix3 0 (row n s) ⟨1024 + (col k d).val, by have := (col k d).isLt; omega⟩)
      = ((A.chunk n k).dz s d : EReal) := by
  have h : val_main_v142 (F := Ideal) x0 x3 x4 x5 x6 x7 x8 x9 (ix3 0 (row n s) ⟨1024 + (col k d).val, by have := (col k d).isLt; omega⟩)
      = ((gelu ((A.chunk n k).u s d) * (A.chunk n k).sv s d : ℝ) : EReal) := by
    have h' : val_main_v141 (F := Ideal) x0 x3 x6 x7 x8 x9 (ix3 0 (row n s) (col k d)) = ((gelu ((A.chunk n k).u s d) * (A.chunk n k).sv s d : ℝ) : EReal) := by
      pointwise [val_main_v141]
      rw [gelu_u H, sv_at H, ← EReal.coe_mul]
      rfl
    have hc := (col k d).isLt
    pointwise [val_main_v142]
    exact h'
  refine (back_gate H _ _ h).trans (congrArg (fun r : ℝ => (r : EReal)) (congrArg₂ (fun e f => A.dy (row n s) e * (gelu ((A.chunk n k).u s d) * (A.chunk n k).sv s d) * MixModel.slope (A.h (row n s) f)) (Fin.ext ?_) (Fin.ext ?_)))
  · rfl
  · show 3072 + (1024 + (col k d).val) = 1024 * 4 + (col k d).val
    omega

include hp

theorem cat_at (n : Fin 64) (s : Fin 128) (b : Fin 5) (k : Fin 4) (d : Fin 256) :
    val_main_v271 (F := Ideal) x0 x2 x3 x4 x5 x6 x7 x8 x9 (ix3 0 (row n s) (colh b k d)) = (A.dhs n s b k d : EReal) := by
  have hc := (col k d).isLt
  fin_cases b
  · pointwise [val_main_v271, colh]
    exact da_at H _ _ _
  · pointwise [val_main_v271, colh]
    exact du_at H _ _ _ _
  · pointwise [val_main_v271, colh]
    rw [dif_neg (by omega), dif_neg (by omega), dif_pos (by omega)]
    refine (congrArg (fun e => val_main_v213 (F := Ideal) x0 x2 x3 x6 x8 (ix3 0 (row n s) e)) (Fin.ext ?_)).trans (dv_at H n s k d)
    show 2048 + (col k d).val - 1024 - 1024 = (col k d).val
    omega
  · pointwise [val_main_v271, colh]
    rw [dif_neg (by omega), dif_neg (by omega), dif_neg (by omega)]
    refine (congrArg (fun e => val_main_v148 (F := Ideal) x0 x2 x3 x4 x5 x6 x7 x8 x9 (ix3 0 (row n s) e)) (Fin.ext ?_)).trans (dzp_at H hp (row n s) k d)
    show 3072 + (col k d).val - 1024 - 1024 - 1024 = (col k d).val
    omega
  · pointwise [val_main_v271, colh]
    rw [dif_neg (by omega), dif_neg (by omega), dif_neg (by omega)]
    refine (congrArg (fun e => val_main_v148 (F := Ideal) x0 x2 x3 x4 x5 x6 x7 x8 x9 (ix3 0 (row n s) e)) (Fin.ext ?_)).trans (dz_at H n s k d)
    show 4096 + (col k d).val - 1024 - 1024 - 1024 = 1024 + (col k d).val
    omega

theorem dh_at (n : Fin 64) (s : Fin 128) (b : Fin 5) (k : Fin 4) (d : Fin 256) :
    val_main_v277 (F := Ideal) x0 x2 x3 x4 x5 x6 x7 x8 x9 (ix2 (row n s) (colh b k d)) = (A.dhs n s b k d : EReal) := by
  pointwise [val_main_v277, val_main_v276]
  exact cat_at H hp n s b k d

theorem dx_at (n : Fin 64) (s : Fin 128) (c : Fin 1024) :
    val_main_v279 (F := Ideal) x0 x1 x2 x3 x4 x5 x6 x7 x8 x9 (ix2 (row n s) c)
      = A.dxr (row n s) c + ((∑ b, ∑ k, ∑ d, A.dhs n s b k d * A.wi c (colh b k d) : ℝ) : EReal) := by
  pointwise [val_main_v279, val_main_v278, val_main_v274, val_main_v0]
  rw [H.dxr, sum_colh]
  simp only [cat_at H hp, H.wi, ← EReal.coe_mul, coe_sum]

end Cert.MixRefRead

end
-- ==== Proof.MixDh.lean ====
/- The gradient of the projected tokens, as the mixers' kernel leaves it tile by tile. -/
module

public import proofs.«01_k».proof.Proof.MixHalo
public import proofs.«01_k».proof.Proof.MixRefOut

@[expose] public section

set_option maxRecDepth 16384
set_option maxHeartbeats 2000000

noncomputable section

namespace Cert.MixDh

open Cert.MixModel Cert.MixHost Cert.MixTile Cert.MixStep Cert.MixHalo Cert.Lift Cert.Norm Cert.MixIdeal Cert.MixIdeal.Gen Idealize.ShloMosaic Idealize.ShloMosaic.TcCoe Idealize.ShloMosaic.Tactic
open Idealize.SL.Sem

theorem val_colh (b : Fin 5) (k : Fin 4) (d : Fin 256) : (colh b k d).val = 1024 * b.val + 256 * k.val + d.val := by
  rw [Nat.add_assoc, ← val_col]
  rfl
theorem val_crow (n : Fin 2) (s : Fin 128) : (crow n s).val = 128 * n.val + s.val := rfl

/-- What is read back of several stores lies where the read places it. -/
theorem cov_at {sig : RefSig} {κ : Kind} {sp : Space} {S : Shape} {e : EltTy} {v : View sig κ sp S e}
    {off size : Fin S.rank → ℕ} {inb : ∀ a, off a + size a ≤ S.size a} {L : List (View.Piece (Elt Ideal) S e)}
    (x : (Rect.unit off size inb).shape.Idx) (y : S.Idx) (h : ∀ a, (y a).val = off a + (x a).val) :
    v.readCov L (Rect.unit off size inb).toLoadRect x = View.canon L y :=
  (congrFun (View.readCov_eq_canon' _ _ _) _).trans (congrArg _ (funext fun a => Fin.ext (by
    rw [h a]
    show off a + 1 * (x a).val = _
    rw [one_mul])))

variable (m : (ℓ : Loc nD τ sig) → Buf (Elt Ideal) ℓ) (c : Dev nD) {A : Args} (H : Given m c A) (P : Pooled m c A)

section
include H P

/-- What is carried is right after every grid point. -/
theorem carried : ∀ (n : ℕ) (hn : n < cfg0.N), Carried m c A n hn
  | 0, hn => MixHalo.next m c H P ⟨0, hn⟩ fun h => absurd rfl h
  | n + 1, hn => MixHalo.next m c H P ⟨n + 1, hn⟩ fun _ => carried n (Nat.lt_of_succ_lt hn)

end

include H

/-- The sections of the gating unit, chunk by chunk and head by head. -/
theorem dh_sgu (t : Fin cfg0.N) (n : Fin 2) (k : Fin 4) (s : Fin 128) (d : Fin 256) :
    (outsAt0 m c t.val t.isLt).1 (ix2 (crow n s) (colh 1 k d)) = ((A.chunk (cidx t n) k).du s d : EReal)
      ∧ (outsAt0 m c t.val t.isLt).1 (ix2 (crow n s) (colh 2 k d)) = ((A.chunk (cidx t n) k).dv s d : EReal)
      ∧ (outsAt0 m c t.val t.isLt).1 (ix2 (crow n s) (colh 4 k d)) = ((A.chunk (cidx t n) k).dz s d : EReal) := by
  have U := MixChunk.du_at (chunk m c H t n k) s d
  have V := MixChunk.dv_at (chunk m c H t n k) s d
  have Z := MixChunk.dz_at (chunk m c H t n k) s d
  by_cases h0 : t.val % 32 = 0
  on_goal 1 => rw [outsAt0_A m c t h0 (by omega)]
  on_goal 2 => by_cases h1 : t.val % 32 = 31
  on_goal 2 => rw [outsAt0_C m c t h0 h1]
  on_goal 3 => rw [outsAt0_B m c t h0 h1]
  all_goals
    frame_out
    try simp (disch := decide) only [View.readCov_skip, View.readCov_cons_toLoadRect, read_unread_whole]
    fin_cases n <;> fin_cases k
  all_goals
    refine ⟨?_, ?_, ?_⟩
    all_goals
      repeat (first
        | (refine (miss _ 1 ?_).trans ?_; on_goal 1 => (left; show (colh _ _ d).val < _; rw [val_colh]; simp <;> omega))
        | (refine (miss _ 1 ?_).trans ?_; on_goal 1 => (right; show _ ≤ (colh _ _ d).val; rw [val_colh]; simp <;> omega))
        | (refine (miss _ 0 ?_).trans ?_; on_goal 1 => (left; show (crow _ s).val < _; rw [val_crow]; simp <;> omega)))
      refine (hit _ (ix2 s d) ?_).trans ?_
      · exact Fin.forall_fin_two.2 ⟨val_crow _ s, val_colh _ _ d⟩
    · exact U
    · exact V
    · exact Z

include P

/-- The gate's section of the pooled half. -/
theorem dh_zp (t : Fin cfg0.N) (g : Fin 4) (i d : Fin 256) : (outsAt0 m c t.val t.isLt).1 (ix2 i (colh 3 g d)) = (A.dzp (trow t i) g d : EReal) := by
  have Z := MixPool.dzp_at (group m c H P t g) i d
  by_cases h0 : t.val % 32 = 0
  on_goal 1 => rw [outsAt0_A m c t h0 (by omega)]
  on_goal 2 => by_cases h1 : t.val % 32 = 31
  on_goal 2 => rw [outsAt0_C m c t h0 h1]
  on_goal 3 => rw [outsAt0_B m c t h0 h1]
  all_goals
    frame_out
    try simp (disch := decide) only [View.readCov_skip, View.readCov_cons_toLoadRect, read_unread_whole]
    fin_cases g
  all_goals
    repeat (first
      | (refine (miss _ 1 ?_).trans ?_; on_goal 1 => (left; show (colh _ _ d).val < _; rw [val_colh]; simp <;> omega))
      | (refine (miss _ 1 ?_).trans ?_; on_goal 1 => (right; show _ ≤ (colh _ _ d).val; rw [val_colh]; simp <;> omega)))
    refine (hit _ (ix2 i d) ?_).trans ?_
    · exact Fin.forall_fin_two.2 ⟨(Nat.zero_add _).symm, val_colh _ _ d⟩
    exact Z

end Cert.MixDh

end
-- ==== Proof.MixDa.lean ====
/- The gradient of the windows' inputs, as the mixers' kernel leaves it tile by tile. -/
module

public import proofs.«01_k».proof.Proof.MixDh

@[expose] public section

set_option maxRecDepth 16384
set_option maxHeartbeats 2000000

noncomputable section

namespace Cert.MixDa

open Cert.MixModel Cert.MixHost Cert.MixTile Cert.MixStep Cert.MixHalo Cert.MixDh Cert.Lift Cert.Norm Cert.MixIdeal Cert.MixIdeal.Gen Idealize.ShloMosaic Idealize.ShloMosaic.TcCoe Idealize.ShloMosaic.Tactic
open Idealize.SL.Sem

variable (m : (ℓ : Loc nD τ sig) → Buf (Elt Ideal) ℓ) (c : Dev nD) {A : Args} (H : Given m c A) (P : Pooled m c A)

include H P

def lo (r : Fin 16) : Fin 384 := ⟨r.val, by omega⟩

/-- The first section: the windows' sums over the tile and the tokens after it. -/
theorem dh_da (t : Fin cfg0.N) (g : Fin 4) (i d : Fin 256) : (outsAt0 m c t.val t.isLt).1 (ix2 i (colh 0 g d)) = (A.da (trow t i) g d : EReal) := by
  have X := fun i => MixPool.dpl_at (group m c H P t g) i d
  have HI := fun W hW Y i => qhi_at (A := A) (t := t) (g := g) (d := d) _ W (tile_word t) hW Y i
  have LO := fun W hW Y i => qlo_at (A := A) (t := t) (g := g) (d := d) _ W (tile_word t) hW Y i
  obtain ⟨E, hE⟩ : ∃ E : Fin 16 → S16x1024.Idx, ∀ r, E r = ix2 r (col g d) := ⟨fun r => ix2 r (col g d), fun _ => rfl⟩
  have DA := fun Y Q1 Q2 (P1 P2 : S384x1024.Idx → EReal) hX (e1 : ∀ j : Fin 384, Q1 (ix2 j d) = P1 (ix2 j (col g d))) (e2 : ∀ j : Fin 384, Q2 (ix2 j d) = P2 (ix2 j (col g d))) (h1 : ∀ j : Fin 384, P1 (ix2 j (col g d)) = (hal A t.val g d j.val : EReal)) (h2 : ∀ j : Fin 384, P2 (ix2 j (col g d)) = 0) =>
    da_at (A := A) (t := t) (g := g) (d := d) Y (bandld m c t g) Q1 Q2 i (band_ld m c t g i) hX (fun j => (e1 j).trans (h1 j)) fun j => (e2 j).trans (h2 j)
  have K := carried m c H P (t.val - 1) (Nat.lt_of_le_of_lt (Nat.sub_le _ _) t.isLt)
  by_cases h0 : t.val % 32 = 0
  on_goal 1 => rw [outsAt0_A m c t h0 (by omega)]
  on_goal 2 => by_cases h1 : t.val % 32 = 31
  on_goal 2 => rw [outsAt0_C m c t h0 h1]
  on_goal 3 => rw [outsAt0_B m c t h0 h1]
  all_goals
    frame_out
    try simp (disch := decide) only [View.readCov_skip, View.readCov_cons_toLoadRect, read_unread_whole]
    fin_cases g
  all_goals
    repeat (refine (miss _ 1 ?_).trans ?_; on_goal 1 => (left; show (colh _ _ d).val < _; rw [val_colh]; simp <;> omega))
    refine (hit _ (ix2 i d) ?_).trans ?_
    · exact Fin.forall_fin_two.2 ⟨(Nat.zero_add _).symm, val_colh _ _ d⟩
  iterate 4
    · refine DA _ _ _ _ _ (X i) (fun j => cov_at _ _ (Fin.forall_fin_two.2 ⟨(Nat.zero_add _).symm, val_col _ d⟩)) (fun j => cov_at _ _ (Fin.forall_fin_two.2 ⟨(Nat.zero_add _).symm, val_col _ d⟩)) (fun j => ?_) fun j => ?_
      all_goals
        by_cases ht : j.val < 256
        on_goal 2 => by_cases hm : j.val < 272
        on_goal 2 => obtain ⟨r, hr⟩ : ∃ r : Fin 16, j.val = 256 + r.val := ⟨⟨j.val - 256, by omega⟩, (Nat.add_sub_cancel' (by omega)).symm⟩
        on_goal 1 =>
          refine (hit _ (ix2 ⟨j.val, ht⟩ d) ?_).trans ?_
          · exact Fin.forall_fin_two.2 ⟨(Nat.zero_add _).symm, val_col _ d⟩
        on_goal 2 => repeat (refine (miss _ 0 ?_).trans ?_; on_goal 1 => (right; show _ ≤ j.val; simp <;> omega))
        on_goal 2 =>
          refine (hit _ (E r) (hE r ▸ Fin.forall_fin_two.2 ⟨hr, (Nat.zero_add _).symm⟩)).trans ?_
          refine (congrFun (shapeCast_self _ _) (E r)).trans ?_
          rw [hE r]
        on_goal 3 => repeat (refine (miss _ 0 ?_).trans ?_; on_goal 1 => (right; show _ ≤ j.val; simp <;> omega))
      · exact (HI _ rfl _ _ (X ⟨j.val, ht⟩)).trans (congrArg _ (hal_top (t := t) _ ht))
      · rw [hal_first h0 _ (by omega)]
        exact (congrFun (View.readCov_eq_canon' _ _ _) _).trans (fresh _ (by decide) (fun a => Fin.isLt _) fun _ => Ideal.ofBits_zero .bf16)
      · rw [hal_first h0 _ (by omega)]
        exact fresh _ (by decide) (fun a => Fin.isLt _) fun _ => Ideal.ofBits_zero .bf16
      · exact LO _ rfl _ _ (X ⟨j.val, ht⟩)
      · exact (congrFun (View.readCov_eq_canon' _ _ _) _).trans (fresh _ (by decide) (fun a => Fin.isLt _) fun _ => Ideal.ofBits_zero .bf16)
      · exact fresh _ (by decide) (fun a => Fin.isLt _) fun _ => Ideal.ofBits_zero .bf16
  all_goals
    refine DA _ _ _ _ _ (X i) (fun j => ld_at _ _ _ _ (Fin.forall_fin_two.2 ⟨(Nat.zero_add _).symm, val_col _ d⟩)) (fun j => ld_at _ _ _ _ (Fin.forall_fin_two.2 ⟨(Nat.zero_add _).symm, val_col _ d⟩)) (fun j => ?_) fun j => ?_
    all_goals
      by_cases ht : j.val < 256
      on_goal 2 => by_cases hm : j.val < 272
      on_goal 2 => obtain ⟨r, hr⟩ : ∃ r : Fin 16, j.val = 256 + r.val := ⟨⟨j.val - 256, by omega⟩, (Nat.add_sub_cancel' (by omega)).symm⟩
      on_goal 1 =>
        refine (whit _ (ix2 ⟨j.val, ht⟩ d) ?_).trans ?_
        · exact Fin.forall_fin_two.2 ⟨(Nat.zero_add _).symm, val_col _ d⟩
      on_goal 2 => repeat (refine (wmiss _ 0 ?_).trans ?_; on_goal 1 => (right; show _ ≤ j.val; simp <;> omega))
      on_goal 2 =>
        refine (whit _ (E r) (hE r ▸ Fin.forall_fin_two.2 ⟨hr, (Nat.zero_add _).symm⟩)).trans ?_
        refine (congrFun (shapeCast_self _ _) (E r)).trans ?_
        rw [hE r]
      on_goal 3 => repeat (refine (wmiss _ 0 ?_).trans ?_; on_goal 1 => (right; show _ ≤ j.val; simp <;> omega))
    · exact (HI _ rfl _ _ (X ⟨j.val, ht⟩)).trans (congrArg _ (hal_top (t := t) _ ht))
    · exact (ld_at _ _ _ (ix2 (lo r) (col _ d)) (Fin.forall_fin_two.2 ⟨(Nat.zero_add _).symm, (Nat.zero_add _).symm⟩)).trans
        ((K (lo r) _ d).1.trans (congrArg _ (hal_next h0 _ _ hr r.isLt)))
    · rw [hal_low _ _ (by omega)]
      exact (congrFun (read_unread_whole _ _ _) _).trans ((K j _ d).1.trans (congrArg _ (hal_low _ _ (by omega))))
    · exact LO _ rfl _ _ (X ⟨j.val, ht⟩)
    · exact (ld_at _ _ _ (ix2 (lo r) (col _ d)) (Fin.forall_fin_two.2 ⟨(Nat.zero_add _).symm, (Nat.zero_add _).symm⟩)).trans
        (K (lo r) _ d).2
    · exact (congrFun (read_unread_whole _ _ _) _).trans (K j _ d).2

end Cert.MixDa

end
-- ==== Proof.MixDx.lean ====
/- The gradient of the tokens, as the mixers' kernel leaves it tile by tile. -/
module

public import proofs.«01_k».proof.Proof.MixDa

@[expose] public section

set_option maxRecDepth 16384
set_option maxHeartbeats 10000000

noncomputable section

namespace Cert.MixDx

open Cert.MixModel Cert.MixHost Cert.MixTile Cert.MixStep Cert.MixHalo Cert.MixDh Cert.MixDa Cert.Lift Cert.Norm Cert.MixIdeal Cert.MixIdeal.Gen Idealize.ShloMosaic Idealize.ShloMosaic.TcCoe Idealize.ShloMosaic.Tactic
open Idealize.SL.Sem

section
variable {a b : FVec Ideal S256x1024 .f32} {y : S256x1024.Idx} {x : EReal} {r s : ℝ}

theorem sadd (ha : a y = (r : EReal)) (hb : b y = (s : EReal)) : addf a b y = ((r + s : ℝ) : EReal) :=
  (congrArg₂ (fun p q : EReal => p + q) ha hb).trans (EReal.coe_add r s).symm
theorem xadd (ha : a y = x) (hb : b y = (s : EReal)) : addf a b y = x + (s : EReal) := congrArg₂ (fun p q : EReal => p + q) ha hb
theorem same (h : S256x1024.ShapeCasts S256x1024) (ha : a y = x) : shapeCast S256x1024 a h y = x := (congrFun (shapeCast_self _ _) y).trans ha
end

/-- A read of a tile's block of columns, from the stores before it. -/
theorem cov_dhs {A : Args} {n : Fin 64} {s : Fin 128} {v : View sig .tc .vmem S256x5120 .bf16} {off : Fin 2 → ℕ} {inb} {L : List (View.Piece (Elt Ideal) S256x5120 .bf16)}
    {i d : Fin 256} {b : Fin 5} {k : Fin 4} (h0 : 0 = off 0) (h1 : 1024 * b.val + 256 * k.val = off 1)
    (h : View.canon L (ix2 i (colh b k d)) = (A.dhs n s b k d : EReal)) :
    v.readCov L (Rect.unit (s := S256x5120) off ![256, 256] inb).toLoadRect (ix2 i d) = (A.dhs n s b k d : EReal) :=
  (cov_at _ (ix2 i (colh b k d)) (Fin.forall_fin_two.2 ⟨by rw [← h0]; exact (Nat.zero_add _).symm, by rw [← h1]; exact val_colh b k d⟩)).trans h

/-- A tile's row as a chunk's row. -/
def chalf (i : Fin 256) : Fin 2 := ⟨i.val / 128, by omega⟩
def crest (i : Fin 256) : Fin 128 := ⟨i.val % 128, Nat.mod_lt _ (by norm_num)⟩
theorem crow_split (i : Fin 256) : crow (chalf i) (crest i) = i := Fin.ext (Nat.div_add_mod i.val 128)
theorem split_crow (n : Fin 2) (s : Fin 128) : chalf (crow n s) = n ∧ crest (crow n s) = s := by
  constructor <;> refine Fin.ext ?_
  · show (128 * n.val + s.val) / 128 = n.val
    omega
  · show (128 * n.val + s.val) % 128 = s.val
    omega

/-- A tile's rows of one block of columns against the same columns of the projection's weights. -/
def slot (A : Args) (t : Fin cfg0.N) (i : Fin 256) (e : Fin 1024) (b : Fin 5) (k : Fin 4) : ℝ :=
  ∑ d, A.dhs (cidx t (chalf i)) (crest i) b k d * A.wi e (colh b k d)

variable (m : (ℓ : Loc nD τ sig) → Buf (Elt Ideal) ℓ) (c : Dev nD) {A : Args} (H : Given m c A) (P : Pooled m c A)

include H

omit H in
theorem slot_at (t : Fin cfg0.N) (i : Fin 256) (e : Fin 1024) (b : Fin 5) (k : Fin 4) {D : FVec Ideal S256x256 .bf16} {W : FVec Ideal S1024x256 .bf16} {h h'}
    (hD : ∀ d, D (ix2 i d) = (A.dhs (cidx t (chalf i)) (crest i) b k d : EReal)) (hW : ∀ d, W (ix2 e d) = (A.wi e (colh b k d) : EReal)) :
    matmul dot_S256x256_S1024x256_S256x1024_1_1_0_0_n_n none (shapeCast S256x256 D h)
      (shapeCast S1024x256 W h') (constant S256x1024 .f32 0#32) (ix2 i e)
      = (slot A t i e b k : EReal) := by
  pointwise
  simp only [hD, hW, ← EReal.coe_mul, coe_sum]
  rfl

theorem w_ld (t : Fin cfg0.N) (e : Fin 1024) (b : Fin 5) (k : Fin 4) {off : Fin 2 → ℕ} {inb} (h0 : 0 = off 0) (h1 : 1024 * b.val + 256 * k.val = off 1) (d : Fin 256) :
    View.ld (iblk m c 4 t) (Rect.unit (s := S1024x5120) off ![1024, 256] inb) (ix2 e d) = (A.wi e (colh b k d) : EReal) :=
  (ld_at _ _ _ (ix2 e (colh b k d)) (Fin.forall_fin_two.2 ⟨by rw [← h0]; exact (Nat.zero_add _).symm, by rw [← h1]; exact val_colh b k d⟩)).trans (wi_blk m c H t e (colh b k d))

section
include P

/-- The tokens' gradient over a tile: the residual's, plus every block of columns against the weights. -/
theorem dx_tile (t : Fin cfg0.N) (i : Fin 256) (e : Fin 1024) :
    (outsAt0 m c t.val t.isLt).2.1 (ix2 i e) = A.dxr (trow t i) e + ((∑ b, ∑ k, slot A t i e b k : ℝ) : EReal) := by
  have U := fun n k s d => MixChunk.du_at (chunk m c H t n k) s d
  have V := fun n k s d => MixChunk.dv_at (chunk m c H t n k) s d
  have Z := fun n k s d => MixChunk.dz_at (chunk m c H t n k) s d
  have ZP := fun g d => MixPool.dzp_at (group m c H P t g) i d
  have hr : row (cidx t (chalf i)) (crest i) = trow t i := (trow_crow t _ _).symm.trans (congrArg _ (crow_split i))
  refine Eq.trans (b := A.dxr (trow t i) e
    + ((slot A t i e 1 0 + slot A t i e 2 0 + slot A t i e 4 0 + slot A t i e 0 0 + slot A t i e 0 1 + slot A t i e 0 2 : ℝ) : EReal) + ((slot A t i e 1 1 + slot A t i e 2 1 + slot A t i e 4 1 + slot A t i e 0 3 + slot A t i e 3 0 + slot A t i e 3 1 : ℝ) : EReal) + ((slot A t i e 1 2 + slot A t i e 2 2 + slot A t i e 4 2 + slot A t i e 3 2 + slot A t i e 3 3 : ℝ) : EReal) + ((slot A t i e 1 3 + slot A t i e 2 3 + slot A t i e 4 3 : ℝ) : EReal)) ?_ (by
    rw [add_assoc, add_assoc, add_assoc, ← EReal.coe_add, ← EReal.coe_add, ← EReal.coe_add]
    refine congrArg (fun r : ℝ => A.dxr (trow t i) e + (r : EReal)) ?_
    simp only [Fin.sum_univ_five, Fin.sum_univ_four]
    ring)
  by_cases h0 : t.val % 32 = 0
  on_goal 1 => rw [outsAt0_A m c t h0 (by omega)]
  on_goal 2 => by_cases h1 : t.val % 32 = 31
  on_goal 2 => rw [outsAt0_C m c t h0 h1]
  on_goal 3 => rw [outsAt0_B m c t h0 h1]
  all_goals
    frame_out
    refine xadd (same _ (xadd (same _ (xadd (same _ (xadd (dxr_blk m c H t i e) (sadd (sadd (sadd (sadd (sadd (slot_at t i e 1 0 ?_ (w_ld m c H t e 1 0 rfl
      rfl)) (slot_at t i e 2 0 ?_ (w_ld m c H t e 2 0 rfl rfl))) (slot_at t i e 4 0 ?_ (w_ld m c H t e 4 0 rfl rfl))) (slot_at t i e 0 0 ?_ (w_ld m c H t
      e 0 0 rfl rfl))) (slot_at t i e 0 1 ?_ (w_ld m c H t e 0 1 rfl rfl))) (slot_at t i e 0 2 ?_ (w_ld m c H t e 0 2 rfl rfl))))) (sadd (sadd (sadd (sadd
      (sadd (slot_at t i e 1 1 ?_ (w_ld m c H t e 1 1 rfl rfl)) (slot_at t i e 2 1 ?_ (w_ld m c H t e 2 1 rfl rfl))) (slot_at t i e 4 1 ?_ (w_ld m c H t
      e 4 1 rfl rfl))) (slot_at t i e 0 3 ?_ (w_ld m c H t e 0 3 rfl rfl))) (slot_at t i e 3 0 ?_ (w_ld m c H t e 3 0 rfl rfl))) (slot_at t i e 3 1 ?_
      (w_ld m c H t e 3 1 rfl rfl))))) (sadd (sadd (sadd (sadd (slot_at t i e 1 2 ?_ (w_ld m c H t e 1 2 rfl rfl)) (slot_at t i e 2 2 ?_ (w_ld m c H t e 2
      2 rfl rfl))) (slot_at t i e 4 2 ?_ (w_ld m c H t e 4 2 rfl rfl))) (slot_at t i e 3 2 ?_ (w_ld m c H t e 3 2 rfl rfl))) (slot_at t i e 3 3 ?_ (w_ld
      m c H t e 3 3 rfl rfl))))) (sadd (sadd (slot_at t i e 1 3 ?_ (w_ld m c H t e 1 3 rfl rfl)) (slot_at t i e 2 3 ?_ (w_ld m c H t e 2 3 rfl rfl)))
      (slot_at t i e 4 3 ?_ (w_ld m c H t e 4 3 rfl rfl)))
    all_goals
      refine fun d => cov_dhs rfl rfl ?_
    pick_goal 4; pick_goal 5; pick_goal 6; pick_goal 10
    iterate 4
     on_goal 1 =>
      refine Eq.trans ?_ ((dh_da m c H P t _ i d).trans (congrArg (fun r => (A.da r _ d : EReal)) hr.symm))
      symm
      first
      | rw [outsAt0_A m c t h0 (by omega)]
      | rw [outsAt0_C m c t h0 h1]
      | rw [outsAt0_B m c t h0 h1]
      frame_out
      iterate 2
        repeat (refine (miss _ 1 ?_).trans ?_; on_goal 1 => (left; show (colh _ _ d).val < _; rw [val_colh]; simp <;> omega))
        symm
      rfl
    pick_goal 7; pick_goal 8; pick_goal 12; pick_goal 13
    iterate 4
     on_goal 1 =>
      refine Eq.trans ?_ (congrArg (fun r => (A.dzp r _ d : EReal)) hr.symm)
      repeat (first
        | (refine (miss _ 1 ?_).trans ?_; on_goal 1 => (left; show (colh _ _ d).val < _; rw [val_colh]; simp <;> omega))
        | (refine (miss _ 1 ?_).trans ?_; on_goal 1 => (right; show _ ≤ (colh _ _ d).val; rw [val_colh]; simp <;> omega)))
      refine (hit _ (ix2 i d) (Fin.forall_fin_two.2 ⟨(Nat.zero_add _).symm, val_colh _ _ d⟩)).trans ?_
     rotate_left 1
    iterate 12
     on_goal 1 =>
      have hi := crow_split i
      generalize chalf i = n at hi ⊢
      generalize crest i = s at hi ⊢
      rw [← hi]
      clear hi
      fin_cases n
      all_goals
        repeat (first
          | (refine (miss _ 1 ?_).trans ?_; on_goal 1 => (left; show (colh _ _ d).val < _; rw [val_colh]; simp <;> omega))
          | (refine (miss _ 1 ?_).trans ?_; on_goal 1 => (right; show _ ≤ (colh _ _ d).val; rw [val_colh]; simp <;> omega))
          | (refine (miss _ 0 ?_).trans ?_; on_goal 1 => (left; show (crow _ s).val < _; rw [val_crow]; simp <;> omega)))
        refine (hit _ (ix2 s d) (Fin.forall_fin_two.2 ⟨val_crow _ s, val_colh _ _ d⟩)).trans ?_
     rotate_left 2
    exacts [ZP 3 d, ZP 2 d, ZP 1 d, ZP 0 d, U 0 0 s d, U 1 0 s d, V 0 0 s d, V 1 0 s d, Z 0 0 s d, Z 1 0 s d, U 0 1 s d, U 1 1 s d, V 0 1 s d, V 1 1 s d, Z 0 1 s d, Z 1 1 s d, U 0 2 s d, U 1 2 s d, V 0 2 s d, V 1 2 s d, Z 0 2 s d, Z 1 2 s d, U 0 3 s d, U 1 3 s d, V 0 3 s d, V 1 3 s d, Z 0 3 s d, Z 1 3 s d]

end

end Cert.MixDx

end
-- ==== Proof.MixOut.lean ====
/- The two tiled results of the mixers' kernel as whole arrays: the gradients of the projected tokens and of the tokens. -/
module

public import proofs.«01_k».proof.Proof.MixDx
public import Idealize.ShloMosaic.Lib.Claim

@[expose] public section

set_option maxRecDepth 16384

noncomputable section

namespace Cert.MixOut

open Cert.MixModel Cert.MixHost Cert.MixTile Cert.MixDh Cert.MixDa Cert.MixDx Cert.Lift Cert.Norm Cert.MixIdeal Cert.MixIdeal.Gen Idealize.ShloMosaic Idealize.ShloMosaic.TcCoe Idealize.ShloMosaic.Tactic
open Idealize.SL.Sem

theorem col_split (e : Fin 1024) : ∃ k d, e = col k d :=
  ⟨⟨e.val / 256, by omega⟩, ⟨e.val % 256, Nat.mod_lt _ (by norm_num)⟩, Fin.ext (Nat.div_add_mod' e.val 256).symm⟩
theorem colh_split (e : Fin 5120) : ∃ b k d, e = colh b k d := by
  obtain ⟨k, d, h⟩ := col_split ⟨e.val % 1024, Nat.mod_lt _ (by norm_num)⟩
  refine ⟨⟨e.val / 1024, by omega⟩, k, d, Fin.ext ?_⟩
  show e.val = 1024 * (e.val / 1024) + (col k d).val
  rw [← h]
  exact (Nat.div_add_mod e.val 1024).symm
theorem row_split (r : Fin 8192) : ∃ n s, r = row n s :=
  ⟨⟨r.val / 128, by omega⟩, ⟨r.val % 128, Nat.mod_lt _ (by norm_num)⟩, Fin.ext (Nat.div_add_mod' r.val 128).symm⟩

variable (m : (ℓ : Loc nD τ sig) → Buf (Elt Ideal) ℓ) (c : Dev nD) {A : Args} (H : Given m c A) (P : Pooled m c A)

include H P

theorem dh_tile {G : Fin 8192 → Fin 5120 → EReal} (hG : ∀ n s b k d, G (row n s) (colh b k d) = (A.dhs n s b k d : EReal))
    (t : Fin cfg0.N) (y : S256x5120.Idx) : (outsAt0 m c t.val t.isLt).1 y = G (trow t (y 0)) (y 1) := by
  idx_vars y
  show _ = G (trow t y0) y1
  obtain ⟨b, k, d, rfl⟩ := colh_split y1
  rw [← crow_split y0, trow_crow, hG]
  have S := dh_sgu m c H t (chalf y0) k (crest y0) d
  fin_cases b
  · exact (dh_da m c H P t k _ d).trans (congrArg (fun r => (A.da r k d : EReal)) (trow_crow t _ _))
  · exact S.1
  · exact S.2.1
  · exact (dh_zp m c H P t k _ d).trans (congrArg (fun r => (A.dzp r k d : EReal)) (trow_crow t _ _))
  · exact S.2.2

/-- The array of the projected tokens' gradient, after the run. -/
theorem dh_array {G : Fin 8192 → Fin 5120 → EReal} (hG : ∀ n s b k d, G (row n s) (colh b k d) = (A.dhs n s b k d : EReal)) :
    (dats m 0 c).arrAt 12 (cfgs 0).N = fun j => G (j 0) (j 1) := by
  refine (dats m 0 c).arrAt_eq_of_covers 12 _ (by decide +kernel) fun t hf y => ?_
  blk_simp
  rw [after0_12]
  refine (dh_tile m c H P hG t y).trans ?_
  refine congrArg₂ G (Fin.ext ?_) (Fin.ext ?_) <;> blk_simp [trow, idx t]
  exact congrArg (· + (y 0).val) (Nat.mul_comm _ _)

/-- The array of the tokens' gradient, after the run. -/
theorem dx_array {G : Fin 8192 → Fin 1024 → EReal}
    (hG : ∀ n s e, G (row n s) e = A.dxr (row n s) e + ((∑ b, ∑ k, ∑ d, A.dhs n s b k d * A.wi e (colh b k d) : ℝ) : EReal)) :
    (dats m 0 c).arrAt 13 (cfgs 0).N = fun j => G (j 0) (j 1) := by
  refine (dats m 0 c).arrAt_eq_of_covers 13 _ (by decide +kernel) fun t hf y => ?_
  blk_simp
  rw [after0_13]
  refine Eq.trans (b := G (trow t (y 0)) (y 1)) ?_ ?_
  · clear hf
    idx_vars y
    show _ = G (trow t y0) y1
    refine (dx_tile m c H P t y0 y1).trans ?_
    rw [← crow_split y0, trow_crow, hG, crow_split]
    rfl
  · refine congrArg₂ G (Fin.ext ?_) (Fin.ext ?_) <;> blk_simp [trow, idx t]
    exact congrArg (· + (y 0).val) (Nat.mul_comm _ _)

end Cert.MixOut

end
-- ==== Proof.MixLast.lean ====
/- What the last grid point of the mixers' kernel writes from the sums it has carried. -/
module

public import proofs.«01_k».proof.Proof.MixStep

@[expose] public section

set_option maxRecDepth 16384
set_option maxHeartbeats 1000000

noncomputable section

namespace Cert.MixStep

open Cert.MixModel Cert.MixHost Cert.MixTile Cert.Lift Cert.Norm Cert.MixIdeal Cert.MixIdeal.Gen Idealize.ShloMosaic Idealize.ShloMosaic.TcCoe Idealize.ShloMosaic.Tactic
open Idealize.SL.Sem

/-- The rows at or after the column are kept. -/
theorem mask_at (X : FVec Ideal S1x128x128 .f32) (s j : Fin 128) :
    k0_pay40 (F := Ideal) k0_pay39 X (ix3 0 s j) = if j ≤ s then X (ix3 0 s j) else 0 := by
  pointwise [k0_pay40, k0_pay39]
  rw [WordCmp.cmpi_sge_ofNat (by omega) (by omega), WordCmp.select_ofBool]
  by_cases h : j ≤ s
  · rw [if_pos (by simpa using h), if_pos h]
  · rw [if_neg (by simpa using h), if_neg h]

/-- The sum over a row, laid out as a row. -/
theorem total_at (X : FVec Ideal S128x256 .f32) (s : Fin 128) : k0_pay41 (F := Ideal) X (ix2 0 s) = ∑ d, X (ix2 s d) := by
  pointwise [k0_pay41]

/-- A quarter of a row block, moved to its place. -/
theorem move_at (X : FVec Ideal S1x32x256 .f32) (a : Fin 32) (d : Fin 256) : k0_pay9 (F := Ideal) X (ix4 0 0 a d) = X (ix3 0 a d) := by
  pointwise [k0_pay9]

variable (m : (ℓ : Loc nD τ sig) → Buf (Elt Ideal) ℓ) (c : Dev nD) {A : Args} (H : Given m c A) (P : Pooled m c A)

include H

theorem dsw_last (t : Fin cfg0.N) (h0 : ¬t.val % 32 = 0) (h1 : t.val % 32 = 31) (k : Fin 4) (s j : Fin 128) :
    (outsAt0 m c t.val t.isLt).2.2.2.2.2.2.1 (ix3 k s j) = if j ≤ s then (outsAt0 m c (t.val - 1) (by omega)).2.2.2.2.2.2.1 (ix3 k s j)
      + (((A.chunk (cidx t 0) k).dsw s j + (A.chunk (cidx t 1) k).dsw s j : ℝ) : EReal) else 0 := by
  have s1 := fun ACC => MixChunk.dsw_at (chunk m c H t 1 k) ACC s j
  have s0 := fun ACC => MixChunk.dsw_at (chunk m c H t 0 k) ACC s j
  rw [outsAt0_C m c t h0 h1]
  frame_out
  try simp (disch := decide) only [View.readCov_skip, View.readCov_cons_toLoadRect, read_unread_whole]
  fin_cases k
  all_goals
    repeat (refine (miss _ 0 ?_).trans ?_; on_goal 1 => (left; exact of_decide_eq_true rfl))
    refine (hit _ (ix3 0 s j) ?_).trans ?_
    · exact Fin.forall_fin_succ.2 ⟨(Nat.add_zero _).symm, Fin.forall_fin_two.2 ⟨(Nat.zero_add _).symm, (Nat.zero_add _).symm⟩⟩
    refine (mask_at _ s j).trans ?_
    by_cases hj : j ≤ s
    · rw [if_pos hj, if_pos hj]
      refine pair (step (s1 _) (step (s0 _) ?_))
      exact ld_at _ _ _ _ (Fin.forall_fin_succ.2 ⟨(Nat.add_zero _).symm, Fin.forall_fin_two.2 ⟨(Nat.zero_add _).symm, (Nat.zero_add _).symm⟩⟩)
    · rw [if_neg hj, if_neg hj]

theorem dsb_last (t : Fin cfg0.N) (h0 : ¬t.val % 32 = 0) (h1 : t.val % 32 = 31) (k : Fin 4) (s : Fin 128) :
    (outsAt0 m c t.val t.isLt).2.2.2.2.2.2.2.1 (ix2 k s) = ∑ d, ((outsAt0 m c (t.val - 1) (by omega)).2.2.2.2.2.2.2.2.2.2.2 (ix2 s (col k d))
      + (((A.chunk (cidx t 0) k).dsv s d + (A.chunk (cidx t 1) k).dsv s d : ℝ) : EReal)) := by
  have s1 := fun d ACC => MixChunk.dsb_at (chunk m c H t 1 k) ACC s d
  have s0 := fun d ACC => MixChunk.dsb_at (chunk m c H t 0 k) ACC s d
  rw [outsAt0_C m c t h0 h1]
  frame_out
  try simp (disch := decide) only [View.readCov_skip, View.readCov_cons_toLoadRect, read_unread_whole]
  fin_cases k
  all_goals
    repeat (refine (miss _ 0 ?_).trans ?_; on_goal 1 => (left; exact of_decide_eq_true rfl))
    refine (hit _ (ix2 0 s) ?_).trans ?_
    · exact Fin.forall_fin_two.2 ⟨(Nat.add_zero _).symm, (Nat.zero_add _).symm⟩
    refine (total_at _ s).trans (Finset.sum_congr rfl fun d _ => ?_)
    refine pair (step (s1 d _) (step (s0 d _) ?_))
    exact ld_at _ _ _ _ (Fin.forall_fin_two.2 ⟨(Nat.zero_add _).symm, val_col _ d⟩)

/-- A row of a group's matrix, by the eighth it lies in. -/
def frow (b : Fin 8) (a : Fin 32) : Fin 256 := ⟨32 * b.val + a.val, by omega⟩

include P

theorem dpw_last (t : Fin cfg0.N) (h0 : ¬t.val % 32 = 0) (h1 : t.val % 32 = 31) (b : Fin 8) (g : Fin 4) (a : Fin 32) (d : Fin 256) :
    (outsAt0 m c t.val t.isLt).2.2.1 (ix4 b g a d) = (outsAt0 m c (t.val - 1) (by omega)).2.2.2.2.2.2.2.2.2.2.1 (ix3 g (frow b a) d)
      + ((∑ i, A.pl (trow t i) g (frow b a) * A.dmix (trow t i) g d : ℝ) : EReal) := by
  obtain ⟨e, he⟩ : ∃ e, e = frow b a := ⟨_, rfl⟩
  have hv : e.val = 32 * b.val + a.val := congrArg Fin.val he
  have s0 := fun ACC => MixPool.dpw_at (group m c H P t g) ACC e d
  rw [← he]
  rw [outsAt0_C m c t h0 h1]
  frame_out
  try simp (disch := decide) only [View.readCov_skip, View.readCov_cons_toLoadRect, read_unread_whole]
  clear he
  fin_cases g <;> fin_cases b
  all_goals
    repeat (first
      | (refine (miss _ 1 ?_).trans ?_; on_goal 1 => (left; exact of_decide_eq_true rfl))
      | (refine (miss _ 0 ?_).trans ?_; on_goal 1 => (left; exact of_decide_eq_true rfl)))
    refine (hit _ (ix4 0 0 a d) ?_).trans ?_
    · exact Fin.forall_fin_succ.2 ⟨(Nat.add_zero _).symm, Fin.forall_fin_succ.2 ⟨(Nat.add_zero _).symm, Fin.forall_fin_two.2 ⟨(Nat.zero_add _).symm, (Nat.zero_add _).symm⟩⟩⟩
    refine (move_at _ a d).trans ((congrFun (View.readCov_eq_canon' _ _ _) _).trans ?_)
    repeat (refine (miss _ 0 ?_).trans ?_; on_goal 1 => (left; exact of_decide_eq_true rfl))
    refine (hit _ (ix3 0 e d) ?_).trans ?_
    · refine Fin.forall_fin_succ.2 ⟨rfl, Fin.forall_fin_two.2 ⟨?_, ?_⟩⟩
      · show _ + 1 * a.val = 0 + e.val
        rw [hv, one_mul, Nat.zero_add]
        try rfl
      · show 0 + 1 * d.val = 0 + d.val
        rw [one_mul]
    refine step (s0 _) ?_
    exact ld_at _ _ _ _ (Fin.forall_fin_succ.2 ⟨(Nat.add_zero _).symm, Fin.forall_fin_two.2 ⟨(Nat.zero_add _).symm, (Nat.zero_add _).symm⟩⟩)

end Cert.MixStep

end
-- ==== Proof.MixAcc.lean ====
/- The arrays the mixers' kernel adds up over its grid, after the run. -/
module

public import proofs.«01_k».proof.Proof.MixLast

@[expose] public section

set_option maxRecDepth 16384
set_option maxHeartbeats 1000000

noncomputable section

namespace Cert.MixAcc

open Cert.MixModel Cert.MixHost Cert.MixTile Cert.MixStep Cert.Lift Cert.Norm Cert.MixIdeal Cert.MixIdeal.Gen Idealize.ShloMosaic Idealize.ShloMosaic.TcCoe Idealize.ShloMosaic.Tactic
open Idealize.SL.Sem

/-- The last grid point and the one before. -/
def tl : Fin cfg0.N := ⟨31, by rw [show cfg0.N = 32 from N_0]; decide⟩
def tk : Fin cfg0.N := ⟨30, by rw [show cfg0.N = 32 from N_0]; decide⟩

theorem lt32 (t : Fin cfg0.N) : t.val < 32 := lt_of_lt_of_eq t.isLt N_0

/-- A sum over the tiles' chunks is the sum over all chunks; -/
theorem sum_chunks (p : Fin 64 → ℝ) : ∑ t : Fin cfg0.N, (p (cidx t 0) + p (cidx t 1)) = ∑ n, p n := by
  refine (Finset.sum_congr rfl fun t _ => (Fin.sum_univ_two fun n => p (cidx t n)).symm).trans ?_
  rw [← Fintype.sum_prod_type']
  refine Fintype.sum_bijective (fun x : Fin cfg0.N × Fin 2 => cidx x.1 x.2) ((Fintype.bijective_iff_injective_and_card _).2 ⟨fun x y h => ?_, ?_⟩) _ _ fun x => rfl
  · have h := congrArg Fin.val h
    have := lt32 x.1
    have := lt32 y.1
    have : x.1 = y.1 := Fin.ext (by simp only [cidx] at h; omega)
    exact Prod.ext this (Fin.ext (by simp only [cidx] at h; omega))
  · simp [show cfg0.N = 32 from N_0]

/-- a sum over the tiles' rows the sum over all rows. -/
theorem sum_trows (p : Fin 8192 → ℝ) : ∑ t : Fin cfg0.N, ∑ i, p (trow t i) = ∑ r, p r := by
  rw [← Fintype.sum_prod_type']
  refine Fintype.sum_bijective (fun x : Fin cfg0.N × Fin 256 => trow x.1 x.2) ((Fintype.bijective_iff_injective_and_card _).2 ⟨fun x y h => ?_, ?_⟩) _ _ fun x => rfl
  · have h := congrArg Fin.val h
    have := lt32 x.1
    have := lt32 y.1
    have : x.1 = y.1 := Fin.ext (by simp only [trow] at h; omega)
    exact Prod.ext this (Fin.ext (by simp only [trow] at h; omega))
  · simp [show cfg0.N = 32 from N_0]

/-- What is added up from point to point is, after the last point, the sum of the points' parts; -/
theorem total (f : (n : ℕ) → n < cfg0.N → EReal) (p : Fin cfg0.N → ℝ)
    (h : ∀ t : Fin cfg0.N, f t.val t.isLt = (if t.val % 32 = 0 then 0 else f (t.val - 1) (Nat.lt_of_le_of_lt (Nat.sub_le _ _) t.isLt)) + (p t : EReal)) :
    f tl.val tl.isLt = ((∑ t, p t : ℝ) : EReal) := by
  refine (Pipeline.eq_sum_fin_of_reset_step_last f 32 0 (fun t => (p t : EReal)) (fun t ht => ?_) (fun t ht => ?_) (le_of_eq N_0) tl ?_).trans ?_
  · rw [h t, if_pos ht]
  · rw [h t, if_neg ht]
  · exact N_0.symm
  · rw [zero_add, coe_sum]

/-- also where only the points before the last are known to add, and the last point's part is added by hand. -/
theorem total' (f : (n : ℕ) → n < cfg0.N → EReal) (p : Fin cfg0.N → ℝ)
    (h : ∀ t : Fin cfg0.N, ¬t.val % 32 = 31 → f t.val t.isLt = (if t.val % 32 = 0 then 0 else f (t.val - 1) (Nat.lt_of_le_of_lt (Nat.sub_le _ _) t.isLt)) + (p t : EReal)) :
    f (tl.val - 1) (Nat.lt_of_le_of_lt (Nat.sub_le _ _) tl.isLt) + (p tl : EReal) = ((∑ t, p t : ℝ) : EReal) := by
  refine Eq.trans ?_ (total (fun n hn => if n = 31 then f tk.val tk.isLt + (p tl : EReal) else f n hn) p fun t => ?_)
  · exact (if_pos (show tl.val = 31 from rfl)).symm
  · have := lt32 t
    by_cases h1 : t.val = 31
    · obtain rfl : t = tl := Fin.ext h1
      rfl
    · simp only [if_neg h1]
      rw [h t (by omega)]
      by_cases h0 : t.val % 32 = 0
      · rw [if_pos h0, if_pos h0]
      · rw [if_neg h0, if_neg h0, if_neg (by omega)]

variable (m : (ℓ : Loc nD τ sig) → Buf (Elt Ideal) ℓ) (c : Dev nD) {A : Args} (H : Given m c A) (P : Pooled m c A)

/-- The array of a result held whole is what the last point leaves. -/
theorem arr14 : (dats m 0 c).arrAt 14 (cfgs 0).N = (outsAt0 m c tl.val tl.isLt).2.2.1 := by
  refine (dats m 0 c).arrAt_eq_of_after_last 14 tl (by decide +kernel) _ fun j => ?_
  blk_simp
  rw [after0_14]
theorem arr15 : (dats m 0 c).arrAt 15 (cfgs 0).N = (outsAt0 m c tl.val tl.isLt).2.2.2.1 := by
  refine (dats m 0 c).arrAt_eq_of_after_last 15 tl (by decide +kernel) _ fun j => ?_
  blk_simp
  rw [after0_15]
theorem arr16 : (dats m 0 c).arrAt 16 (cfgs 0).N = (outsAt0 m c tl.val tl.isLt).2.2.2.2.1 := by
  refine (dats m 0 c).arrAt_eq_of_after_last 16 tl (by decide +kernel) _ fun j => ?_
  blk_simp
  rw [after0_16]
theorem arr17 : (dats m 0 c).arrAt 17 (cfgs 0).N = (outsAt0 m c tl.val tl.isLt).2.2.2.2.2.1 := by
  refine (dats m 0 c).arrAt_eq_of_after_last 17 tl (by decide +kernel) _ fun j => ?_
  blk_simp
  rw [after0_17]
theorem arr18 : (dats m 0 c).arrAt 18 (cfgs 0).N = (outsAt0 m c tl.val tl.isLt).2.2.2.2.2.2.1 := by
  refine (dats m 0 c).arrAt_eq_of_after_last 18 tl (by decide +kernel) _ fun j => ?_
  blk_simp
  rw [after0_18]
theorem arr19 : (dats m 0 c).arrAt 19 (cfgs 0).N = (outsAt0 m c tl.val tl.isLt).2.2.2.2.2.2.2.1 := by
  refine (dats m 0 c).arrAt_eq_of_after_last 19 tl (by decide +kernel) _ fun j => ?_
  blk_simp
  rw [after0_19]

include H

theorem dlg (k : Fin 4) (d : Fin 256) : (outsAt0 m c tl.val tl.isLt).2.2.2.2.1 (ix2 0 (col k d)) = (A.dlg k d : EReal) :=
  (total (fun n h => (outsAt0 m c n h).2.2.2.2.1 (ix2 0 (col k d))) _ fun t => MixStep.dlg m c H t k d).trans (congrArg _ (sum_chunks fun n => (A.chunk n k).dlg d))

theorem dlb (k : Fin 4) (d : Fin 256) : (outsAt0 m c tl.val tl.isLt).2.2.2.2.2.1 (ix2 0 (col k d)) = (A.dlb k d : EReal) :=
  (total (fun n h => (outsAt0 m c n h).2.2.2.2.2.1 (ix2 0 (col k d))) _ fun t => MixStep.dlb m c H t k d).trans (congrArg _ (sum_chunks fun n => (A.chunk n k).dlb d))

theorem dsw (k : Fin 4) (s j : Fin 128) : (outsAt0 m c tl.val tl.isLt).2.2.2.2.2.2.1 (ix3 k s j) = (A.dsw k s j : EReal) := by
  refine (MixStep.dsw_last m c H tl (by decide) (by decide) k s j).trans ?_
  unfold Args.dsw
  split
  · exact (total' (fun n h => (outsAt0 m c n h).2.2.2.2.2.2.1 (ix3 k s j)) (fun t => (A.chunk (cidx t 0) k).dsw s j + (A.chunk (cidx t 1) k).dsw s j) fun t h => MixStep.dsw m c H t h k s j).trans
      (congrArg _ (sum_chunks fun n => (A.chunk n k).dsw s j))
  · rfl

theorem dsb (k : Fin 4) (s : Fin 128) : (outsAt0 m c tl.val tl.isLt).2.2.2.2.2.2.2.1 (ix2 k s) = (A.dsb k s : EReal) := by
  refine (MixStep.dsb_last m c H tl (by decide) (by decide) k s).trans ?_
  have h := fun d => (total' (fun n h => (outsAt0 m c n h).2.2.2.2.2.2.2.2.2.2.2 (ix2 s (col k d))) (fun t => (A.chunk (cidx t 0) k).dsv s d + (A.chunk (cidx t 1) k).dsv s d) fun t _ => MixStep.dsb m c H t k s d).trans
      (congrArg _ (sum_chunks fun n => (A.chunk n k).dsv s d))
  refine (Finset.sum_congr rfl fun d _ => h d).trans ?_
  rw [coe_sum, Args.dsb, Finset.sum_comm]
  rfl

include P

theorem dps (g : Fin 4) (d : Fin 256) : (outsAt0 m c tl.val tl.isLt).2.2.2.1 (ix2 0 (col g d)) = (A.dps g d : EReal) :=
  (total (fun n h => (outsAt0 m c n h).2.2.2.1 (ix2 0 (col g d))) _ fun t => MixStep.dps m c H P t g d).trans (congrArg _ (sum_trows fun r => A.dms r g d * A.mixed r g d))

theorem dpw (b : Fin 8) (g : Fin 4) (a : Fin 32) (d : Fin 256) : (outsAt0 m c tl.val tl.isLt).2.2.1 (ix4 b g a d) = (A.dpw g (frow b a) d : EReal) :=
  (MixStep.dpw_last m c H P tl (by decide) (by decide) b g a d).trans
    ((total' (fun n h => (outsAt0 m c n h).2.2.2.2.2.2.2.2.2.2.1 (ix3 g (frow b a) d)) (fun t => ∑ i, A.pl (trow t i) g (frow b a) * A.dmix (trow t i) g d) fun t _ => MixStep.dpw m c H P t g (frow b a) d).trans
      (congrArg _ (sum_trows fun r => A.pl r g (frow b a) * A.dmix r g d)))

end Cert.MixAcc

end
-- ==== Proof.MixReal.lean ====
/- The pooled values the mixers' forward lines save are reals when the tokens and the projection's weights are. -/
module

public import proofs.«01_k».proof.Proof.MixRefPool

@[expose] public section

set_option maxRecDepth 16384

noncomputable section

namespace Cert.MixReal

open Cert.MixModel Cert.MixRefRead Cert.Lift Cert.Norm Cert.MixRefIdeal Cert.MixRefIdeal.Gen Cert.MixRefIdeal.Read Idealize.ShloMosaic

/-- An element that is a real. -/
def IsReal (x : EReal) : Prop := ∃ r : ℝ, x = (r : EReal)

theorem zero_real : IsReal 0 := ⟨0, EReal.coe_zero.symm⟩

theorem sum_real {n : ℕ} {f : Fin n → EReal} (h : ∀ k, IsReal (f k)) : IsReal (∑ k, f k) := by
  choose g hg using h
  exact ⟨∑ k, g k, by simp only [hg, coe_sum]⟩

/-- What holds of every part holds of the parts put together. -/
theorem concat_of {α : Type} {t : Shape} {a : Fin t.rank} {xs : List ((s : Shape) × (s.Idx → α))} {h} (Q : α → Prop)
    (hq : ∀ p ∈ xs, ∀ i, Q (p.2 i)) (j : t.Idx) : Q (concatenate t a xs h j) := hq _ (List.getElem_mem _) _

variable {A : Args} {x0 : FVec Ideal S1x8192x1024 .f32} {x1 : FVec Ideal S8192x1024 .f32} {x2 : FVec Ideal S8192x2048 .f32}
  {x3 : FVec Ideal S1x1024x5120 .f32} {x4 : FVec Ideal S1x4x256x256 .f32} {x5 x6 x7 : FVec Ideal S1x1024 .f32}
  {x8 : FVec Ideal S1x4x128x128 .f32} {x9 : FVec Ideal S1x4x128 .f32}
  (H : Holds A x0 x1 x2 x3 x4 x5 x6 x7 x8 x9)

include H

theorem section_real (r : Fin 8192) (g : Fin 4) (d : Fin 256) : IsReal (val_main_v8 (F := Ideal) x0 x3 (ix4 0 r g d)) := by
  have hc := (col g d).isLt
  refine ⟨A.h r ⟨(col g d).val, by omega⟩, ?_⟩
  pointwise [val_main_v8, val_main_v2]
  exact h_at H r ⟨(col g d).val, by omega⟩

theorem run_real (i : S1x8192x4x256.Idx) : IsReal (val_main_v9 (F := Ideal) x0 x3 i) := by
  idx_vars i
  obtain rfl : i0 = 0 := Subsingleton.elim _ _
  have hv : val_main_call0_call0_v0 (F := Ideal) (Shape.Idx.first h_S_) = 0 := by
    pointwise [val_main_call0_call0_v0, val_main_call0_call0_cst]
  have e := WinSum.window (L := 8191) (H := 0) reduceWindows_S1x8192x4x256_S1x8192x4x256_w1s1p0_0_w8192s1p8191_0_w1s1p0_0_w1s1p0_0 (val_main_v8 (F := Ideal) x0 x3) hv i1 i2 i3
  unfold val_main_v9 Host.reduceWindowAdd
  refine (congrArg IsReal e).mpr (sum_real fun k => ?_)
  split
  · exact section_real H _ _ _
  · exact zero_real

theorem shifted_real (i : S1x8192x4x256.Idx) : IsReal (val_main_v26 (F := Ideal) x0 x3 i) := by
  have R := run_real H
  have Z : IsReal (Ideal.ofBits .f32 0x00000000#32) := (congrArg IsReal (Ideal.ofBits_zero .f32)).mpr zero_real
  unfold val_main_v26 val_main_v12 val_main_v16 val_main_v20 val_main_v24
  refine concat_of IsReal (fun p hp => ?_) i
  simp only [List.mem_cons, List.not_mem_nil, or_false] at hp
  rcases hp with rfl | rfl | rfl | rfl
  all_goals
    intro i
    dsimp only at i ⊢
    refine concat_of IsReal (fun p hp => ?_) i
    simp only [List.mem_cons, List.not_mem_nil, or_false] at hp
    rcases hp with rfl | rfl
    · exact fun _ => Z
    · exact fun _ => R _

/-- The pooled value of a token is a real. -/
theorem pooled_real (r : Fin 8192) (g : Fin 4) (d : Fin 256) : IsReal (val_main_v43 (F := Ideal) x0 x3 (ix4 0 r g d)) := by
  obtain ⟨a, ha⟩ := section_real H r g d
  obtain ⟨b, hb⟩ := run_real H (ix4 0 r g d)
  obtain ⟨s, hs⟩ := shifted_real H (ix4 0 r g d)
  refine ⟨(b - s) * (1 / Args.cnt r g) - a, ?_⟩
  pointwise [val_main_v43, val_main_v42, val_main_v41, val_main_v40]
  rw [ha, hb, hs, cnt_at, ← EReal.coe_sub, div_coe (cnt_ne r g), ← EReal.coe_sub]

end Cert.MixReal

end
-- ==== Proof.MixClaim.lean ====
/-
  The mixers' value claim: over the reals, on finite arguments (the gradient that comes by the residual may be infinite),
  the kernel's eight results are the reference's.
-/
module

public import proofs.«01_k».proof.Defs
public import proofs.«01_k».proof.Proof.MixOut
public import proofs.«01_k».proof.Proof.MixAcc
public import proofs.«01_k».proof.Proof.MixReal
public import proofs.«01_k».proof.Proof.Gen.MixIdeal.Frame
public import proofs.«01_k».proof.Proof.Gen.MixRefIdeal
public import proofs.«01_k».proof.Proof.Gen.Pre_mixers_finite
public import Idealize.ShloMosaic.Adequacy
public import Idealize.ShloMosaic.Init
public import Idealize.ShloMosaic.Lib.Claim

@[expose] public section

set_option maxRecDepth 16384
set_option maxHeartbeats 4000000

noncomputable section

namespace Cert.MixClaim

open Idealize.ShloMosaic Idealize.ShloMosaic.TcCoe Idealize.ShloMosaic.StableHlo Idealize.SL.Sem Cert.MixModel Cert.Lift

/-- The reals the argument arrays hold, an infinite element read as zero (the residual's gradient: read as it is), and the
    pooled values the forward lines give. -/
def argsOf (x0 : FVec Ideal ⟨3, ![1, 8192, 1024]⟩ .f32) (x1 : FVec Ideal ⟨2, ![8192, 1024]⟩ .f32)
    (x2 : FVec Ideal ⟨2, ![8192, 2048]⟩ .f32) (x3 : FVec Ideal ⟨3, ![1, 1024, 5120]⟩ .f32)
    (x4 : FVec Ideal ⟨4, ![1, 4, 256, 256]⟩ .f32) (x5 x6 x7 : FVec Ideal ⟨2, ![1, 1024]⟩ .f32)
    (x8 : FVec Ideal ⟨4, ![1, 4, 128, 128]⟩ .f32) (x9 : FVec Ideal ⟨3, ![1, 4, 128]⟩ .f32) : Args where
  x r d := (x0 (ix3 0 r d)).toReal
  dxr r d := x1 (ix2 r d)
  dy r k := (x2 (ix2 r k)).toReal
  wi k e := (x3 (ix3 0 k e)).toReal
  pw g k d := (x4 (ix4 0 g k d)).toReal
  ps d := (x5 (ix2 0 d)).toReal
  lg d := (x6 (ix2 0 d)).toReal
  lb d := (x7 (ix2 0 d)).toReal
  sw k s j := (x8 (ix4 0 k s j)).toReal
  sb k s := (x9 (ix3 0 k s)).toReal
  pl r g d := (MixRefIdeal.Read.val_main_v43 (F := Ideal) x0 x3 (ix4 0 r g d)).toReal

/-- The reals of a device's argument arrays. -/
def args (m : (ℓ : Loc MixIdeal.nD MixIdeal.τ MixIdeal.sig) → Buf (Elt Ideal) ℓ) (c : Dev MixIdeal.nD) : Args :=
  argsOf (m ((c : Thread MixIdeal.nD MixIdeal.τ).loc MixIdeal.main_arg0)) (m ((c : Thread MixIdeal.nD MixIdeal.τ).loc MixIdeal.main_arg1))
    (m ((c : Thread MixIdeal.nD MixIdeal.τ).loc MixIdeal.main_arg2)) (m ((c : Thread MixIdeal.nD MixIdeal.τ).loc MixIdeal.main_arg3))
    (m ((c : Thread MixIdeal.nD MixIdeal.τ).loc MixIdeal.main_arg4)) (m ((c : Thread MixIdeal.nD MixIdeal.τ).loc MixIdeal.main_arg5))
    (m ((c : Thread MixIdeal.nD MixIdeal.τ).loc MixIdeal.main_arg6)) (m ((c : Thread MixIdeal.nD MixIdeal.τ).loc MixIdeal.main_arg7))
    (m ((c : Thread MixIdeal.nD MixIdeal.τ).loc MixIdeal.main_arg8)) (m ((c : Thread MixIdeal.nD MixIdeal.τ).loc MixIdeal.main_arg9))

/-- Under the precondition a device's argument arrays hold those reals. -/
theorem given (m : (ℓ : Loc MixIdeal.nD MixIdeal.τ MixIdeal.sig) → Buf (Elt Ideal) ℓ) (hpre : Pre_MixIdeal_mixers_finite m)
    (c : Dev MixIdeal.nD) : MixHost.Given m c (args m c) := by
  obtain ⟨h0, h2, h3, h4, h5, h6, h7, h8, h9⟩ := hpre c
  exact ⟨fun r d => real_of_finite h0 _, fun r d => rfl, fun r k => real_of_finite h2 _, fun k e => real_of_finite h3 _,
    fun g k d => real_of_finite h4 _, fun d => real_of_finite h5 _, fun d => real_of_finite h6 _, fun d => real_of_finite h7 _,
    fun k s j => real_of_finite h8 _, fun k s => real_of_finite h9 _⟩

/-- The pooled values are the reals read off them. -/
theorem pooled (m : (ℓ : Loc MixIdeal.nD MixIdeal.τ MixIdeal.sig) → Buf (Elt Ideal) ℓ) (c : Dev MixIdeal.nD)
    (H : MixHost.Given m c (args m c)) : MixHost.Pooled m c (args m c) := fun r g d => by
  obtain ⟨q, hq⟩ := MixReal.pooled_real H r g d
  exact hq.trans (congrArg (fun r : ℝ => (r : EReal)) ((congrArg EReal.toReal hq).trans (EReal.toReal_coe q)).symm)

/-- Memories that agree on the arguments: the reference's argument arrays hold the kernel's reals. -/
theorem ref_given {m : (ℓ : Loc MixIdeal.nD MixIdeal.τ MixIdeal.sig) → Buf (Elt Ideal) ℓ} {c : Dev MixIdeal.nD} {A : Args}
    (H : MixHost.Given m c A) (P : MixHost.Pooled m c A) {x0 x1 x2 x3 x4 x5 x6 x7 x8 x9}
    (h : x0 = m ((c.tc : Thread MixIdeal.nD MixIdeal.τ).loc MixIdeal.main_arg0) ∧ x1 = m ((c.tc : Thread MixIdeal.nD MixIdeal.τ).loc MixIdeal.main_arg1)
      ∧ x2 = m ((c.tc : Thread MixIdeal.nD MixIdeal.τ).loc MixIdeal.main_arg2) ∧ x3 = m ((c.tc : Thread MixIdeal.nD MixIdeal.τ).loc MixIdeal.main_arg3)
      ∧ x4 = m ((c.tc : Thread MixIdeal.nD MixIdeal.τ).loc MixIdeal.main_arg4) ∧ x5 = m ((c.tc : Thread MixIdeal.nD MixIdeal.τ).loc MixIdeal.main_arg5)
      ∧ x6 = m ((c.tc : Thread MixIdeal.nD MixIdeal.τ).loc MixIdeal.main_arg6) ∧ x7 = m ((c.tc : Thread MixIdeal.nD MixIdeal.τ).loc MixIdeal.main_arg7)
      ∧ x8 = m ((c.tc : Thread MixIdeal.nD MixIdeal.τ).loc MixIdeal.main_arg8) ∧ x9 = m ((c.tc : Thread MixIdeal.nD MixIdeal.τ).loc MixIdeal.main_arg9)) :
    Holds A x0 x1 x2 x3 x4 x5 x6 x7 x8 x9
      ∧ ∀ r g d, MixRefIdeal.Read.val_main_v43 (F := Ideal) x0 x3 (ix4 0 r g d) = (A.pl r g d : EReal) := by
  obtain ⟨rfl, rfl, rfl, rfl, rfl, rfl, rfl, rfl, rfl, rfl⟩ := h
  exact ⟨H, P⟩

/-- The eight results of the kernel are the reference's. -/
theorem algebraic : Cert.algebraic_MixIdeal_MixRefIdeal_pre_mixers_finite := by
  intro m g m' g' hpre hagree
  refine ⟨fun c => (MixIdeal.Gen.dats m 0 c).arrAt 12 (MixIdeal.cfgs 0).N, fun c => (MixIdeal.Gen.dats m 0 c).arrAt 13 (MixIdeal.cfgs 0).N, fun c => (MixIdeal.Gen.dats m 0 c).arrAt 14 (MixIdeal.cfgs 0).N, fun c => (MixIdeal.Gen.dats m 0 c).arrAt 15 (MixIdeal.cfgs 0).N,
    fun c => (MixIdeal.Gen.dats m 0 c).arrAt 16 (MixIdeal.cfgs 0).N, fun c => (MixIdeal.Gen.dats m 0 c).arrAt 17 (MixIdeal.cfgs 0).N, fun c => (MixIdeal.Gen.dats m 0 c).arrAt 18 (MixIdeal.cfgs 0).N, fun c => (MixIdeal.Gen.dats m 0 c).arrAt 19 (MixIdeal.cfgs 0).N, ?_, ?_⟩
  · refine θ_run_mono (θ_run_and (MixIdeal.Gen.run_main m g) (MixIdeal.Gen.frame m g)) fun r hr c => ?_
    exact ⟨(hr.1 c).1 12, (hr.1 c).1 13, (hr.1 c).1 14, (hr.1 c).1 15, (hr.1 c).1 16, (hr.1 c).1 17, (hr.1 c).1 18, (hr.1 c).1 19, hr.2.1 c⟩
  · refine θ_run_mono (Cert.MixRefIdeal.Value.run m' g') fun r hr c => ?_
    obtain ⟨h0, h1, h2, h3, h4, h5, h6, h7, hargs⟩ := hr c
    have H := given m hpre c
    have P := pooled m c H
    obtain ⟨R, hp⟩ := ref_given H P (hagree c)
    have e0 := h0.trans ((MixRefIdeal.Read.val_main_v277_eq (launchContents m' c)).trans (Eq.trans (funext fun j => by
      idx_vars j) (MixOut.dh_array m c H P (G := fun r e => MixRefIdeal.Read.val_main_v277 (F := Ideal) _ _ _ _ _ _ _ _ _ (ix2 r e)) fun n s b k d => MixRefRead.dh_at R hp n s b k d).symm))
    have e1 := h1.trans ((MixRefIdeal.Read.val_main_v279_eq (launchContents m' c)).trans (Eq.trans (funext fun j => by
      idx_vars j) (MixOut.dx_array m c H P (G := fun r e => MixRefIdeal.Read.val_main_v279 (F := Ideal) _ _ _ _ _ _ _ _ _ _ (ix2 r e)) fun n s e => MixRefRead.dx_at R hp n s e).symm))
    have e2 := h2.trans ((MixRefIdeal.Read.val_main_v281_eq (launchContents m' c)).trans (Eq.trans (funext fun j => by
      idx_vars j
      refine (MixRefRead.dpw_at R hp j1 j0 j2 j3).trans (Eq.trans (congrArg (fun q => ((args m c).dpw j1 q j3 : EReal)) (Fin.ext ?_)) (MixAcc.dpw m c H P j0 j1 j2 j3).symm)
      exact congrArg (· + j2.val) (Nat.mul_comm _ _)) (MixAcc.arr14 m c).symm))
    have e3 := h3.trans ((MixRefIdeal.Read.val_main_v269_eq (launchContents m' c)).trans (Eq.trans (funext fun j => by
      idx_vars j
      obtain rfl : j0 = 0 := Subsingleton.elim _ _
      obtain ⟨k, d, rfl⟩ := MixOut.col_split j1
      exact (MixRefRead.dps_at R hp k d).trans (MixAcc.dps m c H P k d).symm) (MixAcc.arr15 m c).symm))
    have e4 := h4.trans ((MixRefIdeal.Read.val_main_v229_eq (launchContents m' c)).trans (Eq.trans (funext fun j => by
      idx_vars j
      obtain rfl : j0 = 0 := Subsingleton.elim _ _
      obtain ⟨k, d, rfl⟩ := MixOut.col_split j1
      exact (MixRefRead.dlg_at R k d).trans (MixAcc.dlg m c H k d).symm) (MixAcc.arr16 m c).symm))
    have e5 := h5.trans ((MixRefIdeal.Read.val_main_v228_eq (launchContents m' c)).trans (Eq.trans (funext fun j => by
      idx_vars j
      obtain rfl : j0 = 0 := Subsingleton.elim _ _
      obtain ⟨k, d, rfl⟩ := MixOut.col_split j1
      exact (MixRefRead.dlb_at R k d).trans (MixAcc.dlb m c H k d).symm) (MixAcc.arr17 m c).symm))
    have e6 := h6.trans ((MixRefIdeal.Read.val_main_v282_eq (launchContents m' c)).trans (Eq.trans (funext fun j => by
      idx_vars j
      exact (MixRefRead.dsw_at R j0 j1 j2).trans (MixAcc.dsw m c H j0 j1 j2).symm) (MixAcc.arr18 m c).symm))
    have e7 := h7.trans ((MixRefIdeal.Read.val_main_v283_eq (launchContents m' c)).trans (Eq.trans (funext fun j => by
      idx_vars j
      exact (MixRefRead.dsb_at R j0 j1).trans (MixAcc.dsb m c H j0 j1).symm) (MixAcc.arr19 m c).symm))
    exact ⟨e0, e1, e2, e3, e4, e5, e6, e7, hargs⟩

end Cert.MixClaim

end
-- ==== Proof.FwdModel.lean ====
/-
  What the mixers' forward call computes over the reals, beside the model of its gradients: the sum of a window of earlier
  tokens as the difference of two running sums, the pooled values and the mixed and gated ones.
-/
module

public import proofs.«01_k».proof.Proof.MixModel

@[expose] public section

noncomputable section

namespace Cert.WinSum

/-- The sum of the `w` entries that end at `r`; before the first entry there is nothing. -/
def past (f : ℕ → ℝ) (r w : ℕ) : ℝ := ∑ k ∈ Finset.range w, if k ≤ r then f (r - k) else 0

/-- The running sum up to `r`, as a sum over a window of the array's whole length that ends there. -/
theorem running {n : ℕ} (f : Fin n → ℝ) (r : Fin n) :
    (∑ k : Fin n, if h : n - 1 ≤ r.val + k.val ∧ r.val + k.val - (n - 1) < n then f ⟨r.val + k.val - (n - 1), h.2⟩ else 0)
      = ∑ j ∈ Finset.range (r.val + 1), ext f j := by
  have hr := r.isLt
  have e : ∀ k : Fin n, (if h : n - 1 ≤ r.val + k.val ∧ r.val + k.val - (n - 1) < n then f ⟨r.val + k.val - (n - 1), h.2⟩ else 0)
      = if n - 1 ≤ r.val + k.val then ext f (r.val + k.val - (n - 1)) else 0 := by
    intro k
    by_cases h : n - 1 ≤ r.val + k.val
    · rw [if_pos h, dif_pos ⟨h, by omega⟩, ext, dif_pos]
    · rw [if_neg h, dif_neg (fun q => h q.1)]
  simp only [e]
  rw [Fin.sum_univ_eq_sum_range (fun k => if n - 1 ≤ r.val + k then ext f (r.val + k - (n - 1)) else 0) n, ← Finset.sum_filter]
  refine Finset.sum_nbij' (fun k => r.val + k - (n - 1)) (fun j => j + (n - 1) - r.val) (fun k hk => ?_) (fun j hj => ?_) (fun k hk => ?_) (fun j hj => ?_)
    (fun k hk => rfl)
  · have := Finset.mem_filter.1 hk
    have := Finset.mem_range.1 this.1
    exact Finset.mem_range.2 (by omega)
  · have := Finset.mem_range.1 hj
    exact Finset.mem_filter.2 ⟨Finset.mem_range.2 (by omega), by omega⟩
  · have := (Finset.mem_filter.1 hk).2
    show r.val + k - (n - 1) + (n - 1) - r.val = k
    omega
  · show r.val + (j + (n - 1) - r.val) - (n - 1) = j
    omega

theorem past_early (f : ℕ → ℝ) {r w : ℕ} (h : r < w) : past f r w = ∑ j ∈ Finset.range (r + 1), f j := by
  unfold past
  rw [← Finset.sum_filter, ← Finset.sum_range_reflect]
  refine Finset.sum_congr (Finset.ext fun k => ?_) fun k _ => congrArg f (by omega)
  rw [Finset.mem_filter, Finset.mem_range, Finset.mem_range]
  omega

theorem past_late (f : ℕ → ℝ) {r w : ℕ} (h : w ≤ r) :
    past f r w = ∑ j ∈ Finset.range (r + 1), f j - ∑ j ∈ Finset.range (r - w + 1), f j := by
  have e := Finset.sum_range_add f (r - w + 1) w
  rw [show r - w + 1 + w = r + 1 by omega] at e
  rw [e, add_sub_cancel_left, ← Finset.sum_range_reflect]
  refine Finset.sum_congr rfl fun k hk => ?_
  have := Finset.mem_range.1 hk
  rw [if_pos (by omega)]
  exact congrArg f (by omega)

end Cert.WinSum

namespace Cert.MixModel

namespace Args

variable (A : Args)

/-- The values of a column to be pooled, by token. -/
def src (g : Fin 4) (d : Fin 256) : ℕ → ℝ := WinSum.ext fun r => A.sec 0 r (col g d)

/-- The pooled value: the mean over the window that ends at the token, less the token's own. -/
def pool (r : Fin 8192) (g : Fin 4) (d : Fin 256) : ℝ :=
  WinSum.past (A.src g d) r.val (width g) * (1 / (cnt r g : ℝ)) - A.sec 0 r (col g d)

end Args

/-- The mixers' own weights, infinite elements allowed. -/
structure Wts where
  pw : Fin 4 → Fin 256 → Fin 256 → EReal
  ps : Fin 1024 → EReal
  lg : Fin 1024 → EReal
  lb : Fin 1024 → EReal
  sw : Fin 4 → Fin 128 → Fin 128 → EReal
  sb : Fin 4 → Fin 128 → EReal

namespace Wts

variable (W : Wts) (A : Args) (C : Chunk)

/-- The mixed and gated value of the pooled half. -/
def mixed (r : Fin 8192) (g : Fin 4) (d : Fin 256) : EReal := ∑ k, (A.pool r g k : EReal) * W.pw g k d
def yp (r : Fin 8192) (g : Fin 4) (d : Fin 256) : EReal := W.mixed A r g d * W.ps (col g d) * (gate (A.sec 3 r (col g d)) : EReal)

/-- The normalised values of head `k` of a chunk, its mixing matrix, and the mixed and gated value of that half. -/
def vln (k : Fin 4) (s : Fin 128) (d : Fin 256) : EReal := (Norm.xhat (fun e => gelu (C.v s e)) d : EReal) * W.lg (col k d) + W.lb (col k d)
def mw (k : Fin 4) (s j : Fin 128) : EReal := if j ≤ s then W.sw k s j else 0
def sv (k : Fin 4) (s : Fin 128) (d : Fin 256) : EReal := ∑ j, W.mw k s j * W.vln C k j d + W.sb k s
def y (k : Fin 4) (s : Fin 128) (d : Fin 256) : EReal := (gelu (C.u s d) : EReal) * W.sv C k s d * (gate (C.z s d) : EReal)

end Wts

end Cert.MixModel

end
-- ==== Proof.FwdHost.lean ====
/- What the host's lines hand to the mixers' forward kernel, at an index: reshaped arguments. -/
module

public import proofs.«01_k».proof.Proof.FwdModel
public import proofs.«01_k».proof.Proof.Gen.FwdIdeal.Launch
public import proofs.«01_k».proof.Proof.Gen.FwdIdeal.Frame.Runs
public import Idealize.ShloMosaic.Lib.StableHlo.ReadAt

@[expose] public section

set_option maxRecDepth 16384
set_option maxHeartbeats 4000000

noncomputable section

namespace Cert.FwdHost

open Cert.MixModel Cert.Lift Cert.Norm Cert.FwdIdeal Cert.FwdIdeal.Gen Idealize.ShloMosaic Idealize.ShloMosaic.TcCoe Idealize.ShloMosaic.Tactic
open Idealize.SL.Sem

variable (m : (ℓ : Loc nD τ sig) → Buf (Elt Ideal) ℓ) (c : Dev nD)

/-- The arguments of one device hold the reals of `A` and the weights `w`. -/
structure Given (A : Args) (w : Wts) : Prop where
  x : ∀ r d, m ((c : Thread nD τ).loc main_arg0) (ix3 0 r d) = (A.x r d : EReal)
  wi : ∀ k e, m ((c : Thread nD τ).loc main_arg1) (ix3 0 k e) = (A.wi k e : EReal)
  pw : ∀ g k d, m ((c : Thread nD τ).loc main_arg2) (ix4 0 g k d) = w.pw g k d
  ps : ∀ d, m ((c : Thread nD τ).loc main_arg3) (ix2 0 d) = w.ps d
  lg : ∀ d, m ((c : Thread nD τ).loc main_arg4) (ix2 0 d) = w.lg d
  lb : ∀ d, m ((c : Thread nD τ).loc main_arg5) (ix2 0 d) = w.lb d
  sw : ∀ k s j, m ((c : Thread nD τ).loc main_arg6) (ix4 0 k s j) = w.sw k s j
  sb : ∀ k s, m ((c : Thread nD τ).loc main_arg7) (ix3 0 k s) = w.sb k s

variable {A : Args} {w : Wts} (H : Given m c A w)
include H

theorem sb_at (s : Fin 128) (k : Fin 4) (d : Fin 256) : V m c main_v3 (ix2 s (col k d)) = w.sb k s := by
  unfold V
  rw [← H.sb k s]
  after_reads_at
  exact congrArg (fun z => m (c, Proc.tc.devRef main_arg7) (ix3 0 z s)) (Fin.ext (by show (k.val * 256 + d.val) / 256 = k.val; omega))

theorem x_at (r : Fin 8192) (d : Fin 1024) : V m c main_v4 (ix2 r d) = (A.x r d : EReal) := by
  unfold V
  rw [← H.x r d]
  after_reads_at

theorem wi_at (d : Fin 1024) (e : Fin 5120) : V m c main_v6 (ix2 d e) = (A.wi d e : EReal) := by
  unfold V
  rw [← H.wi d e]
  after_reads_at

theorem pw_at (g : Fin 4) (k d : Fin 256) : V m c main_v8 (ix3 g k d) = w.pw g k d := by
  unfold V
  rw [← H.pw g k d]
  after_reads_at

theorem sw_at (k : Fin 4) (s j : Fin 128) : V m c main_v9 (ix3 k s j) = w.sw k s j := by
  unfold V
  rw [← H.sw k s j]
  after_reads_at

end Cert.FwdHost

end
-- ==== Proof.FwdChunk.lean ====
/- What the mixers' forward kernel computes of one head's columns of 128 rows: each value, at an index, as a real number of the chunk. -/
module

public import proofs.«01_k».proof.Proof.FwdModel
public import proofs.«01_k».proof.Proof.MixRefGate
public import proofs.«01_k».proof.Proof.Gen.FwdIdeal.Skeleton
public import Idealize.ShloMosaic.Lib.Pointwise
public import Idealize.ShloMosaic.Lib.WordCmp

@[expose] public section

set_option maxRecDepth 16384

noncomputable section

namespace Cert.FwdChunk

open Cert.MixModel Cert.Lift Cert.Norm Cert.FwdIdeal Cert.FwdIdeal.Gen Idealize.ShloMosaic Cert.MixRefRead

section fns

variable (X U V Z SB : FVec Ideal S128x256 .f32) (LG LB : FVec Ideal S1x256 .f32) (SW : FVec Ideal S1x128x128 .f32)

/-- The smooth rectifier, a row less its mean, the row's inverse deviation and the row normalised and scaled. -/
def gf : FVec Ideal S128x256 .f32 := k0_pay33 X (k0_pay32 X) (Scalar.ofBits .f32 0x3D372713#32)
def cenf : FVec Ideal S128x256 .f32 :=
  subf X (broadcastTo S128x256 (divf (shapeCast S128x1 (multiReduction .add [1] S128 X 0x00000000#32 reduces_S128x256_S128 (.inl rfl) rfl) shapeCasts_S128_S128x1)
    (broadcast S128x1 (Scalar.ofBits .f32 0x43800000#32))) broadcasts_S128x1_S128x256)
def rsf : FVec Ideal S128x1 .f32 :=
  rsqrt (addf (divf (shapeCast S128x1 (multiReduction .add [1] S128 (mulf (cenf X) (cenf X)) 0x00000000#32 reduces_S128x256_S128 (.inl rfl) rfl) shapeCasts_S128_S128x1)
    (broadcast S128x1 (Scalar.ofBits .f32 0x43800000#32))) (broadcast S128x1 (Scalar.ofBits .f32 0x3727C5AC#32)))
def nrm : FVec Ideal S128x256 .f32 :=
  mulf (mulf (cenf X) (broadcastTo S128x256 (rsf X) broadcasts_S128x1_S128x256)) (broadcastTo S128x256 LG broadcasts_S1x256_S128x256)

/-- One head of one chunk: the mixed and gated values. -/
def yf : FVec Ideal S128x256 .bf16 := k0_pay35 (k0_pay31 SW) (gf U) (k0_pay34 V LG) LB SB Z

theorem pay34_eq : k0_pay34 (F := Ideal) V LG = nrm (gf V) LG := rfl

end fns

/-- The blocks hold the reals of a chunk, and the weights of its head. -/
structure Blk (C : Chunk) (w : Wts) (h : Fin 4) (U V Z SB : FVec Ideal S128x256 .f32) (LG LB : FVec Ideal S1x256 .f32) (SW : FVec Ideal S1x128x128 .f32) : Prop where
  u : ∀ s d, U (ix2 s d) = (C.u s d : EReal)
  v : ∀ s d, V (ix2 s d) = (C.v s d : EReal)
  z : ∀ s d, Z (ix2 s d) = (C.z s d : EReal)
  sb : ∀ s d, SB (ix2 s d) = w.sb h s
  lg : ∀ d, LG (ix2 0 d) = w.lg (col h d)
  lb : ∀ d, LB (ix2 0 d) = w.lb (col h d)
  sw : ∀ s k, SW (ix3 0 s k) = w.sw h s k

theorem one_add_exp (r : ℝ) : Ideal.div ((1 : ℝ) : EReal) (((1 : ℝ) : EReal) + Ideal.exp ((r : ℝ) : EReal)) = (((1 + Real.exp r)⁻¹ : ℝ) : EReal) := by
  rw [Ideal.exp_coe, ← EReal.coe_add, div_coe (add_pos one_pos (Real.exp_pos r)).ne', one_mul, one_div]

theorem tanh_coe (r : ℝ) : Ideal.tanh ((r : ℝ) : EReal) = ((Real.tanh r : ℝ) : EReal) := rfl

theorem gf_at {X : FVec Ideal S128x256 .f32} {x : Fin 128 → Fin 256 → ℝ} (hX : ∀ s d, X (ix2 s d) = (x s d : EReal)) (s : Fin 128) (d : Fin 256) :
    gf X (ix2 s d) = (gelu (x s d) : EReal) := by
  unfold gf
  pointwise [k0_pay33, k0_pay32]
  simp only [hX, word_c0, word_c1, word_half, ← EReal.coe_one, ← EReal.coe_mul, ← EReal.coe_add, tanh_coe]
  rw [gelu, cdf_eq]
  rfl

section norm
variable {X : FVec Ideal S128x256 .f32} {x : Fin 128 → Fin 256 → ℝ} (hX : ∀ s d, X (ix2 s d) = (x s d : EReal))
include hX

theorem cenf_at (s : Fin 128) (d : Fin 256) : cenf X (ix2 s d) = (cen (x s) d : EReal) := by
  pointwise [cenf]
  simp only [hX, word_256, coe_sum, div_coe (show (256 : ℝ) ≠ 0 by norm_num), ← EReal.coe_sub]
  exact congrArg _ (by simp [cen, mean])

theorem rsf_at (s : Fin 128) : rsf X (ix2 s 0) = (rstd (x s) : EReal) := by
  pointwise [rsf]
  simp only [cenf_at hX, word_256, word_eps, ← EReal.coe_mul, coe_sum, ← EReal.coe_add, div_coe (show (256 : ℝ) ≠ 0 by norm_num)]
  exact (congrArg (fun z : ℝ => Ideal.rsqrt (z : EReal)) (show _ = var (x s) + eps by simp [var, mean, eps])).trans (rsqrt_pos (var_eps_pos _))

theorem nrm_at (LG : FVec Ideal S1x256 .f32) (s : Fin 128) (d : Fin 256) :
    nrm X LG (ix2 s d) = (xhat (x s) d : EReal) * LG (ix2 0 d) := by
  pointwise [nrm]
  simp only [cenf_at hX, rsf_at hX, ← EReal.coe_mul]
  rfl

end norm

variable {C : Chunk} {w : Wts} {h : Fin 4} {U V Z SB : FVec Ideal S128x256 .f32} {LG LB : FVec Ideal S1x256 .f32} {SW : FVec Ideal S1x128x128 .f32}
  (H : Blk C w h U V Z SB LG LB SW)
include H

theorem mw_at (s k : Fin 128) : k0_pay31 (F := Ideal) SW (ix2 s k) = w.mw h s k := by
  pointwise [k0_pay31]
  rw [WordCmp.cmpi_sge_ofNat (by omega) (by omega), WordCmp.select_ofBool, H.sw]
  by_cases hk : k ≤ s
  · rw [if_pos (by simpa using hk), Wts.mw, if_pos hk]
  · rw [if_neg (by simpa using hk), Wts.mw, if_neg hk]

theorem y_at (s : Fin 128) (d : Fin 256) : yf U V Z SB LG LB SW (ix2 s d) = w.y C h s d := by
  have hn := nrm_at (gf_at H.v) LG
  unfold yf
  rw [pay34_eq]
  pointwise [k0_pay35]
  simp only [hn, mw_at H, gf_at H.u, H.lg, H.lb, H.sb, H.z, zero_sub, ← EReal.coe_neg, ← EReal.coe_one, one_add_exp, ← EReal.coe_mul]
  rfl

end Cert.FwdChunk

end
-- ==== Proof.FwdPool.lean ====
/- What the mixers' forward kernel computes of one group's columns of a tile: the pooled values, and the mixed and gated ones. -/
module

public import proofs.«01_k».proof.Proof.FwdChunk
public import proofs.«01_k».proof.Proof.MixCnt

@[expose] public section

set_option maxRecDepth 16384

noncomputable section

namespace Cert.FwdPool

open Cert.MixModel Cert.Lift Cert.Norm Cert.FwdIdeal Cert.FwdIdeal.Gen Idealize.ShloMosaic

section fns
variable (T W : BitVec 32) (S X : FVec Ideal S512x256 .f32)

/-- A group's window sums over the counts, less the tokens' own. -/
def poolf : FVec Ideal S512x256 .bf16 :=
  truncf .bf16 (subf (mulf S (broadcastTo S512x256 (divf (broadcast S512x1 (Scalar.ofBits .f32 0x3F800000#32))
    (sitofp .f32 (minsi (addi (addi (broadcast S512x1 (Scalar.muli T 512#32)) (iota .tc S512x1 32 [0] iota_S512x1_d0_w32)) (broadcast S512x1 1#32)) (broadcast S512x1 W))))
    broadcasts_S512x1_S512x256)) X) bitsLt_bf16_f32

end fns

/-- One more entry of a window's sum. -/
theorem plus {s : Shape} {Y Z : FVec Ideal s .f32} {i : s.Idx} {f : ℕ → ℝ} {n : ℕ} (h : Y i = ((∑ k ∈ Finset.range n, f k : ℝ) : EReal))
    (h' : Z i = (f n : EReal)) : addf Y Z i = ((∑ k ∈ Finset.range (n + 1), f k : ℝ) : EReal) := by
  rw [Finset.sum_range_succ, EReal.coe_add, ← h, ← h']
  rfl
theorem one {s : Shape} {Z : FVec Ideal s .f32} {i : s.Idx} {f : ℕ → ℝ} (h : Z i = (f 0 : EReal)) : Z i = ((∑ k ∈ Finset.range 1, f k : ℝ) : EReal) := by
  rw [Finset.sum_range_one, h]

variable {A : Args} {w : Wts} {tr : Fin 512 → Fin 8192} {n : ℕ} (htr : ∀ i, (tr i).val = 512 * n + i.val)
include htr

theorem pool_at (hn : n < 16) (g : Fin 4) (T W : BitVec 32) (hT : T = BitVec.ofNat 32 n) (hW : W = BitVec.ofNat 32 (Args.width g)) (S X : FVec Ideal S512x256 .f32) (i : Fin 512)
    (d : Fin 256) (hS : S (ix2 i d) = ((WinSum.past (A.src g d) (tr i).val (Args.width g) : ℝ) : EReal)) (hX : X (ix2 i d) = (A.sec 0 (tr i) (col g d) : EReal)) :
    poolf T W S X (ix2 i d) = (A.pool (tr i) g d : EReal) := by
  subst hT hW
  pointwise [poolf]
  rw [hS, hX]
  have hw : IntOp.addi (IntOp.addi (Scalar.muli (BitVec.ofNat 32 n) 512#32) (BitVec.ofNat 32 i.val)) 1#32 = BitVec.ofNat 32 ((tr i).val + 1) := by
    show BitVec.ofNat 32 n * BitVec.ofNat 32 512 + BitVec.ofNat 32 i.val + BitVec.ofNat 32 1 = _
    rw [BitVec.ofNat_mul_ofNat, BitVec.ofNat_add_ofNat, BitVec.ofNat_add_ofNat, Nat.mul_comm, htr]
  have hc : (((IntOp.minsi (IntOp.addi (IntOp.addi (Scalar.muli (BitVec.ofNat 32 n) 512#32) (BitVec.ofNat 32 i.val)) 1#32) (BitVec.ofNat 32 (Args.width g))).toInt : ℝ) : EReal)
      = ((Args.cnt (tr i) g : ℝ) : EReal) := by
    rw [hw]
    exact cnt_word (tr i) g
  refine (congrArg (fun a : EReal => ((WinSum.past (A.src g d) (tr i).val (Args.width g) : ℝ) : EReal) * Ideal.div 1 a - (A.sec 0 (tr i) (col g d) : EReal)) hc).trans ?_
  simp only [← EReal.coe_one, div_coe (cnt_ne (tr i) g), ← EReal.coe_mul, one_mul, ← EReal.coe_sub]
  rfl

omit htr in
theorem y_at {PL : FVec Ideal S512x256 .bf16} {PW : FVec Ideal S1x256x256 .bf16} {Z : FVec Ideal S512x256 .f32} {PS : FVec Ideal S1x256 .f32} (g : Fin 4)
    (hp : ∀ i d, PL (ix2 i d) = (A.pool (tr i) g d : EReal)) (hw : ∀ k d, PW (ix3 0 k d) = w.pw g k d)
    (hz : ∀ i d, Z (ix2 i d) = (A.sec 3 (tr i) (col g d) : EReal)) (hs : ∀ d, PS (ix2 0 d) = w.ps (col g d)) (i : Fin 512) (d : Fin 256) :
    k0_pay29 (F := Ideal) PL PW Z PS (ix2 i d) = w.yp A (tr i) g d := by
  pointwise [k0_pay29]
  simp only [hp, hw, hz, hs, zero_sub, ← EReal.coe_neg, ← EReal.coe_one, FwdChunk.one_add_exp, ← EReal.coe_mul]
  rfl

/-- The sum over a window that ends in a tile's row, as a sum over the tile's rows and the sixteen before it. -/
def hal (A : Args) (n : ℕ) (g : Fin 4) (d : Fin 256) (j : ℕ) : ℝ := if 16 ≤ 512 * n + j then A.src g d (512 * n + j - 16) else 0

theorem past_hal (g : Fin 4) (d : Fin 256) (i : Fin 512) {w : ℕ} (hw : w ≤ 17) :
    WinSum.past (A.src g d) (tr i).val w = ∑ k ∈ Finset.range w, hal A n g d (16 + i.val - k) := by
  refine Finset.sum_congr rfl fun k hk => ?_
  have := Finset.mem_range.1 hk
  rw [htr, hal]
  by_cases h : k ≤ 512 * n + i.val
  · rw [if_pos h, if_pos (by omega)]
    exact congrArg _ (by omega)
  · rw [if_neg h, if_neg (by omega)]

end Cert.FwdPool

end
-- ==== Proof.FwdTile.lean ====
/- What the blocks of the mixers' forward kernel hold at a grid point: the rows of one tile, and its four chunks. -/
module

public import proofs.«01_k».proof.Proof.FwdHost
public import proofs.«01_k».proof.Proof.FwdPool
public import proofs.«01_k».proof.Proof.MixHalo
public import proofs.«01_k».proof.Proof.Gen.FwdIdeal.Value
public import Idealize.ShloMosaic.Lib.Pipeline.ValueKit

@[expose] public section

set_option maxRecDepth 16384

noncomputable section

namespace Cert.FwdTile

open Cert.MixModel Cert.FwdHost Cert.Lift Cert.Norm Cert.FwdIdeal Cert.FwdIdeal.Gen Idealize.ShloMosaic Idealize.ShloMosaic.TcCoe Idealize.ShloMosaic.Tactic
open Idealize.SL.Sem

variable (m : (ℓ : Loc nD τ sig) → Buf (Elt Ideal) ℓ) (c : Dev nD)

/-- Which block of its array each window holds at a grid point. -/
theorem idx : ∀ t : Fin cfg0.N, win0_0.index t = ![t.val, 0] ∧ win0_1.index t = ![0, 0] ∧ win0_2.index t = ![0, 0, 0]
    ∧ win0_3.index t = ![0, 0] ∧ win0_4.index t = ![0, 0] ∧ win0_5.index t = ![0, 0] ∧ win0_6.index t = ![0, 0, 0] ∧ win0_7.index t = ![0, 0]
    ∧ win0_8.index t = ![t.val, 0] ∧ win0_9.index t = ![t.val, 0] ∧ win0_10.index t = ![t.val, 0] ∧ win0_11.index t = ![t.val, 0] :=
  (by decide +kernel : ∀ t : Fin grid0.N, _)

theorem tile_word : ∀ t : Fin cfg0.N, BitVec.ofNat 32 (grid0.coords t 0).val = BitVec.ofNat 32 t.val :=
  (by decide +kernel : ∀ t : Fin grid0.N, _)

theorem lt16 (t : Fin cfg0.N) : t.val < 16 := lt_of_lt_of_eq t.isLt N_0

/-- Row `i` of a grid point's tile, and the number of its chunk `n`. -/
def trow (t : Fin cfg0.N) (i : Fin 512) : Fin 8192 := ⟨512 * t.val + i.val, by have := lt16 t; omega⟩
def cidx (t : Fin cfg0.N) (n : Fin 4) : Fin 64 := ⟨4 * t.val + n.val, by have := lt16 t; omega⟩
/-- Row `s` of chunk `n` within the tile. -/
def crow (n : Fin 4) (s : Fin 128) : Fin 512 := ⟨128 * n.val + s.val, by omega⟩

theorem trow_crow (t : Fin cfg0.N) (n : Fin 4) (s : Fin 128) : trow t (crow n s) = row (cidx t n) s := Fin.ext (by
  show 512 * t.val + (128 * n.val + s.val) = (4 * t.val + n.val) * 128 + s.val
  omega)

variable {A : Args} {w : Wts} (H : Given m c A w)
include H

theorem x_blk (t : Fin cfg0.N) (i : Fin 512) (d : Fin 1024) : iblk m c 0 t (ix2 i d) = (A.x (trow t i) d : EReal) := by
  rw [← x_at m c H (trow t i) d]
  blk_point [iblk, idx t, trow]
theorem wi_blk (t : Fin cfg0.N) (d : Fin 1024) (e : Fin 5120) : iblk m c 1 t (ix2 d e) = (A.wi d e : EReal) := by
  rw [← wi_at m c H d e]
  blk_point [iblk, idx t]
theorem pw_blk (t : Fin cfg0.N) (g : Fin 4) (k d : Fin 256) : iblk m c 2 t (ix3 g k d) = w.pw g k d := by
  rw [← pw_at m c H g k d]
  blk_point [iblk, idx t]
theorem ps_blk (t : Fin cfg0.N) (d : Fin 1024) : iblk m c 3 t (ix2 0 d) = w.ps d := by
  rw [← H.ps d]
  blk_point [iblk, V, idx t]
theorem lg_blk (t : Fin cfg0.N) (d : Fin 1024) : iblk m c 4 t (ix2 0 d) = w.lg d := by
  rw [← H.lg d]
  blk_point [iblk, V, idx t]
theorem lb_blk (t : Fin cfg0.N) (d : Fin 1024) : iblk m c 5 t (ix2 0 d) = w.lb d := by
  rw [← H.lb d]
  blk_point [iblk, V, idx t]
theorem sw_blk (t : Fin cfg0.N) (k : Fin 4) (s j : Fin 128) : iblk m c 6 t (ix3 k s j) = w.sw k s j := by
  rw [← sw_at m c H k s j]
  blk_point [iblk, idx t]
theorem sb_blk (t : Fin cfg0.N) (s : Fin 128) (k : Fin 4) (d : Fin 256) : iblk m c 7 t (ix2 s (col k d)) = w.sb k s := by
  rw [← sb_at m c H s k d]
  blk_point [iblk, idx t]

end Cert.FwdTile

end
-- ==== Proof.FwdSec.lean ====
/- The five sections of a tile's projected rows in the mixers' forward kernel: what is stored of them, and what is read back. -/
module

public import proofs.«01_k».proof.Proof.FwdTile
public import proofs.«01_k».proof.Proof.MixDh

@[expose] public section

set_option maxRecDepth 16384
set_option maxHeartbeats 200000

noncomputable section

namespace Cert.FwdSec

open Cert.MixModel Cert.FwdHost Cert.FwdTile Cert.Lift Cert.Norm Cert.FwdIdeal Cert.FwdIdeal.Gen Idealize.ShloMosaic Idealize.ShloMosaic.TcCoe Idealize.ShloMosaic.Tactic
open Idealize.SL.Sem

section pays
variable {X : FVec Ideal S512x1024 .f32} {W : FVec Ideal S1024x1024 .bf16} {x : Fin 1024 → ℝ} {w : Fin 1024 → Fin 1024 → ℝ} {i : Fin 512}
  (hX : ∀ k, X (ix2 i k) = (x k : EReal)) (hW : ∀ k e, W (ix2 k e) = (w k e : EReal)) (e : Fin 1024)
include hX hW

theorem pay5_at : k0_pay5 (F := Ideal) X W (ix2 i e) = ((∑ k, x k * w k e : ℝ) : EReal) := by
  pointwise [k0_pay5, k0_pay3]
  simp only [hX, hW, ← EReal.coe_mul, coe_sum]
theorem pay4_at : k0_pay4 (F := Ideal) X W (ix2 i e) = ((∑ k, x k * w k e : ℝ) : EReal) := by
  pointwise [k0_pay4, k0_pay3]
  simp only [hX, hW, ← EReal.coe_mul, coe_sum]
theorem pay6_at : k0_pay6 (F := Ideal) X W (ix2 i e) = ((∑ k, x k * w k e : ℝ) : EReal) := by
  pointwise [k0_pay6]
  exact pay5_at hX hW e

end pays

variable (m : (ℓ : Loc nD τ sig) → Buf (Elt Ideal) ℓ) (c : Dev nD)

/-- The weights of one section, as the body loads them. -/
abbrev wld (t : Fin cfg0.N) (o : ℕ) (inb : ∀ a, (![0, o] : Fin 2 → ℕ) a + (![1024, 1024] : Fin 2 → ℕ) a ≤ S1024x5120.size a) : FVec Ideal S1024x1024 .bf16 :=
  View.ld (iblk m c 1 t) (Rect.unit (s := S1024x5120) ![0, o] ![1024, 1024] inb)

/-- What the body has stored of the sections, the last first. -/
abbrev P0 (t : Fin cfg0.N) : List (View.Piece (Elt Ideal) S512x5120 .f32) :=
  [⟨Rect.unit ![0, 0] ![512, 1024] inb_S512x5120_S512x1024_0_0, k0_pay4 (iblk m c 0 t) (wld m c t 0 inb_S1024x5120_S1024x1024_0_0)⟩]
abbrev P1 (t : Fin cfg0.N) : List (View.Piece (Elt Ideal) S512x5120 .f32) :=
  ⟨Rect.unit ![0, 1024] ![512, 1024] inb_S512x5120_S512x1024_0_1024, k0_pay6 (iblk m c 0 t) (wld m c t 1024 inb_S1024x5120_S1024x1024_0_1024)⟩ :: P0 m c t
abbrev P2 (t : Fin cfg0.N) : List (View.Piece (Elt Ideal) S512x5120 .f32) :=
  ⟨Rect.unit ![0, 2048] ![512, 1024] inb_S512x5120_S512x1024_0_2048, k0_pay9 (iblk m c 0 t) (wld m c t 2048 inb_S1024x5120_S1024x1024_0_2048)⟩ :: P1 m c t
abbrev P3 (t : Fin cfg0.N) : List (View.Piece (Elt Ideal) S512x5120 .f32) :=
  ⟨Rect.unit ![0, 3072] ![512, 1024] inb_S512x5120_S512x1024_0_3072, k0_pay12 (k0_pay3 (iblk m c 0 t)) (wld m c t 3072 inb_S1024x5120_S1024x1024_0_3072)⟩ :: P2 m c t
abbrev P4 (t : Fin cfg0.N) : List (View.Piece (Elt Ideal) S512x5120 .f32) :=
  ⟨Rect.unit ![0, 4096] ![512, 1024] inb_S512x5120_S512x1024_0_4096, k0_pay15 (k0_pay3 (iblk m c 0 t)) (wld m c t 4096 inb_S1024x5120_S1024x1024_0_4096)⟩ :: P3 m c t

/-- Head `k` of chunk `n`, and group `g` of the tile, as the body reads them back. -/
abbrev uld (t : Fin cfg0.N) (n k : Fin 4) : FVec Ideal S128x256 .f32 :=
  (View.whole cc0_scratch1).readCov (P1 m c t) (Rect.unit (s := S512x5120) ![128 * n.val, 1024 + 256 * k.val] S128x256.size (by revert n k; decide)).toLoadRect
abbrev vld (t : Fin cfg0.N) (n k : Fin 4) : FVec Ideal S128x256 .f32 :=
  (View.whole cc0_scratch1).readCov (P2 m c t) (Rect.unit (s := S512x5120) ![128 * n.val, 2048 + 256 * k.val] S128x256.size (by revert n k; decide)).toLoadRect
abbrev zld (t : Fin cfg0.N) (n k : Fin 4) : FVec Ideal S128x256 .f32 :=
  (View.whole cc0_scratch1).readCov (P4 m c t) (Rect.unit (s := S512x5120) ![128 * n.val, 4096 + 256 * k.val] S128x256.size (by revert n k; decide)).toLoadRect
abbrev ald (t : Fin cfg0.N) (g : Fin 4) : FVec Ideal S512x256 .f32 :=
  (View.whole cc0_scratch1).readCov (P0 m c t) (Rect.unit (s := S512x5120) ![0, 256 * g.val] S512x256.size (by revert g; decide)).toLoadRect
abbrev qld (t : Fin cfg0.N) (g : Fin 4) : FVec Ideal S512x256 .f32 :=
  (View.whole cc0_scratch1).readCov (P3 m c t) (Rect.unit (s := S512x5120) ![0, 3072 + 256 * g.val] S512x256.size (by revert g; decide)).toLoadRect
abbrev gld (t : Fin cfg0.N) (k : Fin 4) : FVec Ideal S1x256 .f32 :=
  View.ld (iblk m c 4 t) (Rect.unit (s := S1x1024) ![0, 256 * k.val] S1x256.size (by revert k; decide))
abbrev bld (t : Fin cfg0.N) (k : Fin 4) : FVec Ideal S1x256 .f32 :=
  View.ld (iblk m c 5 t) (Rect.unit (s := S1x1024) ![0, 256 * k.val] S1x256.size (by revert k; decide))
abbrev sld (t : Fin cfg0.N) (k : Fin 4) : FVec Ideal S1x128x128 .f32 :=
  View.ld (iblk m c 6 t) (Rect.unit (s := S4x128x128) ![k.val, 0, 0] S1x128x128.size (by revert k; decide))
abbrev old (t : Fin cfg0.N) (k : Fin 4) : FVec Ideal S128x256 .f32 :=
  View.ld (iblk m c 7 t) (Rect.unit (s := S128x1024) ![0, 256 * k.val] S128x256.size (by revert k; decide))
abbrev mld (t : Fin cfg0.N) (g : Fin 4) : FVec Ideal S1x256x256 .bf16 :=
  View.ld (iblk m c 2 t) (Rect.unit (s := S4x256x256) ![g.val, 0, 0] S1x256x256.size (by revert g; decide))
abbrev cld (t : Fin cfg0.N) (g : Fin 4) : FVec Ideal S1x256 .f32 :=
  View.ld (iblk m c 3 t) (Rect.unit (s := S1x1024) ![0, 256 * g.val] S1x256.size (by revert g; decide))

variable {A : Args} {w : Wts} (H : Given m c A w)
include H

theorem w_at (t : Fin cfg0.N) (o : ℕ) (b : Fin 5) (ho : o = 1024 * b.val) (inb) (k e : Fin 1024) :
    wld m c t o inb (ix2 k e) = (A.wi k ⟨1024 * b.val + e.val, by omega⟩ : EReal) := by
  subst ho
  rw [← wi_blk m c H t]
  exact MixTile.ld_at _ _ _ _ (Fin.forall_fin_two.2 ⟨(Nat.zero_add _).symm, rfl⟩)

theorem sec5 (t : Fin cfg0.N) (o : ℕ) (b : Fin 5) (ho : o = 1024 * b.val) (inb) (i : Fin 512) (e : Fin 1024) :
    k0_pay5 (F := Ideal) (iblk m c 0 t) (wld m c t o inb) (ix2 i e) = (A.sec b (trow t i) e : EReal) :=
  pay5_at (x_blk m c H t i) (w_at m c H t o b ho inb) e
theorem sec0 (t : Fin cfg0.N) (inb) (i : Fin 512) (e : Fin 1024) : k0_pay4 (F := Ideal) (iblk m c 0 t) (wld m c t 0 inb) (ix2 i e) = (A.sec 0 (trow t i) e : EReal) :=
  pay4_at (x_blk m c H t i) (w_at m c H t 0 0 rfl inb) e
theorem sec6 (t : Fin cfg0.N) (o : ℕ) (b : Fin 5) (ho : o = 1024 * b.val) (inb) (i : Fin 512) (e : Fin 1024) :
    k0_pay6 (F := Ideal) (iblk m c 0 t) (wld m c t o inb) (ix2 i e) = (A.sec b (trow t i) e : EReal) :=
  pay6_at (x_blk m c H t i) (w_at m c H t o b ho inb) e

theorem u_ld (t : Fin cfg0.N) (n k : Fin 4) (s : Fin 128) (d : Fin 256) : uld m c t n k (ix2 s d) = (A.sec 1 (row (cidx t n) s) (col k d) : EReal) := by
  refine (MixDh.cov_at (ix2 s d) (ix2 (crow n s) ⟨1024 + (col k d).val, by omega⟩) ?_).trans ?_
  · refine Fin.forall_fin_two.2 ⟨rfl, ?_⟩
    show 1024 + (col k d).val = 1024 + 256 * k.val + d.val
    rw [MixTile.val_col, Nat.add_assoc]
  · refine (MixTile.hit _ (ix2 (crow n s) (col k d)) ?_).trans ?_
    · exact Fin.forall_fin_two.2 ⟨(Nat.zero_add _).symm, rfl⟩
    · exact (sec6 m c H t 1024 1 rfl inb_S1024x5120_S1024x1024_0_1024 (crow n s) (col k d)).trans (congrArg (fun r => (A.sec 1 r (col k d) : EReal)) (trow_crow t n s))
theorem v_ld (t : Fin cfg0.N) (n k : Fin 4) (s : Fin 128) (d : Fin 256) : vld m c t n k (ix2 s d) = (A.sec 2 (row (cidx t n) s) (col k d) : EReal) := by
  refine (MixDh.cov_at (ix2 s d) (ix2 (crow n s) ⟨2048 + (col k d).val, by omega⟩) ?_).trans ?_
  · refine Fin.forall_fin_two.2 ⟨rfl, ?_⟩
    show 2048 + (col k d).val = 2048 + 256 * k.val + d.val
    rw [MixTile.val_col, Nat.add_assoc]
  · refine (MixTile.hit _ (ix2 (crow n s) (col k d)) ?_).trans ?_
    · exact Fin.forall_fin_two.2 ⟨(Nat.zero_add _).symm, rfl⟩
    · exact (sec6 m c H t 2048 2 rfl inb_S1024x5120_S1024x1024_0_2048 (crow n s) (col k d)).trans (congrArg (fun r => (A.sec 2 r (col k d) : EReal)) (trow_crow t n s))
theorem z_ld (t : Fin cfg0.N) (n k : Fin 4) (s : Fin 128) (d : Fin 256) : zld m c t n k (ix2 s d) = (A.sec 4 (row (cidx t n) s) (col k d) : EReal) := by
  refine (MixDh.cov_at (ix2 s d) (ix2 (crow n s) ⟨4096 + (col k d).val, by omega⟩) ?_).trans ?_
  · refine Fin.forall_fin_two.2 ⟨rfl, ?_⟩
    show 4096 + (col k d).val = 4096 + 256 * k.val + d.val
    rw [MixTile.val_col, Nat.add_assoc]
  · refine (MixTile.hit _ (ix2 (crow n s) (col k d)) ?_).trans ?_
    · exact Fin.forall_fin_two.2 ⟨(Nat.zero_add _).symm, rfl⟩
    · exact (sec6 m c H t 4096 4 rfl inb_S1024x5120_S1024x1024_0_4096 (crow n s) (col k d)).trans (congrArg (fun r => (A.sec 4 r (col k d) : EReal)) (trow_crow t n s))
theorem a_ld (t : Fin cfg0.N) (g : Fin 4) (i : Fin 512) (d : Fin 256) : ald m c t g (ix2 i d) = (A.sec 0 (trow t i) (col g d) : EReal) := by
  refine (MixDh.cov_at (ix2 i d) (ix2 i ⟨0 + (col g d).val, by omega⟩) ?_).trans ?_
  · exact Fin.forall_fin_two.2 ⟨(Nat.zero_add _).symm, (Nat.zero_add _).trans (MixTile.val_col g d)⟩
  · refine (MixTile.hit _ (ix2 i (col g d)) ?_).trans ?_
    · exact Fin.forall_fin_two.2 ⟨(Nat.zero_add _).symm, rfl⟩
    · exact sec0 m c H t inb_S1024x5120_S1024x1024_0_0 i (col g d)
theorem q_ld (t : Fin cfg0.N) (g : Fin 4) (i : Fin 512) (d : Fin 256) : qld m c t g (ix2 i d) = (A.sec 3 (trow t i) (col g d) : EReal) := by
  refine (MixDh.cov_at (ix2 i d) (ix2 i ⟨3072 + (col g d).val, by omega⟩) ?_).trans ?_
  · refine Fin.forall_fin_two.2 ⟨(Nat.zero_add _).symm, ?_⟩
    show 3072 + (col g d).val = 3072 + 256 * g.val + d.val
    rw [MixTile.val_col, Nat.add_assoc]
  · refine (MixTile.hit _ (ix2 i (col g d)) ?_).trans ?_
    · exact Fin.forall_fin_two.2 ⟨(Nat.zero_add _).symm, rfl⟩
    · exact sec6 m c H t 3072 3 rfl inb_S1024x5120_S1024x1024_0_3072 i (col g d)

/-- The blocks of head `k` in chunk `n` hold the chunk's reals and the head's weights. -/
theorem chunk (t : Fin cfg0.N) (n k : Fin 4) :
    FwdChunk.Blk (A.chunk (cidx t n) k) w k (uld m c t n k) (vld m c t n k) (zld m c t n k) (old m c t k) (gld m c t k) (bld m c t k) (sld m c t k) where
  u := u_ld m c H t n k
  v := v_ld m c H t n k
  z := z_ld m c H t n k
  sb s d := (MixTile.ld_at _ _ _ _ (Fin.forall_fin_two.2 ⟨(Nat.zero_add _).symm, MixTile.val_col k d⟩)).trans (sb_blk m c H t s k d)
  lg d := (MixTile.ld_at _ _ _ _ (Fin.forall_fin_two.2 ⟨(Nat.zero_add _).symm, MixTile.val_col k d⟩)).trans (lg_blk m c H t (col k d))
  lb d := (MixTile.ld_at _ _ _ _ (Fin.forall_fin_two.2 ⟨(Nat.zero_add _).symm, MixTile.val_col k d⟩)).trans (lb_blk m c H t (col k d))
  sw s j := (MixTile.ld_at _ _ _ _ (Fin.forall_fin_succ.2 ⟨(Nat.add_zero _).symm, Fin.forall_fin_two.2 ⟨(Nat.zero_add _).symm, (Nat.zero_add _).symm⟩⟩)).trans (sw_blk m c H t k s j)

theorem m_ld (t : Fin cfg0.N) (g : Fin 4) (k d : Fin 256) : mld m c t g (ix3 0 k d) = w.pw g k d :=
  (MixTile.ld_at _ _ _ _ (Fin.forall_fin_succ.2 ⟨(Nat.add_zero _).symm, Fin.forall_fin_two.2 ⟨(Nat.zero_add _).symm, (Nat.zero_add _).symm⟩⟩)).trans (pw_blk m c H t g k d)
theorem c_ld (t : Fin cfg0.N) (g : Fin 4) (d : Fin 256) : cld m c t g (ix2 0 d) = w.ps (col g d) :=
  (MixTile.ld_at _ _ _ _ (Fin.forall_fin_two.2 ⟨(Nat.zero_add _).symm, MixTile.val_col g d⟩)).trans (ps_blk m c H t (col g d))

end Cert.FwdSec

end
-- ==== Proof.FwdHalo.lean ====
/- The rows that the mixers' forward kernel keeps of the tile before, and the window sums it takes over them. -/
module

public import proofs.«01_k».proof.Proof.FwdSec

@[expose] public section

set_option maxRecDepth 16384
set_option maxHeartbeats 200000

noncomputable section

namespace Cert.FwdHalo

open Cert.MixModel Cert.FwdHost Cert.FwdTile Cert.FwdSec Cert.FwdPool Cert.Lift Cert.Norm Cert.FwdIdeal Cert.FwdIdeal.Gen Idealize.ShloMosaic Idealize.ShloMosaic.TcCoe
  Idealize.ShloMosaic.Tactic
open Idealize.SL.Sem

variable (m : (ℓ : Loc nD τ sig) → Buf (Elt Ideal) ℓ) (c : Dev nD)

/-- What the body stores of a tile's rows to be pooled, below the sixteen rows kept. -/
abbrev low (t : Fin cfg0.N) : View.Piece (Elt Ideal) S528x1024 .f32 :=
  ⟨Rect.unit ![16, 0] ![512, 1024] inb_S528x1024_S512x1024_16_0, k0_pay17 (k0_pay4 (iblk m c 0 t) (wld m c t 0 inb_S1024x5120_S1024x1024_0_0))⟩
abbrev zero : View.Piece (Elt Ideal) S528x1024 .f32 := ⟨Rect.unit ![0, 0] ![16, 1024] inb_S528x1024_S16x1024_0_0, k0_pay2 (F := Ideal)⟩

/-- Where a group's rows shifted by `k` are read. -/
abbrev rect (k : ℕ) (g : Fin 4) : Rect S528x1024 :=
  Rect.unit (s := S528x1024) ![16 - k, 256 * g.val] S512x256.size (Fin.forall_fin_two.2 ⟨by show 16 - k + 512 ≤ 528; omega, by show 256 * g.val + 256 ≤ 1024; omega⟩)

/-- A group's rows shifted by `k`, as the body reads them at the first tile and at a later one. -/
abbrev xA (t : Fin cfg0.N) (g : Fin 4) (k : ℕ) : FVec Ideal S512x256 .f32 := (View.whole cc0_scratch0).readCov [low m c t, zero] (rect k g).toLoadRect
abbrev xB (f : (View.whole cc0_scratch0).ty.Contents (Elt Ideal)) (t : Fin cfg0.N) (g : Fin 4) : ℕ → FVec Ideal S512x256 .f32
  | 0 => (View.whole cc0_scratch0).readCov [low m c t] (rect 0 g).toLoadRect
  | k + 1 => View.ld (View.read (Elt Ideal) (View.whole cc0_scratch0) ((View.whole cc0_scratch0).writes (Elt Ideal) f [low m c t])) (rect (k + 1) g)

/-- The sum of the first rows. -/
def tot (x : ℕ → FVec Ideal S512x256 .f32) : ℕ → FVec Ideal S512x256 .f32
  | 0 => x 0
  | n + 1 => addf (tot x n) (x (n + 1))

theorem tot_at (x : ℕ → FVec Ideal S512x256 .f32) (f : ℕ → ℝ) (i : S512x256.Idx) :
    ∀ n, (∀ k, k ≤ n → x k i = (f k : EReal)) → tot x n i = ((∑ k ∈ Finset.range (n + 1), f k : ℝ) : EReal)
  | 0, h => one (h 0 le_rfl)
  | n + 1, h => plus (tot_at x f i n fun k hk => h k (Nat.le_succ_of_le hk)) (h (n + 1) le_rfl)

variable {A : Args} {ws : Wts} (H : Given m c A ws)
include H

theorem low_at (t : Fin cfg0.N) (i : Fin 512) (g : Fin 4) (d : Fin 256) :
    k0_pay17 (F := Ideal) (k0_pay4 (iblk m c 0 t) (wld m c t 0 inb_S1024x5120_S1024x1024_0_0)) (ix2 i (col g d)) = (hal A t.val g d (16 + i.val) : EReal) := by
  pointwise [k0_pay17]
  refine (sec0 m c H t _ i (col g d)).trans (congrArg _ ?_)
  rw [hal, if_pos (by omega), show 512 * t.val + (16 + i.val) - 16 = (trow t i).val by show _ = 512 * t.val + i.val; omega]
  exact (WinSum.ext_val (fun r => A.sec 0 r (col g d)) (trow t i)).symm

/-- The sixteen rows kept for the next tile. -/
theorem kept (t : Fin cfg0.N) (j : Fin 16) (g : Fin 4) (d : Fin 256) :
    (outsAt0 m c t.val t.isLt).2.2.2.2 (ix2 (⟨0 + j.val, by omega⟩ : Fin 528) (col g d)) = (hal A (t.val + 1) g d j.val : EReal) := by
  have L : hal A t.val g d (16 + (496 + j.val)) = hal A (t.val + 1) g d j.val := by
    rw [hal, hal, show 512 * (t.val + 1) + j.val = 512 * t.val + (16 + (496 + j.val)) by omega]
  by_cases h0 : t.val % 16 = 0
  on_goal 1 => rw [outsAt0_A m c t h0]
  on_goal 2 => rw [outsAt0_B m c t h0]
  all_goals
    frame_out
    try simp (disch := decide) only [View.readCov_skip, View.readCov_cons_toLoadRect, read_unread_whole]
    refine (MixTile.hit _ (ix2 j (col g d)) ?_).trans ?_
    · refine Fin.forall_fin_two.2 ⟨rfl, ?_⟩
      show (col g d).val = 0 + (col g d).val
      omega
    pointwise [k0_pay30]
    refine (MixDh.cov_at (ix2 j (col g d)) (ix2 (⟨512 + j.val, by omega⟩ : Fin 528) (col g d)) ?_).trans ?_
    · refine Fin.forall_fin_two.2 ⟨rfl, ?_⟩
      show (col g d).val = 0 + (col g d).val
      omega
    refine (MixTile.hit _ (ix2 (⟨496 + j.val, by omega⟩ : Fin 512) (col g d)) ?_).trans ?_
    · refine Fin.forall_fin_two.2 ⟨?_, ?_⟩
      · show 512 + j.val = 16 + (496 + j.val)
        omega
      · show (col g d).val = 0 + (col g d).val
        omega
    · refine (low_at m c H t _ g d).trans ?_
      exact congrArg (fun z : ℝ => (z : EReal)) L

theorem xA_at (t : Fin cfg0.N) (h0 : t.val % 16 = 0) (g : Fin 4) (i : Fin 512) (d : Fin 256) (k : ℕ) (hk : k ≤ 16) :
    xA m c t g k (ix2 i d) = (hal A t.val g d (16 + i.val - k) : EReal) := by
  have ht := lt16 t
  refine (MixDh.cov_at (ix2 i d) (ix2 (⟨16 + i.val - k, by omega⟩ : Fin 528) (col g d)) ?_).trans ?_
  · refine Fin.forall_fin_two.2 ⟨?_, MixTile.val_col g d⟩
    show 16 + i.val - k = 16 - k + i.val
    omega
  by_cases h : k ≤ i.val
  · refine (MixTile.hit _ (ix2 (⟨i.val - k, by omega⟩ : Fin 512) (col g d)) ?_).trans ?_
    · refine Fin.forall_fin_two.2 ⟨?_, ?_⟩
      · show 16 + i.val - k = 16 + (i.val - k)
        omega
      · show (col g d).val = 0 + (col g d).val
        omega
    · refine (low_at m c H t _ g d).trans ?_
      exact congrArg (fun j => (hal A t.val g d j : EReal)) (show 16 + (i.val - k) = 16 + i.val - k by omega)
  · refine (MixTile.miss _ 0 ?_).trans ?_
    · exact Or.inl (show 16 + i.val - k < 16 by omega)
    refine (MixTile.hit _ (ix2 (⟨16 + i.val - k, by omega⟩ : Fin 16) (col g d)) ?_).trans ?_
    · refine Fin.forall_fin_two.2 ⟨?_, ?_⟩
      · show 16 + i.val - k = 0 + (16 + i.val - k)
        omega
      · show (col g d).val = 0 + (col g d).val
        omega
    rw [hal, if_neg (by omega)]
    pointwise [k0_pay2]
    rfl

theorem xB_zero (f : (View.whole cc0_scratch0).ty.Contents (Elt Ideal)) (t : Fin cfg0.N) (g : Fin 4) (i : Fin 512) (d : Fin 256) :
    xB m c f t g 0 (ix2 i d) = (hal A t.val g d (16 + i.val) : EReal) := by
  show (View.whole cc0_scratch0).readCov [low m c t] (rect 0 g).toLoadRect (ix2 i d) = _
  refine (MixDh.cov_at (ix2 i d) (ix2 (⟨16 + i.val, by omega⟩ : Fin 528) (col g d)) ?_).trans ?_
  · exact Fin.forall_fin_two.2 ⟨rfl, MixTile.val_col g d⟩
  refine (MixTile.hit _ (ix2 i (col g d)) ?_).trans ?_
  · refine Fin.forall_fin_two.2 ⟨rfl, ?_⟩
    show (col g d).val = 0 + (col g d).val
    omega
  · exact low_at m c H t i g d

theorem xB_succ (t : Fin cfg0.N) (h0 : ¬t.val % 16 = 0) (f : (View.whole cc0_scratch0).ty.Contents (Elt Ideal)) (hlt : t.val - 1 < cfg0.N)
    (hf : View.read (Elt Ideal) (View.whole cc0_scratch0) f = (outsAt0 m c (t.val - 1) hlt).2.2.2.2)
    (g : Fin 4) (i : Fin 512) (d : Fin 256) (k : ℕ) (hk : k + 1 ≤ 16) :
    xB m c f t g (k + 1) (ix2 i d) = (hal A t.val g d (16 + i.val - (k + 1)) : EReal) := by
  have ht := lt16 t
  show View.ld (View.read (Elt Ideal) (View.whole cc0_scratch0) ((View.whole cc0_scratch0).writes (Elt Ideal) f [low m c t])) (rect (k + 1) g) (ix2 i d) = _
  refine (MixTile.ld_at _ _ (ix2 i d) (ix2 (⟨16 + i.val - (k + 1), by omega⟩ : Fin 528) (col g d)) ?_).trans ?_
  · refine Fin.forall_fin_two.2 ⟨?_, MixTile.val_col g d⟩
    show 16 + i.val - (k + 1) = 16 - (k + 1) + i.val
    omega
  by_cases h : k + 1 ≤ i.val
  · refine (MixHalo.whit _ (ix2 (⟨i.val - (k + 1), by omega⟩ : Fin 512) (col g d)) ?_).trans ?_
    · refine Fin.forall_fin_two.2 ⟨?_, ?_⟩
      · show 16 + i.val - (k + 1) = 16 + (i.val - (k + 1))
        omega
      · show (col g d).val = 0 + (col g d).val
        omega
    · refine (low_at m c H t _ g d).trans ?_
      exact congrArg (fun j => (hal A t.val g d j : EReal)) (show 16 + (i.val - (k + 1)) = 16 + i.val - (k + 1) by omega)
  · refine (MixHalo.wmiss _ 0 ?_).trans ?_
    · exact Or.inl (show 16 + i.val - (k + 1) < 16 by omega)
    have K := kept m c H ⟨t.val - 1, hlt⟩ (⟨16 + i.val - (k + 1), by omega⟩ : Fin 16) g d
    rw [show (⟨t.val - 1, hlt⟩ : Fin cfg0.N).val + 1 = t.val by show t.val - 1 + 1 = _; omega] at K
    refine (congrFun hf _).trans (Eq.trans ?_ K)
    exact congrArg (fun j => (outsAt0 m c (t.val - 1) hlt).2.2.2.2 (ix2 j (col g d))) (Fin.ext (Nat.zero_add _).symm)

theorem xB_at (t : Fin cfg0.N) (h0 : ¬t.val % 16 = 0) (f : (View.whole cc0_scratch0).ty.Contents (Elt Ideal)) (hlt : t.val - 1 < cfg0.N)
    (hf : View.read (Elt Ideal) (View.whole cc0_scratch0) f = (outsAt0 m c (t.val - 1) hlt).2.2.2.2)
    (g : Fin 4) (i : Fin 512) (d : Fin 256) : ∀ k, k ≤ 16 → xB m c f t g k (ix2 i d) = (hal A t.val g d (16 + i.val - k) : EReal)
  | 0, _ => xB_zero m c H f t g i d
  | k + 1, hk => xB_succ m c H t h0 f hlt hf g i d k hk

/-- The pooled values of a tile, over rows that hold what the windows reach. -/
theorem pooled (t : Fin cfg0.N) (g : Fin 4) (x : ℕ → FVec Ideal S512x256 .f32) (w : ℕ) (hw : w + 1 = Args.width g) (i : Fin 512) (d : Fin 256)
    (hx : ∀ k, k ≤ 16 → x k (ix2 i d) = (hal A t.val g d (16 + i.val - k) : EReal)) :
    poolf (BitVec.ofNat 32 (grid0.coords t 0).val) (BitVec.ofNat 32 (w + 1)) (tot x w) (ald m c t g) (ix2 i d) = (A.pool (trow t i) g d : EReal) := by
  have hg := MixModel.width_lt g
  refine pool_at (tr := trow t) (n := t.val) (fun _ => rfl) (lt16 t) g _ _ (tile_word t) (by rw [hw]) _ _ i d ?_ (a_ld m c H t g i d)
  rw [past_hal (tr := trow t) (n := t.val) (fun _ => rfl) g d i (by omega), ← hw]
  exact tot_at x _ _ w fun k hk => hx k (by omega)

end Cert.FwdHalo

end
-- ==== Proof.FwdOut.lean ====
/- The four results of the mixers' forward kernel, tile by tile and as whole arrays. -/
module

public import proofs.«01_k».proof.Proof.FwdHalo
public import proofs.«01_k».proof.Proof.MixOut
public import Idealize.ShloMosaic.Lib.Claim

@[expose] public section

set_option maxRecDepth 16384
set_option maxHeartbeats 2000000

noncomputable section

namespace Cert.FwdOut

open Cert.MixModel Cert.FwdHost Cert.FwdTile Cert.FwdSec Cert.FwdPool Cert.FwdHalo Cert.Lift Cert.Norm Cert.FwdIdeal Cert.FwdIdeal.Gen Idealize.ShloMosaic
  Idealize.ShloMosaic.TcCoe Idealize.ShloMosaic.Tactic
open Idealize.SL.Sem

variable (m : (ℓ : Loc nD τ sig) → Buf (Elt Ideal) ℓ) (c : Dev nD)

variable {A : Args} {w : Wts} (H : Given m c A w)
include H

theorem xb_tile (t : Fin cfg0.N) (i : Fin 512) (e : Fin 1024) : (outsAt0 m c t.val t.isLt).2.2.2.1 (ix2 i e) = (A.x (trow t i) e : EReal) := by
  have X := x_blk m c H t i e
  by_cases h0 : t.val % 16 = 0
  on_goal 1 => rw [outsAt0_A m c t h0]
  on_goal 2 => rw [outsAt0_B m c t h0]
  all_goals
    frame_out
    try simp (disch := decide) only [View.readCov_skip, View.readCov_cons_toLoadRect, read_unread_whole]
    pointwise [k0_pay3]
    exact X

/-- Column `e` of section `b` of the four kept. -/
def scol (b : Fin 4) (e : Fin 1024) : Fin 4096 := ⟨1024 * b.val + e.val, by omega⟩

theorem hb_tile (t : Fin cfg0.N) (i : Fin 512) (b : Fin 4) (e : Fin 1024) :
    (outsAt0 m c t.val t.isLt).1 (ix2 i (scol b e)) = (A.sec b.succ (trow t i) e : EReal) := by
  have S1 := sec5 m c H t 1024 1 rfl inb_S1024x5120_S1024x1024_0_1024 i e
  have S2 := sec5 m c H t 2048 2 rfl inb_S1024x5120_S1024x1024_0_2048 i e
  have S3 := sec5 m c H t 3072 3 rfl inb_S1024x5120_S1024x1024_0_3072 i e
  have S4 := sec5 m c H t 4096 4 rfl inb_S1024x5120_S1024x1024_0_4096 i e
  by_cases h0 : t.val % 16 = 0
  on_goal 1 => rw [outsAt0_A m c t h0]
  on_goal 2 => rw [outsAt0_B m c t h0]
  all_goals
    frame_out
    try simp (disch := decide) only [View.readCov_skip, View.readCov_cons_toLoadRect, read_unread_whole]
    fin_cases b
  all_goals
    repeat (refine (MixTile.miss _ 1 ?_).trans ?_; on_goal 1 => (left; show 1024 * _ + e.val < _; simp <;> omega))
    refine (MixTile.hit _ (ix2 i e) ?_).trans ?_
    · refine Fin.forall_fin_two.2 ⟨?_, ?_⟩
      · show i.val = 0 + i.val
        omega
      · rfl
  · pointwise [k0_pay7]
    exact S1
  · pointwise [k0_pay10]
    exact S2
  · pointwise [k0_pay13]
    exact S3
  · pointwise [k0_pay16]
    exact S4
  · pointwise [k0_pay7]
    exact S1
  · pointwise [k0_pay10]
    exact S2
  · pointwise [k0_pay13]
    exact S3
  · pointwise [k0_pay16]
    exact S4

theorem pooled_tile (t : Fin cfg0.N) (i : Fin 512) (g : Fin 4) (d : Fin 256) :
    (outsAt0 m c t.val t.isLt).2.2.1 (ix2 i (col g d)) = (A.pool (trow t i) g d : EReal) := by
  by_cases h0 : t.val % 16 = 0
  on_goal 1 =>
    have P0 := pooled m c H t 0 (xA m c t 0) 1 rfl i d (xA_at m c H t h0 0 i d)
    have P1 := pooled m c H t 1 (xA m c t 1) 3 rfl i d (xA_at m c H t h0 1 i d)
    have P2 := pooled m c H t 2 (xA m c t 2) 7 rfl i d (xA_at m c H t h0 2 i d)
    have P3 := pooled m c H t 3 (xA m c t 3) 15 rfl i d (xA_at m c H t h0 3 i d)
    rw [outsAt0_A m c t h0]
  on_goal 2 =>
    have hlt : t.val - 1 < cfg0.N := lt_of_le_of_lt (Nat.sub_le _ _) t.isLt
    have hx (g : Fin 4) := xB_at m c H t h0 _ hlt (read_unread_whole cc0_scratch0 (Memref.isWhole_whole _) (outsAt0 m c (t.val - 1) hlt).2.2.2.2) g i d
    have P0 := pooled m c H t 0 _ 1 rfl i d (hx 0)
    have P1 := pooled m c H t 1 _ 3 rfl i d (hx 1)
    have P2 := pooled m c H t 2 _ 7 rfl i d (hx 2)
    have P3 := pooled m c H t 3 _ 15 rfl i d (hx 3)
    rw [outsAt0_B m c t h0]
  all_goals
    frame_out
    try simp (disch := decide) only [View.readCov_skip, View.readCov_cons_toLoadRect, read_unread_whole]
    fin_cases g
  all_goals
    repeat (refine (MixTile.miss _ 1 ?_).trans ?_; on_goal 1 => (left; show (col _ d).val < _; rw [MixTile.val_col]; simp <;> omega))
    refine (MixTile.hit _ (ix2 i d) ?_).trans ?_
    · refine Fin.forall_fin_two.2 ⟨?_, MixTile.val_col _ d⟩
      show i.val = 0 + i.val
      omega
  · exact P0
  · exact P1
  · exact P2
  · exact P3
  · exact P0
  · exact P1
  · exact P2
  · exact P3

end Cert.FwdOut

end
-- ==== Proof.FwdY.lean ====
/- The mixed and gated values of the mixers' forward kernel, tile by tile. -/
module

public import proofs.«01_k».proof.Proof.FwdHalo
public import proofs.«01_k».proof.Proof.MixOut
public import Idealize.ShloMosaic.Lib.Claim

@[expose] public section

set_option maxRecDepth 16384
set_option maxHeartbeats 2000000

noncomputable section

namespace Cert.FwdY

open Cert.MixModel Cert.FwdHost Cert.FwdTile Cert.FwdSec Cert.FwdPool Cert.FwdHalo Cert.Lift Cert.Norm Cert.FwdIdeal Cert.FwdIdeal.Gen Idealize.ShloMosaic
  Idealize.ShloMosaic.TcCoe Idealize.ShloMosaic.Tactic
open Idealize.SL.Sem

theorem val_crow (n : Fin 4) (s : Fin 128) : (crow n s).val = 128 * n.val + s.val := rfl

variable (m : (ℓ : Loc nD τ sig) → Buf (Elt Ideal) ℓ) (c : Dev nD)

variable {A : Args} {ws : Wts} (H : Given m c A ws)
include H

/-- The half of the gating unit, chunk by chunk and head by head. -/
theorem sgu (t : Fin cfg0.N) (n k : Fin 4) (s : Fin 128) (d : Fin 256) :
    (outsAt0 m c t.val t.isLt).2.1 (ix2 (crow n s) (⟨1024 + (col k d).val, by omega⟩ : Fin 2048)) = ws.y (A.chunk (cidx t n) k) k s d := by
  have Y := FwdChunk.y_at (chunk m c H t n k) s d
  by_cases h0 : t.val % 16 = 0
  on_goal 1 => rw [outsAt0_A m c t h0]
  on_goal 2 => rw [outsAt0_B m c t h0]
  all_goals
    frame_out
    try simp (disch := decide) only [View.readCov_skip, View.readCov_cons_toLoadRect, read_unread_whole]
    fin_cases n <;> fin_cases k
  all_goals
    repeat (first
      | (refine (MixTile.miss _ 1 ?_).trans ?_; on_goal 1 => (left; show 1024 + (col _ d).val < _; rw [MixTile.val_col]; simp <;> omega))
      | (refine (MixTile.miss _ 0 ?_).trans ?_; on_goal 1 => (left; show (crow _ s).val < _; rw [val_crow]; simp <;> omega)))
    refine (MixTile.hit _ (ix2 s d) ?_).trans ?_
    · refine Fin.forall_fin_two.2 ⟨val_crow _ s, ?_⟩
      show 1024 + (col _ d).val = _ + d.val
      rw [MixTile.val_col]
      simp <;> omega
    exact Y

/-- The pooled half. -/
theorem mix (t : Fin cfg0.N) (i : Fin 512) (g : Fin 4) (d : Fin 256) :
    (outsAt0 m c t.val t.isLt).2.1 (ix2 i (⟨0 + (col g d).val, by omega⟩ : Fin 2048)) = ws.yp A (trow t i) g d := by
  have Y (g : Fin 4) (x : ℕ → FVec Ideal S512x256 .f32) (w : ℕ) (hw : w + 1 = Args.width g)
      (hx : ∀ i d k, k ≤ 16 → x k (ix2 i d) = (hal A t.val g d (16 + i.val - k) : EReal)) :
      k0_pay29 (F := Ideal) (poolf (BitVec.ofNat 32 (grid0.coords t 0).val) (BitVec.ofNat 32 (w + 1)) (tot x w) (ald m c t g)) (mld m c t g) (qld m c t g) (cld m c t g) (ix2 i d)
        = ws.yp A (trow t i) g d :=
    FwdPool.y_at (tr := trow t) g (fun i d => pooled m c H t g x w hw i d (hx i d))
      (m_ld m c H t g) (q_ld m c H t g) (c_ld m c H t g) i d
  by_cases h0 : t.val % 16 = 0
  on_goal 1 =>
    have Y0 := Y 0 (xA m c t 0) 1 rfl (xA_at m c H t h0 0)
    have Y1 := Y 1 (xA m c t 1) 3 rfl (xA_at m c H t h0 1)
    have Y2 := Y 2 (xA m c t 2) 7 rfl (xA_at m c H t h0 2)
    have Y3 := Y 3 (xA m c t 3) 15 rfl (xA_at m c H t h0 3)
    rw [outsAt0_A m c t h0]
  on_goal 2 =>
    have hlt : t.val - 1 < cfg0.N := lt_of_le_of_lt (Nat.sub_le _ _) t.isLt
    have hx (g : Fin 4) := xB_at m c H t h0 _ hlt (read_unread_whole cc0_scratch0 (Memref.isWhole_whole _) (outsAt0 m c (t.val - 1) hlt).2.2.2.2) g
    have Y0 := Y 0 _ 1 rfl (hx 0)
    have Y1 := Y 1 _ 3 rfl (hx 1)
    have Y2 := Y 2 _ 7 rfl (hx 2)
    have Y3 := Y 3 _ 15 rfl (hx 3)
    rw [outsAt0_B m c t h0]
  all_goals
    clear Y
    frame_out
    try simp (disch := decide) only [View.readCov_skip, View.readCov_cons_toLoadRect, read_unread_whole]
    fin_cases g
  all_goals
    repeat (refine (MixTile.miss _ 1 ?_).trans ?_; on_goal 1 => (left; show 0 + (col _ d).val < _; rw [MixTile.val_col]; simp <;> omega))
    refine (MixTile.hit _ (ix2 i d) ?_).trans ?_
    · refine Fin.forall_fin_two.2 ⟨?_, (Nat.zero_add _).trans (MixTile.val_col _ d)⟩
      show i.val = 0 + i.val
      omega
  · exact Y0
  · exact Y1
  · exact Y2
  · exact Y3
  · exact Y0
  · exact Y1
  · exact Y2
  · exact Y3

end Cert.FwdY

end
-- ==== Proof.FwdRef.lean ====
/- What the forward reference computes, at an index: the pooled values, the mixed and gated ones and the projected tokens. -/
module

public import proofs.«01_k».proof.Proof.FwdModel
public import proofs.«01_k».proof.Proof.MixRefSgu
public import proofs.«01_k».proof.Proof.MixRefPool
public import proofs.«01_k».proof.Proof.Gen.FwdRefIdeal.Read

@[expose] public section

set_option maxRecDepth 16384

noncomputable section

namespace Cert.FwdRefRead

open Cert.MixModel Cert.Lift Cert.Norm Cert.FwdRefIdeal Cert.FwdRefIdeal.Gen Cert.FwdRefIdeal.Read Idealize.ShloMosaic

/-- The arrays hold the mixers' weights. -/
structure Weights (w : Wts) (x2 : FVec Ideal S1x4x256x256 .f32) (x3 x4 x5 : FVec Ideal S1x1024 .f32) (x6 : FVec Ideal S1x4x128x128 .f32)
    (x7 : FVec Ideal S1x4x128 .f32) : Prop where
  pw : ∀ g k d, x2 (ix4 0 g k d) = w.pw g k d
  ps : ∀ d, x3 (ix2 0 d) = w.ps d
  lg : ∀ d, x4 (ix2 0 d) = w.lg d
  lb : ∀ d, x5 (ix2 0 d) = w.lb d
  sw : ∀ k s j, x6 (ix4 0 k s j) = w.sw k s j
  sb : ∀ k s, x7 (ix3 0 k s) = w.sb k s

variable {A : Args} {w : Wts} {x0 : FVec Ideal S1x8192x1024 .f32} {y1 : FVec Ideal S8192x1024 .f32} {y2 : FVec Ideal S8192x2048 .f32}
  {x1 : FVec Ideal S1x1024x5120 .f32} {x2 z2 : FVec Ideal S1x4x256x256 .f32} {x3 x4 x5 z3 z4 z5 : FVec Ideal S1x1024 .f32}
  {x6 z6 : FVec Ideal S1x4x128x128 .f32} {x7 z7 : FVec Ideal S1x4x128 .f32}
  (H : Holds A x0 y1 y2 x1 z2 z3 z4 z5 z6 z7) (Hw : Weights w x2 x3 x4 x5 x6 x7)

include H

theorem src_at (r : Fin 8192) (g : Fin 4) (d : Fin 256) : val_main_v8 (F := Ideal) x0 x1 (ix4 0 r g d) = (A.sec 0 r (col g d) : EReal) := by
  have hc := (col g d).isLt
  pointwise [val_main_v8, val_main_v2]
  refine (MixRefRead.h_at H r ⟨(col g d).val, by omega⟩).trans (congrArg (fun e => (A.h r e : EReal)) (Fin.ext ?_))
  show (col g d).val = 1024 * 0 + (col g d).val
  omega

theorem run_at (r : Fin 8192) (g : Fin 4) (d : Fin 256) :
    val_main_v9 (F := Ideal) x0 x1 (ix4 0 r g d) = ((∑ j ∈ Finset.range (r.val + 1), A.src g d j : ℝ) : EReal) := by
  have hv : val_main_call0_call0_v0 (F := Ideal) (Shape.Idx.first h_S_) = 0 := by
    pointwise [val_main_call0_call0_v0, val_main_call0_call0_cst]
  have e := WinSum.window (L := 8191) (H := 0) reduceWindows_S1x8192x4x256_S1x8192x4x256_w1s1p0_0_w8192s1p8191_0_w1s1p0_0_w1s1p0_0 (val_main_v8 (F := Ideal) x0 x1) hv r g d
  unfold val_main_v9 Host.reduceWindowAdd
  refine e.trans ?_
  rw [Args.src, ← WinSum.running, ← coe_sum]
  refine Finset.sum_congr rfl fun k _ => ?_
  by_cases h : 8191 ≤ r.val + k.val ∧ r.val + k.val - 8191 < 8192
  · rw [dif_pos h, dif_pos h]
    exact src_at H _ g d
  · rw [dif_neg h, dif_neg h, EReal.coe_zero]

/-- The running sum up to the token before the window. -/
theorem shifted_at (r : Fin 8192) (g : Fin 4) (d : Fin 256) : val_main_v22 (F := Ideal) x0 x1 (ix4 0 r g d)
    = ((if Args.width g ≤ r.val then ∑ j ∈ Finset.range (r.val - Args.width g + 1), A.src g d j else 0 : ℝ) : EReal) := by
  by_cases h : Args.width g ≤ r.val
  · rw [if_pos h]
    fin_cases g
    · change 2 ≤ r.val at h
      pointwise [val_main_v22, val_main_v12, val_main_v11]
      rw [dif_neg (show ¬ r.val < 2 by omega)]
      exact run_at H ⟨r.val - 2, by omega⟩ 0 d
    · change 4 ≤ r.val at h
      pointwise [val_main_v22, val_main_v15, val_main_v14]
      rw [dif_neg (show ¬ r.val < 4 by omega)]
      exact run_at H ⟨r.val - 4, by omega⟩ 1 d
    · change 8 ≤ r.val at h
      pointwise [val_main_v22, val_main_v18, val_main_v17]
      rw [dif_neg (show ¬ r.val < 8 by omega)]
      exact run_at H ⟨r.val - 8, by omega⟩ 2 d
    · change 16 ≤ r.val at h
      pointwise [val_main_v22, val_main_v21, val_main_v20]
      rw [dif_neg (show ¬ r.val < 16 by omega)]
      exact run_at H ⟨r.val - 16, by omega⟩ 3 d
  · rw [if_neg h]
    fin_cases g
    · change ¬ 2 ≤ r.val at h
      pointwise [val_main_v22, val_main_v12, val_main_v10, val_main_cst]
      rw [dif_pos (show r.val < 2 by omega)]
      rfl
    · change ¬ 4 ≤ r.val at h
      pointwise [val_main_v22, val_main_v15, val_main_v13, val_main_cst_0]
      rw [dif_pos (show r.val < 4 by omega)]
      rfl
    · change ¬ 8 ≤ r.val at h
      pointwise [val_main_v22, val_main_v18, val_main_v16, val_main_cst_1]
      rw [dif_pos (show r.val < 8 by omega)]
      rfl
    · change ¬ 16 ≤ r.val at h
      pointwise [val_main_v22, val_main_v21, val_main_v19, val_main_cst_2]
      rw [dif_pos (show r.val < 16 by omega)]
      rfl

theorem pool_at (r : Fin 8192) (g : Fin 4) (d : Fin 256) : val_main_v39 (F := Ideal) x0 x1 (ix4 0 r g d) = (A.pool r g d : EReal) := by
  have hc : val_main_v35 (F := Ideal) (ix4 0 r g 0) = ((Args.cnt r g : ℝ) : EReal) := MixRefRead.cnt_at r g
  pointwise [val_main_v39, val_main_v38, val_main_v37, val_main_v36]
  rw [src_at H, run_at H, shifted_at H, hc, ← EReal.coe_sub, div_coe (cnt_ne r g), ← EReal.coe_sub]
  refine congrArg (fun q : ℝ => ((q * (1 / (Args.cnt r g : ℝ)) - A.sec 0 r (col g d) : ℝ) : EReal)) ?_
  by_cases h : Args.width g ≤ r.val
  · rw [if_pos h, WinSum.past_late _ h]
  · rw [if_neg h, sub_zero, WinSum.past_early _ (by omega)]

theorem hb_at (r : Fin 8192) (e : Fin 4096) :
    val_main_v122 (F := Ideal) x0 x1 (ix2 r e) = (A.h r ⟨1024 + e.val, by omega⟩ : EReal) := by
  pointwise [val_main_v122, val_main_v121, val_main_v120]
  exact MixRefRead.h_at H r _

theorem pooled_at (r : Fin 8192) (g : Fin 4) (d : Fin 256) :
    val_main_v158 (F := Ideal) x0 x1 (ix2 r (col g d)) = (A.pool r g d : EReal) := by
  pointwise [val_main_v158, val_main_v157, col]
  exact pool_at H r g d

theorem xb_at (r : Fin 8192) (k : Fin 1024) : val_main_v160 (F := Ideal) x0 (ix2 r k) = (A.x r k : EReal) := by
  pointwise [val_main_v160, val_main_v159]
  exact H.x r k

theorem gate_at (r : Fin 8192) (e : Fin 2048) : val_main_v118 (F := Ideal) x0 x1 (ix3 0 r e) = (MixModel.gate (A.h r ⟨3072 + e.val, by omega⟩) : EReal) :=
  MixRefRead.gate_at H r e

include Hw

theorem vln_at (n : Fin 64) (s : Fin 128) (k : Fin 4) (d : Fin 256) :
    val_main_v103 (F := Ideal) x0 x1 x4 x5 (ix5 0 n s k d) = w.vln (A.chunk n k) k s d := by
  have hx : ∀ r k d, val_main_v96 (F := Ideal) x0 x1 (ix4 0 r k d) = (xhat (MixRefRead.gr A r k) d : EReal) := fun r k d => MixRefRead.xhat_at H r k d
  pointwise [val_main_v103, val_main_v102, val_main_v101, val_main_v100, val_main_v99, val_main_v98, val_main_v97, val_main_v77, val_main_v78, val_main_v46, val_main_v47]
  rw [hx, Hw.lg, Hw.lb]
  rfl

omit H in
theorem mw_at (k : Fin 4) (s j : Fin 128) : val_main_v108 (F := Ideal) x6 (ix3 k s j) = w.mw k s j := by
  pointwise [val_main_v108, val_main_call2_v0, val_main_v107, val_main_v106, val_main_v105, val_main_v104, val_main_c_17, val_main_call1_v4, val_main_call1_v2, val_main_call1_v0, val_main_call1_v1, val_main_call1_c, val_main_call1_v3, val_main_call1_v5, val_main_call1_c_0, val_main_v48, val_main_cst_18]
  rw [show IntOp.addi (BitVec.ofNat 32 s.val) 0#32 = BitVec.ofNat 32 s.val from BitVec.add_zero _,
    WordCmp.cmpi_sge_ofNat (by omega) (by omega), Hw.sw]
  by_cases h : j ≤ s
  · rw [show decide (j.val ≤ s.val) = true by simpa using h, Wts.mw, if_pos h]
    rfl
  · rw [show decide (j.val ≤ s.val) = false by simpa using h, Wts.mw, if_neg h]
    exact EReal.coe_zero

theorem sv_at (n : Fin 64) (s : Fin 128) (k : Fin 4) (d : Fin 256) :
    val_main_v115 (F := Ideal) x0 x1 x4 x5 x6 x7 (ix3 0 (row n s) (col k d)) = w.sv (A.chunk n k) k s d := by
  pointwise [val_main_v115, val_main_v114, val_main_v113, val_main_v112, val_main_v111, val_main_v110, val_main_v109, val_main_v49, row, col]
  simp only [vln_at H Hw, mw_at Hw, Hw.sb]
  exact congrArg (· + w.sb k s) (Finset.sum_congr rfl fun j _ => mul_comm _ _)

theorem y_other (n : Fin 64) (s : Fin 128) (k : Fin 4) (d : Fin 256) :
    val_main_v124 (F := Ideal) x0 x1 x2 x3 x4 x5 x6 x7 (ix2 (row n s) ⟨1024 + (col k d).val, by have := (col k d).isLt; omega⟩)
      = w.y (A.chunk n k) k s d := by
  have hc := (col k d).isLt
  have hu : val_main_v62 (F := Ideal) x0 x1 (ix3 0 (row n s) (col k d)) = (gelu (A.sec 1 (row n s) (col k d)) : EReal) :=
    MixRefRead.gelu_u H (row n s) (col k d)
  have h : val_main_v117 (F := Ideal) x0 x1 x2 x3 x4 x5 x6 x7 (ix3 0 (row n s) ⟨1024 + (col k d).val, by omega⟩)
      = (gelu (A.sec 1 (row n s) (col k d)) : EReal) * w.sv (A.chunk n k) k s d := by
    have h' : val_main_v116 (F := Ideal) x0 x1 x4 x5 x6 x7 (ix3 0 (row n s) (col k d))
        = (gelu (A.sec 1 (row n s) (col k d)) : EReal) * w.sv (A.chunk n k) k s d := by
      pointwise [val_main_v116]
      rw [hu, sv_at H Hw]
    pointwise [val_main_v117]
    exact h'
  have h2 : val_main_v119 (F := Ideal) x0 x1 x2 x3 x4 x5 x6 x7 (ix3 0 (row n s) ⟨1024 + (col k d).val, by omega⟩)
      = w.y (A.chunk n k) k s d := by
    pointwise [val_main_v119]
    rw [h, gate_at H]
    refine congrArg (fun f => (gelu (A.sec 1 (row n s) (col k d)) : EReal) * w.sv (A.chunk n k) k s d * (MixModel.gate (A.h (row n s) f) : EReal)) (Fin.ext ?_)
    show 3072 + (1024 + (col k d).val) = 1024 * 4 + (col k d).val
    omega
  pointwise [val_main_v124, val_main_v123]
  exact h2

theorem mixed_at (r : Fin 8192) (g : Fin 4) (d : Fin 256) :
    val_main_v42 (F := Ideal) x0 x1 x2 (ix3 0 r (col g d)) = w.mixed A r g d := by
  pointwise [val_main_v42, val_main_v41, val_main_v40, val_main_v6, col]
  simp only [pool_at H, Hw.pw]
  exact Finset.sum_congr rfl fun k _ => mul_comm _ _

theorem y_pooled (r : Fin 8192) (g : Fin 4) (d : Fin 256) :
    val_main_v124 (F := Ideal) x0 x1 x2 x3 x4 x5 x6 x7 (ix2 r ⟨(col g d).val, by have := (col g d).isLt; omega⟩)
      = w.yp A r g d := by
  have hc := (col g d).isLt
  have h : val_main_v117 (F := Ideal) x0 x1 x2 x3 x4 x5 x6 x7 (ix3 0 r ⟨(col g d).val, by omega⟩)
      = w.mixed A r g d * w.ps (col g d) := by
    have h' : val_main_v45 (F := Ideal) x0 x1 x2 x3 (ix3 0 r (col g d)) = w.mixed A r g d * w.ps (col g d) := by
      pointwise [val_main_v45, val_main_v44, val_main_v43, val_main_v7]
      rw [mixed_at H Hw, Hw.ps]
    pointwise [val_main_v117]
    exact h'
  have h2 : val_main_v119 (F := Ideal) x0 x1 x2 x3 x4 x5 x6 x7 (ix3 0 r ⟨(col g d).val, by omega⟩) = w.yp A r g d := by
    pointwise [val_main_v119]
    rw [h, gate_at H]
    refine congrArg (fun f => w.mixed A r g d * w.ps (col g d) * (MixModel.gate (A.h r f) : EReal)) (Fin.ext ?_)
    show 3072 + (col g d).val = 1024 * 3 + (col g d).val
    omega
  pointwise [val_main_v124, val_main_v123]
  exact h2

end Cert.FwdRefRead

end
-- ==== Proof.FwdClaim.lean ====
/-
  The forward mixers' value claim: over the reals, on finite arguments, the kernel's four results are the reference's.
-/
module

public import proofs.«01_k».proof.Defs
public import proofs.«01_k».proof.Proof.FwdOut
public import proofs.«01_k».proof.Proof.FwdY
public import proofs.«01_k».proof.Proof.FwdRef
public import proofs.«01_k».proof.Proof.MixReal
public import proofs.«01_k».proof.Proof.Gen.FwdIdeal.Frame
public import proofs.«01_k».proof.Proof.Gen.FwdRefIdeal
public import proofs.«01_k».proof.Proof.Gen.Pre_forward_finite
public import Idealize.ShloMosaic.Adequacy
public import Idealize.ShloMosaic.Init
public import Idealize.ShloMosaic.Lib.Claim

@[expose] public section

set_option maxRecDepth 16384
set_option maxHeartbeats 4000000

noncomputable section

namespace Cert.FwdClaim

open Idealize.ShloMosaic Idealize.ShloMosaic.TcCoe Idealize.ShloMosaic.StableHlo Idealize.ShloMosaic.Tactic Idealize.SL.Sem Cert.MixModel Cert.Lift

section arrays

open Cert.FwdIdeal Cert.FwdIdeal.Gen Cert.FwdHost Cert.FwdTile Cert.FwdOut

theorem scol_split (e : Fin 4096) : ∃ b f, e = scol b f :=
  ⟨⟨e.val / 1024, by omega⟩, ⟨e.val % 1024, Nat.mod_lt _ (by norm_num)⟩, Fin.ext (Nat.div_add_mod e.val 1024).symm⟩
theorem half_split (e : Fin 2048) : (∃ k d, e = ⟨0 + (col k d).val, by omega⟩) ∨ ∃ k d, e = ⟨1024 + (col k d).val, by omega⟩ := by
  by_cases h : e.val < 1024
  · obtain ⟨k, d, hk⟩ := MixOut.col_split ⟨e.val, h⟩
    exact .inl ⟨k, d, Fin.ext ((congrArg Fin.val hk).trans (Nat.zero_add _).symm)⟩
  · obtain ⟨k, d, hk⟩ := MixOut.col_split ⟨e.val - 1024, by omega⟩
    have := congrArg Fin.val hk
    exact .inr ⟨k, d, Fin.ext (by show e.val = 1024 + (col k d).val; rw [← this]; show e.val = 1024 + (e.val - 1024); omega)⟩
theorem crow_split (i : Fin 512) : ∃ n s, i = crow n s :=
  ⟨⟨i.val / 128, by omega⟩, ⟨i.val % 128, Nat.mod_lt _ (by norm_num)⟩, Fin.ext (Nat.div_add_mod i.val 128).symm⟩

variable (m : (ℓ : Loc nD τ sig) → Buf (Elt Ideal) ℓ) (c : Dev nD) {A : Args} {w : Wts} (H : Given m c A w)
include H

/-- The array of the four kept sections, after the run. -/
theorem hb_array {G : Fin 8192 → Fin 4096 → EReal} (hG : ∀ r b e, G r (scol b e) = (A.sec b.succ r e : EReal)) :
    (dats m 0 c).arrAt 8 (cfgs 0).N = fun j => G (j 0) (j 1) := by
  refine (dats m 0 c).arrAt_eq_of_covers 8 _ (by decide +kernel) fun t hf y => ?_
  blk_simp
  rw [after0_8]
  refine Eq.trans (b := G (trow t (y 0)) (y 1)) ?_ ?_
  · clear hf
    idx_vars y
    show _ = G (trow t y0) y1
    obtain ⟨b, e, rfl⟩ := scol_split y1
    rw [hG]
    exact hb_tile m c H t y0 b e
  · refine congrArg₂ G (Fin.ext ?_) (Fin.ext ?_) <;> blk_simp [trow, idx t]
    exact congrArg (· + (y 0).val) (Nat.mul_comm _ _)

/-- The array of the mixed and gated values, after the run. -/
theorem y_array {G : Fin 8192 → Fin 2048 → EReal}
    (h0 : ∀ r g d, G r ⟨0 + (col g d).val, by omega⟩ = w.yp A r g d)
    (h1 : ∀ n s k d, G (row n s) ⟨1024 + (col k d).val, by omega⟩ = w.y (A.chunk n k) k s d) :
    (dats m 0 c).arrAt 9 (cfgs 0).N = fun j => G (j 0) (j 1) := by
  refine (dats m 0 c).arrAt_eq_of_covers 9 _ (by decide +kernel) fun t hf y => ?_
  blk_simp
  rw [after0_9]
  refine Eq.trans (b := G (trow t (y 0)) (y 1)) ?_ ?_
  · clear hf
    idx_vars y
    show _ = G (trow t y0) y1
    rcases half_split y1 with ⟨k, d, rfl⟩ | ⟨k, d, rfl⟩
    · rw [h0]
      exact FwdY.mix m c H t y0 k d
    · obtain ⟨n, s, rfl⟩ := crow_split y0
      rw [trow_crow, h1]
      exact FwdY.sgu m c H t n k s d
  · refine congrArg₂ G (Fin.ext ?_) (Fin.ext ?_) <;> blk_simp [trow, idx t]
    exact congrArg (· + (y 0).val) (Nat.mul_comm _ _)

/-- The array of the pooled values, after the run. -/
theorem pooled_array {G : Fin 8192 → Fin 1024 → EReal} (hG : ∀ r g d, G r (col g d) = (A.pool r g d : EReal)) :
    (dats m 0 c).arrAt 10 (cfgs 0).N = fun j => G (j 0) (j 1) := by
  refine (dats m 0 c).arrAt_eq_of_covers 10 _ (by decide +kernel) fun t hf y => ?_
  blk_simp
  rw [after0_10]
  refine Eq.trans (b := G (trow t (y 0)) (y 1)) ?_ ?_
  · clear hf
    idx_vars y
    show _ = G (trow t y0) y1
    obtain ⟨g, d, rfl⟩ := MixOut.col_split y1
    rw [hG]
    exact pooled_tile m c H t y0 g d
  · refine congrArg₂ G (Fin.ext ?_) (Fin.ext ?_) <;> blk_simp [trow, idx t]
    exact congrArg (· + (y 0).val) (Nat.mul_comm _ _)

/-- The array of the tokens, after the run. -/
theorem xb_array {G : Fin 8192 → Fin 1024 → EReal} (hG : ∀ r e, G r e = (A.x r e : EReal)) :
    (dats m 0 c).arrAt 11 (cfgs 0).N = fun j => G (j 0) (j 1) := by
  refine (dats m 0 c).arrAt_eq_of_covers 11 _ (by decide +kernel) fun t hf y => ?_
  blk_simp
  rw [after0_11]
  refine Eq.trans (b := G (trow t (y 0)) (y 1)) ?_ ?_
  · clear hf
    idx_vars y
    show _ = G (trow t y0) y1
    rw [hG]
    exact xb_tile m c H t y0 y1
  · refine congrArg₂ G (Fin.ext ?_) (Fin.ext ?_) <;> blk_simp [trow, idx t]
    exact congrArg (· + (y 0).val) (Nat.mul_comm _ _)

end arrays

/-- The reals the tokens' and the projection's arrays hold, an infinite element read as zero; nothing else. -/
def base (x0 : FVec Ideal ⟨3, ![1, 8192, 1024]⟩ .f32) (x1 : FVec Ideal ⟨3, ![1, 1024, 5120]⟩ .f32) : Args where
  x r d := (x0 (ix3 0 r d)).toReal
  dxr _ _ := 0
  dy _ _ := 0
  wi k e := (x1 (ix3 0 k e)).toReal
  pw _ _ _ := 0
  ps _ := 0
  lg _ := 0
  lb _ := 0
  sw _ _ _ := 0
  sb _ _ := 0
  pl _ _ _ := 0

def args (m : (ℓ : Loc FwdIdeal.nD FwdIdeal.τ FwdIdeal.sig) → Buf (Elt Ideal) ℓ) (c : Dev FwdIdeal.nD) : Args :=
  base (m ((c : Thread FwdIdeal.nD FwdIdeal.τ).loc FwdIdeal.main_arg0)) (m ((c : Thread FwdIdeal.nD FwdIdeal.τ).loc FwdIdeal.main_arg1))

/-- The weights in a device's other argument arrays. -/
def wts (m : (ℓ : Loc FwdIdeal.nD FwdIdeal.τ FwdIdeal.sig) → Buf (Elt Ideal) ℓ) (c : Dev FwdIdeal.nD) : Wts where
  pw g k d := m ((c : Thread FwdIdeal.nD FwdIdeal.τ).loc FwdIdeal.main_arg2) (ix4 0 g k d)
  ps d := m ((c : Thread FwdIdeal.nD FwdIdeal.τ).loc FwdIdeal.main_arg3) (ix2 0 d)
  lg d := m ((c : Thread FwdIdeal.nD FwdIdeal.τ).loc FwdIdeal.main_arg4) (ix2 0 d)
  lb d := m ((c : Thread FwdIdeal.nD FwdIdeal.τ).loc FwdIdeal.main_arg5) (ix2 0 d)
  sw k s j := m ((c : Thread FwdIdeal.nD FwdIdeal.τ).loc FwdIdeal.main_arg6) (ix4 0 k s j)
  sb k s := m ((c : Thread FwdIdeal.nD FwdIdeal.τ).loc FwdIdeal.main_arg7) (ix3 0 k s)

/-- Under the precondition a device's argument arrays hold those reals and weights. -/
theorem given (m : (ℓ : Loc FwdIdeal.nD FwdIdeal.τ FwdIdeal.sig) → Buf (Elt Ideal) ℓ) (hpre : Pre_FwdIdeal_forward_finite m)
    (c : Dev FwdIdeal.nD) : FwdHost.Given m c (args m c) (wts m c) := by
  obtain ⟨h0, h1⟩ := hpre c
  exact ⟨fun r d => real_of_finite h0 _, fun k e => real_of_finite h1 _, fun g k d => rfl, fun d => rfl, fun d => rfl, fun d => rfl,
    fun k s j => rfl, fun k s => rfl⟩

/-- Arrays of tokens and of the projection's weight that hold a device's reals, with zeros for every other array. -/
theorem ref_given {m : (ℓ : Loc FwdIdeal.nD FwdIdeal.τ FwdIdeal.sig) → Buf (Elt Ideal) ℓ} {c : Dev FwdIdeal.nD}
    (H : FwdHost.Given m c (args m c) (wts m c)) {x0 x1}
    (h0 : x0 = m ((c.tc : Thread FwdIdeal.nD FwdIdeal.τ).loc FwdIdeal.main_arg0)) (h1 : x1 = m ((c.tc : Thread FwdIdeal.nD FwdIdeal.τ).loc FwdIdeal.main_arg1)) :
    Holds (args m c) x0 (fun _ => 0) (fun _ => 0) x1 (fun _ => 0) (fun _ => 0) (fun _ => 0) (fun _ => 0) (fun _ => 0) (fun _ => 0) := by
  subst h0 h1
  exact ⟨H.x, fun r d => rfl, fun r k => rfl, H.wi, fun g k d => rfl, fun d => rfl, fun d => rfl, fun d => rfl, fun k s j => rfl, fun k s => rfl⟩

/-- Memories that agree on the arguments: the reference's arrays hold the kernel's weights. -/
theorem ref_weights {m : (ℓ : Loc FwdIdeal.nD FwdIdeal.τ FwdIdeal.sig) → Buf (Elt Ideal) ℓ} {c : Dev FwdIdeal.nD} {x2 x3 x4 x5 x6 x7}
    (h : x2 = m ((c.tc : Thread FwdIdeal.nD FwdIdeal.τ).loc FwdIdeal.main_arg2) ∧ x3 = m ((c.tc : Thread FwdIdeal.nD FwdIdeal.τ).loc FwdIdeal.main_arg3)
      ∧ x4 = m ((c.tc : Thread FwdIdeal.nD FwdIdeal.τ).loc FwdIdeal.main_arg4) ∧ x5 = m ((c.tc : Thread FwdIdeal.nD FwdIdeal.τ).loc FwdIdeal.main_arg5)
      ∧ x6 = m ((c.tc : Thread FwdIdeal.nD FwdIdeal.τ).loc FwdIdeal.main_arg6) ∧ x7 = m ((c.tc : Thread FwdIdeal.nD FwdIdeal.τ).loc FwdIdeal.main_arg7)) :
    FwdRefRead.Weights (wts m c) x2 x3 x4 x5 x6 x7 := by
  obtain ⟨rfl, rfl, rfl, rfl, rfl, rfl⟩ := h
  exact ⟨fun g k d => rfl, fun d => rfl, fun d => rfl, fun d => rfl, fun k s j => rfl, fun k s => rfl⟩

/-- The four results of the kernel are the reference's. -/
theorem algebraic : Cert.algebraic_FwdIdeal_FwdRefIdeal_pre_forward_finite := by
  intro m g m' g' hpre hagree
  refine ⟨fun c => (FwdIdeal.Gen.dats m 0 c).arrAt 8 (FwdIdeal.cfgs 0).N, fun c => (FwdIdeal.Gen.dats m 0 c).arrAt 9 (FwdIdeal.cfgs 0).N,
    fun c => (FwdIdeal.Gen.dats m 0 c).arrAt 10 (FwdIdeal.cfgs 0).N, fun c => (FwdIdeal.Gen.dats m 0 c).arrAt 11 (FwdIdeal.cfgs 0).N, ?_, ?_⟩
  · refine θ_run_mono (θ_run_and (FwdIdeal.Gen.run_main m g) (FwdIdeal.Gen.frame m g)) fun r hr c => ?_
    exact ⟨(hr.1 c).1 8, (hr.1 c).1 9, (hr.1 c).1 10, (hr.1 c).1 11, hr.2.1 c⟩
  · refine θ_run_mono (Cert.FwdRefIdeal.Value.run m' g') fun r hr c => ?_
    obtain ⟨h0, h1, h2, h3, hargs⟩ := hr c
    have H := given m hpre c
    obtain ⟨a0, a1, a2⟩ := hagree c
    have R := ref_given H a0 a1
    have W := ref_weights a2
    have e0 := h0.trans ((FwdRefIdeal.Read.val_main_v122_eq (launchContents m' c)).trans (Eq.trans (funext fun j => by
      idx_vars j) (hb_array m c H (G := fun r e => FwdRefIdeal.Read.val_main_v122 (F := Ideal) _ _ (ix2 r e)) fun r b e =>
        (FwdRefRead.hb_at R r _).trans (congrArg (fun q => ((args m c).h r q : EReal)) (Fin.ext (by
          show 1024 + (1024 * b.val + e.val) = 1024 * (b.val + 1) + e.val
          omega)))).symm))
    have e1 := h1.trans ((FwdRefIdeal.Read.val_main_v124_eq (launchContents m' c)).trans (Eq.trans (funext fun j => by
      idx_vars j) (y_array m c H (G := fun r e => FwdRefIdeal.Read.val_main_v124 (F := Ideal) _ _ _ _ _ _ _ _ (ix2 r e))
        (fun r g d => (congrArg (fun q => FwdRefIdeal.Read.val_main_v124 (F := Ideal) _ _ _ _ _ _ _ _ (ix2 r q)) (Fin.ext (Nat.zero_add _))).trans (FwdRefRead.y_pooled R W r g d))
        fun n s k d => FwdRefRead.y_other R W n s k d).symm))
    have e2 := h2.trans ((FwdRefIdeal.Read.val_main_v158_eq (launchContents m' c)).trans (Eq.trans (funext fun j => by
      idx_vars j) (pooled_array m c H (G := fun r e => FwdRefIdeal.Read.val_main_v158 (F := Ideal) _ _ (ix2 r e)) fun r g d => FwdRefRead.pooled_at R r g d).symm))
    have e3 := h3.trans ((FwdRefIdeal.Read.val_main_v160_eq (launchContents m' c)).trans (Eq.trans (funext fun j => by
      idx_vars j) (xb_array m c H (G := fun r e => FwdRefIdeal.Read.val_main_v160 (F := Ideal) _ (ix2 r e)) fun r e => FwdRefRead.xb_at R r e).symm))
    exact ⟨e0, e1, e2, e3, hargs⟩

end Cert.FwdClaim

end
-- ==== Proof.GradClaim.lean ====
/-
  The value claim about the gradient of the output projection's weight: over the reals, the kernel's tiles of rows added up
  are the reference's one sum over all rows.
-/
module

public import proofs.«01_k».proof.Defs
public import proofs.«01_k».proof.Proof.Gen.GradIdeal.Frame
public import proofs.«01_k».proof.Proof.Gen.GradRefIdeal
public import proofs.«01_k».proof.Proof.Gen.GradRefIdeal.Run
public import proofs.«01_k».proof.Proof.Gen.GradRefIdeal.Read
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Adequacy
public import Idealize.ShloMosaic.Init

@[expose] public section

set_option maxRecDepth 16384
set_option maxHeartbeats 4000000

noncomputable section

namespace Cert.GradClaim

open Idealize.ShloMosaic Idealize.ShloMosaic.TcCoe Idealize.ShloMosaic.StableHlo Idealize.ShloMosaic.Tactic Idealize.SL.Sem

/-- The weight's gradient at an index: over all rows, the input's entry times the output gradient's. -/
def grad (y : FVec Ideal ⟨2, ![8192, 2048]⟩ .f32) (dr : FVec Ideal ⟨2, ![8192, 1024]⟩ .f32) (k : Fin 2048) (e : Fin 1024) : EReal :=
  ∑ r : Fin 8192, y (ix2 r k) * dr (ix2 r e)

section arrays

open Cert.GradIdeal Cert.GradIdeal.Gen

variable (m : (ℓ : Loc nD τ sig) → Buf (Elt Ideal) ℓ) (c : Dev nD)

/-- A device's two arguments. -/
abbrev yA : FVec Ideal ⟨2, ![8192, 2048]⟩ .f32 := m ((c : Thread nD τ).loc main_arg0)
abbrev drA : FVec Ideal ⟨2, ![8192, 1024]⟩ .f32 := m ((c : Thread nD τ).loc main_arg1)

/-- Which block of its array each window holds at a grid point. -/
theorem idx : ∀ t : Fin cfg0.N, win0_0.index t = ![t.val, 0] ∧ win0_1.index t = ![t.val, 0] ∧ win0_2.index t = ![0, 0, 0] :=
  (by decide +kernel : ∀ t : Fin grid0.N, _)

theorem lt8 (t : Fin cfg0.N) : t.val < 8 := lt_of_lt_of_eq t.isLt N_0

/-- Row `i` of a grid point's tile. -/
def trow (t : Fin cfg0.N) (i : Fin 1024) : Fin 8192 := ⟨1024 * t.val + i.val, by have := lt8 t; omega⟩

theorem y_at (r : Fin 8192) (k : Fin 2048) : V m c main_v0 (ix2 r k) = yA m c (ix2 r k) := by
  unfold V
  after_reads_at

theorem dr_at (r : Fin 8192) (e : Fin 1024) : V m c main_v1 (ix2 r e) = drA m c (ix2 r e) := by
  unfold V
  after_reads_at

theorem y_blk (t : Fin cfg0.N) (i : Fin 1024) (k : Fin 2048) :
    iblk m c 0 t (ix2 i k) = yA m c (ix2 (trow t i) k) := by
  rw [← y_at m c (trow t i) k]
  blk_point [iblk, idx t, trow]

theorem dr_blk (t : Fin cfg0.N) (i : Fin 1024) (e : Fin 1024) :
    iblk m c 1 t (ix2 i e) = drA m c (ix2 (trow t i) e) := by
  rw [← dr_at m c (trow t i) e]
  blk_point [iblk, idx t, trow]

/-- A grid point adds to the block the sum over its tile's rows. -/
theorem pay_at (a : Vec Ideal S1024x2048 .bf16) (b : Vec Ideal S1024x1024 .bf16) (o : Vec Ideal S1x2048x1024 .f32) (k : Fin 2048) (e : Fin 1024) :
    k0_pay2 a b o (ix3 0 k e) = o (ix3 0 k e) + ∑ i : Fin 1024, a (ix2 i k) * b (ix2 i e) := by
  pointwise [k0_pay2]

/-- A sum over the tiles and the rows of each is the sum over all rows. -/
theorem sum_rows (f : Fin 8192 → EReal) : ∑ t : Fin cfg0.N, ∑ i, f (trow t i) = ∑ r, f r := by
  rw [← (finProdFinEquiv (m := 8) (n := 1024)).sum_comp, Fintype.sum_prod_type]
  refine Fintype.sum_equiv (finCongr N_0) _ _ fun t => Finset.sum_congr rfl fun i _ => congrArg f (Fin.ext ?_)
  simp [finProdFinEquiv, trow]
  omega

/-- The result's array, after the run: the tiles' sums added up. -/
theorem array : (dats m 0 c).arrAt 2 (cfgs 0).N
    = fun j => grad (yA m c) (drA m c) (j 1) (j 2) := by
  refine (dats m 0 c).arrAt_eq_of_after_last 2 t0_7 (by decide +kernel) _ fun j => ?_
  blk_simp
  rw [after0_2]
  refine (Pipeline.eq_sum_fin_of_reset_step_apply_last (fun n h => outsAt0 m c n h) 8 (fun _ => 0)
    (fun t j => ∑ i : Fin 1024, yA m c (ix2 (trow t i) (j 1)) * drA m c (ix2 (trow t i) (j 2)))
    (fun t h j => ?_) (fun t h j => ?_) (le_of_eq N_0) t0_7 rfl j).trans ?_
  · show outsAt0 m c t.val t.isLt j = _
    rw [outsAt0_A m c t h]
    frame_out
    idx_vars j
    obtain rfl : j0 = 0 := Subsingleton.elim _ _
    rw [pay_at]
    refine congrArg₂ (fun a b : EReal => a + b) ?_ (Finset.sum_congr rfl fun i _ => congrArg₂ (fun a b : EReal => a * b) (y_blk m c t i j1) (dr_blk m c t i j2))
    pointwise [k0_pay1]
  · show outsAt0 m c t.val t.isLt j = _
    rw [outsAt0_B m c t h]
    frame_out
    idx_vars j
    obtain rfl : j0 = 0 := Subsingleton.elim _ _
    rw [pay_at]
    exact congrArg _ (Finset.sum_congr rfl fun i _ => congrArg₂ (fun a b : EReal => a * b) (y_blk m c t i j1) (dr_blk m c t i j2))
  · rw [zero_add]
    exact sum_rows fun r => yA m c (ix2 r (j 1)) * drA m c (ix2 r (j 2))

end arrays

/-- The reference at an index: the same sum. -/
theorem ref_at (y : FVec Ideal ⟨2, ![8192, 2048]⟩ .f32) (dr : FVec Ideal ⟨2, ![8192, 1024]⟩ .f32) (k : Fin 2048) (e : Fin 1024) :
    GradRefIdeal.Read.val_main_v7 (F := Ideal) y dr (ix3 0 k e) = grad y dr k e := by
  pointwise [GradRefIdeal.Read.val_main_v7, GradRefIdeal.Read.val_main_v6, GradRefIdeal.Read.val_main_v5, GradRefIdeal.Read.val_main_v4,
    GradRefIdeal.Read.val_main_v1, grad]
  refine (Fin.sum_univ_one _).trans ?_
  exact Finset.sum_congr rfl fun r _ => mul_comm (dr (ix2 r e) : EReal) (y (ix2 r k))

/-- The kernel's result is the reference's. -/
theorem algebraic : Cert.algebraic_GradIdeal_GradRefIdeal := by
  intro m g m' g' _ hagree
  refine ⟨fun c => (GradIdeal.Gen.dats m 0 c).arrAt 2 (GradIdeal.cfgs 0).N, ?_, ?_⟩
  · refine θ_run_mono (θ_run_and (GradIdeal.Gen.run_main m g) (GradIdeal.Gen.frame m g)) fun r hr c => ?_
    exact ⟨(hr.1 c).1 2, hr.2.1 c⟩
  · refine θ_run_mono (Cert.GradRefIdeal.Value.run m' g') fun r hr c => ?_
    obtain ⟨h, hargs⟩ := hr c
    obtain ⟨a0, a1⟩ := hagree c
    refine ⟨h.trans ((GradRefIdeal.Read.val_main_v7_eq _ _).trans ?_), hargs⟩
    rw [a0, a1]
    refine Eq.trans (funext fun j => ?_) (array m c).symm
    idx_vars j
    obtain rfl : j0 = 0 := Subsingleton.elim _ _
    exact ref_at _ _ j1 j2

end Cert.GradClaim

end
-- ==== Proof.lean ====
/-
  The claims about the backward calls of the head and of the mixers, about the mixers' forward call and about the gradient of
  the output projection's weight: the frames, the ideal twins', the references', and the value claims over the reals.  The
  values are proved in Proof/HeadClaim.lean, Proof/MixClaim.lean, Proof/FwdClaim.lean and Proof/GradClaim.lean; this module
  puts the parts together.
-/
module

public import proofs.«01_k».proof.Defs
public import proofs.«01_k».proof.Proof.Gen.Head.Frame
public import proofs.«01_k».proof.Proof.Gen.HeadIdeal.Frame
public import proofs.«01_k».proof.Proof.Gen.HeadRefIdeal.Run
public import proofs.«01_k».proof.Proof.Gen.Mix.Frame
public import proofs.«01_k».proof.Proof.Gen.MixIdeal.Frame
public import proofs.«01_k».proof.Proof.Gen.MixIdeal.Value
public import proofs.«01_k».proof.Proof.Gen.MixRefIdeal.Run
public import proofs.«01_k».proof.Proof.Gen.MixRefIdeal.Read
public import proofs.«01_k».proof.Proof.Gen.Fwd.Frame
public import proofs.«01_k».proof.Proof.Gen.FwdIdeal.Frame
public import proofs.«01_k».proof.Proof.Gen.FwdIdeal.Value
public import proofs.«01_k».proof.Proof.Gen.FwdRefIdeal.Run
public import proofs.«01_k».proof.Proof.Gen.FwdRefIdeal.Read
public import proofs.«01_k».proof.Proof.Gen.Grad.Frame
public import proofs.«01_k».proof.Proof.Gen.GradIdeal.Frame
public import proofs.«01_k».proof.Proof.Gen.GradIdeal.Value
public import proofs.«01_k».proof.Proof.Gen.GradRefIdeal.Run
public import proofs.«01_k».proof.Proof.Gen.GradRefIdeal.Read
public import proofs.«01_k».proof.Proof.Gen.Pre_forward_finite
public import proofs.«01_k».proof.Proof.Gen.Pre_head_finite
public import proofs.«01_k».proof.Proof.Gen.Pre_mixers_finite
public import proofs.«01_k».proof.Proof.HeadClaim
public import proofs.«01_k».proof.Proof.MixClaim
public import proofs.«01_k».proof.Proof.FwdClaim
public import proofs.«01_k».proof.Proof.GradClaim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The head's reference runs to its end, keeps its arguments and, having no semaphore, leaves every counter at zero. -/
theorem head_reference_frame : Cert.quiescent_HeadRefIdeal := fun m ρ _ =>
  (θ_run Cert.HeadRefIdeal.defs _ _).mono
    (fun r h => ⟨fun c => (h c).2.2.2.2.2.2.2.2.2.2, sem_eq_zero_of_no_sems (by decide) r.2⟩)
    (Cert.HeadRefIdeal.Value.run m ρ)

/-- The mixers' reference runs to its end, keeps its arguments and, having no semaphore, leaves every counter at zero. -/
theorem mixers_reference_frame : Cert.quiescent_MixRefIdeal := fun m ρ _ =>
  (θ_run Cert.MixRefIdeal.defs _ _).mono
    (fun r h => ⟨fun c => (h c).2.2.2.2.2.2.2.2, sem_eq_zero_of_no_sems (by decide) r.2⟩)
    (Cert.MixRefIdeal.Value.run m ρ)

/-- The mixers' forward reference runs to its end, keeps its arguments and, having no semaphore, leaves every counter at zero. -/
theorem forward_reference_frame : Cert.quiescent_FwdRefIdeal := fun m ρ _ =>
  (θ_run Cert.FwdRefIdeal.defs _ _).mono
    (fun r h => ⟨fun c => (h c).2.2.2.2, sem_eq_zero_of_no_sems (by decide) r.2⟩)
    (Cert.FwdRefIdeal.Value.run m ρ)

/-- The reference of the output projection's weight gradient runs to its end, keeps its arguments and, having no semaphore,
leaves every counter at zero. -/
theorem grad_reference_frame : Cert.quiescent_GradRefIdeal := fun m ρ _ =>
  (θ_run Cert.GradRefIdeal.defs _ _).mono
    (fun r h => ⟨fun c => (h c).2, sem_eq_zero_of_no_sems (by decide) r.2⟩)
    (Cert.GradRefIdeal.Value.run m ρ)

/-- The two named constants of gelu's derivative: the kernel's words round them. -/
theorem mixers_preserves : Cert.preserves_Mix_MixIdeal :=
  ⟨IdealRules.named_const.statement Cert.MixIdeal.κ "cubic" .f32 0xBD922279#32 ((-80338380498831 / 1125899906842624 : ℝ) : EReal) rfl,
    IdealRules.named_const.statement Cert.MixIdeal.κ "slope" .f32 0x3E5B33B6#32 ((241015141496493 / 1125899906842624 : ℝ) : EReal) rfl⟩

theorem claim : Cert.Claim :=
  ⟨Cert.Head.Gen.facts, Cert.HeadIdeal.Gen.facts, Cert.HeadRefIdeal.Gen.facts, Cert.Mix.Gen.facts, Cert.MixIdeal.Gen.facts,
    Cert.MixRefIdeal.Gen.facts, Cert.Fwd.Gen.facts, Cert.FwdIdeal.Gen.facts, Cert.FwdRefIdeal.Gen.facts,
    Cert.Grad.Gen.facts, Cert.GradIdeal.Gen.facts, Cert.GradRefIdeal.Gen.facts,
    Cert.Pre_head_finite.Gen.facts, Cert.Pre_mixers_finite.Gen.facts, Cert.Pre_forward_finite.Gen.facts,
    fun m ρ _ => Cert.Head.Gen.frame m ρ,
    fun m ρ _ => Cert.HeadIdeal.Gen.frame m ρ,
    fun m ρ _ => Cert.HeadIdeal.Gen.frame m ρ,
    head_reference_frame,
    fun m ρ _ => head_reference_frame m ρ trivial,
    fun m ρ _ => Cert.Mix.Gen.frame m ρ,
    fun m ρ _ => Cert.MixIdeal.Gen.frame m ρ,
    fun m ρ _ => Cert.MixIdeal.Gen.frame m ρ,
    mixers_reference_frame,
    fun m ρ _ => mixers_reference_frame m ρ trivial,
    fun m ρ _ => Cert.Fwd.Gen.frame m ρ,
    fun m ρ _ => Cert.FwdIdeal.Gen.frame m ρ,
    fun m ρ _ => Cert.FwdIdeal.Gen.frame m ρ,
    forward_reference_frame,
    fun m ρ _ => forward_reference_frame m ρ trivial,
    fun m ρ _ => Cert.Grad.Gen.frame m ρ,
    fun m ρ _ => Cert.GradIdeal.Gen.frame m ρ,
    grad_reference_frame,
    trivial,
    Cert.HeadClaim.algebraic,
    mixers_preserves,
    Cert.MixClaim.algebraic,
    trivial,
    Cert.FwdClaim.algebraic,
    trivial,
    Cert.GradClaim.algebraic⟩

end Cert.Proof

end
